-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v114)) (v1 : (c : Dev Cert.KernelIdeal.nD) → Buf (Elt Ideal) ((c.tc : Thread Cert.KernelIdeal.nD Cert.KernelIdeal.τ).loc Cert.KernelIdeal.main_v116)) (v2 : (c : Dev Cert.KernelIdeal.nD) → Buf (Elt Ideal) ((c.tc : Thread Cert.KernelIdeal.nD Cert.KernelIdeal.τ).loc Cert.KernelIdeal.main_v118)) (v3 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_v116) = v1 c
          ∧ r.2.mem ((c.tc : Thread Cert.KernelIdeal.nD Cert.KernelIdeal.τ).loc Cert.KernelIdeal.main_v118) = v2 c
          ∧ r.2.mem ((c.tc : Thread Cert.KernelIdeal.nD Cert.KernelIdeal.τ).loc Cert.KernelIdeal.main_v123) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S8192x2048 : Shape := ⟨2, ![8192, 2048]⟩
abbrev S8192x32 : Shape := ⟨2, ![8192, 32]⟩
abbrev S8192x32x64 : Shape := ⟨3, ![8192, 32, 64]⟩
abbrev S_ : Shape := ⟨0, ![]⟩
abbrev S8192x32x1 : Shape := ⟨3, ![8192, 32, 1]⟩

class Facts : Prop where
  shapeCasts_S8192x2048_S8192x32x64 : S8192x2048.ShapeCasts S8192x32x64
  bcast_S_S8192x32x64 : S_.BroadcastsInDim S8192x32x64 (![] : Fin 0 → Fin S8192x32x64.rank)
  bcast_S8192x32_S8192x32x1_0_1 : S8192x32.BroadcastsInDim S8192x32x1 (![0, 1] : Fin 2 → Fin S8192x32x1.rank)
  bcast_S8192x32x1_S8192x32x64_0_1_2 : S8192x32x1.BroadcastsInDim S8192x32x64 (![0, 1, 2] : Fin 3 → Fin S8192x32x64.rank)

variable [Facts]

def fn_part1 {F : FTy → Type} [FloatOps F] (main_v3 : IVec S8192x32x64 1) (main_v7 : IVec S8192x32x64 1) (main_v11 : IVec S8192x32x64 1) (main_v15 : IVec S8192x32x64 1) (main_v18 : FVec F S8192x32x64 .f32) (main_cst_3 : FVec F S_ .f32) : IVec S8192x32x64 1 :=
  let main_v19 : FVec F S8192x32x64 .f32 := broadcastInDim S8192x32x64 ![] bcast_S_S8192x32x64 main_cst_3
  let main_v20 : IVec S8192x32x64 1 := cmpf .olt main_v18 main_v19
  let main_v21 : IVec S8192x32x64 1 := andi main_v3 main_v7
  let main_v22 : IVec S8192x32x64 1 := andi main_v21 main_v11
  let main_v23 : IVec S8192x32x64 1 := andi main_v22 main_v15
  let main_v24 : IVec S8192x32x64 1 := andi main_v23 main_v20
  main_v24

def fn {F : FTy → Type} [FloatOps F] (main_arg0 : FVec F S8192x2048 .f32) (main_arg1 : FVec F S8192x2048 .f32) (main_arg2 : FVec F S8192x2048 .f32) (main_arg3 : FVec F S8192x32 .f32) (main_arg4 : FVec F S8192x2048 .f32) : IVec S8192x32x64 1 :=
  let main_v0 : FVec F S8192x32x64 .f32 := shapeCast S8192x32x64 main_arg0 shapeCasts_S8192x2048_S8192x32x64
  let main_v1 : FVec F S8192x32x64 .f32 := Host.absf main_v0
  let main_cst : FVec F S_ .f32 := constant S_ .f32 0x7F800000#32
  let main_v2 : FVec F S8192x32x64 .f32 := broadcastInDim S8192x32x64 ![] bcast_S_S8192x32x64 main_cst
  let main_v3 : IVec S8192x32x64 1 := cmpf .olt main_v1 main_v2
  let main_v4 : FVec F S8192x32x64 .f32 := shapeCast S8192x32x64 main_arg1 shapeCasts_S8192x2048_S8192x32x64
  let main_v5 : FVec F S8192x32x64 .f32 := Host.absf main_v4
  let main_cst_0 : FVec F S_ .f32 := constant S_ .f32 0x7F800000#32
  let main_v6 : FVec F S8192x32x64 .f32 := broadcastInDim S8192x32x64 ![] bcast_S_S8192x32x64 main_cst_0
  let main_v7 : IVec S8192x32x64 1 := cmpf .olt main_v5 main_v6
  let main_v8 : FVec F S8192x32x64 .f32 := shapeCast S8192x32x64 main_arg2 shapeCasts_S8192x2048_S8192x32x64
  let main_v9 : FVec F S8192x32x64 .f32 := Host.absf main_v8
  let main_cst_1 : FVec F S_ .f32 := constant S_ .f32 0x7F800000#32
  let main_v10 : FVec F S8192x32x64 .f32 := broadcastInDim S8192x32x64 ![] bcast_S_S8192x32x64 main_cst_1
  let main_v11 : IVec S8192x32x64 1 := cmpf .olt main_v9 main_v10
  let main_v12 : FVec F S8192x32x64 .f32 := shapeCast S8192x32x64 main_arg4 shapeCasts_S8192x2048_S8192x32x64
  let main_v13 : FVec F S8192x32x64 .f32 := Host.absf main_v12
  let main_cst_2 : FVec F S_ .f32 := constant S_ .f32 0x7F800000#32
  let main_v14 : FVec F S8192x32x64 .f32 := broadcastInDim S8192x32x64 ![] bcast_S_S8192x32x64 main_cst_2
  let main_v15 : IVec S8192x32x64 1 := cmpf .olt main_v13 main_v14
  let main_v16 : FVec F S8192x32 .f32 := Host.absf main_arg3
  let main_v17 : FVec F S8192x32x1 .f32 := broadcastInDim S8192x32x1 ![0, 1] bcast_S8192x32_S8192x32x1_0_1 main_v16
  let main_v18 : FVec F S8192x32x64 .f32 := broadcastInDim S8192x32x64 ![0, 1, 2] bcast_S8192x32x1_S8192x32x64_0_1_2 main_v17
  let main_cst_3 : FVec F S_ .f32 := constant S_ .f32 0x7F800000#32
  fn_part1 (F := F) main_v3 main_v7 main_v11 main_v15 main_v18 main_cst_3
-- ==== Pre_finite2.lean ====
abbrev S8192x2048 : Shape := ⟨2, ![8192, 2048]⟩
abbrev S4x1408x2048 : Shape := ⟨3, ![4, 1408, 2048]⟩
abbrev S8192x5632 : Shape := ⟨2, ![8192, 5632]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4x1408x2048 : S_.BroadcastsInDim S4x1408x2048 (![] : Fin 0 → Fin S4x1408x2048.rank)
  reducesTo_S4x1408x2048_S_d0_1_2 : S4x1408x2048.ReducesTo [0, 1, 2] S_
  bcast_S_S8192x5632 : S_.BroadcastsInDim S8192x5632 (![] : Fin 0 → Fin S8192x5632.rank)
  reducesTo_S8192x5632_S_d0_1 : S8192x5632.ReducesTo [0, 1] S_

variable [Facts]

def fn {F : FTy → Type} [FloatOps F] (main_arg0 : FVec F S8192x2048 .bf16) (main_arg1 : FVec F S4x1408x2048 .bf16) (main_arg2 : FVec F S8192x5632 .bf16) (main_arg3 : FVec F S8192x5632 .bf16) : IVec S_ 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4x1408x2048 .bf16 := Host.absf main_arg1
  let main_cst_0 : FVec F S_ .bf16 := constant S_ .bf16 0x7F80#16
  let main_v5 : FVec F S4x1408x2048 .bf16 := broadcastInDim S4x1408x2048 ![] bcast_S_S4x1408x2048 main_cst_0
  let main_v6 : IVec S4x1408x2048 1 := cmpf .olt main_v4 main_v5
  let main_c_1 : IVec S_ 1 := constantI S_ 1 1#1
  let main_v7 : IVec S_ 1 := (fun x v => Host.reduce IntOp.andi x v reducesTo_S4x1408x2048_S_d0_1_2 h_S_) main_v6 main_c_1
  let main_v8 : IVec S_ 1 := andi main_v3 main_v7
  let main_v9 : FVec F S8192x5632 .bf16 := Host.absf main_arg3
  let main_cst_2 : FVec F S_ .bf16 := constant S_ .bf16 0x7F80#16
  let main_v10 : FVec F S8192x5632 .bf16 := broadcastInDim S8192x5632 ![] bcast_S_S8192x5632 main_cst_2
  let main_v11 : IVec S8192x5632 1 := cmpf .olt main_v9 main_v10
  let main_c_3 : IVec S_ 1 := constantI S_ 1 1#1
  let main_v12 : IVec S_ 1 := (fun x v => Host.reduce IntOp.andi x v reducesTo_S8192x5632_S_d0_1 h_S_) main_v11 main_c_3
  let main_v13 : IVec S_ 1 := andi main_v8 main_v12
  main_v13
-- ==== Kernel.lean ====
abbrev S8192x2048 : Shape := ⟨2, ![8192, 2048]⟩
abbrev S8192x32 : Shape := ⟨2, ![8192, 32]⟩
abbrev S8192x32x64 : Shape := ⟨3, ![8192, 32, 64]⟩
abbrev S32x8192x8192 : Shape := ⟨3, ![32, 8192, 8192]⟩
abbrev S_ : Shape := ⟨0, ![]⟩
abbrev S32x8192 : Shape := ⟨2, ![32, 8192]⟩
abbrev S32x1x8192 : Shape := ⟨3, ![32, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S32x8192x1 : Shape := ⟨3, ![32, 8192, 1]⟩
abbrev S32x8192x64 : Shape := ⟨3, ![32, 8192, 64]⟩
abbrev S8192x32x3 : Shape := ⟨3, ![8192, 32, 3]⟩
abbrev S8192x32x1 : Shape := ⟨3, ![8192, 32, 1]⟩
abbrev S8192x32x58 : Shape := ⟨3, ![8192, 32, 58]⟩
abbrev S8192x32x128 : Shape := ⟨3, ![8192, 32, 128]⟩
abbrev S8192x4096 : Shape := ⟨2, ![8192, 4096]⟩
abbrev S8192x32x61 : Shape := ⟨3, ![8192, 32, 61]⟩
abbrev S8192x256 : Shape := ⟨2, ![8192, 256]⟩
abbrev S512x256 : Shape := ⟨2, ![512, 256]⟩
abbrev S2x512x128 : Shape := ⟨3, ![2, 512, 128]⟩
abbrev S512x128 : Shape := ⟨2, ![512, 128]⟩
abbrev S512x512 : Shape := ⟨2, ![512, 512]⟩
abbrev S1x512x128 : Shape := ⟨3, ![1, 512, 128]⟩
abbrev S1024x128 : Shape := ⟨2, ![1024, 128]⟩
abbrev S1024x512 : Shape := ⟨2, ![1024, 512]⟩

abbrev nBuf : Space → Nat
  | .hbm => 146
  | .vmem => 16
  | .smem => 0
  | _ => 0

abbrev hbmTy0_0 (i : Nat) : BufTy := match i % 128 with
  | 0 => ⟨S8192x2048, .f32⟩
  | 1 => ⟨S8192x2048, .f32⟩
  | 2 => ⟨S8192x2048, .f32⟩
  | 3 => ⟨S8192x32, .f32⟩
  | 4 => ⟨S8192x2048, .f32⟩
  | 5 => ⟨S8192x2048, .bf16⟩
  | 6 => ⟨S8192x2048, .f32⟩
  | 7 => ⟨S8192x32x64, .f32⟩
  | 8 => ⟨S8192x2048, .bf16⟩
  | 9 => ⟨S8192x2048, .f32⟩
  | 10 => ⟨S8192x32x64, .f32⟩
  | 11 => ⟨S8192x2048, .bf16⟩
  | 12 => ⟨S8192x2048, .f32⟩
  | 13 => ⟨S8192x32x64, .f32⟩
  | 14 => ⟨S8192x2048, .bf16⟩
  | 15 => ⟨S8192x2048, .f32⟩
  | 16 => ⟨S8192x32x64, .f32⟩
  | 17 => ⟨S32x8192x8192, .f32⟩
  | 18 => ⟨S_, .f32⟩
  | 19 => ⟨S32x8192x8192, .f32⟩
  | 20 => ⟨S32x8192x8192, .f32⟩
  | 21 => ⟨S32x8192, .f32⟩
  | 22 => ⟨S32x1x8192, .f32⟩
  | 23 => ⟨S32x8192x8192, .f32⟩
  | 24 => ⟨S32x8192x8192, .f32⟩
  | 25 => ⟨S8192, .i32⟩
  | 26 => ⟨S1x8192, .i32⟩
  | 27 => ⟨S8192, .i32⟩
  | 28 => ⟨S8192x1, .i32⟩
  | 29 => ⟨S8192x8192, .i32⟩
  | 30 => ⟨S8192x8192, .i32⟩
  | 31 => ⟨S8192x8192, .i1⟩
  | 32 => ⟨S1x8192x8192, .i1⟩
  | 33 => ⟨S_, .f32⟩
  | 34 => ⟨S_, .f32⟩
  | 35 => ⟨S32x8192x8192, .i1⟩
  | 36 => ⟨S32x8192x8192, .f32⟩
  | 37 => ⟨S32x8192x8192, .f32⟩
  | 38 => ⟨S_, .f32⟩
  | 39 => ⟨S32x8192, .f32⟩
  | 40 => ⟨S32x8192x1, .f32⟩
  | 41 => ⟨S32x8192x8192, .f32⟩
  | 42 => ⟨S32x8192x8192, .f32⟩
  | 43 => ⟨S32x8192x8192, .f32⟩
  | 44 => ⟨S_, .f32⟩
  | 45 => ⟨S32x8192, .f32⟩
  | 46 => ⟨S32x8192x1, .f32⟩
  | 47 => ⟨S32x8192x64, .f32⟩
  | 48 => ⟨S32x8192x64, .f32⟩
  | 49 => ⟨S32x8192x64, .f32⟩
  | 50 => ⟨S32x8192x1, .f32⟩
  | 51 => ⟨S32x8192x1, .f32⟩
  | 52 => ⟨S32x8192, .f32⟩
  | 53 => ⟨S8192x32, .f32⟩
  | 54 => ⟨S8192x32x64, .f32⟩
  | 55 => ⟨S8192x32x64, .f32⟩
  | 56 => ⟨S_, .f32⟩
  | 57 => ⟨S8192x32, .f32⟩
  | 58 => ⟨S_, .f32⟩
  | 59 => ⟨S8192x32x3, .f32⟩
  | 60 => ⟨S_, .f32⟩
  | 61 => ⟨S8192x32x64, .f32⟩
  | 62 => ⟨S8192x32x64, .f32⟩
  | 63 => ⟨S8192x32, .f32⟩
  | 64 => ⟨S8192x32, .bf16⟩
  | 65 => ⟨S8192x32, .f32⟩
  | 66 => ⟨S8192x32, .f32⟩
  | 67 => ⟨S8192x32, .bf16⟩
  | 68 => ⟨S8192x32, .f32⟩
  | 69 => ⟨S8192x32, .f32⟩
  | 70 => ⟨S8192x32, .f32⟩
  | 71 => ⟨S8192x32, .bf16⟩
  | 72 => ⟨S8192x32, .f32⟩
  | 73 => ⟨S8192x32x1, .f32⟩
  | 74 => ⟨S8192x32x1, .f32⟩
  | 75 => ⟨S8192x32x1, .f32⟩
  | 76 => ⟨S8192x32x3, .f32⟩
  | 77 => ⟨S_, .f32⟩
  | 78 => ⟨S8192x32x58, .f32⟩
  | 79 => ⟨S8192x32x128, .f32⟩
  | 80 => ⟨S8192x32x128, .bf16⟩
  | 81 => ⟨S8192x4096, .bf16⟩
  | 82 => ⟨S8192x32, .f32⟩
  | 83 => ⟨S8192x32, .bf16⟩
  | 84 => ⟨S8192x32, .f32⟩
  | 85 => ⟨S8192x32, .f32⟩
  | 86 => ⟨S8192x32, .bf16⟩
  | 87 => ⟨S8192x32, .f32⟩
  | 88 => ⟨S8192x32, .f32⟩
  | 89 => ⟨S8192x32, .f32⟩
  | 90 => ⟨S8192x32, .bf16⟩
  | 91 => ⟨S8192x32, .f32⟩
  | 92 => ⟨S8192x32x1, .f32⟩
  | 93 => ⟨S8192x32x1, .f32⟩
  | 94 => ⟨S8192x32x1, .f32⟩
  | 95 => ⟨S8192x32x3, .f32⟩
  | 96 => ⟨S_, .f32⟩
  | 97 => ⟨S8192x32x58, .f32⟩
  | 98 => ⟨S8192x32x128, .f32⟩
  | 99 => ⟨S8192x32x128, .bf16⟩
  | 100 => ⟨S8192x4096, .bf16⟩
  | 101 => ⟨S_, .f32⟩
  | 102 => ⟨S8192x32x61, .f32⟩
  | 103 => ⟨S8192x32x128, .f32⟩
  | 104 => ⟨S8192x32x128, .bf16⟩
  | 105 => ⟨S8192x4096, .bf16⟩
  | 106 => ⟨S8192x32, .f32⟩
  | 107 => ⟨S8192x32, .bf16⟩
  | 108 => ⟨S8192x32, .f32⟩
  | 109 => ⟨S8192x32, .f32⟩
  | 110 => ⟨S8192x32, .bf16⟩
  | 111 => ⟨S8192x32, .f32⟩
  | 112 => ⟨S8192x32, .f32⟩
  | 113 => ⟨S8192x32, .f32⟩
  | 114 => ⟨S8192x32, .bf16⟩
  | 115 => ⟨S8192x32, .f32⟩
  | 116 => ⟨S8192x32x1, .f32⟩
  | 117 => ⟨S8192x32x1, .f32⟩
  | 118 => ⟨S8192x32x1, .f32⟩
  | 119 => ⟨S8192x32x3, .f32⟩
  | 120 => ⟨S_, .f32⟩
  | 121 => ⟨S8192x32x61, .f32⟩
  | 122 => ⟨S8192x32x128, .f32⟩
  | 123 => ⟨S8192x32x128, .bf16⟩
  | 124 => ⟨S8192x4096, .bf16⟩
  | 125 => ⟨S8192x4096, .f32⟩
  | 126 => ⟨S8192x4096, .f32⟩
  | 127 => ⟨S8192x4096, .bf16⟩
  | _ => ⟨S8192x2048, .f32⟩

abbrev hbmTy0_1 (i : Nat) : BufTy := match i % 128 with
  | 0 => ⟨S8192x32x128, .f32⟩
  | 1 => ⟨S8192x32x128, .f32⟩
  | 2 => ⟨S8192x4096, .f32⟩
  | 3 => ⟨S8192x32x128, .f32⟩
  | 4 => ⟨S8192x32x64, .f32⟩
  | 5 => ⟨S_, .f32⟩
  | 6 => ⟨S8192x32x64, .f32⟩
  | 7 => ⟨S8192x32x64, .f32⟩
  | 8 => ⟨S8192x2048, .f32⟩
  | 9 => ⟨S8192x32x64, .f32⟩
  | 10 => ⟨S8192x2048, .f32⟩
  | 11 => ⟨S8192x32x64, .f32⟩
  | 12 => ⟨S8192x2048, .f32⟩
  | 13 => ⟨S8192x32x1, .f32⟩
  | 14 => ⟨S8192x32, .f32⟩
  | 15 => ⟨S8192x32x1, .f32⟩
  | 16 => ⟨S8192x32, .f32⟩
  | 17 => ⟨S8192x32, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S8192x256, .bf16⟩
  | .local _ .vmem, ⟨1, _⟩ => ⟨S8192x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S8192x256, .bf16⟩
  | .local _ .vmem, ⟨7, _⟩ => ⟨S8192x256, .bf16⟩
  | .local _ .vmem, ⟨8, _⟩ => ⟨S8192x256, .f32⟩
  | .local _ .vmem, ⟨9, _⟩ => ⟨S8192x256, .f32⟩
  | .local _ .vmem, ⟨10, _⟩ => ⟨S512x256, .f32⟩
  | .local _ .vmem, ⟨11, _⟩ => ⟨S512x256, .f32⟩
  | .local _ .vmem, ⟨12, _⟩ => ⟨S512x256, .bf16⟩
  | .local _ .vmem, ⟨13, _⟩ => ⟨S512x256, .bf16⟩
  | .local _ .vmem, ⟨14, _⟩ => ⟨S2x512x128, .f32⟩
  | .local _ .vmem, ⟨15, _⟩ => ⟨S2x512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_7 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_8 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_cst_9 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106_0 : Ref sig .tc := ⟨.hbm, 125, rfl⟩
abbrev main_v106_1 : Ref sig .tc := ⟨.hbm, 126, rfl⟩
abbrev main_v106_2 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_cst_10 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c512_i32 : BitVec 32 := 512#32
  let v11 : BitVec 32 := Scalar.muli arg1 c512_i32
  v11
def k0_off1 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v13 : Index := Scalar.indexCast v12
  let c0_7 : Index := 0#32
  ![v13.toNat, 0]
def k0_off2 (i : grid0.Coords) : Fin 2 → Nat :=
  let arg1 : BitVec 32 := BitVec.ofNat 32 (i 1).val
  let c512_i32 : BitVec 32 := 512#32
  let v11 : BitVec 32 := Scalar.muli arg1 c512_i32
  let v12 : BitVec 32 := v11
  let v55 : Index := Scalar.indexCast v12
  let c128 : Index := 128#32
  ![v55.toNat, 128]
@[reducible] def k0_t1_loop (i : grid0.Coords) : Scf.Loop 32 :=
  let c0_i32_63 : BitVec 32 := 0#32
  let c15_i32 : BitVec 32 := 15#32
  let arg1 : BitVec 32 := BitVec.ofNat 32 (i 1).val
  let v97 : BitVec 32 := Scalar.subi c15_i32 arg1
  let c0_i32_57 : BitVec 32 := 0#32
  let v99 : BitVec 1 := Scalar.cmpi .sgt v97 c0_i32_57
  let v100 : BitVec 32 := Scalar.extui v99
  let c0_i32_58 : BitVec 32 := 0#32
  let v101 : BitVec 1 := Scalar.cmpi .slt v97 c0_i32_58
  let v102 : BitVec 32 := Scalar.extui v101
  let v103 : BitVec 32 := Scalar.subi v100 v102
  let c2_i32 : BitVec 32 := 2#32
  let c0_i32_59 : BitVec 32 := 0#32
  let v104 : BitVec 1 := Scalar.cmpi .sgt c2_i32 c0_i32_59
  let v105 : BitVec 32 := Scalar.extui v104
  let c0_i32_60 : BitVec 32 := 0#32
  let v106 : BitVec 1 := Scalar.cmpi .slt c2_i32 c0_i32_60
  let v107 : BitVec 32 := Scalar.extui v106
  let v108 : BitVec 32 := Scalar.subi v105 v107
  let v109 : BitVec 1 := Scalar.cmpi .ne v103 v108
  let v110 : BitVec 32 := Scalar.remsi v97 c2_i32
  let c0_i32_61 : BitVec 32 := 0#32
  let v111 : BitVec 1 := Scalar.cmpi .ne v110 c0_i32_61
  let v112 : BitVec 1 := Scalar.andi v109 v111
  let v98 : BitVec 32 := Scalar.divsi v97 c2_i32
  let c1_i32 : BitVec 32 := 1#32
  let v113 : BitVec 32 := Scalar.subi v98 c1_i32
  let v114 : BitVec 32 := Scalar.select v112 v113 v98
  let v115 : BitVec 32 := Scalar.subi v114 c0_i32_63
  let c1_i32_64 : BitVec 32 := 1#32
  let v117 : BitVec 32 := Scalar.divsi v115 c1_i32_64
  let v118 : BitVec 32 := Scalar.muli v117 c1_i32_64
  let v119 : BitVec 32 := Scalar.addi c0_i32_63 v118
  let c1_i32_65 : BitVec 32 := 1#32
  ⟨c0_i32_63, v119, c1_i32_65⟩
def k0_mult2 (i : grid0.Coords) (k0_t1 : Fin (k0_t1_loop i).trips) : BitVec 32 :=
  let arg1 : BitVec 32 := BitVec.ofNat 32 (i 1).val
  let c1_i32_95 : BitVec 32 := 1#32
  let v147 : BitVec 32 := Scalar.addi arg1 c1_i32_95
  let c2_i32_96 : BitVec 32 := 2#32
  let c0_i32_63 : BitVec 32 := 0#32
  let c1_i32_65 : BitVec 32 := 1#32
  let arg11 : BitVec 32 := Scf.iv c0_i32_63 c1_i32_65 k0_t1
  let v148 : BitVec 32 := Scalar.muli c2_i32_96 arg11
  let v149 : BitVec 32 := Scalar.addi v147 v148
  let c512_i32_97 : BitVec 32 := 512#32
  let v150 : BitVec 32 := Scalar.muli v149 c512_i32_97
  v150
def k0_off3 (i : grid0.Coords) (k0_t1 : Fin (k0_t1_loop i).trips) : Fin 2 → Nat :=
  let arg1 : BitVec 32 := BitVec.ofNat 32 (i 1).val
  let c1_i32_95 : BitVec 32 := 1#32
  let v147 : BitVec 32 := Scalar.addi arg1 c1_i32_95
  let c2_i32_96 : BitVec 32 := 2#32
  let c0_i32_63 : BitVec 32 := 0#32
  let c1_i32_65 : BitVec 32 := 1#32
  let arg11 : BitVec 32 := Scf.iv c0_i32_63 c1_i32_65 k0_t1
  let v148 : BitVec 32 := Scalar.muli c2_i32_96 arg11
  let v149 : BitVec 32 := Scalar.addi v147 v148
  let c512_i32_97 : BitVec 32 := 512#32
  let v150 : BitVec 32 := Scalar.muli v149 c512_i32_97
  let v151 : BitVec 32 := v150
  let v152 : Index := Scalar.indexCast v151
  let c0_98 : Index := 0#32
  ![v152.toNat, 0]
def k0_off4 (i : grid0.Coords) (k0_t1 : Fin (k0_t1_loop i).trips) : Fin 2 → Nat :=
  let arg1 : BitVec 32 := BitVec.ofNat 32 (i 1).val
  let c1_i32_95 : BitVec 32 := 1#32
  let v147 : BitVec 32 := Scalar.addi arg1 c1_i32_95
  let c2_i32_96 : BitVec 32 := 2#32
  let c0_i32_63 : BitVec 32 := 0#32
  let c1_i32_65 : BitVec 32 := 1#32
  let arg11 : BitVec 32 := Scf.iv c0_i32_63 c1_i32_65 k0_t1
  let v148 : BitVec 32 := Scalar.muli c2_i32_96 arg11
  let v149 : BitVec 32 := Scalar.addi v147 v148
  let c512_i32_97 : BitVec 32 := 512#32
  let v150 : BitVec 32 := Scalar.muli v149 c512_i32_97
  let v151 : BitVec 32 := v150
  let v189 : Index := Scalar.indexCast v151
  let c128_123 : Index := 128#32
  ![v189.toNat, 128]
@[reducible] def k0_t2_loop (i : grid0.Coords) : Scf.Loop 32 :=
  let c0_i32_63 : BitVec 32 := 0#32
  let c15_i32 : BitVec 32 := 15#32
  let arg1 : BitVec 32 := BitVec.ofNat 32 (i 1).val
  let v97 : BitVec 32 := Scalar.subi c15_i32 arg1
  let c0_i32_57 : BitVec 32 := 0#32
  let v99 : BitVec 1 := Scalar.cmpi .sgt v97 c0_i32_57
  let v100 : BitVec 32 := Scalar.extui v99
  let c0_i32_58 : BitVec 32 := 0#32
  let v101 : BitVec 1 := Scalar.cmpi .slt v97 c0_i32_58
  let v102 : BitVec 32 := Scalar.extui v101
  let v103 : BitVec 32 := Scalar.subi v100 v102
  let c2_i32 : BitVec 32 := 2#32
  let c0_i32_59 : BitVec 32 := 0#32
  let v104 : BitVec 1 := Scalar.cmpi .sgt c2_i32 c0_i32_59
  let v105 : BitVec 32 := Scalar.extui v104
  let c0_i32_60 : BitVec 32 := 0#32
  let v106 : BitVec 1 := Scalar.cmpi .slt c2_i32 c0_i32_60
  let v107 : BitVec 32 := Scalar.extui v106
  let v108 : BitVec 32 := Scalar.subi v105 v107
  let v109 : BitVec 1 := Scalar.cmpi .ne v103 v108
  let v110 : BitVec 32 := Scalar.remsi v97 c2_i32
  let c0_i32_61 : BitVec 32 := 0#32
  let v111 : BitVec 1 := Scalar.cmpi .ne v110 c0_i32_61
  let v112 : BitVec 1 := Scalar.andi v109 v111
  let v98 : BitVec 32 := Scalar.divsi v97 c2_i32
  let c1_i32 : BitVec 32 := 1#32
  let v113 : BitVec 32 := Scalar.subi v98 c1_i32
  let v114 : BitVec 32 := Scalar.select v112 v113 v98
  let v115 : BitVec 32 := Scalar.subi v114 c0_i32_63
  let c1_i32_64 : BitVec 32 := 1#32
  let v117 : BitVec 32 := Scalar.divsi v115 c1_i32_64
  let v118 : BitVec 32 := Scalar.muli v117 c1_i32_64
  let v119 : BitVec 32 := Scalar.addi c0_i32_63 v118
  let v116 : BitVec 32 := Scalar.addi c0_i32_63 v115
  let c1_i32_66 : BitVec 32 := 1#32
  ⟨v119, v116, c1_i32_66⟩
def k0_mult3 (i : grid0.Coords) (k0_t2 : Fin (k0_t2_loop i).trips) : BitVec 32 :=
  let arg1 : BitVec 32 := BitVec.ofNat 32 (i 1).val
  let c1_i32_95 : BitVec 32 := 1#32
  let v147 : BitVec 32 := Scalar.addi arg1 c1_i32_95
  let c2_i32_96 : BitVec 32 := 2#32
  let c0_i32_63 : BitVec 32 := 0#32
  let c15_i32 : BitVec 32 := 15#32
  let v97 : BitVec 32 := Scalar.subi c15_i32 arg1
  let c0_i32_57 : BitVec 32 := 0#32
  let v99 : BitVec 1 := Scalar.cmpi .sgt v97 c0_i32_57
  let v100 : BitVec 32 := Scalar.extui v99
  let c0_i32_58 : BitVec 32 := 0#32
  let v101 : BitVec 1 := Scalar.cmpi .slt v97 c0_i32_58
  let v102 : BitVec 32 := Scalar.extui v101
  let v103 : BitVec 32 := Scalar.subi v100 v102
  let c2_i32 : BitVec 32 := 2#32
  let c0_i32_59 : BitVec 32 := 0#32
  let v104 : BitVec 1 := Scalar.cmpi .sgt c2_i32 c0_i32_59
  let v105 : BitVec 32 := Scalar.extui v104
  let c0_i32_60 : BitVec 32 := 0#32
  let v106 : BitVec 1 := Scalar.cmpi .slt c2_i32 c0_i32_60
  let v107 : BitVec 32 := Scalar.extui v106
  let v108 : BitVec 32 := Scalar.subi v105 v107
  let v109 : BitVec 1 := Scalar.cmpi .ne v103 v108
  let v110 : BitVec 32 := Scalar.remsi v97 c2_i32
  let c0_i32_61 : BitVec 32 := 0#32
  let v111 : BitVec 1 := Scalar.cmpi .ne v110 c0_i32_61
  let v112 : BitVec 1 := Scalar.andi v109 v111
  let v98 : BitVec 32 := Scalar.divsi v97 c2_i32
  let c1_i32 : BitVec 32 := 1#32
  let v113 : BitVec 32 := Scalar.subi v98 c1_i32
  let v114 : BitVec 32 := Scalar.select v112 v113 v98
  let v115 : BitVec 32 := Scalar.subi v114 c0_i32_63
  let c1_i32_64 : BitVec 32 := 1#32
  let v117 : BitVec 32 := Scalar.divsi v115 c1_i32_64
  let v118 : BitVec 32 := Scalar.muli v117 c1_i32_64
  let v119 : BitVec 32 := Scalar.addi c0_i32_63 v118
  let c1_i32_66 : BitVec 32 := 1#32
  let arg11 : BitVec 32 := Scf.iv v119 c1_i32_66 k0_t2
  let v148 : BitVec 32 := Scalar.muli c2_i32_96 arg11
  let v149 : BitVec 32 := Scalar.addi v147 v148
  let c512_i32_97 : BitVec 32 := 512#32
  let v150 : BitVec 32 := Scalar.muli v149 c512_i32_97
  v150
def k0_off5 (i : grid0.Coords) (k0_t2 : Fin (k0_t2_loop i).trips) : Fin 2 → Nat :=
  let arg1 : BitVec 32 := BitVec.ofNat 32 (i 1).val
  let c1_i32_95 : BitVec 32 := 1#32
  let v147 : BitVec 32 := Scalar.addi arg1 c1_i32_95
  let c2_i32_96 : BitVec 32 := 2#32
  let c0_i32_63 : BitVec 32 := 0#32
  let c15_i32 : BitVec 32 := 15#32
  let v97 : BitVec 32 := Scalar.subi c15_i32 arg1
  let c0_i32_57 : BitVec 32 := 0#32
  let v99 : BitVec 1 := Scalar.cmpi .sgt v97 c0_i32_57
  let v100 : BitVec 32 := Scalar.extui v99
  let c0_i32_58 : BitVec 32 := 0#32
  let v101 : BitVec 1 := Scalar.cmpi .slt v97 c0_i32_58
  let v102 : BitVec 32 := Scalar.extui v101
  let v103 : BitVec 32 := Scalar.subi v100 v102
  let c2_i32 : BitVec 32 := 2#32
  let c0_i32_59 : BitVec 32 := 0#32
  let v104 : BitVec 1 := Scalar.cmpi .sgt c2_i32 c0_i32_59
  let v105 : BitVec 32 := Scalar.extui v104
  let c0_i32_60 : BitVec 32 := 0#32
  let v106 : BitVec 1 := Scalar.cmpi .slt c2_i32 c0_i32_60
  let v107 : BitVec 32 := Scalar.extui v106
  let v108 : BitVec 32 := Scalar.subi v105 v107
  let v109 : BitVec 1 := Scalar.cmpi .ne v103 v108
  let v110 : BitVec 32 := Scalar.remsi v97 c2_i32
  let c0_i32_61 : BitVec 32 := 0#32
  let v111 : BitVec 1 := Scalar.cmpi .ne v110 c0_i32_61
  let v112 : BitVec 1 := Scalar.andi v109 v111
  let v98 : BitVec 32 := Scalar.divsi v97 c2_i32
  let c1_i32 : BitVec 32 := 1#32
  let v113 : BitVec 32 := Scalar.subi v98 c1_i32
  let v114 : BitVec 32 := Scalar.select v112 v113 v98
  let v115 : BitVec 32 := Scalar.subi v114 c0_i32_63
  let c1_i32_64 : BitVec 32 := 1#32
  let v117 : BitVec 32 := Scalar.divsi v115 c1_i32_64
  let v118 : BitVec 32 := Scalar.muli v117 c1_i32_64
  let v119 : BitVec 32 := Scalar.addi c0_i32_63 v118
  let c1_i32_66 : BitVec 32 := 1#32
  let arg11 : BitVec 32 := Scf.iv v119 c1_i32_66 k0_t2
  let v148 : BitVec 32 := Scalar.muli c2_i32_96 arg11
  let v149 : BitVec 32 := Scalar.addi v147 v148
  let c512_i32_97 : BitVec 32 := 512#32
  let v150 : BitVec 32 := Scalar.muli v149 c512_i32_97
  let v151 : BitVec 32 := v150
  let v152 : Index := Scalar.indexCast v151
  let c0_98 : Index := 0#32
  ![v152.toNat, 0]
def k0_off6 (i : grid0.Coords) (k0_t2 : Fin (k0_t2_loop i).trips) : Fin 2 → Nat :=
  let arg1 : BitVec 32 := BitVec.ofNat 32 (i 1).val
  let c1_i32_95 : BitVec 32 := 1#32
  let v147 : BitVec 32 := Scalar.addi arg1 c1_i32_95
  let c2_i32_96 : BitVec 32 := 2#32
  let c0_i32_63 : BitVec 32 := 0#32
  let c15_i32 : BitVec 32 := 15#32
  let v97 : BitVec 32 := Scalar.subi c15_i32 arg1
  let c0_i32_57 : BitVec 32 := 0#32
  let v99 : BitVec 1 := Scalar.cmpi .sgt v97 c0_i32_57
  let v100 : BitVec 32 := Scalar.extui v99
  let c0_i32_58 : BitVec 32 := 0#32
  let v101 : BitVec 1 := Scalar.cmpi .slt v97 c0_i32_58
  let v102 : BitVec 32 := Scalar.extui v101
  let v103 : BitVec 32 := Scalar.subi v100 v102
  let c2_i32 : BitVec 32 := 2#32
  let c0_i32_59 : BitVec 32 := 0#32
  let v104 : BitVec 1 := Scalar.cmpi .sgt c2_i32 c0_i32_59
  let v105 : BitVec 32 := Scalar.extui v104
  let c0_i32_60 : BitVec 32 := 0#32
  let v106 : BitVec 1 := Scalar.cmpi .slt c2_i32 c0_i32_60
  let v107 : BitVec 32 := Scalar.extui v106
  let v108 : BitVec 32 := Scalar.subi v105 v107
  let v109 : BitVec 1 := Scalar.cmpi .ne v103 v108
  let v110 : BitVec 32 := Scalar.remsi v97 c2_i32
  let c0_i32_61 : BitVec 32 := 0#32
  let v111 : BitVec 1 := Scalar.cmpi .ne v110 c0_i32_61
  let v112 : BitVec 1 := Scalar.andi v109 v111
  let v98 : BitVec 32 := Scalar.divsi v97 c2_i32
  let c1_i32 : BitVec 32 := 1#32
  let v113 : BitVec 32 := Scalar.subi v98 c1_i32
  let v114 : BitVec 32 := Scalar.select v112 v113 v98
  let v115 : BitVec 32 := Scalar.subi v114 c0_i32_63
  let c1_i32_64 : BitVec 32 := 1#32
  let v117 : BitVec 32 := Scalar.divsi v115 c1_i32_64
  let v118 : BitVec 32 := Scalar.muli v117 c1_i32_64
  let v119 : BitVec 32 := Scalar.addi c0_i32_63 v118
  let c1_i32_66 : BitVec 32 := 1#32
  let arg11 : BitVec 32 := Scf.iv v119 c1_i32_66 k0_t2
  let v148 : BitVec 32 := Scalar.muli c2_i32_96 arg11
  let v149 : BitVec 32 := Scalar.addi v147 v148
  let c512_i32_97 : BitVec 32 := 512#32
  let v150 : BitVec 32 := Scalar.muli v149 c512_i32_97
  let v151 : BitVec 32 := v150
  let v189 : Index := Scalar.indexCast v151
  let c128_123 : Index := 128#32
  ![v189.toNat, 128]
def k0_cond2 (i : grid0.Coords) : BitVec 1 :=
  let c15_i32 : BitVec 32 := 15#32
  let arg1 : BitVec 32 := BitVec.ofNat 32 (i 1).val
  let v97 : BitVec 32 := Scalar.subi c15_i32 arg1
  let c2_i32_67 : BitVec 32 := 2#32
  let c0_i32_68 : BitVec 32 := 0#32
  let v120 : BitVec 1 := Scalar.cmpi .eq c2_i32_67 c0_i32_68
  let c1_i32_69 : BitVec 32 := 1#32
  let v121 : BitVec 32 := Scalar.select v120 c1_i32_69 c2_i32_67
  let v122 : BitVec 32 := Scalar.remsi v97 v121
  let c0_i32_71 : BitVec 32 := 0#32
  let v124 : BitVec 1 := Scalar.cmpi .slt v122 c0_i32_71
  let c0_i32_72 : BitVec 32 := 0#32
  let v125 : BitVec 1 := Scalar.cmpi .slt v121 c0_i32_72
  let v126 : BitVec 1 := Scalar.xori v124 v125
  let c0_i32_70 : BitVec 32 := 0#32
  let v123 : BitVec 1 := Scalar.cmpi .ne v122 c0_i32_70
  let v127 : BitVec 1 := Scalar.andi v126 v123
  let v128 : BitVec 32 := Scalar.addi v122 v121
  let v129 : BitVec 32 := Scalar.select v127 v128 v122
  let c1_i32_73 : BitVec 32 := 1#32
  let v130 : BitVec 1 := Scalar.cmpi .eq v129 c1_i32_73
  let v131 : BitVec 32 := Scalar.extui v130
  let c0_i32_74 : BitVec 32 := 0#32
  let v132 : BitVec 1 := Scalar.cmpi .ne v131 c0_i32_74
  v132

def k0_mult4 : BitVec 32 :=
  let c7680_i32 : BitVec 32 := 7680#32
  c7680_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S8192x32 : Shape := ⟨2, ![8192, 32]⟩
abbrev S8192x32x64 : Shape := ⟨3, ![8192, 32, 64]⟩
abbrev S32x8192 : Shape := ⟨2, ![32, 8192]⟩
abbrev S8192 : Shape := ⟨1, ![8192]⟩
abbrev S32x8192x8192 : Shape := ⟨3, ![32, 8192, 8192]⟩
abbrev S_ : Shape := ⟨0, ![]⟩
abbrev S32x8192x1 : Shape := ⟨3, ![32, 8192, 1]⟩
abbrev S32x1x8192 : Shape := ⟨3, ![32, 1, 8192]⟩
abbrev S1x8192 : Shape := ⟨2, ![1, 8192]⟩
abbrev S8192x1 : Shape := ⟨2, ![8192, 1]⟩
abbrev S8192x8192 : Shape := ⟨2, ![8192, 8192]⟩
abbrev S32x64x8192 : Shape := ⟨3, ![32, 64, 8192]⟩
abbrev S32x8192x64 : Shape := ⟨3, ![32, 8192, 64]⟩

abbrev nBuf : Space → Nat
  | .hbm => 118
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x32, .f32⟩
  | .hbm, ⟨4, _⟩ => ⟨S8192x2048, .f32⟩
  | .hbm, ⟨5, _⟩ => ⟨S8192x32x64, .f32⟩
  | .hbm, ⟨6, _⟩ => ⟨S8192x32x64, .f32⟩
  | .hbm, ⟨7, _⟩ => ⟨S8192x32x64, .f32⟩
  | .hbm, ⟨8, _⟩ => ⟨S32x8192, .f32⟩
  | .hbm, ⟨9, _⟩ => ⟨S8192, .i32⟩
  | .hbm, ⟨10, _⟩ => ⟨S32x8192x8192, .f32⟩
  | .hbm, ⟨11, _⟩ => ⟨S_, .f32⟩
  | .hbm, ⟨12, _⟩ => ⟨S32x8192x8192, .f32⟩
  | .hbm, ⟨13, _⟩ => ⟨S32x8192x8192, .f32⟩
  | .hbm, ⟨14, _⟩ => ⟨S32x8192x1, .f32⟩
  | .hbm, ⟨15, _⟩ => ⟨S32x8192x8192, .f32⟩
  | .hbm, ⟨16, _⟩ => ⟨S32x8192x8192, .f32⟩
  | .hbm, ⟨17, _⟩ => ⟨S32x1x8192, .f32⟩
  | .hbm, ⟨18, _⟩ => ⟨S32x8192x8192, .f32⟩
  | .hbm, ⟨19, _⟩ => ⟨S32x8192x8192, .f32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S32x8192x8192, .i1⟩
  | .hbm, ⟨28, _⟩ => ⟨S32x8192x8192, .f32⟩
  | .hbm, ⟨29, _⟩ => ⟨S32x8192x8192, .f32⟩
  | .hbm, ⟨30, _⟩ => ⟨S_, .f32⟩
  | .hbm, ⟨31, _⟩ => ⟨S32x8192x8192, .f32⟩
  | .hbm, ⟨32, _⟩ => ⟨S_, .f32⟩
  | .hbm, ⟨33, _⟩ => ⟨S32x8192, .f32⟩
  | .hbm, ⟨34, _⟩ => ⟨S32x8192x1, .f32⟩
  | .hbm, ⟨35, _⟩ => ⟨S32x8192x8192, .f32⟩
  | .hbm, ⟨36, _⟩ => ⟨S32x8192x8192, .i1⟩
  | .hbm, ⟨37, _⟩ => ⟨S32x8192x8192, .f32⟩
  | .hbm, ⟨38, _⟩ => ⟨S_, .f32⟩
  | .hbm, ⟨39, _⟩ => ⟨S32x8192, .f32⟩
  | .hbm, ⟨40, _⟩ => ⟨S_, .f32⟩
  | .hbm, ⟨41, _⟩ => ⟨S32x8192, .f32⟩
  | .hbm, ⟨42, _⟩ => ⟨S32x8192, .f32⟩
  | .hbm, ⟨43, _⟩ => ⟨S_, .f32⟩
  | .hbm, ⟨44, _⟩ => ⟨S32x8192, .f32⟩
  | .hbm, ⟨45, _⟩ => ⟨S32x8192, .i1⟩
  | .hbm, ⟨46, _⟩ => ⟨S_, .f32⟩
  | .hbm, ⟨47, _⟩ => ⟨S32x8192, .f32⟩
  | .hbm, ⟨48, _⟩ => ⟨S32x8192, .i1⟩
  | .hbm, ⟨49, _⟩ => ⟨S_, .f32⟩
  | .hbm, ⟨50, _⟩ => ⟨S32x8192, .f32⟩
  | .hbm, ⟨51, _⟩ => ⟨S_, .f32⟩
  | .hbm, ⟨52, _⟩ => ⟨S32x8192, .f32⟩
  | .hbm, ⟨53, _⟩ => ⟨S_, .f32⟩
  | .hbm, ⟨54, _⟩ => ⟨S32x8192, .f32⟩
  | .hbm, ⟨55, _⟩ => ⟨S32x8192, .f32⟩
  | .hbm, ⟨56, _⟩ => ⟨S32x8192, .f32⟩
  | .hbm, ⟨57, _⟩ => ⟨S32x8192x1, .f32⟩
  | .hbm, ⟨58, _⟩ => ⟨S32x8192x8192, .f32⟩
  | .hbm, ⟨59, _⟩ => ⟨S32x8192x8192, .f32⟩
  | .hbm, ⟨60, _⟩ => ⟨S32x8192x8192, .f32⟩
  | .hbm, ⟨61, _⟩ => ⟨S_, .f32⟩
  | .hbm, ⟨62, _⟩ => ⟨S32x8192, .f32⟩
  | .hbm, ⟨63, _⟩ => ⟨S32x8192x1, .f32⟩
  | .hbm, ⟨64, _⟩ => ⟨S32x8192x8192, .f32⟩
  | .hbm, ⟨65, _⟩ => ⟨S32x8192x8192, .f32⟩
  | .hbm, ⟨66, _⟩ => ⟨S32x8192x1, .f32⟩
  | .hbm, ⟨67, _⟩ => ⟨S_, .f32⟩
  | .hbm, ⟨68, _⟩ => ⟨S32x8192x1, .f32⟩
  | .hbm, ⟨69, _⟩ => ⟨S32x8192x1, .f32⟩
  | .hbm, ⟨70, _⟩ => ⟨S32x64x8192, .f32⟩
  | .hbm, ⟨71, _⟩ => ⟨S8192x32x64, .f32⟩
  | .hbm, ⟨72, _⟩ => ⟨S8192x2048, .f32⟩
  | .hbm, ⟨73, _⟩ => ⟨S8192x32x64, .f32⟩
  | .hbm, ⟨74, _⟩ => ⟨S32x64x8192, .f32⟩
  | .hbm, ⟨75, _⟩ => ⟨S32x8192x8192, .f32⟩
  | .hbm, ⟨76, _⟩ => ⟨S32x64x8192, .f32⟩
  | .hbm, ⟨77, _⟩ => ⟨S8192x32x64, .f32⟩
  | .hbm, ⟨78, _⟩ => ⟨S32x8192x8192, .f32⟩
  | .hbm, ⟨79, _⟩ => ⟨S32x8192x8192, .f32⟩
  | .hbm, ⟨80, _⟩ => ⟨S32x8192x8192, .f32⟩
  | .hbm, ⟨81, _⟩ => ⟨S_, .f32⟩
  | .hbm, ⟨82, _⟩ => ⟨S32x8192, .f32⟩
  | .hbm, ⟨83, _⟩ => ⟨S32x8192x1, .f32⟩
  | .hbm, ⟨84, _⟩ => ⟨S32x8192x1, .f32⟩
  | .hbm, ⟨85, _⟩ => ⟨S32x8192x8192, .f32⟩
  | .hbm, ⟨86, _⟩ => ⟨S32x8192x8192, .f32⟩
  | .hbm, ⟨87, _⟩ => ⟨S_, .f32⟩
  | .hbm, ⟨88, _⟩ => ⟨S32x8192, .f32⟩
  | .hbm, ⟨89, _⟩ => ⟨S32x8192x8192, .f32⟩
  | .hbm, ⟨90, _⟩ => ⟨S32x8192x8192, .f32⟩
  | .hbm, ⟨91, _⟩ => ⟨S32x8192x8192, .f32⟩
  | .hbm, ⟨92, _⟩ => ⟨S_, .f32⟩
  | .hbm, ⟨93, _⟩ => ⟨S32x8192x8192, .f32⟩
  | .hbm, ⟨94, _⟩ => ⟨S32x8192x8192, .f32⟩
  | .hbm, ⟨95, _⟩ => ⟨S32x8192x8192, .f32⟩
  | .hbm, ⟨96, _⟩ => ⟨S_, .f32⟩
  | .hbm, ⟨97, _⟩ => ⟨S32x8192, .f32⟩
  | .hbm, ⟨98, _⟩ => ⟨S32x1x8192, .f32⟩
  | .hbm, ⟨99, _⟩ => ⟨S_, .f32⟩
  | .hbm, ⟨100, _⟩ => ⟨S32x8192, .f32⟩
  | .hbm, ⟨101, _⟩ => ⟨S_, .f32⟩
  | .hbm, ⟨102, _⟩ => ⟨S32x8192, .f32⟩
  | .hbm, ⟨103, _⟩ => ⟨S32x8192x1, .f32⟩
  | .hbm, ⟨104, _⟩ => ⟨S_, .f32⟩
  | .hbm, ⟨105, _⟩ => ⟨S32x8192, .f32⟩
  | .hbm, ⟨106, _⟩ => ⟨S32x8192, .f32⟩
  | .hbm, ⟨107, _⟩ => ⟨S_, .f32⟩
  | .hbm, ⟨108, _⟩ => ⟨S32x8192x8192, .f32⟩
  | .hbm, ⟨109, _⟩ => ⟨S32x8192x8192, .f32⟩
  | .hbm, ⟨110, _⟩ => ⟨S32x8192x64, .f32⟩
  | .hbm, ⟨111, _⟩ => ⟨S8192x32x64, .f32⟩
  | .hbm, ⟨112, _⟩ => ⟨S32x8192x64, .f32⟩
  | .hbm, ⟨113, _⟩ => ⟨S8192x32x64, .f32⟩
  | .hbm, ⟨114, _⟩ => ⟨S8192x32, .f32⟩
  | .hbm, ⟨115, _⟩ => ⟨S8192x2048, .f32⟩
  | .hbm, ⟨116, _⟩ => ⟨S8192x2048, .f32⟩
  | .hbm, ⟨117, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call1_cst : Ref sig .tc := ⟨.hbm, 92, rfl⟩
abbrev main_call1_v0 : Ref sig .tc := ⟨.hbm, 93, rfl⟩
abbrev main_v68 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_v76 : Ref sig .tc := ⟨.hbm, 106, rfl⟩
abbrev main_cst_17 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]
-- ==== Kernel2.lean ====
abbrev S8192x2048 : Shape := ⟨2, ![8192, 2048]⟩
abbrev S4x1408x2048 : Shape := ⟨3, ![4, 1408, 2048]⟩
abbrev S8192x5632 : Shape := ⟨2, ![8192, 5632]⟩
abbrev S2x8192x5632 : Shape := ⟨3, ![2, 8192, 5632]⟩
abbrev S512x2048 : Shape := ⟨2, ![512, 2048]⟩
abbrev S1x1408x2048 : Shape := ⟨3, ![1, 1408, 2048]⟩
abbrev S512x1408 : Shape := ⟨2, ![512, 1408]⟩
abbrev S2x512x1408 : Shape := ⟨3, ![2, 512, 1408]⟩
abbrev S1408x2048 : Shape := ⟨2, ![1408, 2048]⟩
abbrev S1x512x1408 : Shape := ⟨3, ![1, 512, 1408]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x1408x2048, .bf16⟩
  | .hbm, ⟨2, _⟩ => ⟨S8192x5632, .bf16⟩
  | .hbm, ⟨3, _⟩ => ⟨S8192x5632, .bf16⟩
  | .hbm, ⟨4, _⟩ => ⟨S2x8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S2x512x1408, .bf16⟩
  | .local _ .vmem, ⟨9, _⟩ => ⟨S2x512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x2048 : Shape := ⟨2, ![8192, 2048]⟩
abbrev S4x1408x2048 : Shape := ⟨3, ![4, 1408, 2048]⟩
abbrev S8192x5632 : Shape := ⟨2, ![8192, 5632]⟩
abbrev S5632x2048 : Shape := ⟨2, ![5632, 2048]⟩
abbrev S_ : Shape := ⟨0, ![]⟩
abbrev S1x8192x5632 : Shape := ⟨3, ![1, 8192, 5632]⟩
abbrev S2x8192x5632 : Shape := ⟨3, ![2, 8192, 5632]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x1408x2048, .bf16⟩
  | .hbm, ⟨2, _⟩ => ⟨S8192x5632, .bf16⟩
  | .hbm, ⟨3, _⟩ => ⟨S8192x5632, .bf16⟩
  | .hbm, ⟨4, _⟩ => ⟨S4x1408x2048, .f32⟩
  | .hbm, ⟨5, _⟩ => ⟨S5632x2048, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x2048, .f32⟩
  | .hbm, ⟨23, _⟩ => ⟨S8192x2048, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S1x8192x5632, .f32⟩
  | .hbm, ⟨32, _⟩ => ⟨S1x8192x5632, .f32⟩
  | .hbm, ⟨33, _⟩ => ⟨S2x8192x5632, .f32⟩
  | .hbm, ⟨34, _⟩ => ⟨S2x8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Kernel3.lean ====
abbrev S2x8192x5632 : Shape := ⟨3, ![2, 8192, 5632]⟩
abbrev S4x2048x2816 : Shape := ⟨3, ![4, 2048, 2816]⟩
abbrev S8192x2048 : Shape := ⟨2, ![8192, 2048]⟩
abbrev S1x1024x1408 : Shape := ⟨3, ![1, 1024, 1408]⟩
abbrev S1x2048x1408 : Shape := ⟨3, ![1, 2048, 1408]⟩
abbrev S1024x2048 : Shape := ⟨2, ![1024, 2048]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x5632, .bf16⟩
  | .hbm, ⟨1, _⟩ => ⟨S4x2048x2816, .bf16⟩
  | .hbm, ⟨2, _⟩ => ⟨S8192x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2x8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x8192x5632 : Shape := ⟨3, ![2, 8192, 5632]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S8192x2x5632 : Shape := ⟨3, ![8192, 2, 5632]⟩
abbrev S8192x11264 : Shape := ⟨2, ![8192, 11264]⟩
abbrev S_ : Shape := ⟨0, ![]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x8192x5632, .bf16⟩
  | .hbm, ⟨1, _⟩ => ⟨S4x2048x2816, .bf16⟩
  | .hbm, ⟨2, _⟩ => ⟨S4x2048x2816, .f32⟩
  | .hbm, ⟨3, _⟩ => ⟨S2048x4x2816, .f32⟩
  | .hbm, ⟨4, _⟩ => ⟨S2048x11264, .f32⟩
  | .hbm, ⟨5, _⟩ => ⟨S2x8192x5632, .f32⟩
  | .hbm, ⟨6, _⟩ => ⟨S8192x2x5632, .f32⟩
  | .hbm, ⟨7, _⟩ => ⟨S8192x11264, .f32⟩
  | .hbm, ⟨8, _⟩ => ⟨S_, .f32⟩
  | .hbm, ⟨9, _⟩ => ⟨S8192x2048, .f32⟩
  | .hbm, ⟨10, _⟩ => ⟨S8192x11264, .f32⟩
  | .hbm, ⟨11, _⟩ => ⟨S8192x2048, .f32⟩
  | _, _ => ⟨S2x8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8192x2048 : Shape := ⟨2, ![8192, 2048]⟩
abbrev S2x8192x5632 : Shape := ⟨3, ![2, 8192, 5632]⟩
abbrev S4x2048x2816 : Shape := ⟨3, ![4, 2048, 2816]⟩
abbrev S1024x2048 : Shape := ⟨2, ![1024, 2048]⟩
abbrev S1x1024x1408 : Shape := ⟨3, ![1, 1024, 1408]⟩
abbrev S1x2048x1408 : Shape := ⟨3, ![1, 2048, 1408]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S4x2048x2816, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2048x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2x8192x5632 : Shape := ⟨3, ![2, 8192, 5632]⟩
abbrev S8192x2x5632 : Shape := ⟨3, ![8192, 2, 5632]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x8192x5632, .bf16⟩
  | .hbm, ⟨2, _⟩ => ⟨S2x8192x5632, .f32⟩
  | .hbm, ⟨3, _⟩ => ⟨S8192x2x5632, .f32⟩
  | .hbm, ⟨4, _⟩ => ⟨S8192x11264, .f32⟩
  | .hbm, ⟨5, _⟩ => ⟨S_, .f32⟩
  | .hbm, ⟨6, _⟩ => ⟨S2048x11264, .f32⟩
  | .hbm, ⟨7, _⟩ => ⟨S8192x2048, .f32⟩
  | .hbm, ⟨8, _⟩ => ⟨S8192x11264, .f32⟩
  | .hbm, ⟨9, _⟩ => ⟨S11264x2048, .f32⟩
  | .hbm, ⟨10, _⟩ => ⟨S2048x11264, .f32⟩
  | .hbm, ⟨11, _⟩ => ⟨S2048x4x2816, .f32⟩
  | .hbm, ⟨12, _⟩ => ⟨S4x2048x2816, .f32⟩
  | .hbm, ⟨13, _⟩ => ⟨S4x2048x2816, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S8192x5632 : Shape := ⟨2, ![8192, 5632]⟩
abbrev S8192x2048 : Shape := ⟨2, ![8192, 2048]⟩
abbrev S4x1408x2048 : Shape := ⟨3, ![4, 1408, 2048]⟩
abbrev S1024x1408 : Shape := ⟨2, ![1024, 1408]⟩
abbrev S1024x2048 : Shape := ⟨2, ![1024, 2048]⟩
abbrev S1x1408x2048 : Shape := ⟨3, ![1, 1408, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S4x1408x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x2048, .bf16⟩
  | .local _ .vmem, ⟨3, _⟩ => ⟨S1024x2048, .bf16⟩
  | .local _ .vmem, ⟨4, _⟩ => ⟨S1x1408x2048, .bf16⟩
  | .local _ .vmem, ⟨5, _⟩ => ⟨S1x1408x2048, .bf16⟩
  | .local _ .vmem, ⟨6, _⟩ => ⟨S1408x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩
abbrev S4x1408x2048 : Shape := ⟨3, ![4, 1408, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S4x1408x2048, .f32⟩
  | .hbm, ⟨10, _⟩ => ⟨S4x1408x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x2048 : Shape := ⟨2, ![8192, 2048]⟩
abbrev S4x2048x2816 : Shape := ⟨3, ![4, 2048, 2816]⟩
abbrev S8192x5632 : Shape := ⟨2, ![8192, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S4x2048x2816, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.addi arg0 c4_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x2048 : Shape := ⟨2, ![8192, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2816, .bf16⟩
  | .hbm, ⟨2, _⟩ => ⟨S4x2048x2816, .f32⟩
  | .hbm, ⟨3, _⟩ => ⟨S2048x4x2816, .f32⟩
  | .hbm, ⟨4, _⟩ => ⟨S2048x11264, .f32⟩
  | .hbm, ⟨5, _⟩ => ⟨S8192x2048, .f32⟩
  | .hbm, ⟨6, _⟩ => ⟨S8192x11264, .f32⟩
  | .hbm, ⟨7, _⟩ => ⟨S8192x5632, .f32⟩
  | .hbm, ⟨8, _⟩ => ⟨S8192x5632, .f32⟩
  | .hbm, ⟨9, _⟩ => ⟨S8192x5632, .bf16⟩
  | .hbm, ⟨10, _⟩ => ⟨S8192x5632, .bf16⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel7.lean ====
abbrev S8192x2048 : Shape := ⟨2, ![8192, 2048]⟩
abbrev S4x512x2048 : Shape := ⟨3, ![4, 512, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x512x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .bf16⟩
  | .local _ .vmem, ⟨5, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S4x512x2048 : Shape := ⟨3, ![4, 512, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x512x2048, .bf16⟩
  | .hbm, ⟨2, _⟩ => ⟨S4x512x2048, .f32⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x2048 : Shape := ⟨2, ![8192, 2048]⟩
abbrev S4x512x2048 : Shape := ⟨3, ![4, 512, 2048]⟩
abbrev S2048x512 : Shape := ⟨2, ![2048, 512]⟩
abbrev S2048x2048 : Shape := ⟨2, ![2048, 2048]⟩
abbrev S1x512x2048 : Shape := ⟨3, ![1, 512, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S_ : Shape := ⟨0, ![]⟩
abbrev S2048x2048 : Shape := ⟨2, ![2048, 2048]⟩
abbrev S4x512x2048 : Shape := ⟨3, ![4, 512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S4x512x2048, .f32⟩
  | .hbm, ⟨10, _⟩ => ⟨S4x512x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S8192x5632 : Shape := ⟨2, ![8192, 5632]⟩
abbrev S4x1408x2048 : Shape := ⟨3, ![4, 1408, 2048]⟩
abbrev S8192x2048 : Shape := ⟨2, ![8192, 2048]⟩
abbrev S1024x1408 : Shape := ⟨2, ![1024, 1408]⟩
abbrev S1x1408x2048 : Shape := ⟨3, ![1, 1408, 2048]⟩
abbrev S1024x2048 : Shape := ⟨2, ![1024, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S4x1408x2048, .bf16⟩
  | .hbm, ⟨2, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x5632 : Shape := ⟨2, ![8192, 5632]⟩
abbrev S4x1408x2048 : Shape := ⟨3, ![4, 1408, 2048]⟩
abbrev S5632x2048 : Shape := ⟨2, ![5632, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x1408x2048, .bf16⟩
  | .hbm, ⟨2, _⟩ => ⟨S8192x5632, .f32⟩
  | .hbm, ⟨3, _⟩ => ⟨S4x1408x2048, .f32⟩
  | .hbm, ⟨4, _⟩ => ⟨S5632x2048, .f32⟩
  | .hbm, ⟨5, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S8192x2048 : Shape := ⟨2, ![8192, 2048]⟩
abbrev S8192x3072 : Shape := ⟨2, ![8192, 3072]⟩
abbrev S4x2048x768 : Shape := ⟨3, ![4, 2048, 768]⟩
abbrev S1024x2048 : Shape := ⟨2, ![1024, 2048]⟩
abbrev S1024x768 : Shape := ⟨2, ![1024, 768]⟩
abbrev S1x2048x768 : Shape := ⟨3, ![1, 2048, 768]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .bf16⟩
  | .hbm, ⟨2, _⟩ => ⟨S4x2048x768, .bf16⟩
  | .local _ .vmem, ⟨0, _⟩ => ⟨S1024x2048, .bf16⟩
  | .local _ .vmem, ⟨1, _⟩ => ⟨S1024x2048, .bf16⟩
  | .local _ .vmem, ⟨2, _⟩ => ⟨S1024x768, .bf16⟩
  | .local _ .vmem, ⟨3, _⟩ => ⟨S1024x768, .bf16⟩
  | .local _ .vmem, ⟨4, _⟩ => ⟨S1x2048x768, .bf16⟩
  | .local _ .vmem, ⟨5, _⟩ => ⟨S1x2048x768, .bf16⟩
  | .local _ .vmem, ⟨6, _⟩ => ⟨S2048x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S8192x3072 : Shape := ⟨2, ![8192, 3072]⟩
abbrev S_ : Shape := ⟨0, ![]⟩
abbrev S2048x3072 : Shape := ⟨2, ![2048, 3072]⟩
abbrev S3072x2048 : Shape := ⟨2, ![3072, 2048]⟩
abbrev S2048x4x768 : Shape := ⟨3, ![2048, 4, 768]⟩
abbrev S4x2048x768 : Shape := ⟨3, ![4, 2048, 768]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .bf16⟩
  | .hbm, ⟨2, _⟩ => ⟨S_, .f32⟩
  | .hbm, ⟨3, _⟩ => ⟨S2048x3072, .f32⟩
  | .hbm, ⟨4, _⟩ => ⟨S8192x2048, .f32⟩
  | .hbm, ⟨5, _⟩ => ⟨S8192x3072, .f32⟩
  | .hbm, ⟨6, _⟩ => ⟨S8192x3072, .f32⟩
  | .hbm, ⟨7, _⟩ => ⟨S3072x2048, .f32⟩
  | .hbm, ⟨8, _⟩ => ⟨S2048x3072, .f32⟩
  | .hbm, ⟨9, _⟩ => ⟨S2048x4x768, .f32⟩
  | .hbm, ⟨10, _⟩ => ⟨S4x2048x768, .f32⟩
  | .hbm, ⟨11, _⟩ => ⟨S4x2048x768, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S8192x3072 : Shape := ⟨2, ![8192, 3072]⟩
abbrev S4x2048x768 : Shape := ⟨3, ![4, 2048, 768]⟩
abbrev S8192x2048 : Shape := ⟨2, ![8192, 2048]⟩
abbrev S1024x768 : Shape := ⟨2, ![1024, 768]⟩
abbrev S1x2048x768 : Shape := ⟨3, ![1, 2048, 768]⟩
abbrev S1024x2048 : Shape := ⟨2, ![1024, 2048]⟩
abbrev S2048x768 : Shape := ⟨2, ![2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S4x2048x768, .bf16⟩
  | .hbm, ⟨2, _⟩ => ⟨S8192x2048, .f32⟩
  | .local _ .vmem, ⟨0, _⟩ => ⟨S1024x768, .bf16⟩
  | .local _ .vmem, ⟨1, _⟩ => ⟨S1024x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x3072 : Shape := ⟨2, ![8192, 3072]⟩
abbrev S4x2048x768 : Shape := ⟨3, ![4, 2048, 768]⟩
abbrev S2048x4x768 : Shape := ⟨3, ![2048, 4, 768]⟩
abbrev S2048x3072 : Shape := ⟨2, ![2048, 3072]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S4x2048x768, .bf16⟩
  | .hbm, ⟨2, _⟩ => ⟨S4x2048x768, .f32⟩
  | .hbm, ⟨3, _⟩ => ⟨S2048x4x768, .f32⟩
  | .hbm, ⟨4, _⟩ => ⟨S2048x3072, .f32⟩
  | .hbm, ⟨5, _⟩ => ⟨S_, .f32⟩
  | .hbm, ⟨6, _⟩ => ⟨S8192x2048, .f32⟩
  | .hbm, ⟨7, _⟩ => ⟨S8192x3072, .f32⟩
  | .hbm, ⟨8, _⟩ => ⟨S8192x3072, .f32⟩
  | .hbm, ⟨9, _⟩ => ⟨S8192x2048, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Trip.lean ====
/-
  ONE TRIP of the kernel's loop over blocks of 1024 query rows, run once at a symbolic trip: where the trip reads and
  writes (`k0_off3_eq`, `k0_off4_eq`), and what it leaves in the three buffers it writes, as lists of written pieces.
-/
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Tactic

@[expose] public section

noncomputable section

namespace Cert.Proof.Fox

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra: the frame kit's. -/
local notation "𝕄" => MT nD τ sig Unit (Elt F) ℕ (UR sig nD τ) ℕ

abbrev 𝒱₀ : Variants := Variants.none

/-! ## Where a trip reads and writes: rows `512 (j + 1) + 1024 k` on, the pair's first and second 128 lanes -/

theorem k0_off3_eq : ∀ (i : grid0.Coords) (k : Fin (k0_t1_loop i).trips),
    k0_off3 i k = ![512 * (i 1).val + 1024 * k.val + 512, 0] := by decide +kernel
theorem k0_off4_eq : ∀ (i : grid0.Coords) (k : Fin (k0_t1_loop i).trips),
    k0_off4 i k = ![512 * (i 1).val + 1024 * k.val + 512, 128] := by decide +kernel
instance closedOff_k0_off3 (i : grid0.Coords) (k : Fin (k0_t1_loop i).trips) : ClosedOff (k0_off3 i k) := ⟨_, k0_off3_eq i k⟩
instance closedOff_k0_off4 (i : grid0.Coords) (k : Fin (k0_t1_loop i).trips) : ClosedOff (k0_off4 i k) := ⟨_, k0_off4_eq i k⟩

section Trip

variable (c : Dev nD) (i : grid0.Coords)
  (M2 : Memref sig .tc .vmem S8192x256 .bf16) (h2 : M2.IsWhole) (M3 : Memref sig .tc .vmem S512x256 .bf16) (h3 : M3.IsWhole)
  (M4 : Memref sig .tc .vmem S512x256 .bf16) (h4 : M4.IsWhole) (M5 : Memref sig .tc .vmem S8192x256 .bf16) (h5 : M5.IsWhole)
  (M6 : Memref sig .tc .vmem S8192x256 .f32) (h6 : M6.IsWhole) (M7 : Memref sig .tc .vmem S512x256 .f32) (h7 : M7.IsWhole)
  (M8 : Memref sig .tc .vmem S512x256 .bf16) (h8 : M8.IsWhole) (M9 : Memref sig .tc .vmem S2x512x128 .f32) (h9 : M9.IsWhole)
  (M10 : Memref sig .tc .vmem S2x512x128 .f32) (h10 : M10.IsWhole)
  (g2 : Buf (Elt F) (M2.view.loc (c : Thread nD τ))) (g3 : Buf (Elt F) (M3.view.loc (c : Thread nD τ)))
  (g4 : Buf (Elt F) (M4.view.loc (c : Thread nD τ))) (g5 : Buf (Elt F) (M5.view.loc (c : Thread nD τ)))

/-- What a trip touches: the four staged operands at `g2 … g5`, the query gradient's buffer and the two accumulators. -/
abbrev Trip (f6 : Buf (Elt F) (M6.view.loc (c : Thread nD τ))) (f9 : Buf (Elt F) (M9.view.loc (c : Thread nD τ)))
    (f10 : Buf (Elt F) (M10.view.loc (c : Thread nD τ))) : sProp 𝕄 :=
  iprop((M2.view.loc (c : Thread nD τ) ↦[M2.view.set]{fullShare} g2) ∗ (M3.view.loc (c : Thread nD τ) ↦[M3.view.set]{fullShare} g3)
    ∗ (M4.view.loc (c : Thread nD τ) ↦[M4.view.set]{fullShare} g4) ∗ (M5.view.loc (c : Thread nD τ) ↦[M5.view.set]{fullShare} g5)
    ∗ (M6.view.loc (c : Thread nD τ) ↦[M6.view.set]{fullShare} f6) ∗ (M9.view.loc (c : Thread nD τ) ↦[M9.view.set]{fullShare} f9)
    ∗ (M10.view.loc (c : Thread nD τ) ↦[M10.view.set]{fullShare} f10))

set_option maxHeartbeats 4000000 in
@[irreducible] def trip (a1 v97 c2 v98 v100 : BitVec 32) (v101 : BitVec 1) (k : Fin (k0_t1_loop i).trips)
    (f6 : Buf (Elt F) (M6.view.loc (c : Thread nD τ))) (f9 : Buf (Elt F) (M9.view.loc (c : Thread nD τ)))
    (f10 : Buf (Elt F) (M10.view.loc (c : Thread nD τ))) :
    Σ' (L6 : List (View.Piece (Elt F) S8192x256 .f32)) (L9 : List (View.Piece (Elt F) S2x512x128 .f32)),
      { L10 : List (View.Piece (Elt F) S2x512x128 .f32) //
      Trip c M2 M3 M4 M5 M6 M9 M10 g2 g3 g4 g5 f6 f9 f10
        ⊢ wp frame (wpE (defs₀ (F := F)) 𝒱₀ c none) Set.univ
            (k0_t1_body (F := F) i M2 h2 M3 h3 M4 h4 M5 h5 M6 h6 M7 h7 M8 h8 M9 h9 M10 h10 a1 v97 c2 v98 v100 v101 k ())
            (fun _ => Trip c M2 M3 M4 M5 M6 M9 M10 g2 g3 g4 g5 (M6.view.writes (Elt F) f6 L6) (M9.view.writes (Elt F) f9 L9)
              (M10.view.writes (Elt F) f10 L10)) } := by
  refine ⟨?_, ?_, ?_, ?run⟩
  case run =>
    unfold k0_t1_body
    iintro ⟨H2, H3, H4, H5, H6, H9, H10⟩
    sl_exec_parts
    sl_step
    sl_close

end Trip

end Cert.Proof.Fox

end
-- ==== Proof.Loop.lean ====
/-
  The kernel's two counted loops, gone through by their invariants: before trip `k` of the loop over blocks of 1024
  query rows each written buffer holds what the trips before `k` left; the remainder loop runs no trip.
-/
module

public import proofs.«01_k».proof.Proof.Trip

@[expose] public section

noncomputable section

namespace Cert.Proof.Fox

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (M2 : Memref sig .tc .vmem S8192x256 .bf16) (h2 : M2.IsWhole) (M3 : Memref sig .tc .vmem S512x256 .bf16) (h3 : M3.IsWhole)
  (M4 : Memref sig .tc .vmem S512x256 .bf16) (h4 : M4.IsWhole) (M5 : Memref sig .tc .vmem S8192x256 .bf16) (h5 : M5.IsWhole)
  (M6 : Memref sig .tc .vmem S8192x256 .f32) (h6 : M6.IsWhole) (M7 : Memref sig .tc .vmem S512x256 .f32) (h7 : M7.IsWhole)
  (M8 : Memref sig .tc .vmem S512x256 .bf16) (h8 : M8.IsWhole) (M9 : Memref sig .tc .vmem S2x512x128 .f32) (h9 : M9.IsWhole)
  (M10 : Memref sig .tc .vmem S2x512x128 .f32) (h10 : M10.IsWhole)
  (g2 : Buf (Elt F) (M2.view.loc (c : Thread nD τ))) (g3 : Buf (Elt F) (M3.view.loc (c : Thread nD τ)))
  (g4 : Buf (Elt F) (M4.view.loc (c : Thread nD τ))) (g5 : Buf (Elt F) (M5.view.loc (c : Thread nD τ)))
  (G6 : Buf (Elt F) (M6.view.loc (c : Thread nD τ))) (G9 : Buf (Elt F) (M9.view.loc (c : Thread nD τ)))
  (G10 : Buf (Elt F) (M10.view.loc (c : Thread nD τ)))

/-- The pieces the trips before trip `n` wrote, the last first, to the query gradient and to the two accumulators. -/
def pb : ℕ → List (View.Piece (Elt F) S8192x256 .f32) × List (View.Piece (Elt F) S2x512x128 .f32) × List (View.Piece (Elt F) S2x512x128 .f32)
  | 0 => ([], [], [])
  | n + 1 => if h : n < (k0_t1_loop i).trips then
      ((trip c i M2 h2 M3 h3 M4 h4 M5 h5 M6 h6 M7 h7 M8 h8 M9 h9 M10 h10 g2 g3 g4 g5 (BitVec.ofNat 32 (i 1).val) 0#32 0#32 0#32 0#32 0#1 ⟨n, h⟩
          (M6.view.writes (Elt F) G6 (pb n).1) (M9.view.writes (Elt F) G9 (pb n).2.1) (M10.view.writes (Elt F) G10 (pb n).2.2)).1 ++ (pb n).1,
        (trip c i M2 h2 M3 h3 M4 h4 M5 h5 M6 h6 M7 h7 M8 h8 M9 h9 M10 h10 g2 g3 g4 g5 (BitVec.ofNat 32 (i 1).val) 0#32 0#32 0#32 0#32 0#1 ⟨n, h⟩
          (M6.view.writes (Elt F) G6 (pb n).1) (M9.view.writes (Elt F) G9 (pb n).2.1) (M10.view.writes (Elt F) G10 (pb n).2.2)).2.1 ++ (pb n).2.1,
        (trip c i M2 h2 M3 h3 M4 h4 M5 h5 M6 h6 M7 h7 M8 h8 M9 h9 M10 h10 g2 g3 g4 g5 (BitVec.ofNat 32 (i 1).val) 0#32 0#32 0#32 0#32 0#1 ⟨n, h⟩
          (M6.view.writes (Elt F) G6 (pb n).1) (M9.view.writes (Elt F) G9 (pb n).2.1) (M10.view.writes (Elt F) G10 (pb n).2.2)).2.2.1 ++ (pb n).2.2)
    else pb n

local notation "PB" => pb c i M2 h2 M3 h3 M4 h4 M5 h5 M6 h6 M7 h7 M8 h8 M9 h9 M10 h10 g2 g3 g4 g5 G6 G9 G10

/-- The trip after `n`, at what the trips before it left. -/
abbrev tripAt (n : Fin (k0_t1_loop i).trips) :=
  trip c i M2 h2 M3 h3 M4 h4 M5 h5 M6 h6 M7 h7 M8 h8 M9 h9 M10 h10 g2 g3 g4 g5 (BitVec.ofNat 32 (i 1).val) 0#32 0#32 0#32 0#32 0#1 n
    (M6.view.writes (Elt F) G6 (PB n.val).1) (M9.view.writes (Elt F) G9 (PB n.val).2.1) (M10.view.writes (Elt F) G10 (PB n.val).2.2)

local notation "TA" => tripAt c i M2 h2 M3 h3 M4 h4 M5 h5 M6 h6 M7 h7 M8 h8 M9 h9 M10 h10 g2 g3 g4 g5 G6 G9 G10

theorem pb_succ (n : Fin (k0_t1_loop i).trips) :
    PB (n.val + 1) = ((TA n).1 ++ (PB n.val).1, (TA n).2.1 ++ (PB n.val).2.1, (TA n).2.2.1 ++ (PB n.val).2.2) := by
  rw [pb.eq_2]; exact dif_pos n.isLt

/-- What the loop holds before trip `k`. -/
abbrev inv1 (k : ℕ) : sProp 𝕄 :=
  iprop((M2.view.loc (c : Thread nD τ) ↦[M2.view.set]{fullShare} g2) ∗ (M3.view.loc (c : Thread nD τ) ↦[M3.view.set]{fullShare} g3)
    ∗ (M4.view.loc (c : Thread nD τ) ↦[M4.view.set]{fullShare} g4) ∗ (M5.view.loc (c : Thread nD τ) ↦[M5.view.set]{fullShare} g5)
    ∗ (∃ f, (M6.view.loc (c : Thread nD τ) ↦[M6.view.set]{fullShare} f) ∗ ⌜f = M6.view.writes (Elt F) G6 (PB k).1⌝)
    ∗ (∃ f, (M9.view.loc (c : Thread nD τ) ↦[M9.view.set]{fullShare} f) ∗ ⌜f = M9.view.writes (Elt F) G9 (PB k).2.1⌝)
    ∗ (∃ f, (M10.view.loc (c : Thread nD τ) ↦[M10.view.set]{fullShare} f) ∗ ⌜f = M10.view.writes (Elt F) G10 (PB k).2.2⌝))

set_option warn.classDefReducibility false in
@[sl_loop] def loopInv_k0_t1 :
    LoopInvTy_k0_t1 (F := F) Unit ℕ (UR sig nD τ) ℕ 𝒱₀ c none Set.univ i M2 h2 M3 h3 M4 h4 M5 h5 M6 h6 M7 h7 M8 h8 M9 h9 M10 h10
      (BitVec.ofNat 32 (i 1).val) 0#32 0#32 0#32 0#32 0#1 where
  inv k _ := inv1 c i M2 h2 M3 h3 M4 h4 M5 h5 M6 h6 M7 h7 M8 h8 M9 h9 M10 h10 g2 g3 g4 g5 G6 G9 G10 k
  step k acc := by
    iintro ⟨H2, H3, H4, H5, ⟨%f6, H6, %e6⟩, ⟨%f9, H9, %e9⟩, ⟨%f10, H10, %e10⟩⟩
    subst e6 e9 e10
    iapply (wp_wand_r Idealize.ShloMosaic.frame (wpE (defs₀ (F := F)) 𝒱₀ (c : Thread nD τ) none) Set.univ)
    isplitl [H2 H3 H4 H5 H6 H9 H10]
    · iapply (TA k).2.2.2
      isplitl [H2]; · iexact H2
      isplitl [H3]; · iexact H3
      isplitl [H4]; · iexact H4
      isplitl [H5]; · iexact H5
      isplitl [H6]; · iexact H6
      isplitl [H9]; · iexact H9
      iexact H10
    iintro %_ ⟨H2, H3, H4, H5, H6, H9, H10⟩
    isplitl [H2]; · iexact H2
    isplitl [H3]; · iexact H3
    isplitl [H4]; · iexact H4
    isplitl [H5]; · iexact H5
    rw [pb_succ]
    isplitl [H6]
    · iexists _; isplitl [H6]; · iexact H6
      ipureintro; exact (View.writes_append _ _ _ _).symm
    isplitl [H9]
    · iexists _; isplitl [H9]; · iexact H9
      ipureintro; exact (View.writes_append _ _ _ _).symm
    iexists _; isplitl [H10]; · iexact H10
    ipureintro; exact (View.writes_append _ _ _ _).symm

/-- The remainder loop runs no trip. -/
theorem t2_trips : (k0_t2_loop i).trips = 0 := Nat.le_zero.1 (k0_t2_abs i).2.1

end Cert.Proof.Fox

end
-- ==== Proof.Body.lean ====
/-
  The kernel's body at one grid point.
-/
module

public import proofs.«01_k».proof.Proof.Loop

@[expose] public section

noncomputable section

namespace Cert.Proof.Fox

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords)
  (M2 : Memref sig .tc .vmem S8192x256 .bf16) (h2 : M2.IsWhole) (M3 : Memref sig .tc .vmem S512x256 .bf16) (h3 : M3.IsWhole)
  (M4 : Memref sig .tc .vmem S512x256 .bf16) (h4 : M4.IsWhole) (M5 : Memref sig .tc .vmem S8192x256 .bf16) (h5 : M5.IsWhole)
  (M6 : Memref sig .tc .vmem S8192x256 .f32) (h6 : M6.IsWhole) (M7 : Memref sig .tc .vmem S512x256 .f32) (h7 : M7.IsWhole)
  (M8 : Memref sig .tc .vmem S512x256 .bf16) (h8 : M8.IsWhole) (M9 : Memref sig .tc .vmem S2x512x128 .f32) (h9 : M9.IsWhole)
  (M10 : Memref sig .tc .vmem S2x512x128 .f32) (h10 : M10.IsWhole)
  (g2 : Buf (Elt F) (M2.view.loc (c : Thread nD τ))) (g3 : Buf (Elt F) (M3.view.loc (c : Thread nD τ)))
  (g4 : Buf (Elt F) (M4.view.loc (c : Thread nD τ))) (g5 : Buf (Elt F) (M5.view.loc (c : Thread nD τ)))

/-- The condition under which a point clears the query gradient, as the kernel computes it. -/
abbrev cond1 : Prop :=
  Scalar.cmpi .ne (Scalar.extui (Scalar.cmpi .eq (BitVec.ofNat 32 (i 1).val) (0#32)) : BitVec 32) (0#32) = 1#1

/-- All that a point touches. -/
abbrev All (f6 : Buf (Elt F) (M6.view.loc (c : Thread nD τ))) (f7 : Buf (Elt F) (M7.view.loc (c : Thread nD τ)))
    (f8 : Buf (Elt F) (M8.view.loc (c : Thread nD τ))) (f9 : Buf (Elt F) (M9.view.loc (c : Thread nD τ)))
    (f10 : Buf (Elt F) (M10.view.loc (c : Thread nD τ))) : sProp 𝕄 :=
  iprop((M2.view.loc (c : Thread nD τ) ↦[M2.view.set]{fullShare} g2) ∗ (M3.view.loc (c : Thread nD τ) ↦[M3.view.set]{fullShare} g3)
    ∗ (M4.view.loc (c : Thread nD τ) ↦[M4.view.set]{fullShare} g4) ∗ (M5.view.loc (c : Thread nD τ) ↦[M5.view.set]{fullShare} g5)
    ∗ (M6.view.loc (c : Thread nD τ) ↦[M6.view.set]{fullShare} f6) ∗ (M7.view.loc (c : Thread nD τ) ↦[M7.view.set]{fullShare} f7)
    ∗ (M8.view.loc (c : Thread nD τ) ↦[M8.view.set]{fullShare} f8) ∗ (M9.view.loc (c : Thread nD τ) ↦[M9.view.set]{fullShare} f9)
    ∗ (M10.view.loc (c : Thread nD τ) ↦[M10.view.set]{fullShare} f10))

set_option maxHeartbeats 4000000 in
/-- A point that clears the query gradient and has a last odd block: what it leaves in the three results, and its run. -/
@[irreducible] def body11 (hc1 : cond1 i) (hc2 : k0_cond2 i = 1#1) :
    Σ' (Y6 : Buf (Elt F) (M6.view.loc (c : Thread nD τ))) (L7 : List (View.Piece (Elt F) S512x256 .f32)),
      { L8 : List (View.Piece (Elt F) S512x256 .bf16) // ∀ f6 f7 f8 f9 f10,
      All c M2 M3 M4 M5 M6 M7 M8 M9 M10 g2 g3 g4 g5 f6 f7 f8 f9 f10
        ⊢ wp frame (wpE (defs₀ (F := F)) 𝒱₀ c none) Set.univ
            (cc0_fox_bwd (F := F) i M2 h2 M3 h3 M4 h4 M5 h5 M6 h6 M7 h7 M8 h8 M9 h9 M10 h10)
            (fun _ => iprop(∃ f9 f10, All c M2 M3 M4 M5 M6 M7 M8 M9 M10 g2 g3 g4 g5 Y6 (M7.view.writes (Elt F) f7 L7)
              (M8.view.writes (Elt F) f8 L8) f9 f10)) } := by
  refine ⟨?_, ?_, ?_, fun f6 f7 f8 f9 f10 => ?run⟩
  case run =>
    iintro ⟨H2, H3, H4, H5, H6, H7, H8, H9, H10⟩
    sl_unfold [cc0_fox_bwd]
    have htr := t2_trips i
    sl_exec_parts (disch := first | sl_exact hc1 | sl_exact hc2)
    sl_step
    sl_close

set_option maxHeartbeats 4000000 in
/-- A point that clears the query gradient and has no last odd block. -/
@[irreducible] def body10 (hc1 : cond1 i) (hc2 : ¬ k0_cond2 i = 1#1) :
    Σ' (Y6 : Buf (Elt F) (M6.view.loc (c : Thread nD τ))) (L7 : List (View.Piece (Elt F) S512x256 .f32)),
      { L8 : List (View.Piece (Elt F) S512x256 .bf16) // ∀ f6 f7 f8 f9 f10,
      All c M2 M3 M4 M5 M6 M7 M8 M9 M10 g2 g3 g4 g5 f6 f7 f8 f9 f10
        ⊢ wp frame (wpE (defs₀ (F := F)) 𝒱₀ c none) Set.univ
            (cc0_fox_bwd (F := F) i M2 h2 M3 h3 M4 h4 M5 h5 M6 h6 M7 h7 M8 h8 M9 h9 M10 h10)
            (fun _ => iprop(∃ f9 f10, All c M2 M3 M4 M5 M6 M7 M8 M9 M10 g2 g3 g4 g5 Y6 (M7.view.writes (Elt F) f7 L7)
              (M8.view.writes (Elt F) f8 L8) f9 f10)) } := by
  refine ⟨?_, ?_, ?_, fun f6 f7 f8 f9 f10 => ?run⟩
  case run =>
    iintro ⟨H2, H3, H4, H5, H6, H7, H8, H9, H10⟩
    sl_unfold [cc0_fox_bwd]
    have htr := t2_trips i
    sl_exec_parts (disch := first | sl_exact hc1 | sl_exact hc2)
    sl_step
    sl_close

set_option maxHeartbeats 4000000 in
/-- A point that adds to the query gradient and has a last odd block. -/
@[irreducible] def body01 (hc1 : ¬ cond1 i) (hc2 : k0_cond2 i = 1#1)
    (f6 : Buf (Elt F) (M6.view.loc (c : Thread nD τ))) :
    Σ' (Y6 : Buf (Elt F) (M6.view.loc (c : Thread nD τ))) (L7 : List (View.Piece (Elt F) S512x256 .f32)),
      { L8 : List (View.Piece (Elt F) S512x256 .bf16) // ∀ f7 f8 f9 f10,
      All c M2 M3 M4 M5 M6 M7 M8 M9 M10 g2 g3 g4 g5 f6 f7 f8 f9 f10
        ⊢ wp frame (wpE (defs₀ (F := F)) 𝒱₀ c none) Set.univ
            (cc0_fox_bwd (F := F) i M2 h2 M3 h3 M4 h4 M5 h5 M6 h6 M7 h7 M8 h8 M9 h9 M10 h10)
            (fun _ => iprop(∃ f9 f10, All c M2 M3 M4 M5 M6 M7 M8 M9 M10 g2 g3 g4 g5 Y6 (M7.view.writes (Elt F) f7 L7)
              (M8.view.writes (Elt F) f8 L8) f9 f10)) } := by
  refine ⟨?_, ?_, ?_, fun f7 f8 f9 f10 => ?run⟩
  case run =>
    iintro ⟨H2, H3, H4, H5, H6, H7, H8, H9, H10⟩
    sl_unfold [cc0_fox_bwd]
    have htr := t2_trips i
    sl_exec_parts (disch := first | sl_exact hc1 | sl_exact hc2)
    sl_step
    sl_close

set_option maxHeartbeats 4000000 in
/-- A point that adds to the query gradient and has no last odd block. -/
@[irreducible] def body00 (hc1 : ¬ cond1 i) (hc2 : ¬ k0_cond2 i = 1#1)
    (f6 : Buf (Elt F) (M6.view.loc (c : Thread nD τ))) :
    Σ' (Y6 : Buf (Elt F) (M6.view.loc (c : Thread nD τ))) (L7 : List (View.Piece (Elt F) S512x256 .f32)),
      { L8 : List (View.Piece (Elt F) S512x256 .bf16) // ∀ f7 f8 f9 f10,
      All c M2 M3 M4 M5 M6 M7 M8 M9 M10 g2 g3 g4 g5 f6 f7 f8 f9 f10
        ⊢ wp frame (wpE (defs₀ (F := F)) 𝒱₀ c none) Set.univ
            (cc0_fox_bwd (F := F) i M2 h2 M3 h3 M4 h4 M5 h5 M6 h6 M7 h7 M8 h8 M9 h9 M10 h10)
            (fun _ => iprop(∃ f9 f10, All c M2 M3 M4 M5 M6 M7 M8 M9 M10 g2 g3 g4 g5 Y6 (M7.view.writes (Elt F) f7 L7)
              (M8.view.writes (Elt F) f8 L8) f9 f10)) } := by
  refine ⟨?_, ?_, ?_, fun f7 f8 f9 f10 => ?run⟩
  case run =>
    iintro ⟨H2, H3, H4, H5, H6, H7, H8, H9, H10⟩
    sl_unfold [cc0_fox_bwd]
    have htr := t2_trips i
    sl_exec_parts (disch := first | sl_exact hc1 | sl_exact hc2)
    sl_step
    sl_close

/-- What a point leaves in the three results: the query gradient's contents, and the pieces it writes of the key and value
    gradients. -/
def out (f6 : Buf (Elt F) (M6.view.loc (c : Thread nD τ))) :
    Buf (Elt F) (M6.view.loc (c : Thread nD τ)) × List (View.Piece (Elt F) S512x256 .f32) × List (View.Piece (Elt F) S512x256 .bf16) :=
  if hc1 : cond1 i then
    if hc2 : k0_cond2 i = 1#1 then
      let b := body11 c i M2 h2 M3 h3 M4 h4 M5 h5 M6 h6 M7 h7 M8 h8 M9 h9 M10 h10 g2 g3 g4 g5 hc1 hc2; ⟨b.1, b.2.1, b.2.2.1⟩
    else let b := body10 c i M2 h2 M3 h3 M4 h4 M5 h5 M6 h6 M7 h7 M8 h8 M9 h9 M10 h10 g2 g3 g4 g5 hc1 hc2; ⟨b.1, b.2.1, b.2.2.1⟩
  else
    if hc2 : k0_cond2 i = 1#1 then
      let b := body01 c i M2 h2 M3 h3 M4 h4 M5 h5 M6 h6 M7 h7 M8 h8 M9 h9 M10 h10 g2 g3 g4 g5 hc1 hc2 f6; ⟨b.1, b.2.1, b.2.2.1⟩
    else let b := body00 c i M2 h2 M3 h3 M4 h4 M5 h5 M6 h6 M7 h7 M8 h8 M9 h9 M10 h10 g2 g3 g4 g5 hc1 hc2 f6; ⟨b.1, b.2.1, b.2.2.1⟩

/-- One point's run; where the point clears the query gradient, whatever that buffer held. -/
theorem out_run (f6 f6' : Buf (Elt F) (M6.view.loc (c : Thread nD τ))) (hf : ¬ cond1 i → f6' = f6)
    (f7 : Buf (Elt F) (M7.view.loc (c : Thread nD τ)))
    (f8 : Buf (Elt F) (M8.view.loc (c : Thread nD τ))) (f9 : Buf (Elt F) (M9.view.loc (c : Thread nD τ)))
    (f10 : Buf (Elt F) (M10.view.loc (c : Thread nD τ))) :
    All c M2 M3 M4 M5 M6 M7 M8 M9 M10 g2 g3 g4 g5 f6' f7 f8 f9 f10
      ⊢ wp frame (wpE (defs₀ (F := F)) 𝒱₀ c none) Set.univ
          (cc0_fox_bwd (F := F) i M2 h2 M3 h3 M4 h4 M5 h5 M6 h6 M7 h7 M8 h8 M9 h9 M10 h10)
          (fun _ => iprop(∃ f9 f10, All c M2 M3 M4 M5 M6 M7 M8 M9 M10 g2 g3 g4 g5 (out c i M2 h2 M3 h3 M4 h4 M5 h5 M6 h6 M7 h7 M8 h8 M9 h9 M10 h10 g2 g3 g4 g5 f6).1
            (M7.view.writes (Elt F) f7 (out c i M2 h2 M3 h3 M4 h4 M5 h5 M6 h6 M7 h7 M8 h8 M9 h9 M10 h10 g2 g3 g4 g5 f6).2.1) (M8.view.writes (Elt F) f8 (out c i M2 h2 M3 h3 M4 h4 M5 h5 M6 h6 M7 h7 M8 h8 M9 h9 M10 h10 g2 g3 g4 g5 f6).2.2) f9 f10)) := by
  unfold out
  by_cases hc1 : cond1 i
  · by_cases hc2 : k0_cond2 i = 1#1
    · rw [dif_pos hc1, dif_pos hc2]; exact (body11 c i M2 h2 M3 h3 M4 h4 M5 h5 M6 h6 M7 h7 M8 h8 M9 h9 M10 h10 g2 g3 g4 g5 hc1 hc2).2.2.2 f6' f7 f8 f9 f10
    · rw [dif_pos hc1, dif_neg hc2]; exact (body10 c i M2 h2 M3 h3 M4 h4 M5 h5 M6 h6 M7 h7 M8 h8 M9 h9 M10 h10 g2 g3 g4 g5 hc1 hc2).2.2.2 f6' f7 f8 f9 f10
  · obtain rfl := hf hc1
    by_cases hc2 : k0_cond2 i = 1#1
    · rw [dif_neg hc1, dif_pos hc2]; exact (body01 c i M2 h2 M3 h3 M4 h4 M5 h5 M6 h6 M7 h7 M8 h8 M9 h9 M10 h10 g2 g3 g4 g5 hc1 hc2 f6').2.2.2 f7 f8 f9 f10
    · rw [dif_neg hc1, dif_neg hc2]; exact (body00 c i M2 h2 M3 h3 M4 h4 M5 h5 M6 h6 M7 h7 M8 h8 M9 h9 M10 h10 g2 g3 g4 g5 hc1 hc2 f6').2.2.2 f7 f8 f9 f10

/-- The pieces of the key gradient cover its block. -/
theorem out_cover7 (f6 : Buf (Elt F) (M6.view.loc (c : Thread nD τ))) :
    ∀ y, ∃ p ∈ (out c i M2 h2 M3 h3 M4 h4 M5 h5 M6 h6 M7 h7 M8 h8 M9 h9 M10 h10 g2 g3 g4 g5 f6).2.1, y ∈ p.1.set := by
  unfold out
  split_ifs <;> dsimp only
  · unfold body11; exact View.cover_of_tiled _ S512x128.size (by rfl)
  · unfold body10; exact View.cover_of_tiled _ S512x128.size (by rfl)
  · unfold body01; exact View.cover_of_tiled _ S512x128.size (by rfl)
  · unfold body00; exact View.cover_of_tiled _ S512x128.size (by rfl)

/-- The pieces of the value gradient cover its block. -/
theorem out_cover8 (f6 : Buf (Elt F) (M6.view.loc (c : Thread nD τ))) :
    ∀ y, ∃ p ∈ (out c i M2 h2 M3 h3 M4 h4 M5 h5 M6 h6 M7 h7 M8 h8 M9 h9 M10 h10 g2 g3 g4 g5 f6).2.2, y ∈ p.1.set := by
  unfold out
  split_ifs <;> dsimp only
  · unfold body11; exact View.cover_of_tiled _ S512x128.size (by rfl)
  · unfold body10; exact View.cover_of_tiled _ S512x128.size (by rfl)
  · unfold body01; exact View.cover_of_tiled _ S512x128.size (by rfl)
  · unfold body00; exact View.cover_of_tiled _ S512x128.size (by rfl)

end Cert.Proof.Fox

end
-- ==== Proof.Run.lean ====
/-
  The run of the whole program: the body at a point as the pipeline calls it, the proof data, the run and the frame.
-/
module

public import proofs.«01_k».proof.Proof.Body

@[expose] public section

noncomputable section

namespace Cert.Proof.Fox

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

abbrev ms0_0 (t : Fin cfg0.N) : Memref sig .tc .vmem S8192x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8192x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .bf16 := win0_6.stage (cfg0.slots t 6)
abbrev hs0_6 (t : Fin cfg0.N) : (ms0_6 t).IsWhole := hstage0_6 ((cfg0.slots t 6).cast nbuf0_6)
/-- The two accumulators. -/
abbrev sc0 : Memref sig .tc .vmem S2x512x128 .f32 := Memref.whole cc0_scratch0
abbrev sc1 : Memref sig .tc .vmem S2x512x128 .f32 := Memref.whole cc0_scratch1

section Point
variable (c : Dev nD) (i : grid0.Coords)
  (M2 : Memref sig .tc .vmem S8192x256 .bf16) (h2 : M2.IsWhole) (M3 : Memref sig .tc .vmem S512x256 .bf16) (h3 : M3.IsWhole)
  (M4 : Memref sig .tc .vmem S512x256 .bf16) (h4 : M4.IsWhole) (M5 : Memref sig .tc .vmem S8192x256 .bf16) (h5 : M5.IsWhole)
  (M6 : Memref sig .tc .vmem S8192x256 .f32) (h6 : M6.IsWhole) (M7 : Memref sig .tc .vmem S512x256 .f32) (h7 : M7.IsWhole)
  (M8 : Memref sig .tc .vmem S512x256 .bf16) (h8 : M8.IsWhole) (M9 : Memref sig .tc .vmem S2x512x128 .f32) (h9 : M9.IsWhole)
  (M10 : Memref sig .tc .vmem S2x512x128 .f32) (h10 : M10.IsWhole)
  (x2 : Vec F S8192x256 .bf16) (x3 x4 : Vec F S512x256 .bf16) (x5 : Vec F S8192x256 .bf16) (x6 : Vec F S8192x256 .f32)

/-- `out`, between vectors. -/
def outV := out (F := F) c i M2 h2 M3 h3 M4 h4 M5 h5 M6 h6 M7 h7 M8 h8 M9 h9 M10 h10 (h2.unread x2) (h3.unread x3) (h4.unread x4) (h5.unread x5)
  (h6.unread x6)

def o6 : Vec F S8192x256 .f32 := M6.view.read (Elt F) (outV c i M2 h2 M3 h3 M4 h4 M5 h5 M6 h6 M7 h7 M8 h8 M9 h9 M10 h10 x2 x3 x4 x5 x6).1
def o7 : Vec F S512x256 .f32 :=
  M7.view.read (Elt F) (M7.view.writes (Elt F) M7.view.junk (outV c i M2 h2 M3 h3 M4 h4 M5 h5 M6 h6 M7 h7 M8 h8 M9 h9 M10 h10 x2 x3 x4 x5 x6).2.1)
def o8 : Vec F S512x256 .bf16 :=
  M8.view.read (Elt F) (M8.view.writes (Elt F) M8.view.junk (outV c i M2 h2 M3 h3 M4 h4 M5 h5 M6 h6 M7 h7 M8 h8 M9 h9 M10 h10 x2 x3 x4 x5 x6).2.2)

/-- One point, from staging buffers at vectors to staging buffers at vectors. -/
theorem point_run (x6' : Vec F S8192x256 .f32) (hx : ¬ cond1 i → x6' = x6) (K : PUnit → sProp 𝕄) :
    iprop(owns (c : Thread nD τ) M2 fullShare x2 ∗ owns (c : Thread nD τ) M3 fullShare x3 ∗ owns (c : Thread nD τ) M4 fullShare x4
        ∗ owns (c : Thread nD τ) M5 fullShare x5 ∗ owns (c : Thread nD τ) M6 fullShare x6' ∗ (∃ d, owns (c : Thread nD τ) M7 fullShare d)
        ∗ (∃ d, owns (c : Thread nD τ) M8 fullShare d) ∗ (∃ d, owns (c : Thread nD τ) M9 fullShare d) ∗ (∃ d, owns (c : Thread nD τ) M10 fullShare d)
        ∗ (iprop(owns (c : Thread nD τ) M2 fullShare x2 ∗ owns (c : Thread nD τ) M3 fullShare x3 ∗ owns (c : Thread nD τ) M4 fullShare x4
            ∗ owns (c : Thread nD τ) M5 fullShare x5
            ∗ owns (c : Thread nD τ) M6 fullShare (o6 c i M2 h2 M3 h3 M4 h4 M5 h5 M6 h6 M7 h7 M8 h8 M9 h9 M10 h10 x2 x3 x4 x5 x6)
            ∗ owns (c : Thread nD τ) M7 fullShare (o7 c i M2 h2 M3 h3 M4 h4 M5 h5 M6 h6 M7 h7 M8 h8 M9 h9 M10 h10 x2 x3 x4 x5 x6)
            ∗ owns (c : Thread nD τ) M8 fullShare (o8 c i M2 h2 M3 h3 M4 h4 M5 h5 M6 h6 M7 h7 M8 h8 M9 h9 M10 h10 x2 x3 x4 x5 x6)
            ∗ (∃ d, owns (c : Thread nD τ) M9 fullShare d) ∗ (∃ d, owns (c : Thread nD τ) M10 fullShare d)) -∗ K ⟨⟩))
      ⊢ wp frame (wpE (defs₀ (F := F)) 𝒱₀ c none) Set.univ
          (cc0_fox_bwd (F := F) i M2 h2 M3 h3 M4 h4 M5 h5 M6 h6 M7 h7 M8 h8 M9 h9 M10 h10) K := by
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%d10, %f10, -, H10⟩, Hk⟩
  obtain rfl := h2.eq_unread e2; obtain rfl := h3.eq_unread e3; obtain rfl := h4.eq_unread e4
  obtain rfl := h5.eq_unread e5; obtain rfl := h6.eq_unread e6
  iapply (wp_wand_r Idealize.ShloMosaic.frame (wpE (defs₀ (F := F)) 𝒱₀ (c : Thread nD τ) none) Set.univ)
  isplitl [H2 H3 H4 H5 H6 H7 H8 H9 H10]
  · iapply (out_run c i M2 h2 M3 h3 M4 h4 M5 h5 M6 h6 M7 h7 M8 h8 M9 h9 M10 h10 (h2.unread x2) (h3.unread x3) (h4.unread x4) (h5.unread x5)
      (h6.unread x6) (h6.unread x6') (fun h => by rw [hx h]) f7 f8 f9 f10)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %_ ⟨%f9', %f10', H2, H3, H4, H5, H6, H7, H8, H9, H10⟩
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; swap; · iexact H6
    ipureintro; rfl
  isplitl [H7]
  · iexists _; isplitr; swap; · iexact H7
    ipureintro; exact View.read_writes_of_cover _ _ _ _ _ (out_cover7 c i M2 h2 M3 h3 M4 h4 M5 h5 M6 h6 M7 h7 M8 h8 M9 h9 M10 h10 _ _ _ _ _)
  isplitl [H8]
  · iexists _; isplitr; swap; · iexact H8
    ipureintro; exact View.read_writes_of_cover _ _ _ _ _ (out_cover8 c i M2 h2 M3 h3 M4 h4 M5 h5 M6 h6 M7 h7 M8 h8 M9 h9 M10 h10 _ _ _ _ _)
  isplitl [H9]
  · iexists _, _; isplitr; swap; · iexact H9
    ipureintro; rfl
  iexists _, _; isplitr; swap; · iexact H10
  ipureintro; rfl

end Point

/-! ## The points -/

theorem cond1_iff : ∀ t : Fin cfg0.N, cond1 (grid0.coords t) ↔ t.val % 16 = 0 :=
  (by decide +kernel : ∀ t : Fin grid0.N, cond1 (grid0.coords t) ↔ t.val % 16 = 0)

def o6At (c : Dev nD) (t : Fin cfg0.N) (x6 : Vec F S8192x256 .f32) : Vec F S8192x256 .f32 :=
  o6 c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) sc0 (Memref.isWhole_whole _) sc1 (Memref.isWhole_whole _) (iblk m c 0 t) (iblk m c 1 t) (iblk m c 2 t) (iblk m c 3 t) x6
def o7At (c : Dev nD) (t : Fin cfg0.N) (x6 : Vec F S8192x256 .f32) : Vec F S512x256 .f32 :=
  o7 c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) sc0 (Memref.isWhole_whole _) sc1 (Memref.isWhole_whole _) (iblk m c 0 t) (iblk m c 1 t) (iblk m c 2 t) (iblk m c 3 t) x6
def o8At (c : Dev nD) (t : Fin cfg0.N) (x6 : Vec F S8192x256 .f32) : Vec F S512x256 .bf16 :=
  o8 c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) sc0 (Memref.isWhole_whole _) sc1 (Memref.isWhole_whole _) (iblk m c 0 t) (iblk m c 1 t) (iblk m c 2 t) (iblk m c 3 t) x6

/-- The query gradient's staging buffer before point `n` (where the point does not clear it). -/
def dqB (c : Dev nD) : ℕ → Vec F S8192x256 .f32
  | 0 => fun _ => Scalar.ofBits .f32 0x00000000#32
  | n + 1 => if h : n < cfg0.N then o6At m c ⟨n, h⟩ (dqB c n) else dqB c n

theorem dqB_succ (c : Dev nD) (t : Fin cfg0.N) : dqB m c (t.val + 1) = o6At m c t (dqB m c t.val) := by
  rw [dqB.eq_2]; exact dif_pos t.isLt

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqB m c (t.val + 1)
    | ⟨5, _⟩ => o7At m c t (dqB m c t.val)
    | ⟨6, _⟩ => o8At m c t (dqB m c t.val)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = dqB m c (t.val + 1) := by dsimp only [dats]
theorem after0_5 (c : Dev nD) (t : Fin cfg0.N) : (dats m 0 c).after 5 t = o7At m c t (dqB m c t.val) := by dsimp only [dats]
theorem after0_6 (c : Dev nD) (t : Fin cfg0.N) : (dats m 0 c).after 6 t = o8At m c t (dqB m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Where the point does not clear it, the query gradient's buffer holds what the point before left. -/
theorem before0_4 (c : Dev nD) (t : Fin cfg0.N) (h : ¬ cond1 (grid0.coords t)) (d) : (dats m 0 c).before 4 t d = dqB m c t.val := by
  rw [cond1_iff] at h
  have ht : t.val ≠ 0 := fun e => h (by rw [e])
  rw [(dats m 0 c).before_out_kept 4 rfl t ht (by
    rw [Bool.eq_false_iff]; intro e; have := (flush0_4 _).mp e; dsimp only at this; omega) (fun _ => rfl) (fun _ _ => rfl) d, after0_4]
  congr 1; dsimp only; omega

theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3,
    after0_4, after0_5, after0_6, dqB_succ]
  unfold Pipeline.ΦA o6At o7At o8At
  rw [scopedRest0_eq]
  simp only [← owns_whole]
  iintro ⟨⟨⟨H9, H10⟩, Hp⟩, Ho, ⟨%d0, H0⟩, ⟨%d1, H1⟩, ⟨%d2, H2⟩, ⟨%d3, H3⟩, ⟨%d4, H4⟩, ⟨%d5, H5⟩, ⟨%d6, H6⟩⟩
  iapply (point_run c _ _ _ _ _ _ _ _ _ _ _ _ _ _ _ _ _ _ _ (iblk m c 0 t) (iblk m c 1 t) (iblk m c 2 t) (iblk m c 3 t) (dqB m c t.val)
    ((dats m 0 c).before 4 t d4) (fun h => before0_4 m c t h d4) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H9]; · iexact H9
  isplitl [H10]; · iexact H10
  iintro ⟨H0, H1, H2, H3, H4, H5, H6, H9, H10⟩
  isplitl [H9 H10 Hp]
  · isplitl [H9 H10]
    · isplitl [H9]; · iexact H9
      iexact H10
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- From any memory every execution ends with the arrays at what the proof data says, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

end Cert.Proof.Fox

end
-- ==== Proof.FrameIdeal.lean ====
/-
  The frame claims of the program read over the reals: the run with its values dropped.
-/
module
public import proofs.«01_k».proof.Proof.Run
public import proofs.«01_k».proof.Defs
public import proofs.«01_k».proof.Proof.Gen.Pre_finite
@[expose] public section
set_option maxRecDepth 16384
open Idealize.ShloMosaic Idealize.SL Idealize.SL.Sem Idealize.ShloMosaic.TcCoe

namespace Cert.Proof.Fox
open Cert.KernelIdeal Cert.KernelIdeal.Gen

variable {F : FTy → Type} [FloatOps F] [Named F]

/-- The arguments end as they began and the counters at zero. -/
theorem frame_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_with_sems (frame_of m ρ (dats m) (fun _ _ => rfl)) (run_main m ρ)

end Cert.Proof.Fox

namespace Cert.Proof
theorem frame_kernelIdeal : Cert.quiescent_KernelIdeal := fun m ρ _ => Fox.frame_main m ρ
theorem frame_kernelIdeal_pre : Cert.quiescent_KernelIdeal_pre_finite := fun m ρ _ => Fox.frame_main m ρ

/-- The named constant is the printed one idealised. -/
theorem preserves : Cert.preserves_Kernel_KernelIdeal :=
  IdealRules.named_const.statement _ _ _ _ _ (by rfl)
end Cert.Proof
end
-- ==== Proof.FrameKernel.lean ====
/-
  The frame claim of the program as printed: the same run at bit patterns, a named constant read as the pattern printed for it.
-/
module
public import proofs.«01_k».proof.Proof.FrameIdeal
public import proofs.«01_k».proof.Proof.Gen.Kernel
@[expose] public section
set_option maxRecDepth 65536
set_option backward.isDefEq.respectTransparency.types false
set_option backward.isDefEq.respectTransparency false
open Idealize.ShloMosaic Idealize.SL Idealize.SL.Sem Idealize.ShloMosaic.TcCoe

namespace Cert.Proof

/-- At bit patterns a named constant is its pattern. -/
instance namedBits : Named Bits where
  named _ _ φ bits := Scalar.ofBits φ bits

/-- The two bodies are one text, but for the constant. -/
theorem body_eq : Cert.Kernel.cc0_fox_bwd (F := Bits) = Cert.KernelIdeal.cc0_fox_bwd (F := Bits) := rfl

theorem defs0_eq : Cert.Kernel.defs₀ (F := Bits) = Cert.KernelIdeal.defs₀ (F := Bits) := by
  unfold Cert.Kernel.defs₀ Cert.KernelIdeal.defs₀
  refine congrArg (Defs.onTc (nD := 1) (sig := Cert.KernelIdeal.sig) (Val := Elt Bits) (Λ := Cert.KernelIdeal.Λ₀)) ?_
  funext l x
  match l, x with
  | 0, (t, s) => rfl
  | ⟨_ + 1, h⟩, _ => exact absurd h (Nat.not_lt.2 (Nat.le_add_left _ _))

theorem defs_eq : Cert.Kernel.defs (F := Bits) = Cert.KernelIdeal.defs (F := Bits) := by
  unfold Cert.Kernel.defs Cert.KernelIdeal.defs
  exact congrArg (Pipeline.defs (Cert.KernelIdeal.pcfgs (F := Bits))) defs0_eq

set_option maxHeartbeats 4000000 in
theorem part0_eq : Cert.Kernel.main_part0 (F := Bits) = Cert.KernelIdeal.main_part0 (F := Bits) := by
  unfold Cert.Kernel.main_part0 Cert.KernelIdeal.main_part0
  rfl

set_option maxHeartbeats 4000000 in
theorem part1_eq : Cert.Kernel.main_part1 (F := Bits) = Cert.KernelIdeal.main_part1 (F := Bits) := by
  unfold Cert.Kernel.main_part1 Cert.KernelIdeal.main_part1
  rfl

theorem part2_eq : Cert.Kernel.main_part2 (F := Bits) = Cert.KernelIdeal.main_part2 (F := Bits) := by
  unfold Cert.Kernel.main_part2 Cert.KernelIdeal.main_part2
  rfl

theorem main_eq : Cert.Kernel.main (F := Bits) = Cert.KernelIdeal.main (F := Bits) := by
  unfold Cert.Kernel.main Cert.KernelIdeal.main
  rw [part0_eq, part1_eq, part2_eq]

theorem frame_kernel : Cert.quiescent_Kernel := fun m ρ _ => by
  rw [defs_eq, main_eq]
  exact (θ_run Cert.KernelIdeal.defs _ _).mono (fun _ h => h) (Fox.frame_main (F := Bits) m ρ)

end Cert.Proof
end
-- ==== Proof.FrameReference.lean ====
/-
  The frame claim of the reference: its run with the results dropped; it declares no semaphore.
-/
module
public import proofs.«01_k».proof.Defs
public import proofs.«01_k».proof.Proof.Gen.ReferenceIdeal.Run
public import proofs.«01_k».proof.Proof.Gen.Pre_finite
public import Idealize.ShloMosaic.Lib.Pipeline.Quiescent
@[expose] public section
open Idealize.ShloMosaic Idealize.SL Idealize.SL.Sem Idealize.ShloMosaic.TcCoe

namespace Cert.Proof

theorem frame_reference : Cert.quiescent_ReferenceIdeal := fun m ρ _ =>
  (θ_run _ _ _).mono (fun r h => ⟨fun c => (h c).2.2.2.2, sem_eq_zero_of_no_sems (by decide) r.2⟩) (Cert.ReferenceIdeal.Value.run (F := Ideal) m ρ)

theorem frame_reference_pre : Cert.quiescent_ReferenceIdeal_pre_finite := fun m ρ _ => frame_reference m ρ trivial

end Cert.Proof
end
-- ==== Proof.Soft.lean ====
/-
  The mathematics of one head of the forgetting attention over the reals: the weights, what the output and its gradient
  are, and that a row's weights do not depend on the shift its exponentials are taken at.
-/
module

public import Idealize.ShloMosaic.PureOps.Ideal.Laws
public import Mathlib.Analysis.SpecialFunctions.Log.Basic

@[expose] public section

noncomputable section

namespace Cert.Proof.Fox

open Idealize.ShloMosaic

/-! ## Sums and greatest elements of reals read as extended reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_div (x y : ℝ) (h : y ≠ 0) : Ideal.div (x : EReal) (y : EReal) = ((x / y : ℝ) : EReal) := by
  rw [Ideal.div_coe h, ← EReal.coe_mul, mul_one_div]

/-- The greatest of some values none of which is `⊤` and one of which is not `⊥` is a real. -/
theorem fold_max_real {ι : Type*} (s : Finset ι) (f : ι → EReal) (ht : ∀ i ∈ s, f i ≠ ⊤) (i : ι) (hi : i ∈ s) (hb : f i ≠ ⊥) :
    ∃ M : ℝ, s.fold max (⊥ : EReal) f = (M : EReal) := by
  have h1 : s.fold max (⊥ : EReal) f < ⊤ := (Finset.fold_max_lt _).mpr ⟨bot_lt_top, fun x hx => lt_top_iff_ne_top.mpr (ht x hx)⟩
  have h2 : ⊥ < s.fold max (⊥ : EReal) f :=
    (bot_lt_iff_ne_bot.mpr hb).trans_le ((Finset.le_fold_max _).mpr (Or.inr ⟨i, hi, le_rfl⟩))
  exact ⟨_, (EReal.coe_toReal h1.ne h2.ne').symm⟩

section Head
variable (q k v o : Fin 8192 → Fin 64 → ℝ) (c : Fin 8192 → ℝ)

/-- The score of query row `t` with key row `s`, without what depends on the query row alone. -/
def rz (t s : Fin 8192) : ℝ := (∑ d : Fin 64, q t d * k s d) * (1 / 8) - c s
/-- A row's exponentials taken at a shift. -/
def rE (M : ℝ) (t s : Fin 8192) : ℝ := if s ≤ t then Real.exp (rz q k c t s - M) else 0
/-- Their sum. -/
def rL (M : ℝ) (t : Fin 8192) : ℝ := ∑ s : Fin 8192, rE q k c M t s
/-- The weights. -/
def rP (t s : Fin 8192) : ℝ := rE q k c 0 t s / rL q k c 0 t
/-- The weights' gradients. -/
def rU (t s : Fin 8192) : ℝ := ∑ d : Fin 64, o t d * v s d
/-- Their mean in a row. -/
def rD (t : Fin 8192) : ℝ := ∑ s : Fin 8192, rP q k c t s * rU v o t s
/-- The scores' gradients. -/
def rS (t s : Fin 8192) : ℝ := rP q k c t s * (rU v o t s - rD q k v o c t)

theorem rE_shift (M : ℝ) (t s : Fin 8192) : rE q k c M t s = rE q k c 0 t s * Real.exp (-M) := by
  unfold rE
  split_ifs
  · rw [← Real.exp_add]; congr 1; ring
  · rw [zero_mul]

theorem rE_nonneg (M : ℝ) (t s : Fin 8192) : 0 ≤ rE q k c M t s := by
  unfold rE; split_ifs
  · exact (Real.exp_pos _).le
  · exact le_rfl

theorem rL_pos (M : ℝ) (t : Fin 8192) : 0 < rL q k c M t := by
  refine Finset.sum_pos' (fun s _ => rE_nonneg q k c M t s) ⟨t, Finset.mem_univ _, ?_⟩
  rw [rE, if_pos le_rfl]; exact Real.exp_pos _

theorem rL_shift (M : ℝ) (t : Fin 8192) : rL q k c M t = rL q k c 0 t * Real.exp (-M) := by
  unfold rL; rw [Finset.sum_mul]; exact Finset.sum_congr rfl fun s _ => rE_shift q k c M t s

/-- The weights at any shift. -/
theorem rP_eq (M : ℝ) (t s : Fin 8192) : rE q k c M t s / rL q k c M t = rP q k c t s := by
  rw [rE_shift, rL_shift, mul_div_mul_right _ _ (Real.exp_pos _).ne', rP]

/-- The weights from the logarithm of the sum. -/
theorem rP_log (M : ℝ) (t s : Fin 8192) :
    (if s ≤ t then Real.exp (rz q k c t s - (M + Real.log (rL q k c M t))) else 0) = rP q k c t s := by
  rw [← rP_eq q k c M]
  unfold rE
  split_ifs
  · rw [← sub_sub, Real.exp_sub, Real.exp_log (rL_pos q k c M t)]
  · rw [zero_div]

/-- A row's mean weight gradient from the output. -/
theorem rD_out (M : ℝ) (t : Fin 8192) :
    ∑ d : Fin 64, o t d * ((∑ s : Fin 8192, rE q k c M t s * v s d) / rL q k c M t) = rD q k v o c t := by
  unfold rD rU
  simp only [← rP_eq q k c M, Finset.sum_div, Finset.mul_sum]
  rw [Finset.sum_comm]
  refine Finset.sum_congr rfl fun s _ => Finset.sum_congr rfl fun d _ => ?_
  ring

/-- The scores' gradients the way the quotient's gradient gives them. -/
theorem rS_quot (M : ℝ) (t s : Fin 8192) :
    (rU v o t s / rL q k c M t + -(∑ s' : Fin 8192, rU v o t s' * (1 / (rL q k c M t * rL q k c M t)) * rE q k c M t s')) * rE q k c M t s
      = rS q k v o c t s := by
  have hL := (rL_pos q k c M t).ne'
  have e : ∑ s' : Fin 8192, rU v o t s' * (1 / (rL q k c M t * rL q k c M t)) * rE q k c M t s' = rD q k v o c t / rL q k c M t := by
    unfold rD
    rw [Finset.sum_div]
    refine Finset.sum_congr rfl fun s' _ => ?_
    rw [← rP_eq q k c M]
    field_simp
  rw [e, rS, ← rP_eq q k c M]
  field_simp
  ring

theorem rP_after {t s : Fin 8192} (h : ¬ s ≤ t) : rP q k c t s = 0 := by
  unfold rP rE; rw [if_neg h, zero_div]

theorem rS_after {t s : Fin 8192} (h : ¬ s ≤ t) : rS q k v o c t s = 0 := by
  unfold rS; rw [rP_after q k c h, zero_mul]

end Head

end Cert.Proof.Fox
end
end
-- ==== Proof.RefVals.lean ====
/-
  The reference's values over the reals, at finite arguments: each of its arrays read at an index.
-/
module

public import proofs.«01_k».proof.Proof.Soft
public import proofs.«01_k».proof.Proof.Gen.ReferenceIdeal.Read
public import Idealize.ShloMosaic.Lib.Pointwise
public import Idealize.ShloMosaic.Lib.WordCmp
public import Idealize.ShloMosaic.Lib.IdealHost
public import Idealize.ShloMosaic.PureOps.Reduce

@[expose] public section

set_option maxRecDepth 16384

noncomputable section

namespace Cert.Proof.Fox

open Idealize.ShloMosaic

/-- A real array of 8192 rows, 32 heads of 64 lanes, at a head, a row and a lane. -/
def hq (x : (⟨2, ![8192, 2048]⟩ : Shape).Idx → ℝ) (h : Fin 32) (t : Fin 8192) (d : Fin 64) : ℝ := x (ix2 t ⟨64 * h.val + d.val, by omega⟩)
/-- A real array of 8192 rows and 32 heads. -/
def hc (x : (⟨2, ![8192, 32]⟩ : Shape).Idx → ℝ) (h : Fin 32) (t : Fin 8192) : ℝ := x (ix2 t h)

/-- A real array read as extended reals. -/
def up {s : Shape} (x : s.Idx → ℝ) : s.Idx → EReal := fun i => ((x i : ℝ) : EReal)

theorem ofBits_eighth : Ideal.ofBits .f32 0x3E000000#32 = ((1 / 8 : ℝ) : EReal) := by
  simp [Ideal.ofBits, Ideal.ieee]
  rw [← EReal.coe_mul]; norm_num
theorem ofBits_bot : Ideal.ofBits .f32 0xFF800000#32 = (⊥ : EReal) := by
  simp [Ideal.ofBits, Ideal.ieee]

/-- A choice on a comparison of two small naturals. -/
theorem sle_choice {α : Type} {m n : ℕ} (hm : m < 8192) (hn : n < 8192) (x y : α) :
    Scalar.select (IntOp.cmpi .sle (BitVec.ofNat 32 m) (BitVec.ofNat 32 n)) x y = if m ≤ n then x else y := by
  rw [WordCmp.cmpi_sle_ofNat (by omega) (by omega)]
  by_cases h : m ≤ n <;> simp [h, Scalar.select]

theorem exp_choice (t s : Fin 8192) (x : ℝ) : Ideal.exp (if s ≤ t then (x : EReal) else ⊥) = ((if s ≤ t then Real.exp x else 0 : ℝ) : EReal) := by
  by_cases h : s ≤ t
  · rw [if_pos h, if_pos h]; rfl
  · rw [if_neg h, if_neg h]; rfl

theorem quot_coe (U L D E R : ℝ) (hL : L ≠ 0) (h : (U / L + -D) * E = R) :
    (Ideal.div (U : EReal) (L : EReal) + (0 + -(D : EReal))) * (E : EReal) = (R : EReal) := by
  rw [zero_add, coe_div _ _ hL, ← EReal.coe_neg, ← EReal.coe_add, ← EReal.coe_mul, h]

/-- A row's greatest entry is a real, where no entry is `⊤` and the diagonal's are not `⊥`. -/
theorem row_max {u : Shape} (x : (⟨3, ![32, 8192, 8192]⟩ : Shape).Idx → EReal) (init : u.Idx → EReal) (hu : 0 < u.numel)
    (hi : init (Shape.Idx.first hu) = ⊥) (h' : (⟨3, ![32, 8192, 8192]⟩ : Shape).ReducesTo [2] ⟨2, ![32, 8192]⟩) (j : (⟨2, ![32, 8192]⟩ : Shape).Idx)
    (ht : ∀ i, x i ≠ ⊤) (hb : ∀ (h : Fin 32) (t : Fin 8192), x (ix3 h t t) ≠ ⊥) :
    ∃ M : ℝ, Host.reduce (FloatOps.maximumf (F := Ideal) (φ := .f32)) x init h' hu j = (M : EReal) := by
  rw [Host.reduce_eq_fold, hi]
  refine fold_max_real _ x (fun i _ => ht i) (ix3 (j 0) (j 1) (j 1)) ?_ (hb _ _)
  rw [Finset.mem_filter]
  refine ⟨Finset.mem_univ _, funext fun a => ?_⟩
  match a with
  | ⟨0, _⟩ => exact Fin.ext (h'.drop_apply_val_of_eq _ 0 0)
  | ⟨1, _⟩ => exact Fin.ext (h'.drop_apply_val_of_eq _ 1 1)

end Cert.Proof.Fox

namespace Cert.Proof.Ref

open Idealize.ShloMosaic Cert.ReferenceIdeal Cert.ReferenceIdeal.Gen Cert.ReferenceIdeal.Read Cert.Proof.Fox

variable (xq xk xv xo : S8192x2048.Idx → ℝ) (xc : S8192x32.Idx → ℝ)

theorem v0 (i : S8192x32x64.Idx) : val_main_v0 (F := Ideal) (up xq) i = ((hq xq (i 1) (i 0) (i 2) : ℝ) : EReal) := by
  rw [val_main_v0_apply]
  unfold up hq
  congr 2
  funext a
  have h0 : (i 0).val < 8192 := (i 0).isLt
  have h1 : (i 1).val < 32 := (i 1).isLt
  have h2 : (i 2).val < 64 := (i 2).isLt
  match a with
  | ⟨0, _⟩ => exact Fin.ext (by show (((i 0).val * 32 + (i 1).val) * 64 + (i 2).val) / 2048 = (i 0).val; omega)
  | ⟨1, _⟩ => exact Fin.ext (by show (((i 0).val * 32 + (i 1).val) * 64 + (i 2).val) % 2048 = 64 * (i 1).val + (i 2).val; omega)

theorem v1 (i : S8192x32x64.Idx) : val_main_v1 (F := Ideal) (up xk) i = ((hq xk (i 1) (i 0) (i 2) : ℝ) : EReal) := v0 xk i
theorem v2 (i : S8192x32x64.Idx) : val_main_v2 (F := Ideal) (up xv) i = ((hq xv (i 1) (i 0) (i 2) : ℝ) : EReal) := v0 xv i
theorem v51 (i : S8192x32x64.Idx) : val_main_v51 (F := Ideal) (up xo) i = ((hq xo (i 1) (i 0) (i 2) : ℝ) : EReal) := v0 xo i
theorem v3 (i : S32x8192.Idx) : val_main_v3 (F := Ideal) (up xc) i = ((hc xc (i 0) (i 1) : ℝ) : EReal) := by
  rw [val_main_v3_apply]
  unfold up hc
  congr 2
  funext a
  match a with
  | ⟨0, _⟩ => rfl
  | ⟨1, _⟩ => rfl

theorem v13 (i : S32x8192x8192.Idx) : val_main_v13 (F := Ideal) (up xq) (up xk) (up xc) i
    = ((rz (hq xq (i 0)) (hq xk (i 0)) (hc xc (i 0)) (i 1) (i 2) + hc xc (i 0) (i 1) : ℝ) : EReal) := by
  rw [val_main_v13_apply, val_main_v10_apply, val_main_v7_apply, val_main_v5_apply, val_main_v6_apply, val_main_cst_apply,
    val_main_v9_apply, val_main_v8_apply, val_main_v12_apply, val_main_v11_apply, v3, v3]
  simp only [v0, v1, ← EReal.coe_mul, coe_sum]
  show ((_ : EReal) * Ideal.ofBits .f32 0x3E000000#32 + _) - _ = _
  rw [ofBits_eighth, ← EReal.coe_mul, ← EReal.coe_add, ← EReal.coe_sub]
  congr 1
  unfold rz
  show (∑ d : Fin 64, hq xq (i 0) (i 1) d * hq xk (i 0) (i 2) d) * (1 / 8) + hc xc (i 0) (i 1) - hc xc (i 0) (i 2) = _
  ring

/-- The causal mask. -/
theorem mask {α : Type} (i : S32x8192x8192.Idx) (x y : α) :
    Scalar.select (val_main_v19_1 (F := Ideal) i) x y = if (i 2 : Fin 8192) ≤ (i 1 : Fin 8192) then x else y := by
  rw [val_main_v19_1_apply, val_main_v18_apply, val_main_v16_apply, val_main_v17_apply, val_main_v14_apply, val_main_v15_apply,
    val_main_v4_apply, val_main_v4_apply]
  exact sle_choice (i 2).isLt (i 1).isLt x y

theorem v19 (i : S32x8192x8192.Idx) : val_main_v19_0 (F := Ideal) (up xq) (up xk) (up xc) i
    = if (i 2 : Fin 8192) ≤ (i 1 : Fin 8192) then ((rz (hq xq (i 0)) (hq xk (i 0)) (hc xc (i 0)) (i 1) (i 2) + hc xc (i 0) (i 1) : ℝ) : EReal) else ⊥ := by
  rw [val_main_v19_0_apply, mask, v13, val_main_call0_v2_apply, val_main_call0_v0_apply, val_main_cst_0_apply]
  split_ifs
  · rfl
  · exact ofBits_bot

/-- A row's greatest score is a real. -/
theorem v20 (j : S32x8192.Idx) : ∃ M : ℝ, val_main_v20 (F := Ideal) (up xq) (up xk) (up xc) j = (M : EReal) := by
  refine row_max _ _ _ ofBits_bot _ j (fun i => ?_) fun h t => ?_
  · rw [v19]; split_ifs
    · exact EReal.coe_ne_top _
    · exact bot_ne_top
  · rw [v19]
    exact (if_pos (le_refl t)).trans_ne (EReal.coe_ne_bot _)

theorem idx60 (j : S32x8192.Idx) : idx_main_v60 (idx_main_v64 j 0) = j := by
  have h0 : (j 0).val < 32 := (j 0).isLt
  have h1 : (j 1).val < 8192 := (j 1).isLt
  refine funext fun a => ?_
  match a with
  | ⟨0, _⟩ => refine Fin.ext ?_; show (((j 0).val * 8192 + (j 1).val) * 1 + 0) / 8192 = (j 0).val; omega
  | ⟨1, _⟩ => refine Fin.ext ?_; show (((j 0).val * 8192 + (j 1).val) * 1 + 0) % 8192 = (j 1).val; omega

theorem idx71 (j : S32x8192.Idx) : idx_main_v71 (idx_main_v72 j 0) = j := by
  have h0 : (j 0).val < 32 := (j 0).isLt
  have h1 : (j 1).val < 8192 := (j 1).isLt
  refine funext fun a => ?_
  match a with
  | ⟨0, _⟩ => refine Fin.ext ?_; show (((j 0).val * 1 + 0) * 8192 + (j 1).val) / 8192 = (j 0).val; omega
  | ⟨1, _⟩ => refine Fin.ext ?_; show (((j 0).val * 1 + 0) * 8192 + (j 1).val) % 8192 = (j 1).val; omega

theorem idx74 (j : S32x8192.Idx) : idx_main_v74 (idx_main_v75 j 0) = j := by
  have h0 : (j 0).val < 32 := (j 0).isLt
  have h1 : (j 1).val < 8192 := (j 1).isLt
  refine funext fun a => ?_
  match a with
  | ⟨0, _⟩ => refine Fin.ext ?_; show (((j 0).val * 8192 + (j 1).val) * 1 + 0) / 8192 = (j 0).val; omega
  | ⟨1, _⟩ => refine Fin.ext ?_; show (((j 0).val * 8192 + (j 1).val) * 1 + 0) % 8192 = (j 1).val; omega

section Shift
variable (M : Fin 32 → Fin 8192 → ℝ)
  (hM : ∀ j : S32x8192.Idx, val_main_v20 (F := Ideal) (up xq) (up xk) (up xc) j = ((M (j 0) (j 1) : ℝ) : EReal))

/-- What a row's exponentials are taken at. -/
def sh (h : Fin 32) (t : Fin 8192) : ℝ := M h t - hc xc h t

include hM

theorem v39 (i : S32x8192x8192.Idx) : val_main_v39 (F := Ideal) (up xq) (up xk) (up xc) i
    = if (i 2 : Fin 8192) ≤ (i 1 : Fin 8192) then ((rz (hq xq (i 0)) (hq xk (i 0)) (hc xc (i 0)) (i 1) (i 2) - sh xc M (i 0) (i 1) : ℝ) : EReal) else ⊥ := by
  rw [val_main_v39_apply, val_main_v38_apply, val_main_v37_apply, val_main_v27_apply, val_main_v26_apply, val_main_cst_3_apply, hM, v19]
  show (_ : EReal) - max (Ideal.ofBits .f32 0xFF800000#32) _ = _
  rw [ofBits_bot, max_eq_right bot_le]
  have e : ((M (i 0) (i 1) : ℝ) : EReal) = ((M ((idx_main_v37 (idx_main_v38 i)) 0) ((idx_main_v37 (idx_main_v38 i)) 1) : ℝ) : EReal) := by
    congr 2
  rw [← e]
  split_ifs
  · rw [← EReal.coe_sub]; congr 1; unfold sh; ring
  · exact EReal.bot_sub _

theorem v40 (i : S32x8192x8192.Idx) : val_main_v40 (F := Ideal) (up xq) (up xk) (up xc) i
    = ((rE (hq xq (i 0)) (hq xk (i 0)) (hc xc (i 0)) (sh xc M (i 0) (i 1)) (i 1) (i 2) : ℝ) : EReal) := by
  rw [val_main_v40_apply, v39 xq xk xc M hM]
  exact exp_choice (i 1) (i 2) _

theorem v41 (i : S32x8192.Idx) : val_main_v41 (F := Ideal) (up xq) (up xk) (up xc) i
    = ((rL (hq xq (i 0)) (hq xk (i 0)) (hc xc (i 0)) (sh xc M (i 0) (i 1)) (i 1) : ℝ) : EReal) := by
  rw [val_main_v41_apply, val_main_cst_9_apply]
  simp only [v40 xq xk xc M hM, coe_sum]
  show Ideal.ofBits .f32 0x00000000#32 + _ = _
  rw [Ideal.ofBits_zero_f32, zero_add]
  rfl

theorem v42 (i : S32x8192x1.Idx) : val_main_v42 (F := Ideal) (up xq) (up xk) (up xc) i
    = ((rL (hq xq (i 0)) (hq xk (i 0)) (hc xc (i 0)) (sh xc M (i 0) (i 1)) (i 1) : ℝ) : EReal) := by
  rw [val_main_v42_apply, v41 xq xk xc M hM]
  rfl

theorem v44 (i : S32x8192x8192.Idx) : val_main_v44 (F := Ideal) (up xq) (up xk) (up xc) i
    = ((rP (hq xq (i 0)) (hq xk (i 0)) (hc xc (i 0)) (i 1) (i 2) : ℝ) : EReal) := by
  rw [val_main_v44_apply, val_main_v43_apply, v40 xq xk xc M hM, v42 xq xk xc M hM]
  refine (coe_div _ _ (rL_pos _ _ _ _ _).ne').trans ?_
  exact congrArg _ (rP_eq _ _ _ _ _ _)

theorem v47 (i : S32x8192x1.Idx) : val_main_v47 (F := Ideal) (up xq) (up xk) (up xc) i
    = ((1 / (rL (hq xq (i 0)) (hq xk (i 0)) (hc xc (i 0)) (sh xc M (i 0) (i 1)) (i 1) * rL (hq xq (i 0)) (hq xk (i 0)) (hc xc (i 0)) (sh xc M (i 0) (i 1)) (i 1)) : ℝ) : EReal) := by
  rw [val_main_v47_apply, val_main_v46_apply, val_main_cst_10_apply, val_main_v45_apply, v42 xq xk xc M hM]
  show Ideal.div (Ideal.ofBits .f32 0x3F800000#32) ((_ : EReal) * _) = _
  rw [Ideal.ofBits_one_f32, ← EReal.coe_mul, ← EReal.coe_one]
  exact coe_div _ _ (mul_pos (rL_pos _ _ _ _ _) (rL_pos _ _ _ _ _)).ne'

omit hM in
theorem v52 (i : S32x64x8192.Idx) : val_main_v52 (F := Ideal) (up xo) i = ((hq xo (i 0) (i 2) (i 1) : ℝ) : EReal) := by
  rw [val_main_v52_apply, v51]
  rfl

omit hM in
theorem v53 (i : S32x8192x8192.Idx) : val_main_v53 (F := Ideal) (up xv) (up xo) i
    = ((rU (hq xv (i 0)) (hq xo (i 0)) (i 1) (i 2) : ℝ) : EReal) := by
  rw [val_main_v53_apply]
  simp only [v52, v2, ← EReal.coe_mul, coe_sum]
  rfl

theorem v55 (i : S8192x32x64.Idx) : val_main_v55 (F := Ideal) (up xq) (up xk) (up xc) (up xo) i
    = ((∑ t : Fin 8192, rP (hq xq (i 1)) (hq xk (i 1)) (hc xc (i 1)) t (i 0) * hq xo (i 1) t (i 2) : ℝ) : EReal) := by
  rw [val_main_v55_apply, val_main_v54_apply]
  simp only [v52, v44 xq xk xc M hM, ← EReal.coe_mul, coe_sum]
  congr 1
  exact Finset.sum_congr rfl fun t _ => mul_comm _ _

theorem v59 (i : S32x8192.Idx) : val_main_v59 (F := Ideal) (up xq) (up xk) (up xv) (up xc) (up xo) i
    = ((∑ s : Fin 8192, rU (hq xv (i 0)) (hq xo (i 0)) (i 1) s
        * (1 / (rL (hq xq (i 0)) (hq xk (i 0)) (hc xc (i 0)) (sh xc M (i 0) (i 1)) (i 1) * rL (hq xq (i 0)) (hq xk (i 0)) (hc xc (i 0)) (sh xc M (i 0) (i 1)) (i 1)))
        * rE (hq xq (i 0)) (hq xk (i 0)) (hc xc (i 0)) (sh xc M (i 0) (i 1)) (i 1) s : ℝ) : EReal) := by
  rw [val_main_v59_apply, val_main_cst_11_apply]
  simp only [val_main_v58_apply, val_main_v57_apply, val_main_v56_apply, v53, v47 xq xk xc M hM, v40 xq xk xc M hM]
  show Ideal.ofBits .f32 0x00000000#32 + ∑ s : Fin 8192, ((_ : EReal) * _) * _ = _
  simp only [← EReal.coe_mul, coe_sum]
  rw [Ideal.ofBits_zero_f32, zero_add]
  rfl

theorem v68 (i : S32x8192x8192.Idx) : val_main_v68 (F := Ideal) (up xq) (up xk) (up xv) (up xc) (up xo) i
    = ((rS (hq xq (i 0)) (hq xk (i 0)) (hq xv (i 0)) (hq xo (i 0)) (hc xc (i 0)) (i 1) (i 2) : ℝ) : EReal) := by
  rw [val_main_v68_apply, mask]
  split_ifs with h
  · rw [val_main_v67_apply, val_main_v66_apply, val_main_v63_apply, val_main_v65_apply, val_main_v62_apply, val_main_v64_apply, val_main_cst_12_apply,
      v53, v42 xq xk xc M hM, v40 xq xk xc M hM]
    simp only [val_main_v61_apply, val_main_v60_apply, Fin.sum_univ_one, idx60]
    rw [v59 xq xk xv xo xc M hM]
    show (Ideal.div (_ : EReal) _ + (Ideal.ofBits .f32 0x00000000#32 + -(_ : EReal))) * _ = _
    rw [Ideal.ofBits_zero_f32]
    exact quot_coe _ _ _ _ _ (rL_pos _ _ _ _ _).ne' (rS_quot (hq xq (i 0)) (hq xk (i 0)) (hq xv (i 0)) (hq xo (i 0)) (hc xc (i 0)) (sh xc M (i 0) (i 1)) (i 1) (i 2))
  · rw [rS_after _ _ _ _ _ h, val_main_call1_v0_apply, val_main_call1_cst_apply]
    exact Ideal.ofBits_zero_f32

theorem v78 (i : S32x8192x8192.Idx) : val_main_v78 (F := Ideal) (up xq) (up xk) (up xv) (up xc) (up xo) i
    = ((rS (hq xq (i 0)) (hq xk (i 0)) (hq xv (i 0)) (hq xo (i 0)) (hc xc (i 0)) (i 1) (i 2) * (1 / 8) : ℝ) : EReal) := by
  rw [val_main_v78_apply, v68 xq xk xv xo xc M hM, val_main_v77_apply, val_main_cst_17_apply]
  show (_ : EReal) * Ideal.ofBits .f32 0x3E000000#32 = _
  rw [ofBits_eighth, ← EReal.coe_mul]

/-- The key gradient. -/
theorem v80 (i : S8192x32x64.Idx) : val_main_v80 (F := Ideal) (up xq) (up xk) (up xv) (up xc) (up xo) i
    = ((∑ t : Fin 8192, rS (hq xq (i 1)) (hq xk (i 1)) (hq xv (i 1)) (hq xo (i 1)) (hc xc (i 1)) t (i 0) * (hq xq (i 1) t (i 2) * (1 / 8)) : ℝ) : EReal) := by
  rw [val_main_v80_apply, val_main_v79_apply]
  simp only [v78 xq xk xv xo xc M hM, v0, ← EReal.coe_mul, coe_sum]
  congr 1
  refine Finset.sum_congr rfl fun t _ => ?_
  rw [mul_assoc, mul_comm (1 / 8 : ℝ)]
  rfl

/-- The query gradient. -/
theorem v82 (i : S8192x32x64.Idx) : val_main_v82 (F := Ideal) (up xq) (up xk) (up xv) (up xc) (up xo) i
    = (((∑ s : Fin 8192, rS (hq xq (i 1)) (hq xk (i 1)) (hq xv (i 1)) (hq xo (i 1)) (hc xc (i 1)) (i 0) s * hq xk (i 1) s (i 2)) * (1 / 8) : ℝ) : EReal) := by
  rw [val_main_v82_apply, val_main_v81_apply]
  simp only [v78 xq xk xv xo xc M hM, v1, ← EReal.coe_mul, coe_sum]
  congr 1
  rw [Finset.sum_mul]
  refine Finset.sum_congr rfl fun t _ => ?_
  rw [mul_assoc, mul_comm (1 / 8 : ℝ), ← mul_assoc]
  rfl

/-- The gates' gradient. -/
theorem v83 (i : S8192x32.Idx) : val_main_v83 (F := Ideal) (up xq) (up xk) (up xv) (up xc) (up xo) i
    = ((∑ s : Fin 8192, rS (hq xq (i 1)) (hq xk (i 1)) (hq xv (i 1)) (hq xo (i 1)) (hc xc (i 1)) (i 0) s
        - ∑ t : Fin 8192, rS (hq xq (i 1)) (hq xk (i 1)) (hq xv (i 1)) (hq xo (i 1)) (hc xc (i 1)) t (i 0) : ℝ) : EReal) := by
  rw [val_main_v83_apply, val_main_v76_apply, val_main_v72_apply, val_main_v75_apply, val_main_cst_14_apply, val_main_cst_16_apply]
  simp only [val_main_v71_apply, val_main_v74_apply, val_main_v70_apply, val_main_v73_apply, val_main_v69_apply, val_main_cst_13_apply, val_main_cst_15_apply,
    v68 xq xk xv xo xc M hM, Fin.sum_univ_one, idx71, idx74]
  show (Ideal.ofBits .f32 0x00000000#32 + (Ideal.ofBits .f32 0x00000000#32 + ∑ t : Fin 8192, -(_ : EReal)))
    + (Ideal.ofBits .f32 0x00000000#32 + (Ideal.ofBits .f32 0x00000000#32 + ∑ s : Fin 8192, (_ : EReal))) = _
  simp only [Ideal.ofBits_zero_f32, zero_add, ← EReal.coe_neg, coe_sum]
  rw [← EReal.coe_add]
  congr 1
  rw [Finset.sum_neg_distrib, neg_add_eq_sub]
  rfl

end Shift

end Cert.Proof.Ref
end
end
-- ==== Proof.Finite.lean ====
/-
  The precondition: every argument is real.
-/
module

public import proofs.«01_k».proof.Defs
public import proofs.«01_k».proof.Proof.RefVals
public import Idealize.ShloMosaic.Lib.Pointwise

@[expose] public section

set_option maxRecDepth 16384

noncomputable section

namespace Cert.Proof.Fox

open Idealize.ShloMosaic Cert.Pre_finite

theorem ofBits_top : Ideal.ofBits .f32 0x7F800000#32 = (⊤ : EReal) := by
  simp [Ideal.ofBits, Ideal.ieee]

theorem and_one {a b : BitVec 1} (h : IntOp.andi a b = 1#1) : a = 1#1 ∧ b = 1#1 := by
  revert h; revert a b; decide

/-- A value whose magnitude is below infinity is real. -/
theorem real_of_abs {x : EReal}
    (h : BitVec.ofBool (decide (FloatOps.absf (F := Ideal) (φ := .f32) x < Ideal.ofBits .f32 0x7F800000#32)) = 1#1) : ∃ r : ℝ, x = (r : EReal) := by
  rw [ofBits_top] at h
  have h' : FloatOps.absf (F := Ideal) (φ := .f32) x < (⊤ : EReal) := by
    by_contra hn
    rw [decide_eq_false hn] at h
    exact absurd h (by decide)
  have h'' : max x (-x) < ⊤ := h'
  have h1 : x ≠ ⊤ := fun e => by rw [e] at h''; exact absurd h'' (by simp)
  have h2 : x ≠ ⊥ := fun e => by rw [e] at h''; exact absurd h'' (by simp)
  exact ⟨x.toReal, (EReal.coe_toReal h1 h2).symm⟩

theorem finite_at [Cert.Pre_finite.Facts] (a0 a1 a2 : FVec Ideal S8192x2048 .f32) (a3 : FVec Ideal S8192x32 .f32) (a4 : FVec Ideal S8192x2048 .f32)
    (hp : Cert.Pre_finite.fn (F := Ideal) a0 a1 a2 a3 a4 = fun _ => 1#1) (t : Fin 8192) (h : Fin 32) (d : Fin 64) :
    (∃ r : ℝ, a0 (ix2 t ⟨h.val * 64 + d.val, by omega⟩) = (r : EReal)) ∧ (∃ r : ℝ, a1 (ix2 t ⟨h.val * 64 + d.val, by omega⟩) = (r : EReal))
      ∧ (∃ r : ℝ, a2 (ix2 t ⟨h.val * 64 + d.val, by omega⟩) = (r : EReal)) ∧ (∃ r : ℝ, a3 (ix2 t h) = (r : EReal))
      ∧ (∃ r : ℝ, a4 (ix2 t ⟨h.val * 64 + d.val, by omega⟩) = (r : EReal)) := by
  have e := congrFun hp (ix3 t h d)
  pointwise [Cert.Pre_finite.fn, Cert.Pre_finite.fn_part1] at e
  obtain ⟨e, e3⟩ := and_one e
  obtain ⟨e, e4⟩ := and_one e
  obtain ⟨e, e2⟩ := and_one e
  obtain ⟨e0, e1⟩ := and_one e
  exact ⟨real_of_abs e0, real_of_abs e1, real_of_abs e2, real_of_abs e3, real_of_abs e4⟩

/-- An array all of whose entries are real. -/
theorem exists_up {s : Shape} (x : s.Idx → EReal) (h : ∀ i, ∃ r : ℝ, x i = (r : EReal)) : ∃ y : s.Idx → ℝ, x = up y := by
  choose y hy using h
  exact ⟨y, funext hy⟩

theorem idx_split (i : S8192x2048.Idx) : ∃ (t : Fin 8192) (h : Fin 32) (d : Fin 64), i = ix2 t ⟨h.val * 64 + d.val, by omega⟩ := by
  have b : (i 1).val < 2048 := (i 1).isLt
  refine ⟨i 0, ⟨(i 1).val / 64, by omega⟩, ⟨(i 1).val % 64, by omega⟩, funext fun a => ?_⟩
  match a with
  | ⟨0, _⟩ => rfl
  | ⟨1, _⟩ => exact Fin.ext (by show (i 1).val = (i 1).val / 64 * 64 + (i 1).val % 64; omega)

/-- The precondition's arguments are real arrays. -/
theorem finite_args [Cert.Pre_finite.Facts] (a0 a1 a2 : FVec Ideal S8192x2048 .f32) (a3 : FVec Ideal S8192x32 .f32) (a4 : FVec Ideal S8192x2048 .f32)
    (hp : Cert.Pre_finite.fn (F := Ideal) a0 a1 a2 a3 a4 = fun _ => 1#1) :
    ∃ (xq xk xv : S8192x2048.Idx → ℝ) (xc : S8192x32.Idx → ℝ) (xo : S8192x2048.Idx → ℝ),
      a0 = up xq ∧ a1 = up xk ∧ a2 = up xv ∧ a3 = up xc ∧ a4 = up xo := by
  obtain ⟨xq, h0⟩ := exists_up a0 fun i => by obtain ⟨t, h, d, rfl⟩ := idx_split i; exact (finite_at a0 a1 a2 a3 a4 hp t h d).1
  obtain ⟨xk, h1⟩ := exists_up a1 fun i => by obtain ⟨t, h, d, rfl⟩ := idx_split i; exact (finite_at a0 a1 a2 a3 a4 hp t h d).2.1
  obtain ⟨xv, h2⟩ := exists_up a2 fun i => by obtain ⟨t, h, d, rfl⟩ := idx_split i; exact (finite_at a0 a1 a2 a3 a4 hp t h d).2.2.1
  obtain ⟨xc, h3⟩ := exists_up a3 fun i => by
    obtain ⟨t, h, rfl⟩ : ∃ (t : Fin 8192) (h : Fin 32), i = ix2 t h := ⟨i 0, i 1, eq_ix2 i⟩
    exact (finite_at a0 a1 a2 a3 a4 hp t h 0).2.2.2.1
  obtain ⟨xo, h4⟩ := exists_up a4 fun i => by obtain ⟨t, h, d, rfl⟩ := idx_split i; exact (finite_at a0 a1 a2 a3 a4 hp t h d).2.2.2.2
  exact ⟨xq, xk, xv, xc, xo, h0, h1, h2, h3, h4⟩

end Cert.Proof.Fox
end
end
-- ==== Proof.Pays.lean ====
/-
  The kernel's block computations over the reals, each read at an index.
-/
module

public import proofs.«01_k».proof.Proof.Body
public import Idealize.ShloMosaic.Lib.Pointwise

@[expose] public section

noncomputable section

namespace Cert.Proof.Fox

open Cert.KernelIdeal Cert.KernelIdeal.Gen
open Idealize.ShloMosaic

/-- The weights of an unmasked block of 512 query rows. -/
def wts512 {F : FTy → Type} [FloatOps F] (xq xk : Vec F S512x128 .bf16) : FVec F S512x512 .f32 :=
  exp (matmul dot_S512x128_S512x128_S512x512_1_1_0_0_n_n none (shapeCast S512x128 xq shapeCasts_S512x128_S512x128)
    (shapeCast S512x128 xk shapeCasts_S512x128_S512x128) (constant S512x512 .f32 0x00000000#32))

/-- The score gradients of a block of 512 query rows, from its weights. -/
def dsc512 {F : FTy → Type} [FloatOps F] (w : FVec F S512x512 .f32) (xo xv : Vec F S512x128 .bf16) : FVec F S512x512 .bf16 :=
  truncf .bf16 (mulf w (matmul dot_S512x128_S512x128_S512x512_1_1_0_0_n_n none (shapeCast S512x128 xo shapeCasts_S512x128_S512x128)
    (shapeCast S512x128 xv shapeCasts_S512x128_S512x128) (constant S512x512 .f32 0x00000000#32))) bitsLt_bf16_f32

theorem wts512_apply (xq xk : Vec Ideal S512x128 .bf16) (a s : Fin 512) :
    wts512 xq xk (ix2 a s) = Ideal.exp (∑ d : Fin 128, xq (ix2 a d) * xk (ix2 s d)) := by
  pointwise [wts512]

theorem wts1024_apply (xq : Vec Ideal S1024x128 .bf16) (xk : Vec Ideal S512x128 .bf16) (a : Fin 1024) (s : Fin 512) :
    k0_pay7 xq xk (ix2 a s) = Ideal.exp (∑ d : Fin 128, xq (ix2 a d) * xk (ix2 s d)) := by
  pointwise [k0_pay7, k0_pay4, k0_pay6]

theorem mask_eq : (Named.named (F := Ideal) κ "mask" 0xF149F2CA#32 : Ideal .f32) = (⊥ : EReal) := rfl

/-- A choice on a comparison of two small naturals. -/
theorem sle_iff {α : Type} {m n : ℕ} (hm : m < 8192) (hn : n < 8192) (x y : α) :
    Scalar.select (IntOp.cmpi .sle (BitVec.ofNat 32 m) (BitVec.ofNat 32 n)) x y = if m ≤ n then x else y := by
  rw [WordCmp.cmpi_sle_ofNat (by omega) (by omega)]
  by_cases h : m ≤ n <;> simp [h, Scalar.select]

theorem wtsDiag_apply (xq xk : Vec Ideal S512x128 .bf16) (a s : Fin 512) :
    k0_pay60 xq xk (ix2 a s) = if s.val ≤ a.val then Ideal.exp (∑ d : Fin 128, xq (ix2 a d) * xk (ix2 s d)) else 0 := by
  pointwise [k0_pay60, k0_pay57, k0_pay59]
  rw [mask_eq, sle_iff (by omega) (by omega)]
  split_ifs with h
  · rfl
  · simp

theorem dsc512_apply (w : FVec Ideal S512x512 .f32) (xo xv : Vec Ideal S512x128 .bf16) (a s : Fin 512) :
    dsc512 w xo xv (ix2 a s) = w (ix2 a s) * ∑ d : Fin 128, xo (ix2 a d) * xv (ix2 s d) := by
  pointwise [dsc512]

theorem dsc1024_apply (xq xo : Vec Ideal S1024x128 .bf16) (xk xv : Vec Ideal S512x128 .bf16) (a : Fin 1024) (s : Fin 512) :
    k0_pay8 xq xo xk xv (ix2 a s) = k0_pay7 xq xk (ix2 a s) * ∑ d : Fin 128, xo (ix2 a d) * xv (ix2 s d) := by
  pointwise [k0_pay8, k0_pay5]

theorem acc512_apply (x : FVec Ideal S512x128 .bf16) (w : FVec Ideal S512x512 .f32) (old : Vec Ideal S1x512x128 .f32) (s : Fin 512) (d : Fin 128) :
    k0_pay62 x w old (ix3 0 s d) = old (ix3 0 s d) + ∑ a : Fin 512, w (ix2 a s) * x (ix2 a d) := by
  pointwise [k0_pay62]

theorem acc512'_apply (x : FVec Ideal S512x128 .bf16) (w : FVec Ideal S512x512 .bf16) (old : Vec Ideal S1x512x128 .f32) (s : Fin 512) (d : Fin 128) :
    k0_pay63 x w old (ix3 0 s d) = old (ix3 0 s d) + ∑ a : Fin 512, w (ix2 a s) * x (ix2 a d) := by
  pointwise [k0_pay63]

theorem accq512_apply (x : FVec Ideal S512x128 .bf16) (w : FVec Ideal S512x512 .bf16) (old : Vec Ideal S512x128 .f32) (a : Fin 512) (d : Fin 128) :
    k0_pay64 x w old (ix2 a d) = old (ix2 a d) + ∑ s : Fin 512, w (ix2 a s) * x (ix2 s d) := by
  pointwise [k0_pay64]

theorem acc1024_apply (xq xo : Vec Ideal S1024x128 .bf16) (xk : Vec Ideal S512x128 .bf16) (old : Vec Ideal S1x512x128 .f32) (s : Fin 512) (d : Fin 128) :
    k0_pay9 xq xo xk old (ix3 0 s d) = old (ix3 0 s d) + ∑ a : Fin 1024, k0_pay7 xq xk (ix2 a s) * xo (ix2 a d) := by
  pointwise [k0_pay9, k0_pay5]

theorem acc1024'_apply (xq xo : Vec Ideal S1024x128 .bf16) (xk xv : Vec Ideal S512x128 .bf16) (old : Vec Ideal S1x512x128 .f32) (s : Fin 512) (d : Fin 128) :
    k0_pay11 (k0_pay10 xq xo xk xv old) (ix3 0 s d) = old (ix3 0 s d) + ∑ a : Fin 1024, k0_pay8 xq xo xk xv (ix2 a s) * xq (ix2 a d) := by
  pointwise [k0_pay11, k0_pay10, k0_pay4]

theorem accq1024_apply (x : FVec Ideal S512x128 .bf16) (w : FVec Ideal S1024x512 .bf16) (old : Vec Ideal S1024x128 .f32) (a : Fin 1024) (d : Fin 128) :
    k0_pay12 x w old (ix2 a d) = old (ix2 a d) + ∑ s : Fin 512, w (ix2 a s) * x (ix2 s d) := by
  pointwise [k0_pay12]

end Cert.Proof.Fox

end
-- ==== Proof.Step.lean ====
/-
  A block of query rows, over the reals: what the gradients gain from the rows `r … r + n - 1`, and how the buffers
  written piece by piece hold it.
-/
module

public import Idealize.ShloMosaic.Lib.WritesUnit
public import proofs.«01_k».proof.Proof.Pays

@[expose] public section

noncomputable section

namespace Cert.Proof.Fox

open Cert.KernelIdeal Cert.KernelIdeal.Gen
open Idealize.ShloMosaic

/-- A matrix at two naturals, zero outside its extent. -/
def at2 {n m : ℕ} (x : (⟨2, ![n, m]⟩ : Shape).Idx → EReal) (t c : ℕ) : EReal :=
  if h : t < n ∧ c < m then x (ix2 ⟨t, h.1⟩ ⟨c, h.2⟩) else 0

theorem at2_of_lt {n m : ℕ} (x : (⟨2, ![n, m]⟩ : Shape).Idx → EReal) {t c : ℕ} (ht : t < n) (hc : c < m) :
    at2 x t c = x (ix2 ⟨t, ht⟩ ⟨c, hc⟩) := dif_pos ⟨ht, hc⟩

section Weights
variable (x2 x5 : S8192x256.Idx → EReal) (x3 x4 : S512x256.Idx → EReal) (j : ℕ)

/-- The score of query row `t` with key row `s` of the block, in the head whose lanes begin at `o`. -/
def scr (o t s : ℕ) : EReal := ∑ d : Fin 128, at2 x2 t (o + d) * at2 x3 s (o + d)
/-- The weight: zero where the key comes after the query. -/
def wt (o t s : ℕ) : EReal := if 512 * j + s ≤ t then Ideal.exp (scr x2 x3 o t s) else 0
/-- The score's gradient. -/
def dwt (o t s : ℕ) : EReal := wt x2 x3 j o t s * ∑ d : Fin 128, at2 x5 t (o + d) * at2 x4 s (o + d)

/-- What the rows `r … r + n - 1` add to the query gradient `S6` and to the two accumulators `S9`, `S10`. -/
structure Step (r n : ℕ) (S6 S6' : S8192x256.Idx → EReal) (S9 S9' S10 S10' : S2x512x128.Idx → EReal) : Prop where
  six : ∀ (t : Fin 8192) (c : Fin 256), S6' (ix2 t c) = if r ≤ t.val ∧ t.val < r + n then
    S6 (ix2 t c) + ∑ s : Fin 512, dwt x2 x5 x3 x4 j (128 * (c.val / 128)) t s * at2 x3 s c else S6 (ix2 t c)
  nine : ∀ (h : Fin 2) (s : Fin 512) (d : Fin 128), S9' (ix3 h s d) = S9 (ix3 h s d)
    + ∑ a ∈ Finset.range n, dwt x2 x5 x3 x4 j (128 * h.val) (r + a) s * at2 x2 (r + a) (128 * h.val + d.val)
  ten : ∀ (h : Fin 2) (s : Fin 512) (d : Fin 128), S10' (ix3 h s d) = S10 (ix3 h s d)
    + ∑ a ∈ Finset.range n, wt x2 x3 j (128 * h.val) (r + a) s * at2 x5 (r + a) (128 * h.val + d.val)

variable {x2 x5 x3 x4 j}

theorem Step.nil (r : ℕ) (S6 : S8192x256.Idx → EReal) (S9 S10 : S2x512x128.Idx → EReal) :
    Step x2 x5 x3 x4 j r 0 S6 S6 S9 S9 S10 S10 where
  six t c := by rw [if_neg (by omega)]
  nine h s d := by simp
  ten h s d := by simp

theorem Step.trans {r n n' : ℕ} {S6 S6' S6'' : S8192x256.Idx → EReal} {S9 S9' S9'' S10 S10' S10'' : S2x512x128.Idx → EReal}
    (h : Step x2 x5 x3 x4 j r n S6 S6' S9 S9' S10 S10') (h' : Step x2 x5 x3 x4 j (r + n) n' S6' S6'' S9' S9'' S10' S10'') :
    Step x2 x5 x3 x4 j r (n + n') S6 S6'' S9 S9'' S10 S10'' where
  six t c := by
    rw [h'.six, h.six]
    by_cases h1 : r ≤ t.val ∧ t.val < r + n
    · rw [if_neg (by omega), if_pos h1, if_pos (by omega)]
    · by_cases h2 : r + n ≤ t.val ∧ t.val < r + n + n'
      · rw [if_pos h2, if_neg h1, if_pos (by omega)]
      · rw [if_neg h2, if_neg h1, if_neg (by omega)]
  nine hh s d := by rw [h'.nine, h.nine, Finset.sum_range_add, add_assoc]; simp only [add_assoc]
  ten hh s d := by rw [h'.ten, h.ten, Finset.sum_range_add, add_assoc]; simp only [add_assoc]

end Weights

/-! ## Loads -/

theorem ld2 {N M n m : ℕ} (x : (⟨2, ![N, M]⟩ : Shape).Idx → EReal) {off : Fin 2 → ℕ} {r o : ℕ} (h : off = ![r, o])
    (inb : ∀ a : Fin 2, off a + (⟨2, ![n, m]⟩ : Shape).size a ≤ (⟨2, ![N, M]⟩ : Shape).size a) (a : Fin n) (d : Fin m) :
    x ((Rect.unit (s := ⟨2, ![N, M]⟩) off (⟨2, ![n, m]⟩ : Shape).size inb).idx (ix2 a d)) = at2 x (r + a) (o + d) := by
  subst h
  have h0 : r + n ≤ N := inb 0
  have h1 : o + m ≤ M := inb 1
  rw [at2_of_lt x (by omega) (by omega)]
  congr 1
  funext b
  match b with
  | ⟨0, _⟩ => exact Fin.ext (by show r + 1 * a.val = r + a.val; omega)
  | ⟨1, _⟩ => exact Fin.ext (by show o + 1 * d.val = o + d.val; omega)

theorem ld3 (x : S2x512x128.Idx → EReal) {off : Fin 3 → ℕ} (h : Fin 2) (e : off = ![h.val, 0, 0])
    (inb : ∀ a : Fin 3, off a + S1x512x128.size a ≤ S2x512x128.size a) (s : Fin 512) (d : Fin 128) :
    x ((Rect.unit (s := S2x512x128) off S1x512x128.size inb).idx (ix3 0 s d)) = x (ix3 h s d) := by
  subst e
  congr 1
  funext b
  match b with
  | ⟨0, _⟩ => exact Fin.ext (by show h.val + 1 * 0 = h.val; omega)
  | ⟨1, _⟩ => exact Fin.ext (by show 0 + 1 * s.val = s.val; omega)
  | ⟨2, _⟩ => exact Fin.ext (by show 0 + 1 * d.val = d.val; omega)

/-! ## Stores -/

section Stores
variable {sg : RefSig} {κ' : Kind} {sp : Space}

/-- Two pieces of `n` rows from row `r` on, one in each half of the lanes. -/
theorem read_six {n : ℕ} (v : View sg κ' sp S8192x256 .f32) (f : v.ty.Contents (Elt Ideal)) {off1 off2 : Fin 2 → ℕ} {r : ℕ}
    (e1 : off1 = ![r, 0]) (e2 : off2 = ![r, 128])
    (inb1 : ∀ a : Fin 2, off1 a + (⟨2, ![n, 128]⟩ : Shape).size a ≤ S8192x256.size a)
    (inb2 : ∀ a : Fin 2, off2 a + (⟨2, ![n, 128]⟩ : Shape).size a ≤ S8192x256.size a)
    (wa wb : (⟨2, ![n, 128]⟩ : Shape).Idx → EReal) (L : List (View.Piece (Elt Ideal) S8192x256 .f32)) (t : Fin 8192) (c : Fin 256) :
    (v.read (Elt Ideal) (v.writes (Elt Ideal) f ((⟨Rect.unit (s := S8192x256) off2 (⟨2, ![n, 128]⟩ : Shape).size inb2, wb⟩ : View.Piece (Elt Ideal) S8192x256 .f32)
        :: (⟨Rect.unit (s := S8192x256) off1 (⟨2, ![n, 128]⟩ : Shape).size inb1, wa⟩ : View.Piece (Elt Ideal) S8192x256 .f32) :: L)) (ix2 t c) : EReal)
      = if h : r ≤ t.val ∧ t.val < r + n then
          (if h' : c.val < 128 then wa (ix2 ⟨t.val - r, by omega⟩ ⟨c.val, h'⟩) else wb (ix2 ⟨t.val - r, by omega⟩ ⟨c.val - 128, by omega⟩))
        else v.read (Elt Ideal) (v.writes (Elt Ideal) f L) (ix2 t c) := by
  split_ifs with h h'
  · rw [View.read_writes_cons_unit_of_not_mem v f inb2 _ _ _ e2 1 (Or.inl (by show c.val < 128; exact h'))]
    exact View.read_writes_cons_unit_of_mem v f inb1 _ _ _ (ix2 (⟨t.val - r, by omega⟩ : Fin n) (⟨c.val, h'⟩ : Fin 128)) e1
      (Fin.forall_fin_two.2 ⟨by show t.val = r + (t.val - r); omega, by show c.val = 0 + c.val; omega⟩)
  · exact View.read_writes_cons_unit_of_mem v f inb2 _ _ _ (ix2 (⟨t.val - r, by omega⟩ : Fin n) (⟨c.val - 128, by omega⟩ : Fin 128)) e2
      (Fin.forall_fin_two.2 ⟨by show t.val = r + (t.val - r); omega, by show c.val = 128 + (c.val - 128); omega⟩)
  · have hh : t.val < r ∨ r + n ≤ t.val := by omega
    rw [View.read_writes_cons_unit_of_not_mem v f inb2 _ _ _ e2 0 (by show t.val < r ∨ r + n ≤ t.val; exact hh),
      View.read_writes_cons_unit_of_not_mem v f inb1 _ _ _ e1 0 (by show t.val < r ∨ r + n ≤ t.val; exact hh)]

/-- The first plane's piece does not reach the second plane. -/
theorem read_plane_skip (v : View sg κ' sp S2x512x128 .f32) (f : v.ty.Contents (Elt Ideal))
    (inb0 : ∀ a : Fin 3, (![0, 0, 0] : Fin 3 → ℕ) a + S1x512x128.size a ≤ S2x512x128.size a)
    (w0 : S1x512x128.Idx → EReal) (L : List (View.Piece (Elt Ideal) S2x512x128 .f32)) (s : Fin 512) (d : Fin 128) :
    (v.read (Elt Ideal) (v.writes (Elt Ideal) f ((⟨Rect.unit (s := S2x512x128) ![0, 0, 0] S1x512x128.size inb0, w0⟩ : View.Piece (Elt Ideal) S2x512x128 .f32) :: L)) (ix3 1 s d) : EReal)
      = v.read (Elt Ideal) (v.writes (Elt Ideal) f L) (ix3 1 s d) :=
  View.read_writes_cons_unit_of_not_mem v f inb0 _ _ _ rfl 0 (Or.inr (by show 0 + 1 ≤ 1; omega))

theorem read_planes (v : View sg κ' sp S2x512x128 .f32) (f : v.ty.Contents (Elt Ideal))
    (inb0 : ∀ a : Fin 3, (![0, 0, 0] : Fin 3 → ℕ) a + S1x512x128.size a ≤ S2x512x128.size a)
    (inb1 : ∀ a : Fin 3, (![1, 0, 0] : Fin 3 → ℕ) a + S1x512x128.size a ≤ S2x512x128.size a)
    (w0 w1 : S1x512x128.Idx → EReal) (L : List (View.Piece (Elt Ideal) S2x512x128 .f32)) (h : Fin 2) (s : Fin 512) (d : Fin 128) :
    (v.read (Elt Ideal) (v.writes (Elt Ideal) f ((⟨Rect.unit (s := S2x512x128) ![1, 0, 0] S1x512x128.size inb1, w1⟩ : View.Piece (Elt Ideal) S2x512x128 .f32)
        :: (⟨Rect.unit (s := S2x512x128) ![0, 0, 0] S1x512x128.size inb0, w0⟩ : View.Piece (Elt Ideal) S2x512x128 .f32) :: L)) (ix3 h s d) : EReal)
      = if h.val = 0 then w0 (ix3 0 s d) else w1 (ix3 0 s d) := by
  match h with
  | ⟨0, _⟩ =>
    rw [if_pos rfl, View.read_writes_cons_unit_of_not_mem v f inb1 _ _ _ rfl 0 (Or.inl (by show 0 < 1; omega))]
    exact View.read_writes_cons_unit_of_mem v f inb0 _ _ _ (ix3 0 s d) rfl (fun a => match a with
      | ⟨0, _⟩ => rfl
      | ⟨1, _⟩ => (Nat.zero_add _).symm
      | ⟨2, _⟩ => (Nat.zero_add _).symm)
  | ⟨1, _⟩ =>
    rw [if_neg Nat.one_ne_zero]
    exact View.read_writes_cons_unit_of_mem v f inb1 _ _ _ (ix3 0 s d) rfl (fun a => match a with
      | ⟨0, _⟩ => rfl
      | ⟨1, _⟩ => (Nat.zero_add _).symm
      | ⟨2, _⟩ => (Nat.zero_add _).symm)

/-- Pieces that hold the block's sums make a step. -/
theorem Step.of_pieces {x2 x5 : S8192x256.Idx → EReal} {x3 x4 : S512x256.Idx → EReal} {j n : ℕ}
    (v6 : View sg κ' sp S8192x256 .f32) (f6 : v6.ty.Contents (Elt Ideal))
    (v9 : View sg κ' sp S2x512x128 .f32) (f9 : v9.ty.Contents (Elt Ideal))
    (v10 : View sg κ' sp S2x512x128 .f32) (f10 : v10.ty.Contents (Elt Ideal))
    {off1 off2 : Fin 2 → ℕ} {r : ℕ} (e1 : off1 = ![r, 0]) (e2 : off2 = ![r, 128])
    (inb1 : ∀ a : Fin 2, off1 a + (⟨2, ![n, 128]⟩ : Shape).size a ≤ S8192x256.size a)
    (inb2 : ∀ a : Fin 2, off2 a + (⟨2, ![n, 128]⟩ : Shape).size a ≤ S8192x256.size a)
    (i0 : ∀ a : Fin 3, (![0, 0, 0] : Fin 3 → ℕ) a + S1x512x128.size a ≤ S2x512x128.size a)
    (i1 : ∀ a : Fin 3, (![1, 0, 0] : Fin 3 → ℕ) a + S1x512x128.size a ≤ S2x512x128.size a)
    (wa wb : (⟨2, ![n, 128]⟩ : Shape).Idx → EReal) (p0 p1 q0 q1 : S1x512x128.Idx → EReal)
    (L6 : List (View.Piece (Elt Ideal) S8192x256 .f32)) (L9 L10 : List (View.Piece (Elt Ideal) S2x512x128 .f32))
    (ha : ∀ (a : Fin n) (d : Fin 128), wa (ix2 a d) = at2 (v6.read (Elt Ideal) (v6.writes (Elt Ideal) f6 L6)) (r + a) d
      + ∑ s : Fin 512, dwt x2 x5 x3 x4 j 0 (r + a) s * at2 x3 s d)
    (hb : ∀ (a : Fin n) (d : Fin 128), wb (ix2 a d) = at2 (v6.read (Elt Ideal) (v6.writes (Elt Ideal) f6 L6)) (r + a) (128 + d)
      + ∑ s : Fin 512, dwt x2 x5 x3 x4 j 128 (r + a) s * at2 x3 s (128 + d))
    (hp0 : ∀ (s : Fin 512) (d : Fin 128), p0 (ix3 0 s d) = v9.read (Elt Ideal) (v9.writes (Elt Ideal) f9 L9) (ix3 0 s d)
      + ∑ a : Fin n, dwt x2 x5 x3 x4 j 0 (r + a) s * at2 x2 (r + a) d)
    (hp1 : ∀ (s : Fin 512) (d : Fin 128), p1 (ix3 0 s d) = v9.read (Elt Ideal) (v9.writes (Elt Ideal) f9 L9) (ix3 1 s d)
      + ∑ a : Fin n, dwt x2 x5 x3 x4 j 128 (r + a) s * at2 x2 (r + a) (128 + d))
    (hq0 : ∀ (s : Fin 512) (d : Fin 128), q0 (ix3 0 s d) = v10.read (Elt Ideal) (v10.writes (Elt Ideal) f10 L10) (ix3 0 s d)
      + ∑ a : Fin n, wt x2 x3 j 0 (r + a) s * at2 x5 (r + a) d)
    (hq1 : ∀ (s : Fin 512) (d : Fin 128), q1 (ix3 0 s d) = v10.read (Elt Ideal) (v10.writes (Elt Ideal) f10 L10) (ix3 1 s d)
      + ∑ a : Fin n, wt x2 x3 j 128 (r + a) s * at2 x5 (r + a) (128 + d)) :
    Step x2 x5 x3 x4 j r n (v6.read (Elt Ideal) (v6.writes (Elt Ideal) f6 L6))
      (v6.read (Elt Ideal) (v6.writes (Elt Ideal) f6 ((⟨Rect.unit (s := S8192x256) off2 (⟨2, ![n, 128]⟩ : Shape).size inb2, wb⟩ : View.Piece (Elt Ideal) S8192x256 .f32)
        :: (⟨Rect.unit (s := S8192x256) off1 (⟨2, ![n, 128]⟩ : Shape).size inb1, wa⟩ : View.Piece (Elt Ideal) S8192x256 .f32) :: L6)))
      (v9.read (Elt Ideal) (v9.writes (Elt Ideal) f9 L9))
      (v9.read (Elt Ideal) (v9.writes (Elt Ideal) f9 ((⟨Rect.unit (s := S2x512x128) ![1, 0, 0] S1x512x128.size i1, p1⟩ : View.Piece (Elt Ideal) S2x512x128 .f32)
        :: (⟨Rect.unit (s := S2x512x128) ![0, 0, 0] S1x512x128.size i0, p0⟩ : View.Piece (Elt Ideal) S2x512x128 .f32) :: L9)))
      (v10.read (Elt Ideal) (v10.writes (Elt Ideal) f10 L10))
      (v10.read (Elt Ideal) (v10.writes (Elt Ideal) f10 ((⟨Rect.unit (s := S2x512x128) ![1, 0, 0] S1x512x128.size i1, q1⟩ : View.Piece (Elt Ideal) S2x512x128 .f32)
        :: (⟨Rect.unit (s := S2x512x128) ![0, 0, 0] S1x512x128.size i0, q0⟩ : View.Piece (Elt Ideal) S2x512x128 .f32) :: L10))) where
  six t c := by
    rw [read_six v6 f6 e1 e2 inb1 inb2]
    by_cases h : r ≤ t.val ∧ t.val < r + n
    · rw [dif_pos h, if_pos h]
      have et : r + (t.val - r) = t.val := by omega
      by_cases h' : c.val < 128
      · rw [dif_pos h', ha]
        simp only [et]
        rw [at2_of_lt _ t.isLt c.isLt, show 128 * (c.val / 128) = 0 by omega]
      · have ec : 128 + (c.val - 128) = c.val := by omega
        rw [dif_neg h', hb]
        simp only [et, ec]
        rw [at2_of_lt _ t.isLt c.isLt, show 128 * (c.val / 128) = 128 by omega]
    · rw [dif_neg h, if_neg h]
  nine h s d := by
    rw [read_planes]
    match h with
    | ⟨0, _⟩ =>
      rw [if_pos rfl, hp0, Finset.sum_range]
      simp only [Nat.mul_zero, Nat.zero_add]; rfl
    | ⟨1, _⟩ =>
      rw [if_neg Nat.one_ne_zero, hp1, Finset.sum_range]
      rfl
  ten h s d := by
    rw [read_planes]
    match h with
    | ⟨0, _⟩ =>
      rw [if_pos rfl, hq0, Finset.sum_range]
      simp only [Nat.mul_zero, Nat.zero_add]; rfl
    | ⟨1, _⟩ =>
      rw [if_neg Nat.one_ne_zero, hq1, Finset.sum_range]
      rfl

end Stores

end Cert.Proof.Fox

end
-- ==== Proof.TripStep.lean ====
/-
  One trip of the loop, over the reals: a step of 1024 rows.
-/
module

public import proofs.«01_k».proof.Proof.Step
public import proofs.«01_k».proof.Proof.Loop
public import Idealize.ShloMosaic.Lib.Pointwise

@[expose] public section

noncomputable section

namespace Cert.Proof.Fox

open Cert.KernelIdeal Cert.KernelIdeal.Gen
open Idealize.ShloMosaic
open Idealize.ShloMosaic.TcCoe

/-- The box of `n` rows and 128 lanes from `off` on, read out of a matrix. -/
def box {e : EltTy} {N M n m : ℕ} (x : (⟨2, ![N, M]⟩ : Shape).Idx → Elt Ideal e) (off : Fin 2 → ℕ)
    (inb : ∀ a : Fin 2, off a + (⟨2, ![n, m]⟩ : Shape).size a ≤ (⟨2, ![N, M]⟩ : Shape).size a) : (⟨2, ![n, m]⟩ : Shape).Idx → Elt Ideal e :=
  fun y => x ((Rect.unit (s := ⟨2, ![N, M]⟩) off (⟨2, ![n, m]⟩ : Shape).size inb).idx y)

/-- A plane read out of an accumulator. -/
def plane {e : EltTy} (x : S2x512x128.Idx → Elt Ideal e) (off : Fin 3 → ℕ)
    (inb : ∀ a : Fin 3, off a + S1x512x128.size a ≤ S2x512x128.size a) : S1x512x128.Idx → Elt Ideal e :=
  fun y => x ((Rect.unit (s := S2x512x128) off S1x512x128.size inb).idx y)

theorem box_apply {N M n m : ℕ} (x : (⟨2, ![N, M]⟩ : Shape).Idx → Elt Ideal .f32) {off : Fin 2 → ℕ} {r o : ℕ} (h : off = ![r, o])
    (inb : ∀ a : Fin 2, off a + (⟨2, ![n, m]⟩ : Shape).size a ≤ (⟨2, ![N, M]⟩ : Shape).size a) (a : Fin n) (d : Fin m) :
    box x off inb (ix2 a d) = at2 (n := N) (m := M) x (r + a) (o + d) := ld2 x h inb a d

theorem box_apply' {N M n m : ℕ} (x : (⟨2, ![N, M]⟩ : Shape).Idx → Elt Ideal .bf16) {off : Fin 2 → ℕ} {r o : ℕ} (h : off = ![r, o])
    (inb : ∀ a : Fin 2, off a + (⟨2, ![n, m]⟩ : Shape).size a ≤ (⟨2, ![N, M]⟩ : Shape).size a) (a : Fin n) (d : Fin m) :
    box x off inb (ix2 a d) = at2 (n := N) (m := M) x (r + a) (o + d) := ld2 x h inb a d

theorem pay6_box {x : S512x256.Idx → Elt Ideal .bf16} {off : Fin 2 → ℕ} {r o : ℕ} (h : off = ![r, o])
    (inb : ∀ a : Fin 2, off a + S512x128.size a ≤ S512x256.size a) (a : Fin 512) (d : Fin 128) :
    k0_pay6 (box x off inb) (ix2 a d) = at2 (n := 512) (m := 256) x (r + a) (o + d) := by
  refine Eq.trans ?_ (box_apply' x h inb a d)
  pointwise [k0_pay6]

theorem Step.congr {x2 x5 : S8192x256.Idx → EReal} {x3 x4 : S512x256.Idx → EReal} {j r n : ℕ}
    {S6 S6' T6 : S8192x256.Idx → EReal} {S9 S9' T9 S10 S10' T10 : S2x512x128.Idx → EReal}
    (h6 : S6' = T6) (h9 : S9' = T9) (h10 : S10' = T10) (h : Step x2 x5 x3 x4 j r n S6 T6 S9 T9 S10 T10) :
    Step x2 x5 x3 x4 j r n S6 S6' S9 S9' S10 S10' := by
  subst h6 h9 h10; exact h

section Boxes
variable {x2 x5 : S8192x256.Idx → Elt Ideal .bf16} {x3 x4 : S512x256.Idx → Elt Ideal .bf16} {j r o : ℕ} {off offk : Fin 2 → ℕ}
  (e : off = ![r, o]) (ek : offk = ![0, o])
  (ib : ∀ a : Fin 2, offk a + S512x128.size a ≤ S512x256.size a)

include e ek in
theorem wts1024_box (hr : 512 * j + 512 ≤ r) (inb : ∀ a : Fin 2, off a + S1024x128.size a ≤ S8192x256.size a) (a : Fin 1024) (s : Fin 512) :
    k0_pay7 (box x2 off inb) (box x3 offk ib) (ix2 a s) = wt x2 x3 j o (r + a) s := by
  refine (wts1024_apply (box x2 off inb) (box x3 offk ib) a s).trans ?_
  rw [wt, if_pos (by omega), scr]
  congr 1
  refine Finset.sum_congr rfl fun d _ => ?_
  rw [box_apply' x2 e, box_apply' x3 ek, Nat.zero_add]

include e ek in
theorem dsc1024_box (hr : 512 * j + 512 ≤ r) (inb : ∀ a : Fin 2, off a + S1024x128.size a ≤ S8192x256.size a) (a : Fin 1024) (s : Fin 512) :
    k0_pay8 (box x2 off inb) (box x5 off inb) (box x3 offk ib) (box x4 offk ib) (ix2 a s) = dwt x2 x5 x3 x4 j o (r + a) s := by
  refine (dsc1024_apply (box x2 off inb) (box x5 off inb) (box x3 offk ib) (box x4 offk ib) a s).trans ?_
  rw [wts1024_box e ek ib hr, dwt]
  congr 1
  refine Finset.sum_congr rfl fun d _ => ?_
  rw [box_apply' x5 e, box_apply' x4 ek, Nat.zero_add]

include e ek in
theorem wts512_box (hr : 512 * j + 512 ≤ r) (inb : ∀ a : Fin 2, off a + S512x128.size a ≤ S8192x256.size a) (a s : Fin 512) :
    wts512 (box x2 off inb) (box x3 offk ib) (ix2 a s) = wt x2 x3 j o (r + a) s := by
  refine (wts512_apply (box x2 off inb) (box x3 offk ib) a s).trans ?_
  rw [wt, if_pos (by omega), scr]
  congr 1
  refine Finset.sum_congr rfl fun d _ => ?_
  rw [box_apply' x2 e, box_apply' x3 ek, Nat.zero_add]

include e ek in
theorem wtsDiag_box (hr : r = 512 * j) (inb : ∀ a : Fin 2, off a + S512x128.size a ≤ S8192x256.size a) (a s : Fin 512) :
    k0_pay60 (box x2 off inb) (box x3 offk ib) (ix2 a s) = wt x2 x3 j o (r + a) s := by
  refine (wtsDiag_apply (box x2 off inb) (box x3 offk ib) a s).trans ?_
  rw [wt, scr]
  by_cases h : s.val ≤ a.val
  · rw [if_pos h, if_pos (by omega)]
    congr 1
    refine Finset.sum_congr rfl fun d _ => ?_
    rw [box_apply' x2 e, box_apply' x3 ek, Nat.zero_add]
  · rw [if_neg h, if_neg (by omega)]

include e ek in
theorem dsc512_box (w : FVec Ideal S512x512 .f32) (inb : ∀ a : Fin 2, off a + S512x128.size a ≤ S8192x256.size a) (a s : Fin 512)
    (hw : w (ix2 a s) = wt x2 x3 j o (r + a) s) :
    dsc512 w (box x5 off inb) (box x4 offk ib) (ix2 a s) = dwt x2 x5 x3 x4 j o (r + a) s := by
  refine (dsc512_apply w (box x5 off inb) (box x4 offk ib) a s).trans ?_
  rw [hw, dwt]
  congr 1
  refine Finset.sum_congr rfl fun d _ => ?_
  rw [box_apply' x5 e, box_apply' x4 ek, Nat.zero_add]

end Boxes

section

variable (c : Dev nD) (i : grid0.Coords)
  (M2 : Memref sig .tc .vmem S8192x256 .bf16) (h2 : M2.IsWhole) (M3 : Memref sig .tc .vmem S512x256 .bf16) (h3 : M3.IsWhole)
  (M4 : Memref sig .tc .vmem S512x256 .bf16) (h4 : M4.IsWhole) (M5 : Memref sig .tc .vmem S8192x256 .bf16) (h5 : M5.IsWhole)
  (M6 : Memref sig .tc .vmem S8192x256 .f32) (h6 : M6.IsWhole) (M7 : Memref sig .tc .vmem S512x256 .f32) (h7 : M7.IsWhole)
  (M8 : Memref sig .tc .vmem S512x256 .bf16) (h8 : M8.IsWhole) (M9 : Memref sig .tc .vmem S2x512x128 .f32) (h9 : M9.IsWhole)
  (M10 : Memref sig .tc .vmem S2x512x128 .f32) (h10 : M10.IsWhole)
  (g2 : Buf (Elt Ideal) (M2.view.loc (c : Thread nD τ))) (g3 : Buf (Elt Ideal) (M3.view.loc (c : Thread nD τ)))
  (g4 : Buf (Elt Ideal) (M4.view.loc (c : Thread nD τ))) (g5 : Buf (Elt Ideal) (M5.view.loc (c : Thread nD τ)))

variable (k : Fin (k0_t1_loop i).trips)
    (f6 : Buf (Elt Ideal) (M6.view.loc (c : Thread nD τ))) (f9 : Buf (Elt Ideal) (M9.view.loc (c : Thread nD τ)))
    (f10 : Buf (Elt Ideal) (M10.view.loc (c : Thread nD τ)))
    (a1 v97 c2 v98 v100 : BitVec 32) (v101 : BitVec 1)
    (inb3 : ∀ a : Fin 2, (k0_off3 i k) a + S1024x128.size a ≤ S8192x256.size a)
    (inb4 : ∀ a : Fin 2, (k0_off4 i k) a + S1024x128.size a ≤ S8192x256.size a)
    (b0 : ∀ a : Fin 2, (![0, 0] : Fin 2 → ℕ) a + S512x128.size a ≤ S512x256.size a)
    (b1 : ∀ a : Fin 2, (![0, 128] : Fin 2 → ℕ) a + S512x128.size a ≤ S512x256.size a)
    (i0 : ∀ a : Fin 3, (![0, 0, 0] : Fin 3 → ℕ) a + S1x512x128.size a ≤ S2x512x128.size a)
    (i1 : ∀ a : Fin 3, (![1, 0, 0] : Fin 3 → ℕ) a + S1x512x128.size a ≤ S2x512x128.size a)

local notation "TT" => trip (F := Ideal) c i M2 h2 M3 h3 M4 h4 M5 h5 M6 h6 M7 h7 M8 h8 M9 h9 M10 h10 g2 g3 g4 g5 a1 v97 c2 v98 v100 v101 k f6 f9 f10
local notation "Q" => box (M2.view.read (Elt Ideal) g2)
local notation "K" => box (M3.view.read (Elt Ideal) g3)
local notation "W" => box (M4.view.read (Elt Ideal) g4)
local notation "O" => box (M5.view.read (Elt Ideal) g5)
local notation "A" => box (M6.view.read (Elt Ideal) f6)
local notation "P9" => plane (M9.view.read (Elt Ideal) f9)
local notation "P10" => plane (M10.view.read (Elt Ideal) f10)

set_option maxHeartbeats 4000000 in
theorem trip_six : (TT).1 =
    [⟨Rect.unit (s := S8192x256) (k0_off4 i k) S1024x128.size inb4,
      k0_pay12 (k0_pay6 (K _ b1)) (k0_pay8 (Q _ inb4) (O _ inb4) (K _ b1) (W _ b1)) (A _ inb4)⟩,
     ⟨Rect.unit (s := S8192x256) (k0_off3 i k) S1024x128.size inb3,
      k0_pay12 (k0_pay6 (K _ b0)) (k0_pay8 (Q _ inb3) (O _ inb3) (K _ b0) (W _ b0)) (A _ inb3)⟩] := by
  unfold trip; rfl

set_option maxHeartbeats 4000000 in
theorem trip_nine : (TT).2.1 =
    [⟨Rect.unit (s := S2x512x128) ![1, 0, 0] S1x512x128.size i1,
      k0_pay11 (k0_pay10 (Q _ inb4) (O _ inb4) (K _ b1) (W _ b1) (P9 _ i1))⟩,
     ⟨Rect.unit (s := S2x512x128) ![0, 0, 0] S1x512x128.size i0,
      k0_pay11 (k0_pay10 (Q _ inb3) (O _ inb3) (K _ b0) (W _ b0) (P9 _ i0))⟩] := by
  unfold trip; rfl

set_option maxHeartbeats 4000000 in
theorem trip_ten : (TT).2.2.1 =
    [⟨Rect.unit (s := S2x512x128) ![1, 0, 0] S1x512x128.size i1, k0_pay9 (Q _ inb4) (O _ inb4) (K _ b1) (P10 _ i1)⟩,
     ⟨Rect.unit (s := S2x512x128) ![0, 0, 0] S1x512x128.size i0, k0_pay9 (Q _ inb3) (O _ inb3) (K _ b0) (P10 _ i0)⟩] := by
  unfold trip; rfl

set_option maxHeartbeats 4000000 in
include inb3 inb4 b0 b1 i0 i1 in
/-- A trip is a step of 1024 rows. -/
theorem trip_step : Step (M2.view.read (Elt Ideal) g2) (M5.view.read (Elt Ideal) g5) (M3.view.read (Elt Ideal) g3) (M4.view.read (Elt Ideal) g4) (i 1).val
    (512 * (i 1).val + 1024 * k.val + 512) 1024 (M6.view.read (Elt Ideal) f6) (M6.view.read (Elt Ideal) (M6.view.writes (Elt Ideal) f6 (TT).1))
    (M9.view.read (Elt Ideal) f9) (M9.view.read (Elt Ideal) (M9.view.writes (Elt Ideal) f9 (TT).2.1))
    (M10.view.read (Elt Ideal) f10) (M10.view.read (Elt Ideal) (M10.view.writes (Elt Ideal) f10 (TT).2.2.1)) := by
  refine Step.congr (congrArg (fun L => M6.view.read (Elt Ideal) (M6.view.writes (Elt Ideal) f6 L)) (trip_six c i M2 h2 M3 h3 M4 h4 M5 h5 M6 h6 M7 h7 M8 h8 M9 h9 M10 h10 g2 g3 g4 g5 k f6 f9 f10 a1 v97 c2 v98 v100 v101 inb3 inb4 b0 b1))
    (congrArg (fun L => M9.view.read (Elt Ideal) (M9.view.writes (Elt Ideal) f9 L)) (trip_nine c i M2 h2 M3 h3 M4 h4 M5 h5 M6 h6 M7 h7 M8 h8 M9 h9 M10 h10 g2 g3 g4 g5 k f6 f9 f10 a1 v97 c2 v98 v100 v101 inb3 inb4 b0 b1 i0 i1))
    (congrArg (fun L => M10.view.read (Elt Ideal) (M10.view.writes (Elt Ideal) f10 L)) (trip_ten c i M2 h2 M3 h3 M4 h4 M5 h5 M6 h6 M7 h7 M8 h8 M9 h9 M10 h10 g2 g3 g4 g5 k f6 f9 f10 a1 v97 c2 v98 v100 v101 inb3 inb4 b0 b1 i0 i1)) ?_
  have e3 := k0_off3_eq i k
  have e4 := k0_off4_eq i k
  have hr : 512 * (i 1).val + 512 ≤ 512 * (i 1).val + 1024 * k.val + 512 := by omega
  refine Step.of_pieces M6.view f6 M9.view f9 M10.view f10 e3 e4 inb3 inb4 i0 i1 _ _ _ _ _ _ [] [] [] ?_ ?_ ?_ ?_ ?_ ?_
  · intro a d
    refine (accq1024_apply _ _ _ a d).trans ?_
    rw [box_apply _ e3, Nat.zero_add]
    refine congrArg (_ + ·) (Finset.sum_congr rfl fun s _ => ?_)
    exact congrArg₂ (· * ·) (dsc1024_box e3 rfl b0 hr inb3 a s) ((pay6_box rfl b0 s d).trans (by rw [Nat.zero_add, Nat.zero_add]))
  · intro a d
    refine (accq1024_apply _ _ _ a d).trans ?_
    rw [box_apply _ e4]
    refine congrArg (_ + ·) (Finset.sum_congr rfl fun s _ => ?_)
    exact congrArg₂ (· * ·) (dsc1024_box e4 rfl b1 hr inb4 a s) ((pay6_box rfl b1 s d).trans (by rw [Nat.zero_add]))
  · intro s d
    refine (acc1024'_apply _ _ _ _ _ s d).trans ?_
    refine congrArg₂ (· + ·) (ld3 _ 0 rfl i0 s d) (Finset.sum_congr rfl fun a _ => ?_)
    exact congrArg₂ (· * ·) (dsc1024_box e3 rfl b0 hr inb3 a s) ((box_apply' _ e3 inb3 a d).trans (by rw [Nat.zero_add]))
  · intro s d
    refine (acc1024'_apply _ _ _ _ _ s d).trans ?_
    refine congrArg₂ (· + ·) (ld3 _ 1 rfl i1 s d) (Finset.sum_congr rfl fun a _ => ?_)
    exact congrArg₂ (· * ·) (dsc1024_box e4 rfl b1 hr inb4 a s) (box_apply' _ e4 inb4 a d)
  · intro s d
    refine (acc1024_apply _ _ _ _ s d).trans ?_
    refine congrArg₂ (· + ·) (ld3 _ 0 rfl i0 s d) (Finset.sum_congr rfl fun a _ => ?_)
    exact congrArg₂ (· * ·) (wts1024_box e3 rfl b0 hr inb3 a s) ((box_apply' _ e3 inb3 a d).trans (by rw [Nat.zero_add]))
  · intro s d
    refine (acc1024_apply _ _ _ _ s d).trans ?_
    refine congrArg₂ (· + ·) (ld3 _ 1 rfl i1 s d) (Finset.sum_congr rfl fun a _ => ?_)
    exact congrArg₂ (· * ·) (wts1024_box e4 rfl b1 hr inb4 a s) (box_apply' _ e4 inb4 a d)

end

end Cert.Proof.Fox

end
-- ==== Proof.BlockStep.lean ====
/-
  A block of 512 query rows, over the reals: the pieces it writes, and that they make a step of 512 rows.
-/
module

public import proofs.«01_k».proof.Proof.TripStep

@[expose] public section

noncomputable section

namespace Cert.Proof.Fox

open Cert.KernelIdeal Cert.KernelIdeal.Gen
open Idealize.ShloMosaic
open Idealize.ShloMosaic.TcCoe

section Block
variable {sg : RefSig} {κ' : Kind} {sp : Space}
variable (x2 x5 : S8192x256.Idx → Elt Ideal .bf16) (x3 x4 : S512x256.Idx → Elt Ideal .bf16)
  (off1 off2 : Fin 2 → ℕ)
  (inb1 : ∀ a : Fin 2, off1 a + S512x128.size a ≤ S8192x256.size a)
  (inb2 : ∀ a : Fin 2, off2 a + S512x128.size a ≤ S8192x256.size a)
  (b0 : ∀ a : Fin 2, (![0, 0] : Fin 2 → ℕ) a + S512x128.size a ≤ S512x256.size a)
  (b1 : ∀ a : Fin 2, (![0, 128] : Fin 2 → ℕ) a + S512x128.size a ≤ S512x256.size a)
  (i0 : ∀ a : Fin 3, (![0, 0, 0] : Fin 3 → ℕ) a + S1x512x128.size a ≤ S2x512x128.size a)
  (i1 : ∀ a : Fin 3, (![1, 0, 0] : Fin 3 → ℕ) a + S1x512x128.size a ≤ S2x512x128.size a)
  (w1 w2 : FVec Ideal S512x512 .f32)

/-- The first head's piece of the query gradient, over the state `S`. -/
def p6a (S : S8192x256.Idx → Elt Ideal .f32) : View.Piece (Elt Ideal) S8192x256 .f32 :=
  ⟨Rect.unit (s := S8192x256) off1 S512x128.size inb1,
    k0_pay64 (k0_pay59 (box x3 _ b0)) (dsc512 w1 (box x5 _ inb1) (box x4 _ b0)) (box S _ inb1)⟩
/-- The second head's. -/
def p6b (S : S8192x256.Idx → Elt Ideal .f32) : View.Piece (Elt Ideal) S8192x256 .f32 :=
  ⟨Rect.unit (s := S8192x256) off2 S512x128.size inb2,
    k0_pay64 (k0_pay59 (box x3 _ b1)) (dsc512 w2 (box x5 _ inb2) (box x4 _ b1)) (box S _ inb2)⟩

/-- The first head's piece of the key gradient's accumulator, over the state `S`. -/
def p9a (S : S2x512x128.Idx → Elt Ideal .f32) : View.Piece (Elt Ideal) S2x512x128 .f32 :=
  ⟨Rect.unit (s := S2x512x128) ![0, 0, 0] S1x512x128.size i0,
    k0_pay63 (k0_pay57 (box x2 _ inb1)) (dsc512 w1 (box x5 _ inb1) (box x4 _ b0)) (plane S _ i0)⟩
def p9b (S : S2x512x128.Idx → Elt Ideal .f32) : View.Piece (Elt Ideal) S2x512x128 .f32 :=
  ⟨Rect.unit (s := S2x512x128) ![1, 0, 0] S1x512x128.size i1,
    k0_pay63 (k0_pay57 (box x2 _ inb2)) (dsc512 w2 (box x5 _ inb2) (box x4 _ b1)) (plane S _ i1)⟩

/-- The first head's piece of the value gradient's accumulator, over the state `S`. -/
def p10a (S : S2x512x128.Idx → Elt Ideal .f32) : View.Piece (Elt Ideal) S2x512x128 .f32 :=
  ⟨Rect.unit (s := S2x512x128) ![0, 0, 0] S1x512x128.size i0, k0_pay62 (k0_pay58 (box x5 _ inb1)) w1 (plane S _ i0)⟩
def p10b (S : S2x512x128.Idx → Elt Ideal .f32) : View.Piece (Elt Ideal) S2x512x128 .f32 :=
  ⟨Rect.unit (s := S2x512x128) ![1, 0, 0] S1x512x128.size i1, k0_pay62 (k0_pay58 (box x5 _ inb2)) w2 (plane S _ i1)⟩

variable (v : View sg κ' sp S2x512x128 .f32) (f : v.ty.Contents (Elt Ideal)) (L : List (View.Piece (Elt Ideal) S2x512x128 .f32))

/-- Both heads' pieces, the second head's over what the first head's left. -/
def blk9 : List (View.Piece (Elt Ideal) S2x512x128 .f32) :=
  p9b x2 x5 x4 off2 inb2 b1 i1 w2 (v.read (Elt Ideal) (v.writes (Elt Ideal) f
      (p9a x2 x5 x4 off1 inb1 b0 i0 w1 (v.read (Elt Ideal) (v.writes (Elt Ideal) f L)) :: L)))
    :: p9a x2 x5 x4 off1 inb1 b0 i0 w1 (v.read (Elt Ideal) (v.writes (Elt Ideal) f L)) :: L
def blk10 : List (View.Piece (Elt Ideal) S2x512x128 .f32) :=
  p10b x5 off2 inb2 i1 w2 (v.read (Elt Ideal) (v.writes (Elt Ideal) f
      (p10a x5 off1 inb1 i0 w1 (v.read (Elt Ideal) (v.writes (Elt Ideal) f L)) :: L)))
    :: p10a x5 off1 inb1 i0 w1 (v.read (Elt Ideal) (v.writes (Elt Ideal) f L)) :: L

variable (v6 : View sg κ' sp S8192x256 .f32) (f6 : v6.ty.Contents (Elt Ideal)) (L6 : List (View.Piece (Elt Ideal) S8192x256 .f32))

/-- Both heads' pieces of the query gradient, each over the state before the block. -/
def blk6 : List (View.Piece (Elt Ideal) S8192x256 .f32) :=
  p6b x5 x3 x4 off2 inb2 b1 w2 (v6.read (Elt Ideal) (v6.writes (Elt Ideal) f6 L6))
    :: p6a x5 x3 x4 off1 inb1 b0 w1 (v6.read (Elt Ideal) (v6.writes (Elt Ideal) f6 L6)) :: L6
/-- The same, the second head's over what the first head's left. -/
def blk6' : List (View.Piece (Elt Ideal) S8192x256 .f32) :=
  p6b x5 x3 x4 off2 inb2 b1 w2 (v6.read (Elt Ideal) (v6.writes (Elt Ideal) f6
      (p6a x5 x3 x4 off1 inb1 b0 w1 (v6.read (Elt Ideal) (v6.writes (Elt Ideal) f6 L6)) :: L6)))
    :: p6a x5 x3 x4 off1 inb1 b0 w1 (v6.read (Elt Ideal) (v6.writes (Elt Ideal) f6 L6)) :: L6

theorem pay59_box {x : S512x256.Idx → Elt Ideal .bf16} {off : Fin 2 → ℕ} {r o : ℕ} (h : off = ![r, o])
    (inb : ∀ a : Fin 2, off a + S512x128.size a ≤ S512x256.size a) (a : Fin 512) (d : Fin 128) :
    k0_pay59 (box x off inb) (ix2 a d) = at2 (n := 512) (m := 256) x (r + a) (o + d) := by
  refine Eq.trans ?_ (box_apply' x h inb a d)
  pointwise [k0_pay59]
theorem pay57_box {x : S8192x256.Idx → Elt Ideal .bf16} {off : Fin 2 → ℕ} {r o : ℕ} (h : off = ![r, o])
    (inb : ∀ a : Fin 2, off a + S512x128.size a ≤ S8192x256.size a) (a : Fin 512) (d : Fin 128) :
    k0_pay57 (box x off inb) (ix2 a d) = at2 (n := 8192) (m := 256) x (r + a) (o + d) := by
  refine Eq.trans ?_ (box_apply' x h inb a d)
  pointwise [k0_pay57]
theorem pay58_box {x : S8192x256.Idx → Elt Ideal .bf16} {off : Fin 2 → ℕ} {r o : ℕ} (h : off = ![r, o])
    (inb : ∀ a : Fin 2, off a + S512x128.size a ≤ S8192x256.size a) (a : Fin 512) (d : Fin 128) :
    k0_pay58 (box x off inb) (ix2 a d) = at2 (n := 8192) (m := 256) x (r + a) (o + d) := by
  refine Eq.trans ?_ (box_apply' x h inb a d)
  pointwise [k0_pay58]

variable {off1 off2 w1 w2} {j r : ℕ} (e1 : off1 = ![r, 0]) (e2 : off2 = ![r, 128])
  (hw1 : ∀ a s : Fin 512, w1 (ix2 a s) = wt x2 x3 j 0 (r + a) s) (hw2 : ∀ a s : Fin 512, w2 (ix2 a s) = wt x2 x3 j 128 (r + a) s)
  (v10 : View sg κ' sp S2x512x128 .f32) (f10 : v10.ty.Contents (Elt Ideal)) (L10 : List (View.Piece (Elt Ideal) S2x512x128 .f32))

include e1 in
/-- The first half of the lanes' piece does not reach the second half. -/
theorem read_half_skip (w : S512x128.Idx → EReal) (t : Fin 8192) (c : Fin 256) (hc : 128 ≤ c.val) :
    (v6.read (Elt Ideal) (v6.writes (Elt Ideal) f6 ((⟨Rect.unit (s := S8192x256) off1 S512x128.size inb1, w⟩ : View.Piece (Elt Ideal) S8192x256 .f32) :: L6)) (ix2 t c) : EReal)
      = v6.read (Elt Ideal) (v6.writes (Elt Ideal) f6 L6) (ix2 t c) :=
  View.read_writes_cons_unit_of_not_mem v6 f6 inb1 _ _ _ e1 1 (Or.inr (by show 0 + 128 ≤ c.val; omega))

set_option maxHeartbeats 2000000 in
include e1 e2 hw1 hw2 in
/-- A block is a step of 512 rows, whether the second head reads the query gradient before or after the first. -/
theorem blk_step' : Step x2 x5 x3 x4 j r 512 (v6.read (Elt Ideal) (v6.writes (Elt Ideal) f6 L6))
    (v6.read (Elt Ideal) (v6.writes (Elt Ideal) f6 (blk6' x5 x3 x4 off1 off2 inb1 inb2 b0 b1 w1 w2 v6 f6 L6)))
    (v.read (Elt Ideal) (v.writes (Elt Ideal) f L))
    (v.read (Elt Ideal) (v.writes (Elt Ideal) f (blk9 x2 x5 x4 off1 off2 inb1 inb2 b0 b1 i0 i1 w1 w2 v f L)))
    (v10.read (Elt Ideal) (v10.writes (Elt Ideal) f10 L10))
    (v10.read (Elt Ideal) (v10.writes (Elt Ideal) f10 (blk10 x5 off1 off2 inb1 inb2 i0 i1 w1 w2 v10 f10 L10))) := by
  have hr1 : r + 512 ≤ 8192 := by have := inb1 0; rw [e1] at this; exact this
  refine Step.of_pieces v6 f6 v f v10 f10 e1 e2 inb1 inb2 i0 i1 _ _ _ _ _ _ L6 L L10 ?_ ?_ ?_ ?_ ?_ ?_
  · intro a d
    refine (accq512_apply _ _ _ a d).trans ?_
    rw [box_apply _ e1, Nat.zero_add]
    refine congrArg (_ + ·) (Finset.sum_congr rfl fun s _ => ?_)
    exact congrArg₂ (· * ·) (dsc512_box e1 rfl b0 w1 inb1 a s (hw1 a s)) ((pay59_box rfl b0 s d).trans (by rw [Nat.zero_add, Nat.zero_add]))
  · intro a d
    refine (accq512_apply _ _ _ a d).trans ?_
    rw [box_apply _ e2]
    refine congrArg₂ (· + ·) ?_ (Finset.sum_congr rfl fun s _ => ?_)
    · rw [at2_of_lt _ (by omega) (by omega), at2_of_lt _ (by omega) (by omega)]
      exact read_half_skip inb1 v6 f6 L6 e1 _ _ _ (Nat.le_add_right _ _)
    · exact congrArg₂ (· * ·) (dsc512_box e2 rfl b1 w2 inb2 a s (hw2 a s)) ((pay59_box rfl b1 s d).trans (by rw [Nat.zero_add]))
  · intro s d
    refine (acc512'_apply _ _ _ s d).trans ?_
    refine congrArg₂ (· + ·) (ld3 _ 0 rfl i0 s d) (Finset.sum_congr rfl fun a _ => ?_)
    exact congrArg₂ (· * ·) (dsc512_box e1 rfl b0 w1 inb1 a s (hw1 a s)) ((pay57_box e1 inb1 a d).trans (by rw [Nat.zero_add]))
  · intro s d
    refine (acc512'_apply _ _ _ s d).trans ?_
    refine congrArg₂ (· + ·) ((ld3 _ 1 rfl i1 s d).trans (read_plane_skip v f i0 _ L s d)) (Finset.sum_congr rfl fun a _ => ?_)
    exact congrArg₂ (· * ·) (dsc512_box e2 rfl b1 w2 inb2 a s (hw2 a s)) (pay57_box e2 inb2 a d)
  · intro s d
    refine (acc512_apply _ _ _ s d).trans ?_
    refine congrArg₂ (· + ·) (ld3 _ 0 rfl i0 s d) (Finset.sum_congr rfl fun a _ => ?_)
    exact congrArg₂ (· * ·) (hw1 a s) ((pay58_box e1 inb1 a d).trans (by rw [Nat.zero_add]))
  · intro s d
    refine (acc512_apply _ _ _ s d).trans ?_
    refine congrArg₂ (· + ·) ((ld3 _ 1 rfl i1 s d).trans (read_plane_skip v10 f10 i0 _ L10 s d)) (Finset.sum_congr rfl fun a _ => ?_)
    exact congrArg₂ (· * ·) (hw2 a s) (pay58_box e2 inb2 a d)

include e1 e2 in
theorem blk6_read : v6.read (Elt Ideal) (v6.writes (Elt Ideal) f6 (blk6 x5 x3 x4 off1 off2 inb1 inb2 b0 b1 w1 w2 v6 f6 L6))
    = v6.read (Elt Ideal) (v6.writes (Elt Ideal) f6 (blk6' x5 x3 x4 off1 off2 inb1 inb2 b0 b1 w1 w2 v6 f6 L6)) := by
  have hr1 : r + 512 ≤ 8192 := by have := inb1 0; rw [e1] at this; exact this
  have hb : box (v6.read (Elt Ideal) (v6.writes (Elt Ideal) f6 L6)) off2 inb2 = box (v6.read (Elt Ideal) (v6.writes (Elt Ideal) f6
      (p6a x5 x3 x4 off1 inb1 b0 w1 (v6.read (Elt Ideal) (v6.writes (Elt Ideal) f6 L6)) :: L6))) off2 inb2 := by
    funext y
    obtain ⟨a, d, rfl⟩ : ∃ (a : Fin 512) (d : Fin 128), y = ix2 a d := ⟨y 0, y 1, eq_ix2 y⟩
    rw [box_apply _ e2, box_apply _ e2, at2_of_lt _ (by omega) (by omega), at2_of_lt _ (by omega) (by omega)]
    exact (read_half_skip inb1 v6 f6 L6 e1 _ _ _ (Nat.le_add_right _ _)).symm
  exact congrArg (fun B => v6.read (Elt Ideal) (v6.writes (Elt Ideal) f6
    ((⟨Rect.unit (s := S8192x256) off2 S512x128.size inb2,
      k0_pay64 (k0_pay59 (box x3 _ b1)) (dsc512 w2 (box x5 _ inb2) (box x4 _ b1)) B⟩ : View.Piece (Elt Ideal) S8192x256 .f32)
      :: p6a x5 x3 x4 off1 inb1 b0 w1 (v6.read (Elt Ideal) (v6.writes (Elt Ideal) f6 L6)) :: L6))) hb

end Block

end Cert.Proof.Fox

end
-- ==== Proof.BodyEq.lean ====
/-
  One point of the grid, over the reals: the pieces it writes are the diagonal block's, the trips' and, where the number of
  blocks past the diagonal is odd, the last block's.
-/
module

public import proofs.«01_k».proof.Proof.BlockStep
public import proofs.«01_k».proof.Proof.Body

@[expose] public section

noncomputable section

namespace Cert.Proof.Fox

open Cert.KernelIdeal Cert.KernelIdeal.Gen
open Idealize.ShloMosaic
open Idealize.ShloMosaic.TcCoe

theorem k0_off1_eq : ∀ i : grid0.Coords, k0_off1 i = ![512 * (i 1).val, 0] := by decide +kernel
theorem k0_off2_eq : ∀ i : grid0.Coords, k0_off2 i = ![512 * (i 1).val, 128] := by decide +kernel

theorem b0 : ∀ a : Fin 2, (![0, 0] : Fin 2 → ℕ) a + S512x128.size a ≤ S512x256.size a := by decide
theorem b1 : ∀ a : Fin 2, (![0, 128] : Fin 2 → ℕ) a + S512x128.size a ≤ S512x256.size a := by decide
theorem i0 : ∀ a : Fin 3, (![0, 0, 0] : Fin 3 → ℕ) a + S1x512x128.size a ≤ S2x512x128.size a := by decide
theorem i1 : ∀ a : Fin 3, (![1, 0, 0] : Fin 3 → ℕ) a + S1x512x128.size a ≤ S2x512x128.size a := by decide
theorem z6 : ∀ a : Fin 2, (![0, 0] : Fin 2 → ℕ) a + S8192x256.size a ≤ S8192x256.size a := by decide
theorem z9 : ∀ a : Fin 3, (![0, 0, 0] : Fin 3 → ℕ) a + S2x512x128.size a ≤ S2x512x128.size a := by decide
theorem r0 : ∀ a : Fin 2, (![7680, 0] : Fin 2 → ℕ) a + S512x128.size a ≤ S8192x256.size a := by decide
theorem r1 : ∀ a : Fin 2, (![7680, 128] : Fin 2 → ℕ) a + S512x128.size a ≤ S8192x256.size a := by decide

/-- The cleared buffers. -/
def zero6 : List (View.Piece (Elt Ideal) S8192x256 .f32) := [⟨Rect.unit (s := S8192x256) ![0, 0] S8192x256.size z6, k0_pay54 (F := Ideal)⟩]
def zero9 : List (View.Piece (Elt Ideal) S2x512x128 .f32) := [⟨Rect.unit (s := S2x512x128) ![0, 0, 0] S2x512x128.size z9, k0_pay55 (F := Ideal)⟩]
def zero10 : List (View.Piece (Elt Ideal) S2x512x128 .f32) := [⟨Rect.unit (s := S2x512x128) ![0, 0, 0] S2x512x128.size z9, k0_pay56 (F := Ideal)⟩]

/-- What a point writes of the key gradient: the first accumulator's two planes side by side. -/
def l7 (S : S2x512x128.Idx → Elt Ideal .f32) : List (View.Piece (Elt Ideal) S512x256 .f32) :=
  [⟨Rect.unit (s := S512x256) ![0, 128] S512x128.size b1, k0_pay2 (plane S _ i1)⟩,
   ⟨Rect.unit (s := S512x256) ![0, 0] S512x128.size b0, k0_pay2 (plane S _ i0)⟩]
/-- What a point writes of the value gradient: the second accumulator's two planes side by side. -/
def l8 (S : S2x512x128.Idx → Elt Ideal .f32) : List (View.Piece (Elt Ideal) S512x256 .bf16) :=
  [⟨Rect.unit (s := S512x256) ![0, 128] S512x128.size b1, k0_pay3 (plane S _ i1)⟩,
   ⟨Rect.unit (s := S512x256) ![0, 0] S512x128.size b0, k0_pay3 (plane S _ i0)⟩]

section

variable (c : Dev nD) (i : grid0.Coords)
  (M2 : Memref sig .tc .vmem S8192x256 .bf16) (h2 : M2.IsWhole) (M3 : Memref sig .tc .vmem S512x256 .bf16) (h3 : M3.IsWhole)
  (M4 : Memref sig .tc .vmem S512x256 .bf16) (h4 : M4.IsWhole) (M5 : Memref sig .tc .vmem S8192x256 .bf16) (h5 : M5.IsWhole)
  (M6 : Memref sig .tc .vmem S8192x256 .f32) (h6 : M6.IsWhole) (M7 : Memref sig .tc .vmem S512x256 .f32) (h7 : M7.IsWhole)
  (M8 : Memref sig .tc .vmem S512x256 .bf16) (h8 : M8.IsWhole) (M9 : Memref sig .tc .vmem S2x512x128 .f32) (h9 : M9.IsWhole)
  (M10 : Memref sig .tc .vmem S2x512x128 .f32) (h10 : M10.IsWhole)
  (g2 : Buf (Elt Ideal) (M2.view.loc (c : Thread nD τ))) (g3 : Buf (Elt Ideal) (M3.view.loc (c : Thread nD τ)))
  (g4 : Buf (Elt Ideal) (M4.view.loc (c : Thread nD τ))) (g5 : Buf (Elt Ideal) (M5.view.loc (c : Thread nD τ)))

variable (f6 : Buf (Elt Ideal) (M6.view.loc (c : Thread nD τ))) (D6 : List (View.Piece (Elt Ideal) S8192x256 .f32))

local notation "X2" => M2.view.read (Elt Ideal) g2
local notation "X3" => M3.view.read (Elt Ideal) g3
local notation "X4" => M4.view.read (Elt Ideal) g4
local notation "X5" => M5.view.read (Elt Ideal) g5
local notation "WD1" => k0_pay60 (box (M2.view.read (Elt Ideal) g2) _ (k0_off1_inb i)) (box (M3.view.read (Elt Ideal) g3) _ b0)
local notation "WD2" => k0_pay60 (box (M2.view.read (Elt Ideal) g2) _ (k0_off2_inb i)) (box (M3.view.read (Elt Ideal) g3) _ b1)
local notation "WR1" => wts512 (box (M2.view.read (Elt Ideal) g2) _ r0) (box (M3.view.read (Elt Ideal) g3) _ b0)
local notation "WR2" => wts512 (box (M2.view.read (Elt Ideal) g2) _ r1) (box (M3.view.read (Elt Ideal) g3) _ b1)

/-- After the diagonal block: of a point that adds to the query gradient, and of one that has cleared it. -/
def d6 : List (View.Piece (Elt Ideal) S8192x256 .f32) :=
  blk6 X5 X3 X4 _ _ (k0_off1_inb i) (k0_off2_inb i) b0 b1 WD1 WD2 M6.view f6 []
def d6' : List (View.Piece (Elt Ideal) S8192x256 .f32) :=
  blk6' X5 X3 X4 _ _ (k0_off1_inb i) (k0_off2_inb i) b0 b1 WD1 WD2 M6.view M6.view.junk zero6
def d9 : List (View.Piece (Elt Ideal) S2x512x128 .f32) :=
  blk9 X2 X5 X4 _ _ (k0_off1_inb i) (k0_off2_inb i) b0 b1 i0 i1 WD1 WD2 M9.view M9.view.junk zero9
def d10 : List (View.Piece (Elt Ideal) S2x512x128 .f32) :=
  blk10 X5 _ _ (k0_off1_inb i) (k0_off2_inb i) i0 i1 WD1 WD2 M10.view M10.view.junk zero10

/-- What the trips write. -/
def tp : List (View.Piece (Elt Ideal) S8192x256 .f32) × List (View.Piece (Elt Ideal) S2x512x128 .f32) × List (View.Piece (Elt Ideal) S2x512x128 .f32) :=
  pb c i M2 h2 M3 h3 M4 h4 M5 h5 M6 h6 M7 h7 M8 h8 M9 h9 M10 h10 g2 g3 g4 g5 (M6.view.writes (Elt Ideal) f6 D6)
    (M9.view.writes (Elt Ideal) M9.view.junk (d9 c i M2 M3 M4 M5 M9 g2 g3 g4 g5)) (M10.view.writes (Elt Ideal) M10.view.junk (d10 c i M2 M3 M5 M10 g2 g3 g5))
    (k0_t1_loop i).trips

/-- After the trips. -/
def t6 : List (View.Piece (Elt Ideal) S8192x256 .f32) := (tp c i M2 h2 M3 h3 M4 h4 M5 h5 M6 h6 M7 h7 M8 h8 M9 h9 M10 h10 g2 g3 g4 g5 f6 D6).1 ++ D6
def t9 : List (View.Piece (Elt Ideal) S2x512x128 .f32) := (tp c i M2 h2 M3 h3 M4 h4 M5 h5 M6 h6 M7 h7 M8 h8 M9 h9 M10 h10 g2 g3 g4 g5 f6 D6).2.1 ++ d9 c i M2 M3 M4 M5 M9 g2 g3 g4 g5
def t10 : List (View.Piece (Elt Ideal) S2x512x128 .f32) := (tp c i M2 h2 M3 h3 M4 h4 M5 h5 M6 h6 M7 h7 M8 h8 M9 h9 M10 h10 g2 g3 g4 g5 f6 D6).2.2 ++ d10 c i M2 M3 M5 M10 g2 g3 g5

/-- After the last odd block. -/
def u6 : List (View.Piece (Elt Ideal) S8192x256 .f32) :=
  blk6' X5 X3 X4 _ _ r0 r1 b0 b1 WR1 WR2 M6.view f6 (t6 c i M2 h2 M3 h3 M4 h4 M5 h5 M6 h6 M7 h7 M8 h8 M9 h9 M10 h10 g2 g3 g4 g5 f6 D6)
def u9 : List (View.Piece (Elt Ideal) S2x512x128 .f32) :=
  blk9 X2 X5 X4 _ _ r0 r1 b0 b1 i0 i1 WR1 WR2 M9.view M9.view.junk (t9 c i M2 h2 M3 h3 M4 h4 M5 h5 M6 h6 M7 h7 M8 h8 M9 h9 M10 h10 g2 g3 g4 g5 f6 D6)
def u10 : List (View.Piece (Elt Ideal) S2x512x128 .f32) :=
  blk10 X5 _ _ r0 r1 i0 i1 WR1 WR2 M10.view M10.view.junk (t10 c i M2 h2 M3 h3 M4 h4 M5 h5 M6 h6 M7 h7 M8 h8 M9 h9 M10 h10 g2 g3 g4 g5 f6 D6)

set_option maxHeartbeats 4000000 in
theorem body00_six (hc1 : ¬ cond1 i) (hc2 : ¬ k0_cond2 i = 1#1) : (body00 c i M2 h2 M3 h3 M4 h4 M5 h5 M6 h6 M7 h7 M8 h8 M9 h9 M10 h10 g2 g3 g4 g5 hc1 hc2 f6).1 = M6.view.writes (Elt Ideal) f6 (t6 c i M2 h2 M3 h3 M4 h4 M5 h5 M6 h6 M7 h7 M8 h8 M9 h9 M10 h10 g2 g3 g4 g5 f6 (d6 c i M2 M3 M4 M5 M6 g2 g3 g4 g5 f6)) := by
  unfold body00; rfl

set_option maxHeartbeats 4000000 in
theorem body00_seven (hc1 : ¬ cond1 i) (hc2 : ¬ k0_cond2 i = 1#1) : (body00 c i M2 h2 M3 h3 M4 h4 M5 h5 M6 h6 M7 h7 M8 h8 M9 h9 M10 h10 g2 g3 g4 g5 hc1 hc2 f6).2.1 = l7 (M9.view.read (Elt Ideal) (M9.view.writes (Elt Ideal) M9.view.junk (t9 c i M2 h2 M3 h3 M4 h4 M5 h5 M6 h6 M7 h7 M8 h8 M9 h9 M10 h10 g2 g3 g4 g5 f6 (d6 c i M2 M3 M4 M5 M6 g2 g3 g4 g5 f6)))) := by
  unfold body00; rfl

set_option maxHeartbeats 4000000 in
theorem body00_eight (hc1 : ¬ cond1 i) (hc2 : ¬ k0_cond2 i = 1#1) : (body00 c i M2 h2 M3 h3 M4 h4 M5 h5 M6 h6 M7 h7 M8 h8 M9 h9 M10 h10 g2 g3 g4 g5 hc1 hc2 f6).2.2.1 = l8 (M10.view.read (Elt Ideal) (M10.view.writes (Elt Ideal) M10.view.junk (t10 c i M2 h2 M3 h3 M4 h4 M5 h5 M6 h6 M7 h7 M8 h8 M9 h9 M10 h10 g2 g3 g4 g5 f6 (d6 c i M2 M3 M4 M5 M6 g2 g3 g4 g5 f6)))) := by
  unfold body00; rfl

set_option maxHeartbeats 4000000 in
theorem body10_six (hc1 : cond1 i) (hc2 : ¬ k0_cond2 i = 1#1) : (body10 c i M2 h2 M3 h3 M4 h4 M5 h5 M6 h6 M7 h7 M8 h8 M9 h9 M10 h10 g2 g3 g4 g5 hc1 hc2).1 = M6.view.writes (Elt Ideal) M6.view.junk (t6 c i M2 h2 M3 h3 M4 h4 M5 h5 M6 h6 M7 h7 M8 h8 M9 h9 M10 h10 g2 g3 g4 g5 M6.view.junk (d6' c i M2 M3 M4 M5 M6 g2 g3 g4 g5)) := by
  unfold body10; rfl

set_option maxHeartbeats 4000000 in
theorem body10_seven (hc1 : cond1 i) (hc2 : ¬ k0_cond2 i = 1#1) : (body10 c i M2 h2 M3 h3 M4 h4 M5 h5 M6 h6 M7 h7 M8 h8 M9 h9 M10 h10 g2 g3 g4 g5 hc1 hc2).2.1 = l7 (M9.view.read (Elt Ideal) (M9.view.writes (Elt Ideal) M9.view.junk (t9 c i M2 h2 M3 h3 M4 h4 M5 h5 M6 h6 M7 h7 M8 h8 M9 h9 M10 h10 g2 g3 g4 g5 M6.view.junk (d6' c i M2 M3 M4 M5 M6 g2 g3 g4 g5)))) := by
  unfold body10; rfl

set_option maxHeartbeats 4000000 in
theorem body10_eight (hc1 : cond1 i) (hc2 : ¬ k0_cond2 i = 1#1) : (body10 c i M2 h2 M3 h3 M4 h4 M5 h5 M6 h6 M7 h7 M8 h8 M9 h9 M10 h10 g2 g3 g4 g5 hc1 hc2).2.2.1 = l8 (M10.view.read (Elt Ideal) (M10.view.writes (Elt Ideal) M10.view.junk (t10 c i M2 h2 M3 h3 M4 h4 M5 h5 M6 h6 M7 h7 M8 h8 M9 h9 M10 h10 g2 g3 g4 g5 M6.view.junk (d6' c i M2 M3 M4 M5 M6 g2 g3 g4 g5)))) := by
  unfold body10; rfl

set_option maxHeartbeats 4000000 in
theorem body01_six (hc1 : ¬ cond1 i) (hc2 : k0_cond2 i = 1#1) : (body01 c i M2 h2 M3 h3 M4 h4 M5 h5 M6 h6 M7 h7 M8 h8 M9 h9 M10 h10 g2 g3 g4 g5 hc1 hc2 f6).1 = M6.view.writes (Elt Ideal) f6 (u6 c i M2 h2 M3 h3 M4 h4 M5 h5 M6 h6 M7 h7 M8 h8 M9 h9 M10 h10 g2 g3 g4 g5 f6 (d6 c i M2 M3 M4 M5 M6 g2 g3 g4 g5 f6)) := by
  unfold body01; rfl

set_option maxHeartbeats 4000000 in
theorem body01_seven (hc1 : ¬ cond1 i) (hc2 : k0_cond2 i = 1#1) : (body01 c i M2 h2 M3 h3 M4 h4 M5 h5 M6 h6 M7 h7 M8 h8 M9 h9 M10 h10 g2 g3 g4 g5 hc1 hc2 f6).2.1 = l7 (M9.view.read (Elt Ideal) (M9.view.writes (Elt Ideal) M9.view.junk (u9 c i M2 h2 M3 h3 M4 h4 M5 h5 M6 h6 M7 h7 M8 h8 M9 h9 M10 h10 g2 g3 g4 g5 f6 (d6 c i M2 M3 M4 M5 M6 g2 g3 g4 g5 f6)))) := by
  unfold body01; rfl

set_option maxHeartbeats 4000000 in
theorem body01_eight (hc1 : ¬ cond1 i) (hc2 : k0_cond2 i = 1#1) : (body01 c i M2 h2 M3 h3 M4 h4 M5 h5 M6 h6 M7 h7 M8 h8 M9 h9 M10 h10 g2 g3 g4 g5 hc1 hc2 f6).2.2.1 = l8 (M10.view.read (Elt Ideal) (M10.view.writes (Elt Ideal) M10.view.junk (u10 c i M2 h2 M3 h3 M4 h4 M5 h5 M6 h6 M7 h7 M8 h8 M9 h9 M10 h10 g2 g3 g4 g5 f6 (d6 c i M2 M3 M4 M5 M6 g2 g3 g4 g5 f6)))) := by
  unfold body01; rfl

set_option maxHeartbeats 4000000 in
theorem body11_six (hc1 : cond1 i) (hc2 : k0_cond2 i = 1#1) : (body11 c i M2 h2 M3 h3 M4 h4 M5 h5 M6 h6 M7 h7 M8 h8 M9 h9 M10 h10 g2 g3 g4 g5 hc1 hc2).1 = M6.view.writes (Elt Ideal) M6.view.junk (u6 c i M2 h2 M3 h3 M4 h4 M5 h5 M6 h6 M7 h7 M8 h8 M9 h9 M10 h10 g2 g3 g4 g5 M6.view.junk (d6' c i M2 M3 M4 M5 M6 g2 g3 g4 g5)) := by
  unfold body11; rfl

set_option maxHeartbeats 4000000 in
theorem body11_seven (hc1 : cond1 i) (hc2 : k0_cond2 i = 1#1) : (body11 c i M2 h2 M3 h3 M4 h4 M5 h5 M6 h6 M7 h7 M8 h8 M9 h9 M10 h10 g2 g3 g4 g5 hc1 hc2).2.1 = l7 (M9.view.read (Elt Ideal) (M9.view.writes (Elt Ideal) M9.view.junk (u9 c i M2 h2 M3 h3 M4 h4 M5 h5 M6 h6 M7 h7 M8 h8 M9 h9 M10 h10 g2 g3 g4 g5 M6.view.junk (d6' c i M2 M3 M4 M5 M6 g2 g3 g4 g5)))) := by
  unfold body11; rfl

set_option maxHeartbeats 4000000 in
theorem body11_eight (hc1 : cond1 i) (hc2 : k0_cond2 i = 1#1) : (body11 c i M2 h2 M3 h3 M4 h4 M5 h5 M6 h6 M7 h7 M8 h8 M9 h9 M10 h10 g2 g3 g4 g5 hc1 hc2).2.2.1 = l8 (M10.view.read (Elt Ideal) (M10.view.writes (Elt Ideal) M10.view.junk (u10 c i M2 h2 M3 h3 M4 h4 M5 h5 M6 h6 M7 h7 M8 h8 M9 h9 M10 h10 g2 g3 g4 g5 M6.view.junk (d6' c i M2 M3 M4 M5 M6 g2 g3 g4 g5)))) := by
  unfold body11; rfl

end

end Cert.Proof.Fox

end
-- ==== Proof.PointStep.lean ====
/-
  One point of the grid, over the reals: all it does is one step, from the diagonal block's rows to the last.
-/
module

public import proofs.«01_k».proof.Proof.BodyEq

@[expose] public section

noncomputable section

namespace Cert.Proof.Fox

open Cert.KernelIdeal Cert.KernelIdeal.Gen
open Idealize.ShloMosaic
open Idealize.ShloMosaic.TcCoe

theorem trips_eq : ∀ i : grid0.Coords, (k0_t1_loop i).trips = (15 - (i 1).val) / 2 := by decide +kernel
theorem cond2_iff : ∀ i : grid0.Coords, k0_cond2 i = 1#1 ↔ (i 1).val % 2 = 0 := by decide +kernel
theorem i1_lt : ∀ i : grid0.Coords, (i 1).val < 16 := by decide +kernel

/-! ## The cleared buffers hold zeros -/

theorem Step.trans' {x2 x5 : S8192x256.Idx → EReal} {x3 x4 : S512x256.Idx → EReal} {j r r' n n' : ℕ}
    {S6 S6' S6'' : S8192x256.Idx → EReal} {S9 S9' S9'' S10 S10' S10'' : S2x512x128.Idx → EReal}
    (h : Step x2 x5 x3 x4 j r n S6 S6' S9 S9' S10 S10') (e : r' = r + n) (h' : Step x2 x5 x3 x4 j r' n' S6' S6'' S9' S9'' S10' S10'') :
    Step x2 x5 x3 x4 j r (n + n') S6 S6'' S9 S9'' S10 S10'' := by
  subst e; exact h.trans h'

section Zero
variable {sg : RefSig} {κ' : Kind} {sp : Space}

theorem read_zero6 (v : View sg κ' sp S8192x256 .f32) (f : v.ty.Contents (Elt Ideal)) :
    v.read (Elt Ideal) (v.writes (Elt Ideal) f zero6) = fun _ => (0 : EReal) := by
  funext y
  refine (View.read_writes_cons_unit_of_mem v f z6 _ _ _ y rfl (Fin.forall_fin_two.2 ⟨(Nat.zero_add _).symm, (Nat.zero_add _).symm⟩)).trans ?_
  pointwise [k0_pay54]

theorem read_zero9 (v : View sg κ' sp S2x512x128 .f32) (f : v.ty.Contents (Elt Ideal)) :
    v.read (Elt Ideal) (v.writes (Elt Ideal) f zero9) = fun _ => (0 : EReal) := by
  funext y
  refine (View.read_writes_cons_unit_of_mem v f z9 _ _ _ y rfl (fun a => match a with
      | ⟨0, _⟩ => (Nat.zero_add _).symm
      | ⟨1, _⟩ => (Nat.zero_add _).symm
      | ⟨2, _⟩ => (Nat.zero_add _).symm)).trans ?_
  pointwise [k0_pay55]

theorem read_zero10 (v : View sg κ' sp S2x512x128 .f32) (f : v.ty.Contents (Elt Ideal)) :
    v.read (Elt Ideal) (v.writes (Elt Ideal) f zero10) = fun _ => (0 : EReal) := by
  funext y
  refine (View.read_writes_cons_unit_of_mem v f z9 _ _ _ y rfl (fun a => match a with
      | ⟨0, _⟩ => (Nat.zero_add _).symm
      | ⟨1, _⟩ => (Nat.zero_add _).symm
      | ⟨2, _⟩ => (Nat.zero_add _).symm)).trans ?_
  pointwise [k0_pay56]

end Zero

section

variable (c : Dev nD) (i : grid0.Coords)
  (M2 : Memref sig .tc .vmem S8192x256 .bf16) (h2 : M2.IsWhole) (M3 : Memref sig .tc .vmem S512x256 .bf16) (h3 : M3.IsWhole)
  (M4 : Memref sig .tc .vmem S512x256 .bf16) (h4 : M4.IsWhole) (M5 : Memref sig .tc .vmem S8192x256 .bf16) (h5 : M5.IsWhole)
  (M6 : Memref sig .tc .vmem S8192x256 .f32) (h6 : M6.IsWhole) (M7 : Memref sig .tc .vmem S512x256 .f32) (h7 : M7.IsWhole)
  (M8 : Memref sig .tc .vmem S512x256 .bf16) (h8 : M8.IsWhole) (M9 : Memref sig .tc .vmem S2x512x128 .f32) (h9 : M9.IsWhole)
  (M10 : Memref sig .tc .vmem S2x512x128 .f32) (h10 : M10.IsWhole)
  (g2 : Buf (Elt Ideal) (M2.view.loc (c : Thread nD τ))) (g3 : Buf (Elt Ideal) (M3.view.loc (c : Thread nD τ)))
  (g4 : Buf (Elt Ideal) (M4.view.loc (c : Thread nD τ))) (g5 : Buf (Elt Ideal) (M5.view.loc (c : Thread nD τ)))

variable (G6 : Buf (Elt Ideal) (M6.view.loc (c : Thread nD τ))) (G9 : Buf (Elt Ideal) (M9.view.loc (c : Thread nD τ)))
  (G10 : Buf (Elt Ideal) (M10.view.loc (c : Thread nD τ)))

/-- The trips before trip `n` are a step of `1024 n` rows. -/
theorem pb_step (n : ℕ) (hn : n ≤ (k0_t1_loop i).trips) :
    Step (M2.view.read (Elt Ideal) g2) (M5.view.read (Elt Ideal) g5) (M3.view.read (Elt Ideal) g3) (M4.view.read (Elt Ideal) g4) (i 1).val (512 * (i 1).val + 512) (1024 * n) (M6.view.read (Elt Ideal) G6) (M6.view.read (Elt Ideal) (M6.view.writes (Elt Ideal) G6 ((pb (F := Ideal) c i M2 h2 M3 h3 M4 h4 M5 h5 M6 h6 M7 h7 M8 h8 M9 h9 M10 h10 g2 g3 g4 g5 G6 G9 G10) n).1))
      (M9.view.read (Elt Ideal) G9) (M9.view.read (Elt Ideal) (M9.view.writes (Elt Ideal) G9 ((pb (F := Ideal) c i M2 h2 M3 h3 M4 h4 M5 h5 M6 h6 M7 h7 M8 h8 M9 h9 M10 h10 g2 g3 g4 g5 G6 G9 G10) n).2.1))
      (M10.view.read (Elt Ideal) G10) (M10.view.read (Elt Ideal) (M10.view.writes (Elt Ideal) G10 ((pb (F := Ideal) c i M2 h2 M3 h3 M4 h4 M5 h5 M6 h6 M7 h7 M8 h8 M9 h9 M10 h10 g2 g3 g4 g5 G6 G9 G10) n).2.2)) := by
  induction n with
  | zero => exact Step.nil _ _ _ _
  | succ n ih =>
    have hlt : n < (k0_t1_loop i).trips := hn
    have e := pb_succ c i M2 h2 M3 h3 M4 h4 M5 h5 M6 h6 M7 h7 M8 h8 M9 h9 M10 h10 g2 g3 g4 g5 G6 G9 G10 ⟨n, hlt⟩
    have s := trip_step c i M2 h2 M3 h3 M4 h4 M5 h5 M6 h6 M7 h7 M8 h8 M9 h9 M10 h10 g2 g3 g4 g5 ⟨n, hlt⟩
      (M6.view.writes (Elt Ideal) G6 ((pb (F := Ideal) c i M2 h2 M3 h3 M4 h4 M5 h5 M6 h6 M7 h7 M8 h8 M9 h9 M10 h10 g2 g3 g4 g5 G6 G9 G10) n).1) (M9.view.writes (Elt Ideal) G9 ((pb (F := Ideal) c i M2 h2 M3 h3 M4 h4 M5 h5 M6 h6 M7 h7 M8 h8 M9 h9 M10 h10 g2 g3 g4 g5 G6 G9 G10) n).2.1) (M10.view.writes (Elt Ideal) G10 ((pb (F := Ideal) c i M2 h2 M3 h3 M4 h4 M5 h5 M6 h6 M7 h7 M8 h8 M9 h9 M10 h10 g2 g3 g4 g5 G6 G9 G10) n).2.2)
      (BitVec.ofNat 32 (i 1).val) 0#32 0#32 0#32 0#32 0#1 (k0_off3_inb i ⟨n, hlt⟩) (k0_off4_inb i ⟨n, hlt⟩) b0 b1 i0 i1
    rw [show 512 * (i 1).val + 1024 * n + 512 = 512 * (i 1).val + 512 + 1024 * n by omega] at s
    refine Step.congr ?_ ?_ ?_ ((ih (le_of_lt hlt)).trans s)
    · rw [e]; exact congrArg _ (View.writes_append _ _ _ _)
    · rw [e]; exact congrArg _ (View.writes_append _ _ _ _)
    · rw [e]; exact congrArg _ (View.writes_append _ _ _ _)

variable (f6 : Buf (Elt Ideal) (M6.view.loc (c : Thread nD τ))) (D6 : List (View.Piece (Elt Ideal) S8192x256 .f32))

/-- The diagonal block of a point that adds to the query gradient. -/
theorem diag_step : Step (M2.view.read (Elt Ideal) g2) (M5.view.read (Elt Ideal) g5) (M3.view.read (Elt Ideal) g3) (M4.view.read (Elt Ideal) g4) (i 1).val (512 * (i 1).val) 512 (M6.view.read (Elt Ideal) f6)
    (M6.view.read (Elt Ideal) (M6.view.writes (Elt Ideal) f6 (d6 c i M2 M3 M4 M5 M6 g2 g3 g4 g5 f6)))
    (fun _ => 0) (M9.view.read (Elt Ideal) (M9.view.writes (Elt Ideal) M9.view.junk (d9 c i M2 M3 M4 M5 M9 g2 g3 g4 g5)))
    (fun _ => 0) (M10.view.read (Elt Ideal) (M10.view.writes (Elt Ideal) M10.view.junk (d10 c i M2 M3 M5 M10 g2 g3 g5))) := by
  have h := blk_step' (M2.view.read (Elt Ideal) g2) (M5.view.read (Elt Ideal) g5) (M3.view.read (Elt Ideal) g3) (M4.view.read (Elt Ideal) g4)
    (k0_off1_inb i) (k0_off2_inb i) b0 b1 i0 i1 M9.view M9.view.junk zero9 M6.view f6 [] (k0_off1_eq i) (k0_off2_eq i)
    (fun a s => wtsDiag_box (k0_off1_eq i) rfl b0 rfl (k0_off1_inb i) a s) (fun a s => wtsDiag_box (k0_off2_eq i) rfl b1 rfl (k0_off2_inb i) a s)
    M10.view M10.view.junk zero10
  rw [read_zero9, read_zero10] at h
  exact Step.congr (blk6_read _ _ _ _ _ _ _ _ _ _ (k0_off1_eq i) (k0_off2_eq i)) rfl rfl h

/-- The diagonal block of a point that has cleared the query gradient. -/
theorem diag_step' : Step (M2.view.read (Elt Ideal) g2) (M5.view.read (Elt Ideal) g5) (M3.view.read (Elt Ideal) g3) (M4.view.read (Elt Ideal) g4) (i 1).val (512 * (i 1).val) 512 (fun _ => 0)
    (M6.view.read (Elt Ideal) (M6.view.writes (Elt Ideal) M6.view.junk (d6' c i M2 M3 M4 M5 M6 g2 g3 g4 g5)))
    (fun _ => 0) (M9.view.read (Elt Ideal) (M9.view.writes (Elt Ideal) M9.view.junk (d9 c i M2 M3 M4 M5 M9 g2 g3 g4 g5)))
    (fun _ => 0) (M10.view.read (Elt Ideal) (M10.view.writes (Elt Ideal) M10.view.junk (d10 c i M2 M3 M5 M10 g2 g3 g5))) := by
  have h := blk_step' (M2.view.read (Elt Ideal) g2) (M5.view.read (Elt Ideal) g5) (M3.view.read (Elt Ideal) g3) (M4.view.read (Elt Ideal) g4)
    (k0_off1_inb i) (k0_off2_inb i) b0 b1 i0 i1 M9.view M9.view.junk zero9 M6.view M6.view.junk zero6 (k0_off1_eq i) (k0_off2_eq i)
    (fun a s => wtsDiag_box (k0_off1_eq i) rfl b0 rfl (k0_off1_inb i) a s) (fun a s => wtsDiag_box (k0_off2_eq i) rfl b1 rfl (k0_off2_inb i) a s)
    M10.view M10.view.junk zero10
  rw [read_zero6, read_zero9, read_zero10] at h
  exact h

variable {S6 : S8192x256.Idx → EReal}
  (hd : Step (M2.view.read (Elt Ideal) g2) (M5.view.read (Elt Ideal) g5) (M3.view.read (Elt Ideal) g3) (M4.view.read (Elt Ideal) g4) (i 1).val (512 * (i 1).val) 512 S6 (M6.view.read (Elt Ideal) (M6.view.writes (Elt Ideal) f6 D6))
    (fun _ => 0) (M9.view.read (Elt Ideal) (M9.view.writes (Elt Ideal) M9.view.junk (d9 c i M2 M3 M4 M5 M9 g2 g3 g4 g5)))
    (fun _ => 0) (M10.view.read (Elt Ideal) (M10.view.writes (Elt Ideal) M10.view.junk (d10 c i M2 M3 M5 M10 g2 g3 g5))))

include hd in
/-- Up to the trips' end. -/
theorem t_step : Step (M2.view.read (Elt Ideal) g2) (M5.view.read (Elt Ideal) g5) (M3.view.read (Elt Ideal) g3) (M4.view.read (Elt Ideal) g4) (i 1).val (512 * (i 1).val) (512 + 1024 * (k0_t1_loop i).trips) S6 (M6.view.read (Elt Ideal) (M6.view.writes (Elt Ideal) f6 (t6 c i M2 h2 M3 h3 M4 h4 M5 h5 M6 h6 M7 h7 M8 h8 M9 h9 M10 h10 g2 g3 g4 g5 f6 D6)))
    (fun _ => 0) (M9.view.read (Elt Ideal) (M9.view.writes (Elt Ideal) M9.view.junk (t9 c i M2 h2 M3 h3 M4 h4 M5 h5 M6 h6 M7 h7 M8 h8 M9 h9 M10 h10 g2 g3 g4 g5 f6 D6)))
    (fun _ => 0) (M10.view.read (Elt Ideal) (M10.view.writes (Elt Ideal) M10.view.junk (t10 c i M2 h2 M3 h3 M4 h4 M5 h5 M6 h6 M7 h7 M8 h8 M9 h9 M10 h10 g2 g3 g4 g5 f6 D6))) := by
  refine Step.congr ?_ ?_ ?_ (hd.trans (pb_step c i M2 h2 M3 h3 M4 h4 M5 h5 M6 h6 M7 h7 M8 h8 M9 h9 M10 h10 g2 g3 g4 g5 _ _ _ _ le_rfl))
  · exact congrArg _ (View.writes_append _ _ _ _)
  · exact congrArg _ (View.writes_append _ _ _ _)
  · exact congrArg _ (View.writes_append _ _ _ _)

include hd in
/-- Up to the last row, where the number of blocks past the diagonal is even. -/
theorem t_step_all (hc2 : ¬ k0_cond2 i = 1#1) : Step (M2.view.read (Elt Ideal) g2) (M5.view.read (Elt Ideal) g5) (M3.view.read (Elt Ideal) g3) (M4.view.read (Elt Ideal) g4) (i 1).val (512 * (i 1).val) (8192 - 512 * (i 1).val) S6 (M6.view.read (Elt Ideal) (M6.view.writes (Elt Ideal) f6 (t6 c i M2 h2 M3 h3 M4 h4 M5 h5 M6 h6 M7 h7 M8 h8 M9 h9 M10 h10 g2 g3 g4 g5 f6 D6)))
    (fun _ => 0) (M9.view.read (Elt Ideal) (M9.view.writes (Elt Ideal) M9.view.junk (t9 c i M2 h2 M3 h3 M4 h4 M5 h5 M6 h6 M7 h7 M8 h8 M9 h9 M10 h10 g2 g3 g4 g5 f6 D6)))
    (fun _ => 0) (M10.view.read (Elt Ideal) (M10.view.writes (Elt Ideal) M10.view.junk (t10 c i M2 h2 M3 h3 M4 h4 M5 h5 M6 h6 M7 h7 M8 h8 M9 h9 M10 h10 g2 g3 g4 g5 f6 D6))) := by
  have h := t_step c i M2 h2 M3 h3 M4 h4 M5 h5 M6 h6 M7 h7 M8 h8 M9 h9 M10 h10 g2 g3 g4 g5 f6 D6 hd
  rw [cond2_iff] at hc2
  have hj := i1_lt i
  rw [trips_eq, show 512 + 1024 * ((15 - (i 1).val) / 2) = 8192 - 512 * (i 1).val by omega] at h
  exact h

include hd in
/-- Up to the last row, where it is odd. -/
theorem u_step_all (hc2 : k0_cond2 i = 1#1) : Step (M2.view.read (Elt Ideal) g2) (M5.view.read (Elt Ideal) g5) (M3.view.read (Elt Ideal) g3) (M4.view.read (Elt Ideal) g4) (i 1).val (512 * (i 1).val) (8192 - 512 * (i 1).val) S6 (M6.view.read (Elt Ideal) (M6.view.writes (Elt Ideal) f6 (u6 c i M2 h2 M3 h3 M4 h4 M5 h5 M6 h6 M7 h7 M8 h8 M9 h9 M10 h10 g2 g3 g4 g5 f6 D6)))
    (fun _ => 0) (M9.view.read (Elt Ideal) (M9.view.writes (Elt Ideal) M9.view.junk (u9 c i M2 h2 M3 h3 M4 h4 M5 h5 M6 h6 M7 h7 M8 h8 M9 h9 M10 h10 g2 g3 g4 g5 f6 D6)))
    (fun _ => 0) (M10.view.read (Elt Ideal) (M10.view.writes (Elt Ideal) M10.view.junk (u10 c i M2 h2 M3 h3 M4 h4 M5 h5 M6 h6 M7 h7 M8 h8 M9 h9 M10 h10 g2 g3 g4 g5 f6 D6))) := by
  have h := t_step c i M2 h2 M3 h3 M4 h4 M5 h5 M6 h6 M7 h7 M8 h8 M9 h9 M10 h10 g2 g3 g4 g5 f6 D6 hd
  rw [cond2_iff] at hc2
  have hj := i1_lt i
  have hr : 512 * (i 1).val + 512 ≤ 7680 := by omega
  have h' := blk_step' (M2.view.read (Elt Ideal) g2) (M5.view.read (Elt Ideal) g5) (M3.view.read (Elt Ideal) g3) (M4.view.read (Elt Ideal) g4)
    r0 r1 b0 b1 i0 i1 M9.view M9.view.junk (t9 c i M2 h2 M3 h3 M4 h4 M5 h5 M6 h6 M7 h7 M8 h8 M9 h9 M10 h10 g2 g3 g4 g5 f6 D6) M6.view f6 (t6 c i M2 h2 M3 h3 M4 h4 M5 h5 M6 h6 M7 h7 M8 h8 M9 h9 M10 h10 g2 g3 g4 g5 f6 D6) rfl rfl
    (fun a s => wts512_box rfl rfl b0 hr r0 a s) (fun a s => wts512_box rfl rfl b1 hr r1 a s)
    M10.view M10.view.junk (t10 c i M2 h2 M3 h3 M4 h4 M5 h5 M6 h6 M7 h7 M8 h8 M9 h9 M10 h10 g2 g3 g4 g5 f6 D6)
  rw [trips_eq] at h
  have h2' := Step.trans' h (show 7680 = 512 * (i 1).val + (512 + 1024 * ((15 - (i 1).val) / 2)) by omega) h'
  rw [show 512 + 1024 * ((15 - (i 1).val) / 2) + 512 = 8192 - 512 * (i 1).val by omega] at h2'
  exact h2'

/-- All a point does. -/
theorem out_step : ∃ S9 S10 : S2x512x128.Idx → EReal,
    Step (M2.view.read (Elt Ideal) g2) (M5.view.read (Elt Ideal) g5) (M3.view.read (Elt Ideal) g3) (M4.view.read (Elt Ideal) g4) (i 1).val (512 * (i 1).val) (8192 - 512 * (i 1).val) (if cond1 i then fun _ => 0 else M6.view.read (Elt Ideal) f6)
      (M6.view.read (Elt Ideal) (out c i M2 h2 M3 h3 M4 h4 M5 h5 M6 h6 M7 h7 M8 h8 M9 h9 M10 h10 g2 g3 g4 g5 f6).1) (fun _ => 0) S9 (fun _ => 0) S10
    ∧ (out c i M2 h2 M3 h3 M4 h4 M5 h5 M6 h6 M7 h7 M8 h8 M9 h9 M10 h10 g2 g3 g4 g5 f6).2.1 = l7 S9 ∧ (out c i M2 h2 M3 h3 M4 h4 M5 h5 M6 h6 M7 h7 M8 h8 M9 h9 M10 h10 g2 g3 g4 g5 f6).2.2 = l8 S10 := by
  unfold out
  by_cases hc1 : cond1 i
  · by_cases hc2 : k0_cond2 i = 1#1
    · simp only [dif_pos hc1, dif_pos hc2, if_pos hc1]
      refine ⟨_, _, ?_, body11_seven c i M2 h2 M3 h3 M4 h4 M5 h5 M6 h6 M7 h7 M8 h8 M9 h9 M10 h10 g2 g3 g4 g5 hc1 hc2, body11_eight c i M2 h2 M3 h3 M4 h4 M5 h5 M6 h6 M7 h7 M8 h8 M9 h9 M10 h10 g2 g3 g4 g5 hc1 hc2⟩
      rw [body11_six]
      exact u_step_all c i M2 h2 M3 h3 M4 h4 M5 h5 M6 h6 M7 h7 M8 h8 M9 h9 M10 h10 g2 g3 g4 g5 M6.view.junk (d6' c i M2 M3 M4 M5 M6 g2 g3 g4 g5) (diag_step' c i M2 M3 M4 M5 M6 M9 M10 g2 g3 g4 g5) hc2
    · simp only [dif_pos hc1, dif_neg hc2, if_pos hc1]
      refine ⟨_, _, ?_, body10_seven c i M2 h2 M3 h3 M4 h4 M5 h5 M6 h6 M7 h7 M8 h8 M9 h9 M10 h10 g2 g3 g4 g5 hc1 hc2, body10_eight c i M2 h2 M3 h3 M4 h4 M5 h5 M6 h6 M7 h7 M8 h8 M9 h9 M10 h10 g2 g3 g4 g5 hc1 hc2⟩
      rw [body10_six]
      exact t_step_all c i M2 h2 M3 h3 M4 h4 M5 h5 M6 h6 M7 h7 M8 h8 M9 h9 M10 h10 g2 g3 g4 g5 M6.view.junk (d6' c i M2 M3 M4 M5 M6 g2 g3 g4 g5) (diag_step' c i M2 M3 M4 M5 M6 M9 M10 g2 g3 g4 g5) hc2
  · by_cases hc2 : k0_cond2 i = 1#1
    · simp only [dif_neg hc1, dif_pos hc2, if_neg hc1]
      refine ⟨_, _, ?_, body01_seven c i M2 h2 M3 h3 M4 h4 M5 h5 M6 h6 M7 h7 M8 h8 M9 h9 M10 h10 g2 g3 g4 g5 f6 hc1 hc2, body01_eight c i M2 h2 M3 h3 M4 h4 M5 h5 M6 h6 M7 h7 M8 h8 M9 h9 M10 h10 g2 g3 g4 g5 f6 hc1 hc2⟩
      rw [body01_six]
      exact u_step_all c i M2 h2 M3 h3 M4 h4 M5 h5 M6 h6 M7 h7 M8 h8 M9 h9 M10 h10 g2 g3 g4 g5 f6 (d6 c i M2 M3 M4 M5 M6 g2 g3 g4 g5 f6) (diag_step c i M2 M3 M4 M5 M6 M9 M10 g2 g3 g4 g5 f6) hc2
    · simp only [dif_neg hc1, dif_neg hc2, if_neg hc1]
      refine ⟨_, _, ?_, body00_seven c i M2 h2 M3 h3 M4 h4 M5 h5 M6 h6 M7 h7 M8 h8 M9 h9 M10 h10 g2 g3 g4 g5 f6 hc1 hc2, body00_eight c i M2 h2 M3 h3 M4 h4 M5 h5 M6 h6 M7 h7 M8 h8 M9 h9 M10 h10 g2 g3 g4 g5 f6 hc1 hc2⟩
      rw [body00_six]
      exact t_step_all c i M2 h2 M3 h3 M4 h4 M5 h5 M6 h6 M7 h7 M8 h8 M9 h9 M10 h10 g2 g3 g4 g5 f6 (d6 c i M2 M3 M4 M5 M6 g2 g3 g4 g5 f6) (diag_step c i M2 M3 M4 M5 M6 M9 M10 g2 g3 g4 g5 f6) hc2

end

end Cert.Proof.Fox

end
-- ==== Proof.PointVal.lean ====
/-
  What one point of the grid leaves in its three result windows, read at an index: sums over all the key rows of the
  block, or over all the query rows, of the weights and of the score gradients.
-/
module

public import proofs.«01_k».proof.Proof.PointStep
public import proofs.«01_k».proof.Proof.Run

@[expose] public section

noncomputable section

namespace Cert.Proof.Fox

open Cert.KernelIdeal Cert.KernelIdeal.Gen
open Idealize.ShloMosaic
open Idealize.ShloMosaic.TcCoe

/-- A sum over the rows from `r` on is a sum over all rows, where the rows before `r` count nothing. -/
theorem sum_tail {r n N : ℕ} (e : r + n = N) (g : ℕ → EReal) (h0 : ∀ t, t < r → g t = 0) :
    ∑ a ∈ Finset.range n, g (r + a) = ∑ t : Fin N, g t := by
  subst e
  rw [Fin.sum_univ_eq_sum_range g (r + n), Finset.sum_range_add, Finset.sum_eq_zero (s := Finset.range r) (fun t ht => h0 t (Finset.mem_range.mp ht)), zero_add]

theorem pay2_apply (x : Vec Ideal S1x512x128 .f32) (s : Fin 512) (d : Fin 128) : k0_pay2 x (ix2 s d) = x (ix3 0 s d) := by
  pointwise [k0_pay2]
theorem pay3_apply (x : Vec Ideal S1x512x128 .f32) (s : Fin 512) (d : Fin 128) : k0_pay3 x (ix2 s d) = x (ix3 0 s d) := by
  pointwise [k0_pay3]

theorem plane0 (S : S2x512x128.Idx → Elt Ideal .f32) (s : Fin 512) (d : Fin 128) : plane S _ i0 (ix3 0 s d) = S (ix3 0 s d) :=
  congrArg S (funext fun a => match a with
    | ⟨0, _⟩ => Fin.ext rfl
    | ⟨1, _⟩ => Fin.ext (by show 0 + 1 * s.val = s.val; omega)
    | ⟨2, _⟩ => Fin.ext (by show 0 + 1 * d.val = d.val; omega))
theorem plane1 (S : S2x512x128.Idx → Elt Ideal .f32) (s : Fin 512) (d : Fin 128) : plane S _ i1 (ix3 0 s d) = S (ix3 1 s d) :=
  congrArg S (funext fun a => match a with
    | ⟨0, _⟩ => Fin.ext rfl
    | ⟨1, _⟩ => Fin.ext (by show 0 + 1 * s.val = s.val; omega)
    | ⟨2, _⟩ => Fin.ext (by show 0 + 1 * d.val = d.val; omega))

/-- The lane `c` of a pair's window, as a head of the pair. -/
def hd (c : Fin 256) : Fin 2 := ⟨c.val / 128, by omega⟩
/-- … and as a lane of that head. -/
def ln (c : Fin 256) : Fin 128 := ⟨c.val % 128, by omega⟩

theorem l7_read (M : Memref sig .tc .vmem S512x256 .f32) (f) (S : S2x512x128.Idx → EReal) (s : Fin 512) (c : Fin 256) :
    (M.view.read (Elt Ideal) (M.view.writes (Elt Ideal) f (l7 S)) (ix2 s c) : EReal) = S (ix3 (hd c) s (ln c)) := by
  by_cases hc : c.val < 128
  · refine (View.read_writes_cons_unit_of_not_mem M.view f b1 _ _ _ rfl 1 (Or.inl (show c.val < 128 from hc))).trans
      ((View.read_writes_cons_unit_of_mem M.view f b0 _ _ _ (ix2 s ⟨c.val, hc⟩) rfl (fun a => match a with
        | ⟨0, _⟩ => by show s.val = 0 + s.val; omega
        | ⟨1, _⟩ => by show c.val = 0 + c.val; omega)).trans ?_)
    rw [pay2_apply, plane0]
    congr 2
    · exact Fin.ext (by show 0 = c.val / 128; omega)
    · exact Fin.ext (by show c.val = c.val % 128; omega)
  · refine ((View.read_writes_cons_unit_of_mem M.view f b1 _ _ _ (ix2 s ⟨c.val - 128, by omega⟩) rfl (fun a => match a with
        | ⟨0, _⟩ => by show s.val = 0 + s.val; omega
        | ⟨1, _⟩ => by show c.val = 128 + (c.val - 128); omega)).trans ?_)
    rw [pay2_apply, plane1]
    congr 2
    · exact Fin.ext (by show 1 = c.val / 128; omega)
    · exact Fin.ext (by show c.val - 128 = c.val % 128; omega)

theorem l8_read (M : Memref sig .tc .vmem S512x256 .bf16) (f) (S : S2x512x128.Idx → EReal) (s : Fin 512) (c : Fin 256) :
    (M.view.read (Elt Ideal) (M.view.writes (Elt Ideal) f (l8 S)) (ix2 s c) : EReal) = S (ix3 (hd c) s (ln c)) := by
  by_cases hc : c.val < 128
  · refine (View.read_writes_cons_unit_of_not_mem M.view f b1 _ _ _ rfl 1 (Or.inl (show c.val < 128 from hc))).trans
      ((View.read_writes_cons_unit_of_mem M.view f b0 _ _ _ (ix2 s ⟨c.val, hc⟩) rfl (fun a => match a with
        | ⟨0, _⟩ => by show s.val = 0 + s.val; omega
        | ⟨1, _⟩ => by show c.val = 0 + c.val; omega)).trans ?_)
    rw [pay3_apply, plane0]
    congr 2
    · exact Fin.ext (by show 0 = c.val / 128; omega)
    · exact Fin.ext (by show c.val = c.val % 128; omega)
  · refine ((View.read_writes_cons_unit_of_mem M.view f b1 _ _ _ (ix2 s ⟨c.val - 128, by omega⟩) rfl (fun a => match a with
        | ⟨0, _⟩ => by show s.val = 0 + s.val; omega
        | ⟨1, _⟩ => by show c.val = 128 + (c.val - 128); omega)).trans ?_)
    rw [pay3_apply, plane1]
    congr 2
    · exact Fin.ext (by show 1 = c.val / 128; omega)
    · exact Fin.ext (by show c.val - 128 = c.val % 128; omega)

section Sums
variable {x2 x5 : S8192x256.Idx → EReal} {x3 x4 : S512x256.Idx → EReal} {j : ℕ}

theorem wt_early (o : ℕ) {t s : ℕ} (h : t < 512 * j) : wt x2 x3 j o t s = 0 := if_neg (by omega)
theorem dwt_early (o : ℕ) {t s : ℕ} (h : t < 512 * j) : dwt x2 x5 x3 x4 j o t s = 0 := by
  unfold dwt; rw [wt_early o h, zero_mul]

variable {S6 S6' : S8192x256.Idx → EReal} {S9 S10 : S2x512x128.Idx → EReal}

/-- The step of a whole point, read at an index. -/
theorem Step.six_all (hj : j < 16) (h : Step x2 x5 x3 x4 j (512 * j) (8192 - 512 * j) S6 S6' (fun _ => 0) S9 (fun _ => 0) S10)
    (t : Fin 8192) (c : Fin 256) :
    S6' (ix2 t c) = S6 (ix2 t c) + ∑ s : Fin 512, dwt x2 x5 x3 x4 j (128 * (c.val / 128)) t s * at2 x3 s c := by
  rw [h.six]
  split_ifs with ht
  · rfl
  · rw [Finset.sum_eq_zero fun s _ => by rw [dwt_early _ (by omega), zero_mul], add_zero]

theorem Step.nine_all (hj : j < 16) (h : Step x2 x5 x3 x4 j (512 * j) (8192 - 512 * j) S6 S6' (fun _ => 0) S9 (fun _ => 0) S10)
    (s : Fin 512) (c : Fin 256) :
    S9 (ix3 (hd c) s (ln c)) = ∑ t : Fin 8192, dwt x2 x5 x3 x4 j (128 * (c.val / 128)) t s * at2 x2 t c := by
  rw [h.nine, zero_add, sum_tail (N := 8192) (by omega)
    (fun t => dwt x2 x5 x3 x4 j (128 * (hd c).val) t s * at2 x2 t (128 * (hd c).val + (ln c).val))
    (fun t ht => by rw [dwt_early _ ht, zero_mul])]
  rw [show 128 * (hd c).val + (ln c).val = c.val from Nat.div_add_mod c.val 128]
  rfl

theorem Step.ten_all (hj : j < 16) (h : Step x2 x5 x3 x4 j (512 * j) (8192 - 512 * j) S6 S6' (fun _ => 0) S9 (fun _ => 0) S10)
    (s : Fin 512) (c : Fin 256) :
    S10 (ix3 (hd c) s (ln c)) = ∑ t : Fin 8192, wt x2 x3 j (128 * (c.val / 128)) t s * at2 x5 t c := by
  rw [h.ten, zero_add, sum_tail (N := 8192) (by omega)
    (fun t => wt x2 x3 j (128 * (hd c).val) t s * at2 x5 t (128 * (hd c).val + (ln c).val))
    (fun t ht => by rw [wt_early _ ht, zero_mul])]
  rw [show 128 * (hd c).val + (ln c).val = c.val from Nat.div_add_mod c.val 128]
  rfl

end Sums

section Point
variable (m : (ℓ : Loc nD τ sig) → Buf (Elt Ideal) ℓ) (c : Dev nD) (t : Fin cfg0.N) (x6 : Vec Ideal S8192x256 .f32)

/-- The point's key block. -/
abbrev kb (t : Fin cfg0.N) : ℕ := (grid0.coords t 1).val

theorem point_step : ∃ S9 S10 : S2x512x128.Idx → EReal,
    Step (iblk m c 0 t) (iblk m c 3 t) (iblk m c 1 t) (iblk m c 2 t) (kb t) (512 * kb t) (8192 - 512 * kb t)
      (if cond1 (grid0.coords t) then fun _ => 0 else x6) (o6At m c t x6) (fun _ => 0) S9 (fun _ => 0) S10
    ∧ (∀ s d, o7At m c t x6 (ix2 s d) = S9 (ix3 (hd d) s (ln d))) ∧ (∀ s d, o8At m c t x6 (ix2 s d) = S10 (ix3 (hd d) s (ln d))) := by
  obtain ⟨S9, S10, h, h7, h8⟩ := out_step c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) sc0 (Memref.isWhole_whole _) sc1 (Memref.isWhole_whole _) ((hs0_0 t).unread (iblk m c 0 t)) ((hs0_1 t).unread (iblk m c 1 t))
    ((hs0_2 t).unread (iblk m c 2 t)) ((hs0_3 t).unread (iblk m c 3 t)) ((hs0_4 t).unread x6)
  rw [Memref.IsWhole.read_unread, Memref.IsWhole.read_unread, Memref.IsWhole.read_unread, Memref.IsWhole.read_unread, Memref.IsWhole.read_unread] at h
  refine ⟨S9, S10, h, fun s d => ?_, fun s d => ?_⟩
  · unfold o7At o7 outV; rw [h7]; exact l7_read _ _ _ s d
  · unfold o8At o8 outV; rw [h8]; exact l8_read _ _ _ s d

theorem o6At_apply (r : Fin 8192) (d : Fin 256) : (o6At m c t x6 (ix2 r d) : EReal) = (if cond1 (grid0.coords t) then 0 else x6 (ix2 r d))
    + ∑ s : Fin 512, dwt (iblk m c 0 t) (iblk m c 3 t) (iblk m c 1 t) (iblk m c 2 t) (kb t) (128 * (d.val / 128)) r s * at2 (n := 512) (m := 256) (iblk m c 1 t) s d := by
  obtain ⟨S9, S10, h, -, -⟩ := point_step m c t x6
  rw [h.six_all (i1_lt _)]
  split_ifs <;> rfl
theorem o7At_apply (s : Fin 512) (d : Fin 256) : (o7At m c t x6 (ix2 s d) : EReal)
    = ∑ r : Fin 8192, dwt (iblk m c 0 t) (iblk m c 3 t) (iblk m c 1 t) (iblk m c 2 t) (kb t) (128 * (d.val / 128)) r s * at2 (n := 8192) (m := 256) (iblk m c 0 t) r d := by
  obtain ⟨S9, S10, h, h7, -⟩ := point_step m c t x6
  rw [h7]; exact h.nine_all (i1_lt _) s d
theorem o8At_apply (s : Fin 512) (d : Fin 256) : (o8At m c t x6 (ix2 s d) : EReal)
    = ∑ r : Fin 8192, wt (iblk m c 0 t) (iblk m c 1 t) (kb t) (128 * (d.val / 128)) r s * at2 (n := 8192) (m := 256) (iblk m c 3 t) r d := by
  obtain ⟨S9, S10, h, -, h8⟩ := point_step m c t x6
  rw [h8]; exact h.ten_all (i1_lt _) s d

end Point
end Cert.Proof.Fox
end
end
-- ==== Proof.Blocks.lean ====
/-
  The kernel's three result arrays after the run: each entry is one sum over all query rows or over all key rows.
-/
module

public import proofs.«01_k».proof.Proof.PointVal
public import Idealize.ShloMosaic.Lib.Pipeline.ValueKit

@[expose] public section

set_option maxRecDepth 16384

noncomputable section

namespace Cert.Proof.Fox

open Cert.KernelIdeal Cert.KernelIdeal.Gen
open Idealize.ShloMosaic Idealize.ShloMosaic.Pipeline
open Idealize.ShloMosaic.TcCoe

/-! ## Weights over the whole arrays -/

section Weights
variable (Q K W O : S8192x4096.Idx → EReal)

/-- The score of query row `t` with key row `s` in head `h`. -/
def gscr (h t s : ℕ) : EReal := ∑ d : Fin 128, at2 Q t (128 * h + d) * at2 K s (128 * h + d)
/-- The weight: zero where the key comes after the query. -/
def gwt (h t s : ℕ) : EReal := if s ≤ t then Ideal.exp (gscr Q K h t s) else 0
/-- The score's gradient. -/
def gdwt (h t s : ℕ) : EReal := gwt Q K h t s * ∑ d : Fin 128, at2 O t (128 * h + d) * at2 W s (128 * h + d)

/-- The query gradient's array. -/
def gdq : S8192x4096.Idx → EReal := fun i => ∑ s : Fin 8192, gdwt Q K W O ((i 1).val / 128) (i 0).val s * at2 K s (i 1).val
/-- The key gradient's array. -/
def gdk : S8192x4096.Idx → EReal := fun i => ∑ t : Fin 8192, gdwt Q K W O ((i 1).val / 128) t (i 0).val * at2 Q t (i 1).val
/-- The value gradient's array. -/
def gdv : S8192x4096.Idx → EReal := fun i => ∑ t : Fin 8192, gwt Q K ((i 1).val / 128) t (i 0).val * at2 O t (i 1).val

variable {Q K W O} {x2 x5 : S8192x256.Idx → EReal} {x3 x4 : S512x256.Idx → EReal} {p j : ℕ}
  (h2 : ∀ t c, t < 8192 → c < 256 → at2 x2 t c = at2 Q t (256 * p + c))
  (h3 : ∀ s c, s < 512 → c < 256 → at2 x3 s c = at2 K (512 * j + s) (256 * p + c))
  (h4 : ∀ s c, s < 512 → c < 256 → at2 x4 s c = at2 W (512 * j + s) (256 * p + c))
  (h5 : ∀ t c, t < 8192 → c < 256 → at2 x5 t c = at2 O t (256 * p + c))

include h2 h3 in
theorem wt_eq (h : ℕ) (hh : h < 2) (t s : ℕ) (ht : t < 8192) (hs : s < 512) :
    wt x2 x3 j (128 * h) t s = gwt Q K (2 * p + h) t (512 * j + s) := by
  unfold wt gwt scr gscr
  congr 2
  refine Finset.sum_congr rfl fun d _ => ?_
  rw [h2 _ _ ht (by omega), h3 _ _ hs (by omega)]
  congr 2 <;> ring

include h2 h3 h4 h5 in
theorem dwt_eq (h : ℕ) (hh : h < 2) (t s : ℕ) (ht : t < 8192) (hs : s < 512) :
    dwt x2 x5 x3 x4 j (128 * h) t s = gdwt Q K W O (2 * p + h) t (512 * j + s) := by
  unfold dwt gdwt
  rw [wt_eq h2 h3 h hh t s ht hs]
  congr 1
  refine Finset.sum_congr rfl fun d _ => ?_
  rw [h5 _ _ ht (by omega), h4 _ _ hs (by omega)]
  congr 2 <;> ring

end Weights

/-! ## The operands' blocks -/

theorem index_0 : ∀ t : Fin grid0.N, win0_0.index t = ![0, t.val / 16] := by decide +kernel
theorem index_1 : ∀ t : Fin grid0.N, win0_1.index t = ![t.val % 16, t.val / 16] := by decide +kernel
theorem index_2 : ∀ t : Fin grid0.N, win0_2.index t = ![t.val % 16, t.val / 16] := by decide +kernel
theorem index_3 : ∀ t : Fin grid0.N, win0_3.index t = ![0, t.val / 16] := by decide +kernel
theorem index_4 : ∀ t : Fin grid0.N, win0_4.index t = ![0, t.val / 16] := by decide +kernel
theorem index_5 : ∀ t : Fin grid0.N, win0_5.index t = ![t.val % 16, t.val / 16] := by decide +kernel
theorem index_6 : ∀ t : Fin grid0.N, win0_6.index t = ![t.val % 16, t.val / 16] := by decide +kernel
theorem kb_eq : ∀ t : Fin grid0.N, (grid0.coords t 1).val = t.val % 16 := by decide +kernel

section Run
variable (m : (ℓ : Loc nD τ sig) → Buf (Elt Ideal) ℓ) (c : Dev nD)

/-- The queries' array, the keys', the values' and the cotangents'. -/
abbrev AQ : S8192x4096.Idx → EReal := V m c main_v65
abbrev AK : S8192x4096.Idx → EReal := V m c main_v83
abbrev AV : S8192x4096.Idx → EReal := V m c main_v87
abbrev AO : S8192x4096.Idx → EReal := V m c main_v105

theorem t_lt (t : Fin cfg0.N) : t.val < 256 := t.isLt

theorem blk_0 (t : Fin cfg0.N) (a b : ℕ) (ha : a < 8192) (hb : b < 256) :
    at2 (n := 8192) (m := 256) (iblk m c 0 t) a b = at2 (AQ m c) a (256 * (t.val / 16) + b) := by
  have := t_lt t
  rw [at2_of_lt _ ha hb, at2_of_lt _ ha (by omega)]
  blk_ext [iblk, index_0 t]
theorem blk_1 (t : Fin cfg0.N) (a b : ℕ) (ha : a < 512) (hb : b < 256) :
    at2 (n := 512) (m := 256) (iblk m c 1 t) a b = at2 (AK m c) (512 * (t.val % 16) + a) (256 * (t.val / 16) + b) := by
  have := t_lt t
  rw [at2_of_lt _ ha hb, at2_of_lt _ (by omega) (by omega)]
  blk_ext [iblk, index_1 t]
theorem blk_2 (t : Fin cfg0.N) (a b : ℕ) (ha : a < 512) (hb : b < 256) :
    at2 (n := 512) (m := 256) (iblk m c 2 t) a b = at2 (AV m c) (512 * (t.val % 16) + a) (256 * (t.val / 16) + b) := by
  have := t_lt t
  rw [at2_of_lt _ ha hb, at2_of_lt _ (by omega) (by omega)]
  blk_ext [iblk, index_2 t]
theorem blk_3 (t : Fin cfg0.N) (a b : ℕ) (ha : a < 8192) (hb : b < 256) :
    at2 (n := 8192) (m := 256) (iblk m c 3 t) a b = at2 (AO m c) a (256 * (t.val / 16) + b) := by
  have := t_lt t
  rw [at2_of_lt _ ha hb, at2_of_lt _ ha (by omega)]
  blk_ext [iblk, index_3 t]

/-! ## A point's results over the whole arrays -/

theorem at_six (t : Fin cfg0.N) (x6 : Vec Ideal S8192x256 .f32) (r : Fin 8192) (d : Fin 256) :
    (o6At m c t x6 (ix2 r d) : EReal) = (if t.val % 16 = 0 then 0 else x6 (ix2 r d))
      + ∑ s ∈ Finset.range 512, gdwt (AQ m c) (AK m c) (AV m c) (AO m c) (2 * (t.val / 16) + d.val / 128) r (512 * (t.val % 16) + s)
          * at2 (AK m c) (512 * (t.val % 16) + s) (256 * (t.val / 16) + d) := by
  rw [o6At_apply, Finset.sum_range]
  congr 1
  · exact if_congr (cond1_iff t) rfl rfl
  · refine Finset.sum_congr rfl fun s _ => ?_
    rw [show kb t = t.val % 16 from kb_eq t, dwt_eq (blk_0 m c t) (blk_1 m c t) (blk_2 m c t) (blk_3 m c t) _ (by omega) _ _ r.isLt s.isLt,
      blk_1 m c t _ _ s.isLt d.isLt]
theorem at_seven (t : Fin cfg0.N) (x6 : Vec Ideal S8192x256 .f32) (s : Fin 512) (d : Fin 256) :
    (o7At m c t x6 (ix2 s d) : EReal) = ∑ r : Fin 8192, gdwt (AQ m c) (AK m c) (AV m c) (AO m c) (2 * (t.val / 16) + d.val / 128) r (512 * (t.val % 16) + s)
          * at2 (AQ m c) r (256 * (t.val / 16) + d) := by
  rw [o7At_apply]
  refine Finset.sum_congr rfl fun r _ => ?_
  rw [show kb t = t.val % 16 from kb_eq t, dwt_eq (blk_0 m c t) (blk_1 m c t) (blk_2 m c t) (blk_3 m c t) _ (by omega) _ _ r.isLt s.isLt,
    blk_0 m c t _ _ r.isLt d.isLt]
theorem at_eight (t : Fin cfg0.N) (x6 : Vec Ideal S8192x256 .f32) (s : Fin 512) (d : Fin 256) :
    (o8At m c t x6 (ix2 s d) : EReal) = ∑ r : Fin 8192, gwt (AQ m c) (AK m c) (2 * (t.val / 16) + d.val / 128) r (512 * (t.val % 16) + s)
          * at2 (AO m c) r (256 * (t.val / 16) + d) := by
  rw [o8At_apply]
  refine Finset.sum_congr rfl fun r _ => ?_
  rw [show kb t = t.val % 16 from kb_eq t, wt_eq (blk_0 m c t) (blk_1 m c t) _ (by omega) _ _ r.isLt s.isLt,
    blk_3 m c t _ _ r.isLt d.isLt]

/-- The query gradient's block after the first `n + 1` key blocks of a pair of heads. -/
theorem dqB_eq (p : ℕ) (hp : p < 16) (r : Fin 8192) (d : Fin 256) : ∀ n, n < 16 →
    (dqB m c (16 * p + n + 1) (ix2 r d) : EReal) = ∑ l ∈ Finset.range ((n + 1) * 512),
      gdwt (AQ m c) (AK m c) (AV m c) (AO m c) (2 * p + d.val / 128) r l * at2 (AK m c) l (256 * p + d) := by
  intro n
  induction n with
  | zero =>
    intro hn
    have e := dqB_succ m c (⟨16 * p + 0, by show 16 * p + 0 < 256; omega⟩ : Fin cfg0.N)
    rw [show dqB m c (16 * p + 0 + 1) = _ from e, at_six]
    rw [if_pos (by show (16 * p + 0) % 16 = 0; omega), zero_add]
    refine Finset.sum_congr (by rw [Nat.zero_add, Nat.one_mul]) fun s _ => ?_
    rw [show (16 * p + 0) / 16 = p by omega, show (16 * p + 0) % 16 = 0 by omega, Nat.mul_zero, Nat.zero_add]
  | succ n ih =>
    intro hn
    have e := dqB_succ m c (⟨16 * p + (n + 1), by show 16 * p + (n + 1) < 256; omega⟩ : Fin cfg0.N)
    rw [show dqB m c (16 * p + (n + 1) + 1) = _ from e, at_six]
    rw [if_neg (by show ¬ (16 * p + (n + 1)) % 16 = 0; omega), show dqB m c (⟨16 * p + (n + 1), _⟩ : Fin cfg0.N).val = dqB m c (16 * p + n + 1) from rfl,
      ih (by omega), show (n + 1 + 1) * 512 = (n + 1) * 512 + 512 by ring, Finset.sum_range_add]
    congr 1
    refine Finset.sum_congr rfl fun s _ => ?_
    rw [show (16 * p + (n + 1)) / 16 = p by omega, show (16 * p + (n + 1)) % 16 = n + 1 by omega, Nat.mul_comm 512 (n + 1)]

/-! ## The arrays after the run -/

theorem arr_five : ((dats m 0 c).arrAt 5 cfg0.N : S8192x4096.Idx → EReal) = gdk (AQ m c) (AK m c) (AV m c) (AO m c) := by
  refine (dats m 0 c).arrAt_eq_of_covers 5 _ (by decide +kernel) fun t hf y => ?_
  have ht := t_lt t
  obtain ⟨s, d, rfl⟩ : ∃ (s : Fin 512) (d : Fin 256), y = ix2 s d := ⟨y 0, y 1, eq_ix2 y⟩
  rw [show ((cfg0.win 5).blk t).view.emb (ix2 s d) = ix2 (n0 := 8192) (n1 := 4096) ⟨512 * (t.val % 16) + s.val, by omega⟩ ⟨256 * (t.val / 16) + d.val, by omega⟩ by
    blk_ext [index_5 t], after0_5]
  refine (at_seven m c t _ s d).trans ?_
  unfold gdk
  refine Finset.sum_congr rfl fun r _ => ?_
  show _ = gdwt (AQ m c) (AK m c) (AV m c) (AO m c) ((256 * (t.val / 16) + d.val) / 128) r (512 * (t.val % 16) + s.val) * at2 (AQ m c) r (256 * (t.val / 16) + d.val)
  rw [show (256 * (t.val / 16) + d.val) / 128 = 2 * (t.val / 16) + d.val / 128 by omega]

theorem arr_six : ((dats m 0 c).arrAt 6 cfg0.N : S8192x4096.Idx → EReal) = gdv (AQ m c) (AK m c) (AO m c) := by
  refine (dats m 0 c).arrAt_eq_of_covers 6 _ (by decide +kernel) fun t hf y => ?_
  have ht := t_lt t
  obtain ⟨s, d, rfl⟩ : ∃ (s : Fin 512) (d : Fin 256), y = ix2 s d := ⟨y 0, y 1, eq_ix2 y⟩
  rw [show ((cfg0.win 6).blk t).view.emb (ix2 s d) = ix2 (n0 := 8192) (n1 := 4096) ⟨512 * (t.val % 16) + s.val, by omega⟩ ⟨256 * (t.val / 16) + d.val, by omega⟩ by
    blk_ext [index_6 t], after0_6]
  refine (at_eight m c t _ s d).trans ?_
  unfold gdv
  refine Finset.sum_congr rfl fun r _ => ?_
  show _ = gwt (AQ m c) (AK m c) ((256 * (t.val / 16) + d.val) / 128) r (512 * (t.val % 16) + s.val) * at2 (AO m c) r (256 * (t.val / 16) + d.val)
  rw [show (256 * (t.val / 16) + d.val) / 128 = 2 * (t.val / 16) + d.val / 128 by omega]

theorem arr_four : ((dats m 0 c).arrAt 4 cfg0.N : S8192x4096.Idx → EReal) = gdq (AQ m c) (AK m c) (AV m c) (AO m c) := by
  refine (dats m 0 c).arrAt_eq_of_covers 4 _ (by decide +kernel) fun t hf y => ?_
  have ht := t_lt t
  have h15 : t.val % 16 = 15 := (flush0_4 t).mp hf
  obtain ⟨s, d, rfl⟩ : ∃ (s : Fin 8192) (d : Fin 256), y = ix2 s d := ⟨y 0, y 1, eq_ix2 y⟩
  rw [show ((cfg0.win 4).blk t).view.emb (ix2 s d) = ix2 (n0 := 8192) (n1 := 4096) s ⟨256 * (t.val / 16) + d.val, by omega⟩ by
    blk_ext [index_4 t], after0_4]
  refine Eq.trans (b := (dqB m c (16 * (t.val / 16) + 15 + 1) (ix2 s d) : EReal)) ?_ ?_
  · rw [show 16 * (t.val / 16) + 15 = t.val by omega]; rfl
  rw [dqB_eq m c (t.val / 16) (by omega) s d 15 (by omega)]
  unfold gdq
  rw [show (15 + 1) * 512 = 8192 by rfl, Finset.sum_range]
  refine Finset.sum_congr rfl fun r _ => ?_
  show _ = gdwt (AQ m c) (AK m c) (AV m c) (AO m c) ((256 * (t.val / 16) + d.val) / 128) s r * at2 (AK m c) r (256 * (t.val / 16) + d.val)
  rw [show (256 * (t.val / 16) + d.val) / 128 = 2 * (t.val / 16) + d.val / 128 by omega]

end Run
end Cert.Proof.Fox
end
end
-- ==== Proof.TailRead.lean ====
/-
  The host operations after the kernel, one value each, as functions of the three arrays it leaves, and each read at an index.
-/
module

public import proofs.«01_k».proof.Proof.Gen.KernelIdeal
public import Idealize.ShloMosaic.Lib.Pipeline.Value

@[expose] public section

noncomputable section

namespace Cert.Proof.Tail

open Cert.KernelIdeal Cert.KernelIdeal.Gen Idealize.ShloMosaic Idealize.ShloMosaic.TcCoe Idealize.SL.Sem Idealize.ShloMosaic.StableHlo

variable {F : FTy → Type} [FloatOps F]

-- %0 = stablehlo.reshape %arg0 : (tensor<8192x4096xf32>) -> tensor<8192x32x128xf32>
def val_main_v0 (x0 : (⟨S8192x4096, .f32⟩ : BufTy).Contents (Elt F)) : (⟨S8192x32x128, .f32⟩ : BufTy).Contents (Elt F) :=
  shapeCast _ (x0) shapeCasts_S8192x4096_S8192x32x128
set_option backward.proofsInPublic true in
abbrev idx_main_v0 (i : S8192x32x128.Idx) : S8192x4096.Idx := fun a => match a with
  | ⟨0, _⟩ => ⟨(((i 0).val * 32 + (i 1).val) * 128 + (i 2).val) / 4096, by have h0 : (i 0).val < 8192 := (i 0).isLt; have h1 : (i 1).val < 32 := (i 1).isLt; have h2 : (i 2).val < 128 := (i 2).isLt; show (((i 0).val * 32 + (i 1).val) * 128 + (i 2).val) / 4096 < 8192; omega⟩
  | ⟨1, _⟩ => ⟨(((i 0).val * 32 + (i 1).val) * 128 + (i 2).val) % 4096, by have h0 : (i 0).val < 8192 := (i 0).isLt; have h1 : (i 1).val < 32 := (i 1).isLt; have h2 : (i 2).val < 128 := (i 2).isLt; show (((i 0).val * 32 + (i 1).val) * 128 + (i 2).val) % 4096 < 4096; omega⟩
theorem val_main_v0_apply (x0 : (⟨S8192x4096, .f32⟩ : BufTy).Contents (Elt F)) (i : S8192x32x128.Idx) :
    val_main_v0 (F := F) x0 i = x0 (idx_main_v0 i) := by
  unfold val_main_v0
  exact shapeCast_apply x0 shapeCasts_S8192x4096_S8192x32x128 i (idx_main_v0 i)
    (by rewrite [Shape.rowMajor_val_two, Shape.rowMajor_val_three]; have h0 : (i 0).val < 8192 := (i 0).isLt; have h1 : (i 1).val < 32 := (i 1).isLt; have h2 : (i 2).val < 128 := (i 2).isLt; show (((i 0).val * 32 + (i 1).val) * 128 + (i 2).val) / 4096 * 4096 + (((i 0).val * 32 + (i 1).val) * 128 + (i 2).val) % 4096 = ((i 0).val * 32 + (i 1).val) * 128 + (i 2).val; omega)

-- %1 = stablehlo.reshape %arg1 : (tensor<8192x4096xf32>) -> tensor<8192x32x128xf32>
def val_main_v1 (x1 : (⟨S8192x4096, .f32⟩ : BufTy).Contents (Elt F)) : (⟨S8192x32x128, .f32⟩ : BufTy).Contents (Elt F) :=
  shapeCast _ (x1) shapeCasts_S8192x4096_S8192x32x128
set_option backward.proofsInPublic true in
abbrev idx_main_v1 (i : S8192x32x128.Idx) : S8192x4096.Idx := fun a => match a with
  | ⟨0, _⟩ => ⟨(((i 0).val * 32 + (i 1).val) * 128 + (i 2).val) / 4096, by have h0 : (i 0).val < 8192 := (i 0).isLt; have h1 : (i 1).val < 32 := (i 1).isLt; have h2 : (i 2).val < 128 := (i 2).isLt; show (((i 0).val * 32 + (i 1).val) * 128 + (i 2).val) / 4096 < 8192; omega⟩
  | ⟨1, _⟩ => ⟨(((i 0).val * 32 + (i 1).val) * 128 + (i 2).val) % 4096, by have h0 : (i 0).val < 8192 := (i 0).isLt; have h1 : (i 1).val < 32 := (i 1).isLt; have h2 : (i 2).val < 128 := (i 2).isLt; show (((i 0).val * 32 + (i 1).val) * 128 + (i 2).val) % 4096 < 4096; omega⟩
theorem val_main_v1_apply (x1 : (⟨S8192x4096, .f32⟩ : BufTy).Contents (Elt F)) (i : S8192x32x128.Idx) :
    val_main_v1 (F := F) x1 i = x1 (idx_main_v1 i) := by
  unfold val_main_v1
  exact shapeCast_apply x1 shapeCasts_S8192x4096_S8192x32x128 i (idx_main_v1 i)
    (by rewrite [Shape.rowMajor_val_two, Shape.rowMajor_val_three]; have h0 : (i 0).val < 8192 := (i 0).isLt; have h1 : (i 1).val < 32 := (i 1).isLt; have h2 : (i 2).val < 128 := (i 2).isLt; show (((i 0).val * 32 + (i 1).val) * 128 + (i 2).val) / 4096 * 4096 + (((i 0).val * 32 + (i 1).val) * 128 + (i 2).val) % 4096 = ((i 0).val * 32 + (i 1).val) * 128 + (i 2).val; omega)

-- %2 = stablehlo.convert %arg2 : (tensor<8192x4096xbf16>) -> tensor<8192x4096xf32>
def val_main_v2 (x2 : (⟨S8192x4096, .bf16⟩ : BufTy).Contents (Elt F)) : (⟨S8192x4096, .f32⟩ : BufTy).Contents (Elt F) :=
  extf .f32 (x2) bitsLt_bf16_f32
theorem val_main_v2_apply (x2 : (⟨S8192x4096, .bf16⟩ : BufTy).Contents (Elt F)) (i : S8192x4096.Idx) :
    val_main_v2 (F := F) x2 i = FloatOps.extf .f32 bitsLt_bf16_f32 (x2 i) := rfl

-- %3 = stablehlo.reshape %2 : (tensor<8192x4096xf32>) -> tensor<8192x32x128xf32>
def val_main_v3 (x2 : (⟨S8192x4096, .bf16⟩ : BufTy).Contents (Elt F)) : (⟨S8192x32x128, .f32⟩ : BufTy).Contents (Elt F) :=
  shapeCast _ (val_main_v2 (F := F) x2) shapeCasts_S8192x4096_S8192x32x128
set_option backward.proofsInPublic true in
abbrev idx_main_v3 (i : S8192x32x128.Idx) : S8192x4096.Idx := fun a => match a with
  | ⟨0, _⟩ => ⟨(((i 0).val * 32 + (i 1).val) * 128 + (i 2).val) / 4096, by have h0 : (i 0).val < 8192 := (i 0).isLt; have h1 : (i 1).val < 32 := (i 1).isLt; have h2 : (i 2).val < 128 := (i 2).isLt; show (((i 0).val * 32 + (i 1).val) * 128 + (i 2).val) / 4096 < 8192; omega⟩
  | ⟨1, _⟩ => ⟨(((i 0).val * 32 + (i 1).val) * 128 + (i 2).val) % 4096, by have h0 : (i 0).val < 8192 := (i 0).isLt; have h1 : (i 1).val < 32 := (i 1).isLt; have h2 : (i 2).val < 128 := (i 2).isLt; show (((i 0).val * 32 + (i 1).val) * 128 + (i 2).val) % 4096 < 4096; omega⟩
theorem val_main_v3_apply (x2 : (⟨S8192x4096, .bf16⟩ : BufTy).Contents (Elt F)) (i : S8192x32x128.Idx) :
    val_main_v3 (F := F) x2 i = val_main_v2 (F := F) x2 (idx_main_v3 i) := by
  unfold val_main_v3
  generalize val_main_v2 (F := F) x2 = y
  exact shapeCast_apply y shapeCasts_S8192x4096_S8192x32x128 i (idx_main_v3 i)
    (by rewrite [Shape.rowMajor_val_two, Shape.rowMajor_val_three]; have h0 : (i 0).val < 8192 := (i 0).isLt; have h1 : (i 1).val < 32 := (i 1).isLt; have h2 : (i 2).val < 128 := (i 2).isLt; show (((i 0).val * 32 + (i 1).val) * 128 + (i 2).val) / 4096 * 4096 + (((i 0).val * 32 + (i 1).val) * 128 + (i 2).val) % 4096 = ((i 0).val * 32 + (i 1).val) * 128 + (i 2).val; omega)

-- %4 = stablehlo.slice %0 [0:8192, 0:32, 0:64] : (tensor<8192x32x128xf32>) -> tensor<8192x32x64xf32>
def val_main_v4 (x0 : (⟨S8192x4096, .f32⟩ : BufTy).Contents (Elt F)) : (⟨S8192x32x64, .f32⟩ : BufTy).Contents (Elt F) :=
  extractStridedSlice S8192x32x64 ![0, 0, 0] (val_main_v0 (F := F) x0) slices_S8192x32x128_S8192x32x64_0_0_0
set_option backward.proofsInPublic true in
abbrev idx_main_v4 (i : S8192x32x64.Idx) : S8192x32x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 64 := (i 2).isLt; show (i 2).val < 128; omega⟩
theorem val_main_v4_apply (x0 : (⟨S8192x4096, .f32⟩ : BufTy).Contents (Elt F)) (i : S8192x32x64.Idx) :
    val_main_v4 (F := F) x0 i = val_main_v0 (F := F) x0 (idx_main_v4 i) := by
  unfold val_main_v4
  generalize val_main_v0 (F := F) x0 = y
  exact extractStridedSlice_apply ![0, 0, 0] y slices_S8192x32x128_S8192x32x64_0_0_0 i (idx_main_v4 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %cst = stablehlo.constant dense<1.250000e-01> : tensor<f32>
def val_main_cst : (⟨S_, .f32⟩ : BufTy).Contents (Elt F) :=
  constant S_ .f32 0x3E000000#32
theorem val_main_cst_apply (i : S_.Idx) :
    val_main_cst (F := F) i = FloatOps.ofBits .f32 0x3E000000#32 := rfl

-- %5 = stablehlo.broadcast_in_dim %cst, dims = [] : (tensor<f32>) -> tensor<8192x32x64xf32>
def val_main_v5 : (⟨S8192x32x64, .f32⟩ : BufTy).Contents (Elt F) :=
  broadcastInDim S8192x32x64 ![] bcast_S_S8192x32x64 (val_main_cst (F := F))
abbrev idx_main_v5 (i : S8192x32x64.Idx) : S_.Idx := fun a => a.elim0
theorem val_main_v5_apply (i : S8192x32x64.Idx) :
    val_main_v5 (F := F) i = val_main_cst (F := F) (idx_main_v5 i) := by
  unfold val_main_v5
  generalize val_main_cst (F := F) = y
  exact broadcastInDim_apply _ bcast_S_S8192x32x64 y i (idx_main_v5 i) (fun a => a.elim0)

-- %6 = stablehlo.multiply %4, %5 : tensor<8192x32x64xf32>
def val_main_v6 (x0 : (⟨S8192x4096, .f32⟩ : BufTy).Contents (Elt F)) : (⟨S8192x32x64, .f32⟩ : BufTy).Contents (Elt F) :=
  mulf (val_main_v4 (F := F) x0) (val_main_v5 (F := F))
theorem val_main_v6_apply (x0 : (⟨S8192x4096, .f32⟩ : BufTy).Contents (Elt F)) (i : S8192x32x64.Idx) :
    val_main_v6 (F := F) x0 i = FloatOps.mulf (val_main_v4 (F := F) x0 i) (val_main_v5 (F := F) i) := rfl

-- %7 = stablehlo.reshape %6 : (tensor<8192x32x64xf32>) -> tensor<8192x2048xf32>
def val_main_v7 (x0 : (⟨S8192x4096, .f32⟩ : BufTy).Contents (Elt F)) : (⟨S8192x2048, .f32⟩ : BufTy).Contents (Elt F) :=
  shapeCast _ (val_main_v6 (F := F) x0) shapeCasts_S8192x32x64_S8192x2048
set_option backward.proofsInPublic true in
abbrev idx_main_v7 (i : S8192x2048.Idx) : S8192x32x64.Idx := fun a => match a with
  | ⟨0, _⟩ => ⟨((i 0).val * 2048 + (i 1).val) / 2048, by have h0 : (i 0).val < 8192 := (i 0).isLt; have h1 : (i 1).val < 2048 := (i 1).isLt; show ((i 0).val * 2048 + (i 1).val) / 2048 < 8192; omega⟩
  | ⟨1, _⟩ => ⟨((i 0).val * 2048 + (i 1).val) / 64 % 32, by have h0 : (i 0).val < 8192 := (i 0).isLt; have h1 : (i 1).val < 2048 := (i 1).isLt; show ((i 0).val * 2048 + (i 1).val) / 64 % 32 < 32; omega⟩
  | ⟨2, _⟩ => ⟨((i 0).val * 2048 + (i 1).val) % 64, by have h0 : (i 0).val < 8192 := (i 0).isLt; have h1 : (i 1).val < 2048 := (i 1).isLt; show ((i 0).val * 2048 + (i 1).val) % 64 < 64; omega⟩
theorem val_main_v7_apply (x0 : (⟨S8192x4096, .f32⟩ : BufTy).Contents (Elt F)) (i : S8192x2048.Idx) :
    val_main_v7 (F := F) x0 i = val_main_v6 (F := F) x0 (idx_main_v7 i) := by
  unfold val_main_v7
  generalize val_main_v6 (F := F) x0 = y
  exact shapeCast_apply y shapeCasts_S8192x32x64_S8192x2048 i (idx_main_v7 i)
    (by rewrite [Shape.rowMajor_val_three, Shape.rowMajor_val_two]; have h0 : (i 0).val < 8192 := (i 0).isLt; have h1 : (i 1).val < 2048 := (i 1).isLt; show (((i 0).val * 2048 + (i 1).val) / 2048 * 32 + ((i 0).val * 2048 + (i 1).val) / 64 % 32) * 64 + ((i 0).val * 2048 + (i 1).val) % 64 = (i 0).val * 2048 + (i 1).val; omega)

-- %8 = stablehlo.slice %1 [0:8192, 0:32, 0:64] : (tensor<8192x32x128xf32>) -> tensor<8192x32x64xf32>
def val_main_v8 (x1 : (⟨S8192x4096, .f32⟩ : BufTy).Contents (Elt F)) : (⟨S8192x32x64, .f32⟩ : BufTy).Contents (Elt F) :=
  extractStridedSlice S8192x32x64 ![0, 0, 0] (val_main_v1 (F := F) x1) slices_S8192x32x128_S8192x32x64_0_0_0
set_option backward.proofsInPublic true in
abbrev idx_main_v8 (i : S8192x32x64.Idx) : S8192x32x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 64 := (i 2).isLt; show (i 2).val < 128; omega⟩
theorem val_main_v8_apply (x1 : (⟨S8192x4096, .f32⟩ : BufTy).Contents (Elt F)) (i : S8192x32x64.Idx) :
    val_main_v8 (F := F) x1 i = val_main_v1 (F := F) x1 (idx_main_v8 i) := by
  unfold val_main_v8
  generalize val_main_v1 (F := F) x1 = y
  exact extractStridedSlice_apply ![0, 0, 0] y slices_S8192x32x128_S8192x32x64_0_0_0 i (idx_main_v8 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %9 = stablehlo.reshape %8 : (tensor<8192x32x64xf32>) -> tensor<8192x2048xf32>
def val_main_v9 (x1 : (⟨S8192x4096, .f32⟩ : BufTy).Contents (Elt F)) : (⟨S8192x2048, .f32⟩ : BufTy).Contents (Elt F) :=
  shapeCast _ (val_main_v8 (F := F) x1) shapeCasts_S8192x32x64_S8192x2048
set_option backward.proofsInPublic true in
abbrev idx_main_v9 (i : S8192x2048.Idx) : S8192x32x64.Idx := fun a => match a with
  | ⟨0, _⟩ => ⟨((i 0).val * 2048 + (i 1).val) / 2048, by have h0 : (i 0).val < 8192 := (i 0).isLt; have h1 : (i 1).val < 2048 := (i 1).isLt; show ((i 0).val * 2048 + (i 1).val) / 2048 < 8192; omega⟩
  | ⟨1, _⟩ => ⟨((i 0).val * 2048 + (i 1).val) / 64 % 32, by have h0 : (i 0).val < 8192 := (i 0).isLt; have h1 : (i 1).val < 2048 := (i 1).isLt; show ((i 0).val * 2048 + (i 1).val) / 64 % 32 < 32; omega⟩
  | ⟨2, _⟩ => ⟨((i 0).val * 2048 + (i 1).val) % 64, by have h0 : (i 0).val < 8192 := (i 0).isLt; have h1 : (i 1).val < 2048 := (i 1).isLt; show ((i 0).val * 2048 + (i 1).val) % 64 < 64; omega⟩
theorem val_main_v9_apply (x1 : (⟨S8192x4096, .f32⟩ : BufTy).Contents (Elt F)) (i : S8192x2048.Idx) :
    val_main_v9 (F := F) x1 i = val_main_v8 (F := F) x1 (idx_main_v9 i) := by
  unfold val_main_v9
  generalize val_main_v8 (F := F) x1 = y
  exact shapeCast_apply y shapeCasts_S8192x32x64_S8192x2048 i (idx_main_v9 i)
    (by rewrite [Shape.rowMajor_val_three, Shape.rowMajor_val_two]; have h0 : (i 0).val < 8192 := (i 0).isLt; have h1 : (i 1).val < 2048 := (i 1).isLt; show (((i 0).val * 2048 + (i 1).val) / 2048 * 32 + ((i 0).val * 2048 + (i 1).val) / 64 % 32) * 64 + ((i 0).val * 2048 + (i 1).val) % 64 = (i 0).val * 2048 + (i 1).val; omega)

-- %10 = stablehlo.slice %3 [0:8192, 0:32, 0:64] : (tensor<8192x32x128xf32>) -> tensor<8192x32x64xf32>
def val_main_v10 (x2 : (⟨S8192x4096, .bf16⟩ : BufTy).Contents (Elt F)) : (⟨S8192x32x64, .f32⟩ : BufTy).Contents (Elt F) :=
  extractStridedSlice S8192x32x64 ![0, 0, 0] (val_main_v3 (F := F) x2) slices_S8192x32x128_S8192x32x64_0_0_0
set_option backward.proofsInPublic true in
abbrev idx_main_v10 (i : S8192x32x64.Idx) : S8192x32x128.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 64 := (i 2).isLt; show (i 2).val < 128; omega⟩
theorem val_main_v10_apply (x2 : (⟨S8192x4096, .bf16⟩ : BufTy).Contents (Elt F)) (i : S8192x32x64.Idx) :
    val_main_v10 (F := F) x2 i = val_main_v3 (F := F) x2 (idx_main_v10 i) := by
  unfold val_main_v10
  generalize val_main_v3 (F := F) x2 = y
  exact extractStridedSlice_apply ![0, 0, 0] y slices_S8192x32x128_S8192x32x64_0_0_0 i (idx_main_v10 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %11 = stablehlo.reshape %10 : (tensor<8192x32x64xf32>) -> tensor<8192x2048xf32>
def val_main_v11 (x2 : (⟨S8192x4096, .bf16⟩ : BufTy).Contents (Elt F)) : (⟨S8192x2048, .f32⟩ : BufTy).Contents (Elt F) :=
  shapeCast _ (val_main_v10 (F := F) x2) shapeCasts_S8192x32x64_S8192x2048
set_option backward.proofsInPublic true in
abbrev idx_main_v11 (i : S8192x2048.Idx) : S8192x32x64.Idx := fun a => match a with
  | ⟨0, _⟩ => ⟨((i 0).val * 2048 + (i 1).val) / 2048, by have h0 : (i 0).val < 8192 := (i 0).isLt; have h1 : (i 1).val < 2048 := (i 1).isLt; show ((i 0).val * 2048 + (i 1).val) / 2048 < 8192; omega⟩
  | ⟨1, _⟩ => ⟨((i 0).val * 2048 + (i 1).val) / 64 % 32, by have h0 : (i 0).val < 8192 := (i 0).isLt; have h1 : (i 1).val < 2048 := (i 1).isLt; show ((i 0).val * 2048 + (i 1).val) / 64 % 32 < 32; omega⟩
  | ⟨2, _⟩ => ⟨((i 0).val * 2048 + (i 1).val) % 64, by have h0 : (i 0).val < 8192 := (i 0).isLt; have h1 : (i 1).val < 2048 := (i 1).isLt; show ((i 0).val * 2048 + (i 1).val) % 64 < 64; omega⟩
theorem val_main_v11_apply (x2 : (⟨S8192x4096, .bf16⟩ : BufTy).Contents (Elt F)) (i : S8192x2048.Idx) :
    val_main_v11 (F := F) x2 i = val_main_v10 (F := F) x2 (idx_main_v11 i) := by
  unfold val_main_v11
  generalize val_main_v10 (F := F) x2 = y
  exact shapeCast_apply y shapeCasts_S8192x32x64_S8192x2048 i (idx_main_v11 i)
    (by rewrite [Shape.rowMajor_val_three, Shape.rowMajor_val_two]; have h0 : (i 0).val < 8192 := (i 0).isLt; have h1 : (i 1).val < 2048 := (i 1).isLt; show (((i 0).val * 2048 + (i 1).val) / 2048 * 32 + ((i 0).val * 2048 + (i 1).val) / 64 % 32) * 64 + ((i 0).val * 2048 + (i 1).val) % 64 = (i 0).val * 2048 + (i 1).val; omega)

-- %12 = stablehlo.slice %0 [0:8192, 0:32, 67:68] : (tensor<8192x32x128xf32>) -> tensor<8192x32x1xf32>
def val_main_v12 (x0 : (⟨S8192x4096, .f32⟩ : BufTy).Contents (Elt F)) : (⟨S8192x32x1, .f32⟩ : BufTy).Contents (Elt F) :=
  extractStridedSlice S8192x32x1 ![0, 0, 67] (val_main_v0 (F := F) x0) slices_S8192x32x128_S8192x32x1_0_0_67
set_option backward.proofsInPublic true in
abbrev idx_main_v12 (i : S8192x32x1.Idx) : S8192x32x128.Idx := fun a => match a with
  | ⟨0, _⟩ => ⟨(i 0).val, (i 0).isLt⟩
  | ⟨1, _⟩ => ⟨(i 1).val, (i 1).isLt⟩
  | ⟨2, _⟩ => ⟨67 + (i 2).val, by have h2 : (i 2).val < 1 := (i 2).isLt; show 67 + (i 2).val < 128; omega⟩
theorem val_main_v12_apply (x0 : (⟨S8192x4096, .f32⟩ : BufTy).Contents (Elt F)) (i : S8192x32x1.Idx) :
    val_main_v12 (F := F) x0 i = val_main_v0 (F := F) x0 (idx_main_v12 i) := by
  unfold val_main_v12
  generalize val_main_v0 (F := F) x0 = y
  exact extractStridedSlice_apply ![0, 0, 67] y slices_S8192x32x128_S8192x32x1_0_0_67 i (idx_main_v12 i) (fun a => match a with
    | ⟨0, _⟩ => by show (i 0).val = 0 + (i 0).val; omega
    | ⟨1, _⟩ => by show (i 1).val = 0 + (i 1).val; omega
    | ⟨2, _⟩ => by show 67 + (i 2).val = 67 + (i 2).val; omega)

-- %13 = stablehlo.reshape %12 : (tensor<8192x32x1xf32>) -> tensor<8192x32xf32>
def val_main_v13 (x0 : (⟨S8192x4096, .f32⟩ : BufTy).Contents (Elt F)) : (⟨S8192x32, .f32⟩ : BufTy).Contents (Elt F) :=
  shapeCast _ (val_main_v12 (F := F) x0) shapeCasts_S8192x32x1_S8192x32
set_option backward.proofsInPublic true in
abbrev idx_main_v13 (i : S8192x32.Idx) : S8192x32x1.Idx := fun a => match a with
  | ⟨0, _⟩ => ⟨((i 0).val * 32 + (i 1).val) / 32, by have h0 : (i 0).val < 8192 := (i 0).isLt; have h1 : (i 1).val < 32 := (i 1).isLt; show ((i 0).val * 32 + (i 1).val) / 32 < 8192; omega⟩
  | ⟨1, _⟩ => ⟨((i 0).val * 32 + (i 1).val) / 1 % 32, by have h0 : (i 0).val < 8192 := (i 0).isLt; have h1 : (i 1).val < 32 := (i 1).isLt; show ((i 0).val * 32 + (i 1).val) / 1 % 32 < 32; omega⟩
  | ⟨2, _⟩ => ⟨0, Nat.one_pos⟩
theorem val_main_v13_apply (x0 : (⟨S8192x4096, .f32⟩ : BufTy).Contents (Elt F)) (i : S8192x32.Idx) :
    val_main_v13 (F := F) x0 i = val_main_v12 (F := F) x0 (idx_main_v13 i) := by
  unfold val_main_v13
  generalize val_main_v12 (F := F) x0 = y
  exact shapeCast_apply y shapeCasts_S8192x32x1_S8192x32 i (idx_main_v13 i)
    (by rewrite [Shape.rowMajor_val_three, Shape.rowMajor_val_two]; have h0 : (i 0).val < 8192 := (i 0).isLt; have h1 : (i 1).val < 32 := (i 1).isLt; show (((i 0).val * 32 + (i 1).val) / 32 * 32 + ((i 0).val * 32 + (i 1).val) / 1 % 32) * 1 + 0 = (i 0).val * 32 + (i 1).val; omega)

-- %14 = stablehlo.slice %1 [0:8192, 0:32, 64:65] : (tensor<8192x32x128xf32>) -> tensor<8192x32x1xf32>
def val_main_v14 (x1 : (⟨S8192x4096, .f32⟩ : BufTy).Contents (Elt F)) : (⟨S8192x32x1, .f32⟩ : BufTy).Contents (Elt F) :=
  extractStridedSlice S8192x32x1 ![0, 0, 64] (val_main_v1 (F := F) x1) slices_S8192x32x128_S8192x32x1_0_0_64
set_option backward.proofsInPublic true in
abbrev idx_main_v14 (i : S8192x32x1.Idx) : S8192x32x128.Idx := fun a => match a with
  | ⟨0, _⟩ => ⟨(i 0).val, (i 0).isLt⟩
  | ⟨1, _⟩ => ⟨(i 1).val, (i 1).isLt⟩
  | ⟨2, _⟩ => ⟨64 + (i 2).val, by have h2 : (i 2).val < 1 := (i 2).isLt; show 64 + (i 2).val < 128; omega⟩
theorem val_main_v14_apply (x1 : (⟨S8192x4096, .f32⟩ : BufTy).Contents (Elt F)) (i : S8192x32x1.Idx) :
    val_main_v14 (F := F) x1 i = val_main_v1 (F := F) x1 (idx_main_v14 i) := by
  unfold val_main_v14
  generalize val_main_v1 (F := F) x1 = y
  exact extractStridedSlice_apply ![0, 0, 64] y slices_S8192x32x128_S8192x32x1_0_0_64 i (idx_main_v14 i) (fun a => match a with
    | ⟨0, _⟩ => by show (i 0).val = 0 + (i 0).val; omega
    | ⟨1, _⟩ => by show (i 1).val = 0 + (i 1).val; omega
    | ⟨2, _⟩ => by show 64 + (i 2).val = 64 + (i 2).val; omega)

-- %15 = stablehlo.reshape %14 : (tensor<8192x32x1xf32>) -> tensor<8192x32xf32>
def val_main_v15 (x1 : (⟨S8192x4096, .f32⟩ : BufTy).Contents (Elt F)) : (⟨S8192x32, .f32⟩ : BufTy).Contents (Elt F) :=
  shapeCast _ (val_main_v14 (F := F) x1) shapeCasts_S8192x32x1_S8192x32
set_option backward.proofsInPublic true in
abbrev idx_main_v15 (i : S8192x32.Idx) : S8192x32x1.Idx := fun a => match a with
  | ⟨0, _⟩ => ⟨((i 0).val * 32 + (i 1).val) / 32, by have h0 : (i 0).val < 8192 := (i 0).isLt; have h1 : (i 1).val < 32 := (i 1).isLt; show ((i 0).val * 32 + (i 1).val) / 32 < 8192; omega⟩
  | ⟨1, _⟩ => ⟨((i 0).val * 32 + (i 1).val) / 1 % 32, by have h0 : (i 0).val < 8192 := (i 0).isLt; have h1 : (i 1).val < 32 := (i 1).isLt; show ((i 0).val * 32 + (i 1).val) / 1 % 32 < 32; omega⟩
  | ⟨2, _⟩ => ⟨0, Nat.one_pos⟩
theorem val_main_v15_apply (x1 : (⟨S8192x4096, .f32⟩ : BufTy).Contents (Elt F)) (i : S8192x32.Idx) :
    val_main_v15 (F := F) x1 i = val_main_v14 (F := F) x1 (idx_main_v15 i) := by
  unfold val_main_v15
  generalize val_main_v14 (F := F) x1 = y
  exact shapeCast_apply y shapeCasts_S8192x32x1_S8192x32 i (idx_main_v15 i)
    (by rewrite [Shape.rowMajor_val_three, Shape.rowMajor_val_two]; have h0 : (i 0).val < 8192 := (i 0).isLt; have h1 : (i 1).val < 32 := (i 1).isLt; show (((i 0).val * 32 + (i 1).val) / 32 * 32 + ((i 0).val * 32 + (i 1).val) / 1 % 32) * 1 + 0 = (i 0).val * 32 + (i 1).val; omega)

-- %16 = stablehlo.subtract %13, %15 : tensor<8192x32xf32>
def val_main_v16 (x0 x1 : (⟨S8192x4096, .f32⟩ : BufTy).Contents (Elt F)) : (⟨S8192x32, .f32⟩ : BufTy).Contents (Elt F) :=
  subf (val_main_v13 (F := F) x0) (val_main_v15 (F := F) x1)
theorem val_main_v16_apply (x0 x1 : (⟨S8192x4096, .f32⟩ : BufTy).Contents (Elt F)) (i : S8192x32.Idx) :
    val_main_v16 (F := F) x0 x1 i = FloatOps.subf (val_main_v13 (F := F) x0 i) (val_main_v15 (F := F) x1 i) := rfl

end Cert.Proof.Tail

end
-- ==== Proof.Lanes.lean ====
/-
  The lanes of one head's slots over the reals: the data in 64 lanes, then the lanes that carry a row's offset, and the two
  products of slots the kernel takes.
-/
module

public import proofs.«01_k».proof.Proof.Soft

@[expose] public section

noncomputable section

namespace Cert.Proof.Fox

/-- A query row's lane: the scaled query, three ones, the offset. -/
def sQ (q : Fin 8192 → Fin 64 → ℝ) (e : Fin 8192 → ℝ) (t : Fin 8192) (l : Fin 128) : ℝ :=
  if h : l.val < 64 then q t ⟨l.val, h⟩ * (1 / 8) else if l.val < 67 then 1 else if l.val = 67 then -e t else 0
/-- A key row's lane: the key, the gate, three ones. -/
def sK (k : Fin 8192 → Fin 64 → ℝ) (c : Fin 8192 → ℝ) (s : Fin 8192) (l : Fin 128) : ℝ :=
  if h : l.val < 64 then k s ⟨l.val, h⟩ else if l.val = 64 then -c s else if l.val < 67 then 0 else if l.val < 70 then 1 else 0
/-- A value row's lane: the value, three ones. -/
def sV (v : Fin 8192 → Fin 64 → ℝ) (s : Fin 8192) (l : Fin 128) : ℝ :=
  if h : l.val < 64 then v s ⟨l.val, h⟩ else if l.val < 67 then 1 else 0
/-- A cotangent row's lane: the cotangent, the row's mean. -/
def sO (o : Fin 8192 → Fin 64 → ℝ) (D : Fin 8192 → ℝ) (t : Fin 8192) (l : Fin 128) : ℝ :=
  if h : l.val < 64 then o t ⟨l.val, h⟩ else if l.val = 64 then -D t else 0

/-- A sum over the lanes, the lanes past the seventieth holding nothing. -/
theorem sum_lanes (f : Fin 128 → ℝ) (h0 : ∀ l : Fin 128, 70 ≤ l.val → f l = 0) :
    ∑ l, f l = ∑ d : Fin 64, f ⟨d.val, by omega⟩ + (f 64 + f 65 + f 66 + f 67 + f 68 + f 69) := by
  have e1 := Fin.sum_univ_add (a := 64) (b := 64) f
  have e2 := Fin.sum_univ_add (a := 6) (b := 58) fun i : Fin (6 + 58) => f (Fin.natAdd 64 i)
  have e3 : ∑ i : Fin 58, f (Fin.natAdd 64 (Fin.natAdd 6 i)) = 0 :=
    Finset.sum_eq_zero fun i _ => h0 _ (by show 70 ≤ 64 + (6 + i.val); omega)
  rw [Fin.sum_univ_six, e3, add_zero] at e2
  rw [e2] at e1
  exact e1

variable (q k v o : Fin 8192 → Fin 64 → ℝ) (c e D : Fin 8192 → ℝ)

theorem lanes_score (t s : Fin 8192) : ∑ l, sQ q e t l * sK k c s l = rz q k c t s - e t := by
  rw [sum_lanes _ fun l hl => by
    rw [sQ, dif_neg (by omega), if_neg (by omega), if_neg (by omega), zero_mul]]
  have e0 : ∀ d : Fin 64, sQ q e t ⟨d.val, by omega⟩ * sK k c s ⟨d.val, by omega⟩ = q t d * k s d * (1 / 8) := fun d => by
    rw [sQ, sK, dif_pos d.isLt, dif_pos d.isLt]; ring
  simp only [e0]
  rw [← Finset.sum_mul, rz]
  simp only [sQ, sK]
  norm_num
  ring

theorem lanes_value (t s : Fin 8192) : ∑ l, sO o D t l * sV v s l = rU v o t s - D t := by
  rw [sum_lanes _ fun l hl => by
    rw [sO, dif_neg (by omega), if_neg (by omega), zero_mul]]
  have e0 : ∀ d : Fin 64, sO o D t ⟨d.val, by omega⟩ * sV v s ⟨d.val, by omega⟩ = o t d * v s d := fun d => by
    rw [sO, sV, dif_pos d.isLt, dif_pos d.isLt]
  simp only [e0]
  rw [rU]
  simp only [sO, sV]
  norm_num
  ring

end Cert.Proof.Fox
end
end
-- ==== Proof.PrefixRead.lean ====
/-
  The host operations before the kernel, one value each, as functions of the arguments, and each read at an index.
-/
module

public import proofs.«01_k».proof.Proof.Gen.KernelIdeal
public import Idealize.ShloMosaic.Lib.Pipeline.Value
public import Idealize.ShloMosaic.Lib.ValueIdx
public import Idealize.ShloMosaic.PureOps.Ideal.Laws

@[expose] public section

noncomputable section

namespace Cert.Proof.Pre

open Cert.KernelIdeal Cert.KernelIdeal.Gen Idealize.ShloMosaic Idealize.ShloMosaic.TcCoe Idealize.SL.Sem Idealize.ShloMosaic.StableHlo

variable {F : FTy → Type} [FloatOps F]

-- %0 = stablehlo.convert %arg0 : (tensor<8192x2048xf32>) -> tensor<8192x2048xbf16>
def val_main_v0 (x0 : (⟨S8192x2048, .f32⟩ : BufTy).Contents (Elt F)) : (⟨S8192x2048, .bf16⟩ : BufTy).Contents (Elt F) :=
  truncf .bf16 (x0) bitsLt_bf16_f32
theorem val_main_v0_apply (x0 : (⟨S8192x2048, .f32⟩ : BufTy).Contents (Elt F)) (i : S8192x2048.Idx) :
    val_main_v0 (F := F) x0 i = FloatOps.truncf .bf16 bitsLt_bf16_f32 (x0 i) := rfl

-- %1 = stablehlo.convert %0 : (tensor<8192x2048xbf16>) -> tensor<8192x2048xf32>
def val_main_v1 (x0 : (⟨S8192x2048, .f32⟩ : BufTy).Contents (Elt F)) : (⟨S8192x2048, .f32⟩ : BufTy).Contents (Elt F) :=
  extf .f32 (val_main_v0 (F := F) x0) bitsLt_bf16_f32
theorem val_main_v1_apply (x0 : (⟨S8192x2048, .f32⟩ : BufTy).Contents (Elt F)) (i : S8192x2048.Idx) :
    val_main_v1 (F := F) x0 i = FloatOps.extf .f32 bitsLt_bf16_f32 (val_main_v0 (F := F) x0 i) := rfl

-- %2 = stablehlo.reshape %1 : (tensor<8192x2048xf32>) -> tensor<8192x32x64xf32>
def val_main_v2 (x0 : (⟨S8192x2048, .f32⟩ : BufTy).Contents (Elt F)) : (⟨S8192x32x64, .f32⟩ : BufTy).Contents (Elt F) :=
  shapeCast _ (val_main_v1 (F := F) x0) shapeCasts_S8192x2048_S8192x32x64
set_option backward.proofsInPublic true in
abbrev idx_main_v2 (i : S8192x32x64.Idx) : S8192x2048.Idx := fun a => match a with
  | ⟨0, _⟩ => ⟨(((i 0).val * 32 + (i 1).val) * 64 + (i 2).val) / 2048, by have h0 : (i 0).val < 8192 := (i 0).isLt; have h1 : (i 1).val < 32 := (i 1).isLt; have h2 : (i 2).val < 64 := (i 2).isLt; show (((i 0).val * 32 + (i 1).val) * 64 + (i 2).val) / 2048 < 8192; omega⟩
  | ⟨1, _⟩ => ⟨(((i 0).val * 32 + (i 1).val) * 64 + (i 2).val) % 2048, by have h0 : (i 0).val < 8192 := (i 0).isLt; have h1 : (i 1).val < 32 := (i 1).isLt; have h2 : (i 2).val < 64 := (i 2).isLt; show (((i 0).val * 32 + (i 1).val) * 64 + (i 2).val) % 2048 < 2048; omega⟩
theorem val_main_v2_apply (x0 : (⟨S8192x2048, .f32⟩ : BufTy).Contents (Elt F)) (i : S8192x32x64.Idx) :
    val_main_v2 (F := F) x0 i = val_main_v1 (F := F) x0 (idx_main_v2 i) := by
  unfold val_main_v2
  generalize val_main_v1 (F := F) x0 = y
  exact shapeCast_apply y shapeCasts_S8192x2048_S8192x32x64 i (idx_main_v2 i)
    (by rewrite [Shape.rowMajor_val_two, Shape.rowMajor_val_three]; have h0 : (i 0).val < 8192 := (i 0).isLt; have h1 : (i 1).val < 32 := (i 1).isLt; have h2 : (i 2).val < 64 := (i 2).isLt; show (((i 0).val * 32 + (i 1).val) * 64 + (i 2).val) / 2048 * 2048 + (((i 0).val * 32 + (i 1).val) * 64 + (i 2).val) % 2048 = ((i 0).val * 32 + (i 1).val) * 64 + (i 2).val; omega)

-- %3 = stablehlo.convert %arg1 : (tensor<8192x2048xf32>) -> tensor<8192x2048xbf16>
def val_main_v3 (x1 : (⟨S8192x2048, .f32⟩ : BufTy).Contents (Elt F)) : (⟨S8192x2048, .bf16⟩ : BufTy).Contents (Elt F) :=
  truncf .bf16 (x1) bitsLt_bf16_f32
theorem val_main_v3_apply (x1 : (⟨S8192x2048, .f32⟩ : BufTy).Contents (Elt F)) (i : S8192x2048.Idx) :
    val_main_v3 (F := F) x1 i = FloatOps.truncf .bf16 bitsLt_bf16_f32 (x1 i) := rfl

-- %4 = stablehlo.convert %3 : (tensor<8192x2048xbf16>) -> tensor<8192x2048xf32>
def val_main_v4 (x1 : (⟨S8192x2048, .f32⟩ : BufTy).Contents (Elt F)) : (⟨S8192x2048, .f32⟩ : BufTy).Contents (Elt F) :=
  extf .f32 (val_main_v3 (F := F) x1) bitsLt_bf16_f32
theorem val_main_v4_apply (x1 : (⟨S8192x2048, .f32⟩ : BufTy).Contents (Elt F)) (i : S8192x2048.Idx) :
    val_main_v4 (F := F) x1 i = FloatOps.extf .f32 bitsLt_bf16_f32 (val_main_v3 (F := F) x1 i) := rfl

-- %5 = stablehlo.reshape %4 : (tensor<8192x2048xf32>) -> tensor<8192x32x64xf32>
def val_main_v5 (x1 : (⟨S8192x2048, .f32⟩ : BufTy).Contents (Elt F)) : (⟨S8192x32x64, .f32⟩ : BufTy).Contents (Elt F) :=
  shapeCast _ (val_main_v4 (F := F) x1) shapeCasts_S8192x2048_S8192x32x64
set_option backward.proofsInPublic true in
abbrev idx_main_v5 (i : S8192x32x64.Idx) : S8192x2048.Idx := fun a => match a with
  | ⟨0, _⟩ => ⟨(((i 0).val * 32 + (i 1).val) * 64 + (i 2).val) / 2048, by have h0 : (i 0).val < 8192 := (i 0).isLt; have h1 : (i 1).val < 32 := (i 1).isLt; have h2 : (i 2).val < 64 := (i 2).isLt; show (((i 0).val * 32 + (i 1).val) * 64 + (i 2).val) / 2048 < 8192; omega⟩
  | ⟨1, _⟩ => ⟨(((i 0).val * 32 + (i 1).val) * 64 + (i 2).val) % 2048, by have h0 : (i 0).val < 8192 := (i 0).isLt; have h1 : (i 1).val < 32 := (i 1).isLt; have h2 : (i 2).val < 64 := (i 2).isLt; show (((i 0).val * 32 + (i 1).val) * 64 + (i 2).val) % 2048 < 2048; omega⟩
theorem val_main_v5_apply (x1 : (⟨S8192x2048, .f32⟩ : BufTy).Contents (Elt F)) (i : S8192x32x64.Idx) :
    val_main_v5 (F := F) x1 i = val_main_v4 (F := F) x1 (idx_main_v5 i) := by
  unfold val_main_v5
  generalize val_main_v4 (F := F) x1 = y
  exact shapeCast_apply y shapeCasts_S8192x2048_S8192x32x64 i (idx_main_v5 i)
    (by rewrite [Shape.rowMajor_val_two, Shape.rowMajor_val_three]; have h0 : (i 0).val < 8192 := (i 0).isLt; have h1 : (i 1).val < 32 := (i 1).isLt; have h2 : (i 2).val < 64 := (i 2).isLt; show (((i 0).val * 32 + (i 1).val) * 64 + (i 2).val) / 2048 * 2048 + (((i 0).val * 32 + (i 1).val) * 64 + (i 2).val) % 2048 = ((i 0).val * 32 + (i 1).val) * 64 + (i 2).val; omega)

-- %6 = stablehlo.convert %arg2 : (tensor<8192x2048xf32>) -> tensor<8192x2048xbf16>
def val_main_v6 (x2 : (⟨S8192x2048, .f32⟩ : BufTy).Contents (Elt F)) : (⟨S8192x2048, .bf16⟩ : BufTy).Contents (Elt F) :=
  truncf .bf16 (x2) bitsLt_bf16_f32
theorem val_main_v6_apply (x2 : (⟨S8192x2048, .f32⟩ : BufTy).Contents (Elt F)) (i : S8192x2048.Idx) :
    val_main_v6 (F := F) x2 i = FloatOps.truncf .bf16 bitsLt_bf16_f32 (x2 i) := rfl

-- %7 = stablehlo.convert %6 : (tensor<8192x2048xbf16>) -> tensor<8192x2048xf32>
def val_main_v7 (x2 : (⟨S8192x2048, .f32⟩ : BufTy).Contents (Elt F)) : (⟨S8192x2048, .f32⟩ : BufTy).Contents (Elt F) :=
  extf .f32 (val_main_v6 (F := F) x2) bitsLt_bf16_f32
theorem val_main_v7_apply (x2 : (⟨S8192x2048, .f32⟩ : BufTy).Contents (Elt F)) (i : S8192x2048.Idx) :
    val_main_v7 (F := F) x2 i = FloatOps.extf .f32 bitsLt_bf16_f32 (val_main_v6 (F := F) x2 i) := rfl

-- %8 = stablehlo.reshape %7 : (tensor<8192x2048xf32>) -> tensor<8192x32x64xf32>
def val_main_v8 (x2 : (⟨S8192x2048, .f32⟩ : BufTy).Contents (Elt F)) : (⟨S8192x32x64, .f32⟩ : BufTy).Contents (Elt F) :=
  shapeCast _ (val_main_v7 (F := F) x2) shapeCasts_S8192x2048_S8192x32x64
set_option backward.proofsInPublic true in
abbrev idx_main_v8 (i : S8192x32x64.Idx) : S8192x2048.Idx := fun a => match a with
  | ⟨0, _⟩ => ⟨(((i 0).val * 32 + (i 1).val) * 64 + (i 2).val) / 2048, by have h0 : (i 0).val < 8192 := (i 0).isLt; have h1 : (i 1).val < 32 := (i 1).isLt; have h2 : (i 2).val < 64 := (i 2).isLt; show (((i 0).val * 32 + (i 1).val) * 64 + (i 2).val) / 2048 < 8192; omega⟩
  | ⟨1, _⟩ => ⟨(((i 0).val * 32 + (i 1).val) * 64 + (i 2).val) % 2048, by have h0 : (i 0).val < 8192 := (i 0).isLt; have h1 : (i 1).val < 32 := (i 1).isLt; have h2 : (i 2).val < 64 := (i 2).isLt; show (((i 0).val * 32 + (i 1).val) * 64 + (i 2).val) % 2048 < 2048; omega⟩
theorem val_main_v8_apply (x2 : (⟨S8192x2048, .f32⟩ : BufTy).Contents (Elt F)) (i : S8192x32x64.Idx) :
    val_main_v8 (F := F) x2 i = val_main_v7 (F := F) x2 (idx_main_v8 i) := by
  unfold val_main_v8
  generalize val_main_v7 (F := F) x2 = y
  exact shapeCast_apply y shapeCasts_S8192x2048_S8192x32x64 i (idx_main_v8 i)
    (by rewrite [Shape.rowMajor_val_two, Shape.rowMajor_val_three]; have h0 : (i 0).val < 8192 := (i 0).isLt; have h1 : (i 1).val < 32 := (i 1).isLt; have h2 : (i 2).val < 64 := (i 2).isLt; show (((i 0).val * 32 + (i 1).val) * 64 + (i 2).val) / 2048 * 2048 + (((i 0).val * 32 + (i 1).val) * 64 + (i 2).val) % 2048 = ((i 0).val * 32 + (i 1).val) * 64 + (i 2).val; omega)

-- %9 = stablehlo.convert %arg4 : (tensor<8192x2048xf32>) -> tensor<8192x2048xbf16>
def val_main_v9 (x4 : (⟨S8192x2048, .f32⟩ : BufTy).Contents (Elt F)) : (⟨S8192x2048, .bf16⟩ : BufTy).Contents (Elt F) :=
  truncf .bf16 (x4) bitsLt_bf16_f32
theorem val_main_v9_apply (x4 : (⟨S8192x2048, .f32⟩ : BufTy).Contents (Elt F)) (i : S8192x2048.Idx) :
    val_main_v9 (F := F) x4 i = FloatOps.truncf .bf16 bitsLt_bf16_f32 (x4 i) := rfl

-- %10 = stablehlo.convert %9 : (tensor<8192x2048xbf16>) -> tensor<8192x2048xf32>
def val_main_v10 (x4 : (⟨S8192x2048, .f32⟩ : BufTy).Contents (Elt F)) : (⟨S8192x2048, .f32⟩ : BufTy).Contents (Elt F) :=
  extf .f32 (val_main_v9 (F := F) x4) bitsLt_bf16_f32
theorem val_main_v10_apply (x4 : (⟨S8192x2048, .f32⟩ : BufTy).Contents (Elt F)) (i : S8192x2048.Idx) :
    val_main_v10 (F := F) x4 i = FloatOps.extf .f32 bitsLt_bf16_f32 (val_main_v9 (F := F) x4 i) := rfl

-- %11 = stablehlo.reshape %10 : (tensor<8192x2048xf32>) -> tensor<8192x32x64xf32>
def val_main_v11 (x4 : (⟨S8192x2048, .f32⟩ : BufTy).Contents (Elt F)) : (⟨S8192x32x64, .f32⟩ : BufTy).Contents (Elt F) :=
  shapeCast _ (val_main_v10 (F := F) x4) shapeCasts_S8192x2048_S8192x32x64
set_option backward.proofsInPublic true in
abbrev idx_main_v11 (i : S8192x32x64.Idx) : S8192x2048.Idx := fun a => match a with
  | ⟨0, _⟩ => ⟨(((i 0).val * 32 + (i 1).val) * 64 + (i 2).val) / 2048, by have h0 : (i 0).val < 8192 := (i 0).isLt; have h1 : (i 1).val < 32 := (i 1).isLt; have h2 : (i 2).val < 64 := (i 2).isLt; show (((i 0).val * 32 + (i 1).val) * 64 + (i 2).val) / 2048 < 8192; omega⟩
  | ⟨1, _⟩ => ⟨(((i 0).val * 32 + (i 1).val) * 64 + (i 2).val) % 2048, by have h0 : (i 0).val < 8192 := (i 0).isLt; have h1 : (i 1).val < 32 := (i 1).isLt; have h2 : (i 2).val < 64 := (i 2).isLt; show (((i 0).val * 32 + (i 1).val) * 64 + (i 2).val) % 2048 < 2048; omega⟩
theorem val_main_v11_apply (x4 : (⟨S8192x2048, .f32⟩ : BufTy).Contents (Elt F)) (i : S8192x32x64.Idx) :
    val_main_v11 (F := F) x4 i = val_main_v10 (F := F) x4 (idx_main_v11 i) := by
  unfold val_main_v11
  generalize val_main_v10 (F := F) x4 = y
  exact shapeCast_apply y shapeCasts_S8192x2048_S8192x32x64 i (idx_main_v11 i)
    (by rewrite [Shape.rowMajor_val_two, Shape.rowMajor_val_three]; have h0 : (i 0).val < 8192 := (i 0).isLt; have h1 : (i 1).val < 32 := (i 1).isLt; have h2 : (i 2).val < 64 := (i 2).isLt; show (((i 0).val * 32 + (i 1).val) * 64 + (i 2).val) / 2048 * 2048 + (((i 0).val * 32 + (i 1).val) * 64 + (i 2).val) % 2048 = ((i 0).val * 32 + (i 1).val) * 64 + (i 2).val; omega)

-- %12 = stablehlo.dot_general %2, %5, batching_dims = [1] x [1], contracting_dims = [2] x [2], precision = [DEFAULT, DEFAULT] : (tensor<8192x32x64xf32>, tensor<8192x32x64xf32>) -> tensor<32x8192x8192xf32>
def val_main_v12 (x0 x1 : (⟨S8192x2048, .f32⟩ : BufTy).Contents (Elt F)) : (⟨S32x8192x8192, .f32⟩ : BufTy).Contents (Elt F) :=
  Host.dotGeneral dot_S8192x32x64_S8192x32x64_S32x8192x8192_2_2_0_0_1_1 none (val_main_v2 (F := F) x0) (val_main_v5 (F := F) x1)
theorem lhs_main_v12_0 (i : S32x8192x8192.Idx) (q : dot_S8192x32x64_S8192x32x64_S32x8192x8192_2_2_0_0_1_1.contr.Idx) :
    (dot_S8192x32x64_S8192x32x64_S32x8192x8192_2_2_0_0_1_1.lhsIdx i q 0).val = (i 1).val := by
  unfold DotDims.lhsIdx
  rw [dif_neg (show ¬(0 : Fin S8192x32x64.rank) ∈ dot_S8192x32x64_S8192x32x64_S32x8192x8192_2_2_0_0_1_1.lhsBatch by decide), dif_pos (show (0 : Fin S8192x32x64.rank) ∈ dot_S8192x32x64_S8192x32x64_S32x8192x8192_2_2_0_0_1_1.lhsNonContracting by decide)]
  rfl
theorem lhs_main_v12_1 (i : S32x8192x8192.Idx) (q : dot_S8192x32x64_S8192x32x64_S32x8192x8192_2_2_0_0_1_1.contr.Idx) :
    (dot_S8192x32x64_S8192x32x64_S32x8192x8192_2_2_0_0_1_1.lhsIdx i q 1).val = (i 0).val := by
  unfold DotDims.lhsIdx
  rw [dif_pos (show (1 : Fin S8192x32x64.rank) ∈ dot_S8192x32x64_S8192x32x64_S32x8192x8192_2_2_0_0_1_1.lhsBatch by decide)]
  rfl
theorem lhs_main_v12_2 (i : S32x8192x8192.Idx) (q : dot_S8192x32x64_S8192x32x64_S32x8192x8192_2_2_0_0_1_1.contr.Idx) :
    (dot_S8192x32x64_S8192x32x64_S32x8192x8192_2_2_0_0_1_1.lhsIdx i q 2).val = (q ⟨0, by decide⟩).val :=
  dot_S8192x32x64_S8192x32x64_S32x8192x8192_2_2_0_0_1_1.lhsIdx_val_of_single rfl i q
theorem rhs_main_v12_0 (i : S32x8192x8192.Idx) (q : dot_S8192x32x64_S8192x32x64_S32x8192x8192_2_2_0_0_1_1.contr.Idx) :
    (dot_S8192x32x64_S8192x32x64_S32x8192x8192_2_2_0_0_1_1.rhsIdx i q 0).val = (i 2).val := by
  unfold DotDims.rhsIdx
  rw [dif_neg (show ¬(0 : Fin S8192x32x64.rank) ∈ dot_S8192x32x64_S8192x32x64_S32x8192x8192_2_2_0_0_1_1.rhsBatch by decide), dif_pos (show (0 : Fin S8192x32x64.rank) ∈ dot_S8192x32x64_S8192x32x64_S32x8192x8192_2_2_0_0_1_1.rhsNonContracting by decide)]
  rfl
theorem rhs_main_v12_1 (i : S32x8192x8192.Idx) (q : dot_S8192x32x64_S8192x32x64_S32x8192x8192_2_2_0_0_1_1.contr.Idx) :
    (dot_S8192x32x64_S8192x32x64_S32x8192x8192_2_2_0_0_1_1.rhsIdx i q 1).val = (i 0).val := by
  unfold DotDims.rhsIdx
  rw [dif_pos (show (1 : Fin S8192x32x64.rank) ∈ dot_S8192x32x64_S8192x32x64_S32x8192x8192_2_2_0_0_1_1.rhsBatch by decide)]
  rfl
theorem rhs_main_v12_2 (i : S32x8192x8192.Idx) (q : dot_S8192x32x64_S8192x32x64_S32x8192x8192_2_2_0_0_1_1.contr.Idx) :
    (dot_S8192x32x64_S8192x32x64_S32x8192x8192_2_2_0_0_1_1.rhsIdx i q 2).val = (q ⟨0, by decide⟩).val :=
  dot_S8192x32x64_S8192x32x64_S32x8192x8192_2_2_0_0_1_1.rhsIdx_val_of_single rfl i q
abbrev lidx_main_v12 (i : S32x8192x8192.Idx) (k : Fin 64) : S8192x32x64.Idx := fun a => match a with
  | ⟨0, _⟩ => ⟨(i 1).val, (i 1).isLt⟩
  | ⟨1, _⟩ => ⟨(i 0).val, (i 0).isLt⟩
  | ⟨2, _⟩ => ⟨k.val, k.isLt⟩
abbrev ridx_main_v12 (i : S32x8192x8192.Idx) (k : Fin 64) : S8192x32x64.Idx := fun a => match a with
  | ⟨0, _⟩ => ⟨(i 2).val, (i 2).isLt⟩
  | ⟨1, _⟩ => ⟨(i 0).val, (i 0).isLt⟩
  | ⟨2, _⟩ => ⟨k.val, k.isLt⟩
/-- Stated at `F := Ideal`, where the host's `dot_general` is this sum; at a bit-exact instance it is an opaque function of its operands. -/
theorem val_main_v12_apply (x0 x1 : (⟨S8192x2048, .f32⟩ : BufTy).Contents (Elt Ideal)) (i : S32x8192x8192.Idx) :
    val_main_v12 (F := Ideal) x0 x1 i = ∑ k : Fin 64, (val_main_v2 (F := Ideal) x0) (lidx_main_v12 i k) * (val_main_v5 (F := Ideal) x1) (ridx_main_v12 i k) := by
  unfold val_main_v12
  generalize val_main_v2 (F := Ideal) x0 = y0
  generalize val_main_v5 (F := Ideal) x1 = y1
  simp only [Host.dotGeneral]
  rw [Ideal.dotGeneral_apply, ← Equiv.sum_comp (ValueIdx.contrEquiv1 dot_S8192x32x64_S8192x32x64_S32x8192x8192_2_2_0_0_1_1 64 rfl rfl).symm]
  refine Finset.sum_congr rfl fun k _ => ?_
  have hk := ValueIdx.contrEquiv1_symm_val dot_S8192x32x64_S8192x32x64_S32x8192x8192_2_2_0_0_1_1 64 rfl rfl k
  have el : dot_S8192x32x64_S8192x32x64_S32x8192x8192_2_2_0_0_1_1.lhsIdx i ((ValueIdx.contrEquiv1 dot_S8192x32x64_S8192x32x64_S32x8192x8192_2_2_0_0_1_1 64 rfl rfl).symm k) = lidx_main_v12 i k := funext fun a => Fin.ext (by
    match a with
    | ⟨0, _⟩ => exact lhs_main_v12_0 _ _
    | ⟨1, _⟩ => exact lhs_main_v12_1 _ _
    | ⟨2, _⟩ => exact (lhs_main_v12_2 _ _).trans hk)
  have er : dot_S8192x32x64_S8192x32x64_S32x8192x8192_2_2_0_0_1_1.rhsIdx i ((ValueIdx.contrEquiv1 dot_S8192x32x64_S8192x32x64_S32x8192x8192_2_2_0_0_1_1 64 rfl rfl).symm k) = ridx_main_v12 i k := funext fun a => Fin.ext (by
    match a with
    | ⟨0, _⟩ => exact rhs_main_v12_0 _ _
    | ⟨1, _⟩ => exact rhs_main_v12_1 _ _
    | ⟨2, _⟩ => exact (rhs_main_v12_2 _ _).trans hk)
  rw [el, er]

-- %cst = stablehlo.constant dense<1.250000e-01> : tensor<f32>
def val_main_cst : (⟨S_, .f32⟩ : BufTy).Contents (Elt F) :=
  constant S_ .f32 0x3E000000#32
theorem val_main_cst_apply (i : S_.Idx) :
    val_main_cst (F := F) i = FloatOps.ofBits .f32 0x3E000000#32 := rfl

-- %13 = stablehlo.broadcast_in_dim %cst, dims = [] : (tensor<f32>) -> tensor<32x8192x8192xf32>
def val_main_v13 : (⟨S32x8192x8192, .f32⟩ : BufTy).Contents (Elt F) :=
  broadcastInDim S32x8192x8192 ![] bcast_S_S32x8192x8192 (val_main_cst (F := F))
abbrev idx_main_v13 (i : S32x8192x8192.Idx) : S_.Idx := fun a => a.elim0
theorem val_main_v13_apply (i : S32x8192x8192.Idx) :
    val_main_v13 (F := F) i = val_main_cst (F := F) (idx_main_v13 i) := by
  unfold val_main_v13
  generalize val_main_cst (F := F) = y
  exact broadcastInDim_apply _ bcast_S_S32x8192x8192 y i (idx_main_v13 i) (fun a => a.elim0)

-- %14 = stablehlo.multiply %12, %13 : tensor<32x8192x8192xf32>
def val_main_v14 (x0 x1 : (⟨S8192x2048, .f32⟩ : BufTy).Contents (Elt F)) : (⟨S32x8192x8192, .f32⟩ : BufTy).Contents (Elt F) :=
  mulf (val_main_v12 (F := F) x0 x1) (val_main_v13 (F := F))
theorem val_main_v14_apply (x0 x1 : (⟨S8192x2048, .f32⟩ : BufTy).Contents (Elt F)) (i : S32x8192x8192.Idx) :
    val_main_v14 (F := F) x0 x1 i = FloatOps.mulf (val_main_v12 (F := F) x0 x1 i) (val_main_v13 (F := F) i) := rfl

-- %15 = stablehlo.transpose %arg3, dims = [1, 0] : (tensor<8192x32xf32>) -> tensor<32x8192xf32>
def val_main_v15 (x3 : (⟨S8192x32, .f32⟩ : BufTy).Contents (Elt F)) : (⟨S32x8192, .f32⟩ : BufTy).Contents (Elt F) :=
  transpose S32x8192 [1, 0] (x3) transposes_S8192x32_S32x8192_1_0
abbrev idx_main_v15 (i : S32x8192.Idx) : S8192x32.Idx := fun a => match a with
  | ⟨0, _⟩ => ⟨(i 1).val, (i 1).isLt⟩
  | ⟨1, _⟩ => ⟨(i 0).val, (i 0).isLt⟩
theorem val_main_v15_apply (x3 : (⟨S8192x32, .f32⟩ : BufTy).Contents (Elt F)) (i : S32x8192.Idx) :
    val_main_v15 (F := F) x3 i = x3 (idx_main_v15 i) := by
  unfold val_main_v15
  exact transpose_apply [1, 0] x3 transposes_S8192x32_S32x8192_1_0 i (idx_main_v15 i) (fun b => match b with
    | ⟨0, _⟩ => rfl
    | ⟨1, _⟩ => rfl)

-- %16 = stablehlo.broadcast_in_dim %15, dims = [0, 2] : (tensor<32x8192xf32>) -> tensor<32x1x8192xf32>
def val_main_v16 (x3 : (⟨S8192x32, .f32⟩ : BufTy).Contents (Elt F)) : (⟨S32x1x8192, .f32⟩ : BufTy).Contents (Elt F) :=
  broadcastInDim S32x1x8192 ![0, 2] bcast_S32x8192_S32x1x8192_0_2 (val_main_v15 (F := F) x3)
abbrev idx_main_v16 (i : S32x1x8192.Idx) : S32x8192.Idx := fun a => match a with
  | ⟨0, _⟩ => ⟨(i 0).val, (i 0).isLt⟩
  | ⟨1, _⟩ => ⟨(i 2).val, (i 2).isLt⟩
theorem val_main_v16_apply (x3 : (⟨S8192x32, .f32⟩ : BufTy).Contents (Elt F)) (i : S32x1x8192.Idx) :
    val_main_v16 (F := F) x3 i = val_main_v15 (F := F) x3 (idx_main_v16 i) := by
  unfold val_main_v16
  generalize val_main_v15 (F := F) x3 = y
  exact broadcastInDim_apply _ bcast_S32x8192_S32x1x8192_0_2 y i (idx_main_v16 i) (fun a => match a with
    | ⟨0, _⟩ => by show (i 0).val = if (32 : Nat) = 1 then 0 else (i 0).val; rw [if_neg (by decide)]
    | ⟨1, _⟩ => by show (i 2).val = if (8192 : Nat) = 1 then 0 else (i 2).val; rw [if_neg (by decide)])

-- %17 = stablehlo.broadcast_in_dim %16, dims = [0, 1, 2] : (tensor<32x1x8192xf32>) -> tensor<32x8192x8192xf32>
def val_main_v17 (x3 : (⟨S8192x32, .f32⟩ : BufTy).Contents (Elt F)) : (⟨S32x8192x8192, .f32⟩ : BufTy).Contents (Elt F) :=
  broadcastInDim S32x8192x8192 ![0, 1, 2] bcast_S32x1x8192_S32x8192x8192_0_1_2 (val_main_v16 (F := F) x3)
abbrev idx_main_v17 (i : S32x8192x8192.Idx) : S32x1x8192.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v17_apply (x3 : (⟨S8192x32, .f32⟩ : BufTy).Contents (Elt F)) (i : S32x8192x8192.Idx) :
    val_main_v17 (F := F) x3 i = val_main_v16 (F := F) x3 (idx_main_v17 i) := by
  unfold val_main_v17
  generalize val_main_v16 (F := F) x3 = y
  exact broadcastInDim_apply _ bcast_S32x1x8192_S32x8192x8192_0_1_2 y i (idx_main_v17 i) (fun a => match a with
    | ⟨0, _⟩ => by show (i 0).val = if (32 : Nat) = 1 then 0 else (i 0).val; rw [if_neg (by decide)]
    | ⟨1, _⟩ => by show 0 = if (1 : Nat) = 1 then 0 else (i 1).val; rw [if_pos rfl]
    | ⟨2, _⟩ => by show (i 2).val = if (8192 : Nat) = 1 then 0 else (i 2).val; rw [if_neg (by decide)])

-- %18 = stablehlo.subtract %14, %17 : tensor<32x8192x8192xf32>
def val_main_v18 (x0 x1 : (⟨S8192x2048, .f32⟩ : BufTy).Contents (Elt F)) (x3 : (⟨S8192x32, .f32⟩ : BufTy).Contents (Elt F)) : (⟨S32x8192x8192, .f32⟩ : BufTy).Contents (Elt F) :=
  subf (val_main_v14 (F := F) x0 x1) (val_main_v17 (F := F) x3)
theorem val_main_v18_apply (x0 x1 : (⟨S8192x2048, .f32⟩ : BufTy).Contents (Elt F)) (x3 : (⟨S8192x32, .f32⟩ : BufTy).Contents (Elt F)) (i : S32x8192x8192.Idx) :
    val_main_v18 (F := F) x0 x1 x3 i = FloatOps.subf (val_main_v14 (F := F) x0 x1 i) (val_main_v17 (F := F) x3 i) := rfl

-- %19 = stablehlo.iota dim = 0 : tensor<8192xi32>
def val_main_v19 : (⟨S8192, .i32⟩ : BufTy).Contents (Elt F) :=
  iotaInDim S8192 32 0
theorem val_main_v19_apply (i : S8192.Idx) :
    val_main_v19 (F := F) i = BitVec.ofNat 32 (i 0).val := rfl

-- %20 = stablehlo.broadcast_in_dim %19, dims = [1] : (tensor<8192xi32>) -> tensor<1x8192xi32>
def val_main_v20 : (⟨S1x8192, .i32⟩ : BufTy).Contents (Elt F) :=
  broadcastInDim S1x8192 ![1] bcast_S8192_S1x8192_1 (val_main_v19 (F := F))
abbrev idx_main_v20 (i : S1x8192.Idx) : S8192.Idx := fun a => match a with
  | ⟨0, _⟩ => ⟨(i 1).val, (i 1).isLt⟩
theorem val_main_v20_apply (i : S1x8192.Idx) :
    val_main_v20 (F := F) i = val_main_v19 (F := F) (idx_main_v20 i) := by
  unfold val_main_v20
  generalize val_main_v19 (F := F) = y
  exact broadcastInDim_apply _ bcast_S8192_S1x8192_1 y i (idx_main_v20 i) (fun a => match a with
    | ⟨0, _⟩ => by show (i 1).val = if (8192 : Nat) = 1 then 0 else (i 1).val; rw [if_neg (by decide)])

-- %21 = stablehlo.iota dim = 0 : tensor<8192xi32>
def val_main_v21 : (⟨S8192, .i32⟩ : BufTy).Contents (Elt F) :=
  iotaInDim S8192 32 0
theorem val_main_v21_apply (i : S8192.Idx) :
    val_main_v21 (F := F) i = BitVec.ofNat 32 (i 0).val := rfl

-- %22 = stablehlo.broadcast_in_dim %21, dims = [0] : (tensor<8192xi32>) -> tensor<8192x1xi32>
def val_main_v22 : (⟨S8192x1, .i32⟩ : BufTy).Contents (Elt F) :=
  broadcastInDim S8192x1 ![0] bcast_S8192_S8192x1_0 (val_main_v21 (F := F))
abbrev idx_main_v22 (i : S8192x1.Idx) : S8192.Idx := fun a => match a with
  | ⟨0, _⟩ => ⟨(i 0).val, (i 0).isLt⟩
theorem val_main_v22_apply (i : S8192x1.Idx) :
    val_main_v22 (F := F) i = val_main_v21 (F := F) (idx_main_v22 i) := by
  unfold val_main_v22
  generalize val_main_v21 (F := F) = y
  exact broadcastInDim_apply _ bcast_S8192_S8192x1_0 y i (idx_main_v22 i) (fun a => match a with
    | ⟨0, _⟩ => by show (i 0).val = if (8192 : Nat) = 1 then 0 else (i 0).val; rw [if_neg (by decide)])

-- %23 = stablehlo.broadcast_in_dim %20, dims = [0, 1] : (tensor<1x8192xi32>) -> tensor<8192x8192xi32>
def val_main_v23 : (⟨S8192x8192, .i32⟩ : BufTy).Contents (Elt F) :=
  broadcastInDim S8192x8192 ![0, 1] bcast_S1x8192_S8192x8192_0_1 (val_main_v20 (F := F))
abbrev idx_main_v23 (i : S8192x8192.Idx) : S1x8192.Idx := fun a => match a with
  | ⟨0, _⟩ => ⟨0, Nat.one_pos⟩
  | ⟨1, _⟩ => ⟨(i 1).val, (i 1).isLt⟩
theorem val_main_v23_apply (i : S8192x8192.Idx) :
    val_main_v23 (F := F) i = val_main_v20 (F := F) (idx_main_v23 i) := by
  unfold val_main_v23
  generalize val_main_v20 (F := F) = y
  exact broadcastInDim_apply _ bcast_S1x8192_S8192x8192_0_1 y i (idx_main_v23 i) (fun a => match a with
    | ⟨0, _⟩ => by show 0 = if (1 : Nat) = 1 then 0 else (i 0).val; rw [if_pos rfl]
    | ⟨1, _⟩ => by show (i 1).val = if (8192 : Nat) = 1 then 0 else (i 1).val; rw [if_neg (by decide)])

-- %24 = stablehlo.broadcast_in_dim %22, dims = [0, 1] : (tensor<8192x1xi32>) -> tensor<8192x8192xi32>
def val_main_v24 : (⟨S8192x8192, .i32⟩ : BufTy).Contents (Elt F) :=
  broadcastInDim S8192x8192 ![0, 1] bcast_S8192x1_S8192x8192_0_1 (val_main_v22 (F := F))
abbrev idx_main_v24 (i : S8192x8192.Idx) : S8192x1.Idx := fun a => match a with
  | ⟨0, _⟩ => ⟨(i 0).val, (i 0).isLt⟩
  | ⟨1, _⟩ => ⟨0, Nat.one_pos⟩
theorem val_main_v24_apply (i : S8192x8192.Idx) :
    val_main_v24 (F := F) i = val_main_v22 (F := F) (idx_main_v24 i) := by
  unfold val_main_v24
  generalize val_main_v22 (F := F) = y
  exact broadcastInDim_apply _ bcast_S8192x1_S8192x8192_0_1 y i (idx_main_v24 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

-- %25 = stablehlo.compare LE, %23, %24, SIGNED : (tensor<8192x8192xi32>, tensor<8192x8192xi32>) -> tensor<8192x8192xi1>
def val_main_v25 : (⟨S8192x8192, .i1⟩ : BufTy).Contents (Elt F) :=
  cmpi .sle (val_main_v23 (F := F)) (val_main_v24 (F := F))
theorem val_main_v25_apply (i : S8192x8192.Idx) :
    val_main_v25 (F := F) i = IntOp.cmpi .sle (val_main_v23 (F := F) i) (val_main_v24 (F := F) i) := rfl

-- %26 = stablehlo.broadcast_in_dim %25, dims = [1, 2] : (tensor<8192x8192xi1>) -> tensor<1x8192x8192xi1>
def val_main_v26 : (⟨S1x8192x8192, .i1⟩ : BufTy).Contents (Elt F) :=
  broadcastInDim S1x8192x8192 ![1, 2] bcast_S8192x8192_S1x8192x8192_1_2 (val_main_v25 (F := F))
abbrev idx_main_v26 (i : S1x8192x8192.Idx) : S8192x8192.Idx := fun a => match a with
  | ⟨0, _⟩ => ⟨(i 1).val, (i 1).isLt⟩
  | ⟨1, _⟩ => ⟨(i 2).val, (i 2).isLt⟩
theorem val_main_v26_apply (i : S1x8192x8192.Idx) :
    val_main_v26 (F := F) i = val_main_v25 (F := F) (idx_main_v26 i) := by
  unfold val_main_v26
  generalize val_main_v25 (F := F) = y
  exact broadcastInDim_apply _ bcast_S8192x8192_S1x8192x8192_1_2 y i (idx_main_v26 i) (fun a => match a with
    | ⟨0, _⟩ => by show (i 1).val = if (8192 : Nat) = 1 then 0 else (i 1).val; rw [if_neg (by decide)]
    | ⟨1, _⟩ => by show (i 2).val = if (8192 : Nat) = 1 then 0 else (i 2).val; rw [if_neg (by decide)])

-- %cst_0 = stablehlo.constant dense<0xFF800000> : tensor<f32>
def val_main_cst_0 : (⟨S_, .f32⟩ : BufTy).Contents (Elt F) :=
  constant S_ .f32 0xFF800000#32
theorem val_main_cst_0_apply (i : S_.Idx) :
    val_main_cst_0 (F := F) i = FloatOps.ofBits .f32 0xFF800000#32 := rfl

-- @_where's %0 = stablehlo.convert %arg2 : tensor<f32>, in %27 = func.call @_where(…) (record main_call0)
def val_main_call0_v0 : (⟨S_, .f32⟩ : BufTy).Contents (Elt F) :=
  id (val_main_cst_0 (F := F))
theorem val_main_call0_v0_apply (i : S_.Idx) :
    val_main_call0_v0 (F := F) i = (val_main_cst_0 (F := F) i) := rfl

-- @_where's %1 = stablehlo.broadcast_in_dim %arg0, dims = [0, 1, 2] : (tensor<1x8192x8192xi1>) -> tensor<32x8192x8192xi1>, in %27 = func.call @_where(…) (record main_call0)
def val_main_call0_v1 : (⟨S32x8192x8192, .i1⟩ : BufTy).Contents (Elt F) :=
  broadcastInDim S32x8192x8192 ![0, 1, 2] bcast_S1x8192x8192_S32x8192x8192_0_1_2 (val_main_v26 (F := F))
abbrev idx_main_call0_v1 (i : S32x8192x8192.Idx) : S1x8192x8192.Idx := fun a => match a with
  | ⟨0, _⟩ => ⟨0, Nat.one_pos⟩
  | ⟨1, _⟩ => ⟨(i 1).val, (i 1).isLt⟩
  | ⟨2, _⟩ => ⟨(i 2).val, (i 2).isLt⟩
theorem val_main_call0_v1_apply (i : S32x8192x8192.Idx) :
    val_main_call0_v1 (F := F) i = val_main_v26 (F := F) (idx_main_call0_v1 i) := by
  unfold val_main_call0_v1
  generalize val_main_v26 (F := F) = y
  exact broadcastInDim_apply _ bcast_S1x8192x8192_S32x8192x8192_0_1_2 y i (idx_main_call0_v1 i) (fun a => match a with
    | ⟨0, _⟩ => by show 0 = if (1 : Nat) = 1 then 0 else (i 0).val; rw [if_pos rfl]
    | ⟨1, _⟩ => by show (i 1).val = if (8192 : Nat) = 1 then 0 else (i 1).val; rw [if_neg (by decide)]
    | ⟨2, _⟩ => by show (i 2).val = if (8192 : Nat) = 1 then 0 else (i 2).val; rw [if_neg (by decide)])

-- @_where's %2 = stablehlo.broadcast_in_dim %0, dims = [] : (tensor<f32>) -> tensor<32x8192x8192xf32>, in %27 = func.call @_where(…) (record main_call0)
def val_main_call0_v2 : (⟨S32x8192x8192, .f32⟩ : BufTy).Contents (Elt F) :=
  broadcastInDim S32x8192x8192 ![] bcast_S_S32x8192x8192 (val_main_call0_v0 (F := F))
abbrev idx_main_call0_v2 (i : S32x8192x8192.Idx) : S_.Idx := fun a => a.elim0
theorem val_main_call0_v2_apply (i : S32x8192x8192.Idx) :
    val_main_call0_v2 (F := F) i = val_main_call0_v0 (F := F) (idx_main_call0_v2 i) := by
  unfold val_main_call0_v2
  generalize val_main_call0_v0 (F := F) = y
  exact broadcastInDim_apply _ bcast_S_S32x8192x8192 y i (idx_main_call0_v2 i) (fun a => a.elim0)

-- %27 = func.call @_where(…) (record main_call0) result 0: @_where's %3 = stablehlo.select %1, %arg1, %2 : tensor<32x8192x8192xi1>, tensor<32x8192x8192xf32>
def val_main_v27 (x0 x1 : (⟨S8192x2048, .f32⟩ : BufTy).Contents (Elt F)) (x3 : (⟨S8192x32, .f32⟩ : BufTy).Contents (Elt F)) : (⟨S32x8192x8192, .f32⟩ : BufTy).Contents (Elt F) :=
  select (val_main_call0_v1 (F := F)) (val_main_v18 (F := F) x0 x1 x3) (val_main_call0_v2 (F := F))
theorem val_main_v27_apply (x0 x1 : (⟨S8192x2048, .f32⟩ : BufTy).Contents (Elt F)) (x3 : (⟨S8192x32, .f32⟩ : BufTy).Contents (Elt F)) (i : S32x8192x8192.Idx) :
    val_main_v27 (F := F) x0 x1 x3 i = Scalar.select (val_main_call0_v1 (F := F) i) (val_main_v18 (F := F) x0 x1 x3 i) (val_main_call0_v2 (F := F) i) := rfl

-- %cst_1 = stablehlo.constant dense<0xFF800000> : tensor<f32>
def val_main_cst_1 : (⟨S_, .f32⟩ : BufTy).Contents (Elt F) :=
  constant S_ .f32 0xFF800000#32
theorem val_main_cst_1_apply (i : S_.Idx) :
    val_main_cst_1 (F := F) i = FloatOps.ofBits .f32 0xFF800000#32 := rfl

-- %28 = stablehlo.reduce(%27 init: %cst_1) applies stablehlo.maximum across dimensions = [2] : (tensor<32x8192x8192xf32>, tensor<f32>) -> tensor<32x8192xf32> {
def val_main_v28 (x0 x1 : (⟨S8192x2048, .f32⟩ : BufTy).Contents (Elt F)) (x3 : (⟨S8192x32, .f32⟩ : BufTy).Contents (Elt F)) : (⟨S32x8192, .f32⟩ : BufTy).Contents (Elt F) :=
  Host.reduce FloatOps.maximumf (val_main_v27 (F := F) x0 x1 x3) (val_main_cst_1 (F := F)) reducesTo_S32x8192x8192_S32x8192_d2 h_S_

-- %29 = stablehlo.broadcast_in_dim %28, dims = [0, 1] : (tensor<32x8192xf32>) -> tensor<32x8192x1xf32>
def val_main_v29 (x0 x1 : (⟨S8192x2048, .f32⟩ : BufTy).Contents (Elt F)) (x3 : (⟨S8192x32, .f32⟩ : BufTy).Contents (Elt F)) : (⟨S32x8192x1, .f32⟩ : BufTy).Contents (Elt F) :=
  broadcastInDim S32x8192x1 ![0, 1] bcast_S32x8192_S32x8192x1_0_1 (val_main_v28 (F := F) x0 x1 x3)
abbrev idx_main_v29 (i : S32x8192x1.Idx) : S32x8192.Idx := fun a => match a with
  | ⟨0, _⟩ => ⟨(i 0).val, (i 0).isLt⟩
  | ⟨1, _⟩ => ⟨(i 1).val, (i 1).isLt⟩
theorem val_main_v29_apply (x0 x1 : (⟨S8192x2048, .f32⟩ : BufTy).Contents (Elt F)) (x3 : (⟨S8192x32, .f32⟩ : BufTy).Contents (Elt F)) (i : S32x8192x1.Idx) :
    val_main_v29 (F := F) x0 x1 x3 i = val_main_v28 (F := F) x0 x1 x3 (idx_main_v29 i) := by
  unfold val_main_v29
  generalize val_main_v28 (F := F) x0 x1 x3 = y
  exact broadcastInDim_apply _ bcast_S32x8192_S32x8192x1_0_1 y i (idx_main_v29 i) (fun a => match a with
    | ⟨0, _⟩ => by show (i 0).val = if (32 : Nat) = 1 then 0 else (i 0).val; rw [if_neg (by decide)]
    | ⟨1, _⟩ => by show (i 1).val = if (8192 : Nat) = 1 then 0 else (i 1).val; rw [if_neg (by decide)])

-- %30 = stablehlo.broadcast_in_dim %29, dims = [0, 1, 2] : (tensor<32x8192x1xf32>) -> tensor<32x8192x8192xf32>
def val_main_v30 (x0 x1 : (⟨S8192x2048, .f32⟩ : BufTy).Contents (Elt F)) (x3 : (⟨S8192x32, .f32⟩ : BufTy).Contents (Elt F)) : (⟨S32x8192x8192, .f32⟩ : BufTy).Contents (Elt F) :=
  broadcastInDim S32x8192x8192 ![0, 1, 2] bcast_S32x8192x1_S32x8192x8192_0_1_2 (val_main_v29 (F := F) x0 x1 x3)
abbrev idx_main_v30 (i : S32x8192x8192.Idx) : S32x8192x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v30_apply (x0 x1 : (⟨S8192x2048, .f32⟩ : BufTy).Contents (Elt F)) (x3 : (⟨S8192x32, .f32⟩ : BufTy).Contents (Elt F)) (i : S32x8192x8192.Idx) :
    val_main_v30 (F := F) x0 x1 x3 i = val_main_v29 (F := F) x0 x1 x3 (idx_main_v30 i) := by
  unfold val_main_v30
  generalize val_main_v29 (F := F) x0 x1 x3 = y
  exact broadcastInDim_apply _ bcast_S32x8192x1_S32x8192x8192_0_1_2 y i (idx_main_v30 i) (fun a => match a with
    | ⟨0, _⟩ => by show (i 0).val = if (32 : Nat) = 1 then 0 else (i 0).val; rw [if_neg (by decide)]
    | ⟨1, _⟩ => by show (i 1).val = if (8192 : Nat) = 1 then 0 else (i 1).val; rw [if_neg (by decide)]
    | ⟨2, _⟩ => by show 0 = if (1 : Nat) = 1 then 0 else (i 2).val; rw [if_pos rfl])

-- %31 = stablehlo.subtract %27, %30 : tensor<32x8192x8192xf32>
def val_main_v31 (x0 x1 : (⟨S8192x2048, .f32⟩ : BufTy).Contents (Elt F)) (x3 : (⟨S8192x32, .f32⟩ : BufTy).Contents (Elt F)) : (⟨S32x8192x8192, .f32⟩ : BufTy).Contents (Elt F) :=
  subf (val_main_v27 (F := F) x0 x1 x3) (val_main_v30 (F := F) x0 x1 x3)
theorem val_main_v31_apply (x0 x1 : (⟨S8192x2048, .f32⟩ : BufTy).Contents (Elt F)) (x3 : (⟨S8192x32, .f32⟩ : BufTy).Contents (Elt F)) (i : S32x8192x8192.Idx) :
    val_main_v31 (F := F) x0 x1 x3 i = FloatOps.subf (val_main_v27 (F := F) x0 x1 x3 i) (val_main_v30 (F := F) x0 x1 x3 i) := rfl

-- %32 = stablehlo.exponential %31 : tensor<32x8192x8192xf32>
def val_main_v32 (x0 x1 : (⟨S8192x2048, .f32⟩ : BufTy).Contents (Elt F)) (x3 : (⟨S8192x32, .f32⟩ : BufTy).Contents (Elt F)) : (⟨S32x8192x8192, .f32⟩ : BufTy).Contents (Elt F) :=
  Host.exp (val_main_v31 (F := F) x0 x1 x3)
theorem val_main_v32_apply (x0 x1 : (⟨S8192x2048, .f32⟩ : BufTy).Contents (Elt F)) (x3 : (⟨S8192x32, .f32⟩ : BufTy).Contents (Elt F)) (i : S32x8192x8192.Idx) :
    val_main_v32 (F := F) x0 x1 x3 i = FloatOps.hostUnary .exp (val_main_v31 (F := F) x0 x1 x3 i) := rfl

-- %cst_2 = stablehlo.constant dense<0.000000e+00> : tensor<f32>
def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

-- %33 = stablehlo.reduce(%32 init: %cst_2) applies stablehlo.add across dimensions = [2] : (tensor<32x8192x8192xf32>, tensor<f32>) -> tensor<32x8192xf32> {
def val_main_v33 (x0 x1 : (⟨S8192x2048, .f32⟩ : BufTy).Contents (Elt F)) (x3 : (⟨S8192x32, .f32⟩ : BufTy).Contents (Elt F)) : (⟨S32x8192, .f32⟩ : BufTy).Contents (Elt F) :=
  Host.reduceAdd (val_main_v32 (F := F) x0 x1 x3) (val_main_cst_2 (F := F)) reducesTo_S32x8192x8192_S32x8192_d2 h_S_
abbrev idx_main_v33 (i : S32x8192.Idx) (k : Fin 8192) : S32x8192x8192.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v33_apply (x0 x1 : (⟨S8192x2048, .f32⟩ : BufTy).Contents (Elt Ideal)) (x3 : (⟨S8192x32, .f32⟩ : BufTy).Contents (Elt Ideal)) (i : S32x8192.Idx) :
    val_main_v33 (F := Ideal) x0 x1 x3 i = (val_main_cst_2 (F := Ideal)) (Shape.Idx.first h_S_) + ∑ k : Fin 8192, (val_main_v32 (F := Ideal) x0 x1 x3) (idx_main_v33 i k) := by
  unfold val_main_v33
  generalize val_main_v32 (F := Ideal) x0 x1 x3 = y0
  simp only [Host.reduceAdd, Ideal.hostReduceAdd_def]
  rw [Ideal.hostReduceAdd_single reducesTo_S32x8192x8192_S32x8192_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %34 = stablehlo.broadcast_in_dim %33, dims = [0, 1] : (tensor<32x8192xf32>) -> tensor<32x8192x1xf32>
def val_main_v34 (x0 x1 : (⟨S8192x2048, .f32⟩ : BufTy).Contents (Elt F)) (x3 : (⟨S8192x32, .f32⟩ : BufTy).Contents (Elt F)) : (⟨S32x8192x1, .f32⟩ : BufTy).Contents (Elt F) :=
  broadcastInDim S32x8192x1 ![0, 1] bcast_S32x8192_S32x8192x1_0_1 (val_main_v33 (F := F) x0 x1 x3)
abbrev idx_main_v34 (i : S32x8192x1.Idx) : S32x8192.Idx := fun a => match a with
  | ⟨0, _⟩ => ⟨(i 0).val, (i 0).isLt⟩
  | ⟨1, _⟩ => ⟨(i 1).val, (i 1).isLt⟩
theorem val_main_v34_apply (x0 x1 : (⟨S8192x2048, .f32⟩ : BufTy).Contents (Elt F)) (x3 : (⟨S8192x32, .f32⟩ : BufTy).Contents (Elt F)) (i : S32x8192x1.Idx) :
    val_main_v34 (F := F) x0 x1 x3 i = val_main_v33 (F := F) x0 x1 x3 (idx_main_v34 i) := by
  unfold val_main_v34
  generalize val_main_v33 (F := F) x0 x1 x3 = y
  exact broadcastInDim_apply _ bcast_S32x8192_S32x8192x1_0_1 y i (idx_main_v34 i) (fun a => match a with
    | ⟨0, _⟩ => by show (i 0).val = if (32 : Nat) = 1 then 0 else (i 0).val; rw [if_neg (by decide)]
    | ⟨1, _⟩ => by show (i 1).val = if (8192 : Nat) = 1 then 0 else (i 1).val; rw [if_neg (by decide)])

-- %35 = stablehlo.dot_general %32, %8, batching_dims = [0] x [1], contracting_dims = [2] x [0], precision = [DEFAULT, DEFAULT] : (tensor<32x8192x8192xf32>, tensor<8192x32x64xf32>) -> tensor<32x8192x64xf32>
def val_main_v35 (x0 x1 x2 : (⟨S8192x2048, .f32⟩ : BufTy).Contents (Elt F)) (x3 : (⟨S8192x32, .f32⟩ : BufTy).Contents (Elt F)) : (⟨S32x8192x64, .f32⟩ : BufTy).Contents (Elt F) :=
  Host.dotGeneral dot_S32x8192x8192_S8192x32x64_S32x8192x64_2_0_1_2_0_1 none (val_main_v32 (F := F) x0 x1 x3) (val_main_v8 (F := F) x2)
theorem lhs_main_v35_0 (i : S32x8192x64.Idx) (q : dot_S32x8192x8192_S8192x32x64_S32x8192x64_2_0_1_2_0_1.contr.Idx) :
    (dot_S32x8192x8192_S8192x32x64_S32x8192x64_2_0_1_2_0_1.lhsIdx i q 0).val = (i 0).val := by
  unfold DotDims.lhsIdx
  rw [dif_pos (show (0 : Fin S32x8192x8192.rank) ∈ dot_S32x8192x8192_S8192x32x64_S32x8192x64_2_0_1_2_0_1.lhsBatch by decide)]
  rfl
theorem lhs_main_v35_1 (i : S32x8192x64.Idx) (q : dot_S32x8192x8192_S8192x32x64_S32x8192x64_2_0_1_2_0_1.contr.Idx) :
    (dot_S32x8192x8192_S8192x32x64_S32x8192x64_2_0_1_2_0_1.lhsIdx i q 1).val = (i 1).val := by
  unfold DotDims.lhsIdx
  rw [dif_neg (show ¬(1 : Fin S32x8192x8192.rank) ∈ dot_S32x8192x8192_S8192x32x64_S32x8192x64_2_0_1_2_0_1.lhsBatch by decide), dif_pos (show (1 : Fin S32x8192x8192.rank) ∈ dot_S32x8192x8192_S8192x32x64_S32x8192x64_2_0_1_2_0_1.lhsNonContracting by decide)]
  rfl
theorem lhs_main_v35_2 (i : S32x8192x64.Idx) (q : dot_S32x8192x8192_S8192x32x64_S32x8192x64_2_0_1_2_0_1.contr.Idx) :
    (dot_S32x8192x8192_S8192x32x64_S32x8192x64_2_0_1_2_0_1.lhsIdx i q 2).val = (q ⟨0, by decide⟩).val :=
  dot_S32x8192x8192_S8192x32x64_S32x8192x64_2_0_1_2_0_1.lhsIdx_val_of_single rfl i q
theorem rhs_main_v35_0 (i : S32x8192x64.Idx) (q : dot_S32x8192x8192_S8192x32x64_S32x8192x64_2_0_1_2_0_1.contr.Idx) :
    (dot_S32x8192x8192_S8192x32x64_S32x8192x64_2_0_1_2_0_1.rhsIdx i q 0).val = (q ⟨0, by decide⟩).val :=
  dot_S32x8192x8192_S8192x32x64_S32x8192x64_2_0_1_2_0_1.rhsIdx_val_of_single rfl i q
theorem rhs_main_v35_1 (i : S32x8192x64.Idx) (q : dot_S32x8192x8192_S8192x32x64_S32x8192x64_2_0_1_2_0_1.contr.Idx) :
    (dot_S32x8192x8192_S8192x32x64_S32x8192x64_2_0_1_2_0_1.rhsIdx i q 1).val = (i 0).val := by
  unfold DotDims.rhsIdx
  rw [dif_pos (show (1 : Fin S8192x32x64.rank) ∈ dot_S32x8192x8192_S8192x32x64_S32x8192x64_2_0_1_2_0_1.rhsBatch by decide)]
  rfl
theorem rhs_main_v35_2 (i : S32x8192x64.Idx) (q : dot_S32x8192x8192_S8192x32x64_S32x8192x64_2_0_1_2_0_1.contr.Idx) :
    (dot_S32x8192x8192_S8192x32x64_S32x8192x64_2_0_1_2_0_1.rhsIdx i q 2).val = (i 2).val := by
  unfold DotDims.rhsIdx
  rw [dif_neg (show ¬(2 : Fin S8192x32x64.rank) ∈ dot_S32x8192x8192_S8192x32x64_S32x8192x64_2_0_1_2_0_1.rhsBatch by decide), dif_pos (show (2 : Fin S8192x32x64.rank) ∈ dot_S32x8192x8192_S8192x32x64_S32x8192x64_2_0_1_2_0_1.rhsNonContracting by decide)]
  rfl
abbrev lidx_main_v35 (i : S32x8192x64.Idx) (k : Fin 8192) : S32x8192x8192.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v35 (i : S32x8192x64.Idx) (k : Fin 8192) : S8192x32x64.Idx := fun a => match a with
  | ⟨0, _⟩ => ⟨k.val, k.isLt⟩
  | ⟨1, _⟩ => ⟨(i 0).val, (i 0).isLt⟩
  | ⟨2, _⟩ => ⟨(i 2).val, (i 2).isLt⟩
/-- Stated at `F := Ideal`, where the host's `dot_general` is this sum; at a bit-exact instance it is an opaque function of its operands. -/
theorem val_main_v35_apply (x0 x1 x2 : (⟨S8192x2048, .f32⟩ : BufTy).Contents (Elt Ideal)) (x3 : (⟨S8192x32, .f32⟩ : BufTy).Contents (Elt Ideal)) (i : S32x8192x64.Idx) :
    val_main_v35 (F := Ideal) x0 x1 x2 x3 i = ∑ k : Fin 8192, (val_main_v32 (F := Ideal) x0 x1 x3) (lidx_main_v35 i k) * (val_main_v8 (F := Ideal) x2) (ridx_main_v35 i k) := by
  unfold val_main_v35
  generalize val_main_v32 (F := Ideal) x0 x1 x3 = y0
  generalize val_main_v8 (F := Ideal) x2 = y1
  simp only [Host.dotGeneral]
  rw [Ideal.dotGeneral_apply, ← Equiv.sum_comp (ValueIdx.contrEquiv1 dot_S32x8192x8192_S8192x32x64_S32x8192x64_2_0_1_2_0_1 8192 rfl rfl).symm]
  refine Finset.sum_congr rfl fun k _ => ?_
  have hk := ValueIdx.contrEquiv1_symm_val dot_S32x8192x8192_S8192x32x64_S32x8192x64_2_0_1_2_0_1 8192 rfl rfl k
  have el : dot_S32x8192x8192_S8192x32x64_S32x8192x64_2_0_1_2_0_1.lhsIdx i ((ValueIdx.contrEquiv1 dot_S32x8192x8192_S8192x32x64_S32x8192x64_2_0_1_2_0_1 8192 rfl rfl).symm k) = lidx_main_v35 i k := funext fun a => Fin.ext (by
    match a with
    | ⟨0, _⟩ => exact lhs_main_v35_0 _ _
    | ⟨1, _⟩ => exact lhs_main_v35_1 _ _
    | ⟨2, _⟩ => exact (lhs_main_v35_2 _ _).trans hk)
  have er : dot_S32x8192x8192_S8192x32x64_S32x8192x64_2_0_1_2_0_1.rhsIdx i ((ValueIdx.contrEquiv1 dot_S32x8192x8192_S8192x32x64_S32x8192x64_2_0_1_2_0_1 8192 rfl rfl).symm k) = ridx_main_v35 i k := funext fun a => Fin.ext (by
    match a with
    | ⟨0, _⟩ => exact (rhs_main_v35_0 _ _).trans hk
    | ⟨1, _⟩ => exact rhs_main_v35_1 _ _
    | ⟨2, _⟩ => exact rhs_main_v35_2 _ _)
  rw [el, er]

-- %36 = stablehlo.broadcast_in_dim %34, dims = [0, 1, 2] : (tensor<32x8192x1xf32>) -> tensor<32x8192x64xf32>
def val_main_v36 (x0 x1 : (⟨S8192x2048, .f32⟩ : BufTy).Contents (Elt F)) (x3 : (⟨S8192x32, .f32⟩ : BufTy).Contents (Elt F)) : (⟨S32x8192x64, .f32⟩ : BufTy).Contents (Elt F) :=
  broadcastInDim S32x8192x64 ![0, 1, 2] bcast_S32x8192x1_S32x8192x64_0_1_2 (val_main_v34 (F := F) x0 x1 x3)
abbrev idx_main_v36 (i : S32x8192x64.Idx) : S32x8192x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v36_apply (x0 x1 : (⟨S8192x2048, .f32⟩ : BufTy).Contents (Elt F)) (x3 : (⟨S8192x32, .f32⟩ : BufTy).Contents (Elt F)) (i : S32x8192x64.Idx) :
    val_main_v36 (F := F) x0 x1 x3 i = val_main_v34 (F := F) x0 x1 x3 (idx_main_v36 i) := by
  unfold val_main_v36
  generalize val_main_v34 (F := F) x0 x1 x3 = y
  exact broadcastInDim_apply _ bcast_S32x8192x1_S32x8192x64_0_1_2 y i (idx_main_v36 i) (fun a => match a with
    | ⟨0, _⟩ => by show (i 0).val = if (32 : Nat) = 1 then 0 else (i 0).val; rw [if_neg (by decide)]
    | ⟨1, _⟩ => by show (i 1).val = if (8192 : Nat) = 1 then 0 else (i 1).val; rw [if_neg (by decide)]
    | ⟨2, _⟩ => by show 0 = if (1 : Nat) = 1 then 0 else (i 2).val; rw [if_pos rfl])

-- %37 = stablehlo.divide %35, %36 : tensor<32x8192x64xf32>
def val_main_v37 (x0 x1 x2 : (⟨S8192x2048, .f32⟩ : BufTy).Contents (Elt F)) (x3 : (⟨S8192x32, .f32⟩ : BufTy).Contents (Elt F)) : (⟨S32x8192x64, .f32⟩ : BufTy).Contents (Elt F) :=
  Host.divf (val_main_v35 (F := F) x0 x1 x2 x3) (val_main_v36 (F := F) x0 x1 x3)
theorem val_main_v37_apply (x0 x1 x2 : (⟨S8192x2048, .f32⟩ : BufTy).Contents (Elt F)) (x3 : (⟨S8192x32, .f32⟩ : BufTy).Contents (Elt F)) (i : S32x8192x64.Idx) :
    val_main_v37 (F := F) x0 x1 x2 x3 i = FloatOps.hostDivf (val_main_v35 (F := F) x0 x1 x2 x3 i) (val_main_v36 (F := F) x0 x1 x3 i) := rfl

-- %38 = stablehlo.log %34 : tensor<32x8192x1xf32>
def val_main_v38 (x0 x1 : (⟨S8192x2048, .f32⟩ : BufTy).Contents (Elt F)) (x3 : (⟨S8192x32, .f32⟩ : BufTy).Contents (Elt F)) : (⟨S32x8192x1, .f32⟩ : BufTy).Contents (Elt F) :=
  Host.log (val_main_v34 (F := F) x0 x1 x3)
theorem val_main_v38_apply (x0 x1 : (⟨S8192x2048, .f32⟩ : BufTy).Contents (Elt F)) (x3 : (⟨S8192x32, .f32⟩ : BufTy).Contents (Elt F)) (i : S32x8192x1.Idx) :
    val_main_v38 (F := F) x0 x1 x3 i = FloatOps.hostUnary .log (val_main_v34 (F := F) x0 x1 x3 i) := rfl

-- %39 = stablehlo.add %29, %38 : tensor<32x8192x1xf32>
def val_main_v39 (x0 x1 : (⟨S8192x2048, .f32⟩ : BufTy).Contents (Elt F)) (x3 : (⟨S8192x32, .f32⟩ : BufTy).Contents (Elt F)) : (⟨S32x8192x1, .f32⟩ : BufTy).Contents (Elt F) :=
  addf (val_main_v29 (F := F) x0 x1 x3) (val_main_v38 (F := F) x0 x1 x3)
theorem val_main_v39_apply (x0 x1 : (⟨S8192x2048, .f32⟩ : BufTy).Contents (Elt F)) (x3 : (⟨S8192x32, .f32⟩ : BufTy).Contents (Elt F)) (i : S32x8192x1.Idx) :
    val_main_v39 (F := F) x0 x1 x3 i = FloatOps.addf (val_main_v29 (F := F) x0 x1 x3 i) (val_main_v38 (F := F) x0 x1 x3 i) := rfl

-- %40 = stablehlo.reshape %39 : (tensor<32x8192x1xf32>) -> tensor<32x8192xf32>
def val_main_v40 (x0 x1 : (⟨S8192x2048, .f32⟩ : BufTy).Contents (Elt F)) (x3 : (⟨S8192x32, .f32⟩ : BufTy).Contents (Elt F)) : (⟨S32x8192, .f32⟩ : BufTy).Contents (Elt F) :=
  shapeCast _ (val_main_v39 (F := F) x0 x1 x3) shapeCasts_S32x8192x1_S32x8192
set_option backward.proofsInPublic true in
abbrev idx_main_v40 (i : S32x8192.Idx) : S32x8192x1.Idx := fun a => match a with
  | ⟨0, _⟩ => ⟨((i 0).val * 8192 + (i 1).val) / 8192, by have h0 : (i 0).val < 32 := (i 0).isLt; have h1 : (i 1).val < 8192 := (i 1).isLt; show ((i 0).val * 8192 + (i 1).val) / 8192 < 32; omega⟩
  | ⟨1, _⟩ => ⟨((i 0).val * 8192 + (i 1).val) / 1 % 8192, by have h0 : (i 0).val < 32 := (i 0).isLt; have h1 : (i 1).val < 8192 := (i 1).isLt; show ((i 0).val * 8192 + (i 1).val) / 1 % 8192 < 8192; omega⟩
  | ⟨2, _⟩ => ⟨0, Nat.one_pos⟩
theorem val_main_v40_apply (x0 x1 : (⟨S8192x2048, .f32⟩ : BufTy).Contents (Elt F)) (x3 : (⟨S8192x32, .f32⟩ : BufTy).Contents (Elt F)) (i : S32x8192.Idx) :
    val_main_v40 (F := F) x0 x1 x3 i = val_main_v39 (F := F) x0 x1 x3 (idx_main_v40 i) := by
  unfold val_main_v40
  generalize val_main_v39 (F := F) x0 x1 x3 = y
  exact shapeCast_apply y shapeCasts_S32x8192x1_S32x8192 i (idx_main_v40 i)
    (by rewrite [Shape.rowMajor_val_three, Shape.rowMajor_val_two]; have h0 : (i 0).val < 32 := (i 0).isLt; have h1 : (i 1).val < 8192 := (i 1).isLt; show (((i 0).val * 8192 + (i 1).val) / 8192 * 8192 + ((i 0).val * 8192 + (i 1).val) / 1 % 8192) * 1 + 0 = (i 0).val * 8192 + (i 1).val; omega)

-- %41 = stablehlo.transpose %40, dims = [1, 0] : (tensor<32x8192xf32>) -> tensor<8192x32xf32>
def val_main_v41 (x0 x1 : (⟨S8192x2048, .f32⟩ : BufTy).Contents (Elt F)) (x3 : (⟨S8192x32, .f32⟩ : BufTy).Contents (Elt F)) : (⟨S8192x32, .f32⟩ : BufTy).Contents (Elt F) :=
  transpose S8192x32 [1, 0] (val_main_v40 (F := F) x0 x1 x3) transposes_S32x8192_S8192x32_1_0
abbrev idx_main_v41 (i : S8192x32.Idx) : S32x8192.Idx := fun a => match a with
  | ⟨0, _⟩ => ⟨(i 1).val, (i 1).isLt⟩
  | ⟨1, _⟩ => ⟨(i 0).val, (i 0).isLt⟩
theorem val_main_v41_apply (x0 x1 : (⟨S8192x2048, .f32⟩ : BufTy).Contents (Elt F)) (x3 : (⟨S8192x32, .f32⟩ : BufTy).Contents (Elt F)) (i : S8192x32.Idx) :
    val_main_v41 (F := F) x0 x1 x3 i = val_main_v40 (F := F) x0 x1 x3 (idx_main_v41 i) := by
  unfold val_main_v41
  generalize val_main_v40 (F := F) x0 x1 x3 = y
  exact transpose_apply [1, 0] y transposes_S32x8192_S8192x32_1_0 i (idx_main_v41 i) (fun b => match b with
    | ⟨0, _⟩ => rfl
    | ⟨1, _⟩ => rfl)

-- %42 = stablehlo.transpose %37, dims = [1, 0, 2] : (tensor<32x8192x64xf32>) -> tensor<8192x32x64xf32>
def val_main_v42 (x0 x1 x2 : (⟨S8192x2048, .f32⟩ : BufTy).Contents (Elt F)) (x3 : (⟨S8192x32, .f32⟩ : BufTy).Contents (Elt F)) : (⟨S8192x32x64, .f32⟩ : BufTy).Contents (Elt F) :=
  transpose S8192x32x64 [1, 0, 2] (val_main_v37 (F := F) x0 x1 x2 x3) transposes_S32x8192x64_S8192x32x64_1_0_2
abbrev idx_main_v42 (i : S8192x32x64.Idx) : S32x8192x64.Idx := fun a => match a with
  | ⟨0, _⟩ => ⟨(i 1).val, (i 1).isLt⟩
  | ⟨1, _⟩ => ⟨(i 0).val, (i 0).isLt⟩
  | ⟨2, _⟩ => ⟨(i 2).val, (i 2).isLt⟩
theorem val_main_v42_apply (x0 x1 x2 : (⟨S8192x2048, .f32⟩ : BufTy).Contents (Elt F)) (x3 : (⟨S8192x32, .f32⟩ : BufTy).Contents (Elt F)) (i : S8192x32x64.Idx) :
    val_main_v42 (F := F) x0 x1 x2 x3 i = val_main_v37 (F := F) x0 x1 x2 x3 (idx_main_v42 i) := by
  unfold val_main_v42
  generalize val_main_v37 (F := F) x0 x1 x2 x3 = y
  exact transpose_apply [1, 0, 2] y transposes_S32x8192x64_S8192x32x64_1_0_2 i (idx_main_v42 i) (fun b => match b with
    | ⟨0, _⟩ => rfl
    | ⟨1, _⟩ => rfl
    | ⟨2, _⟩ => rfl)

-- %43 = stablehlo.multiply %11, %42 : tensor<8192x32x64xf32>
def val_main_v43 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x32x64, .f32⟩ : BufTy).Contents (Elt F) :=
  mulf (val_main_v11 (F := F) x4) (val_main_v42 (F := F) x0 x1 x2 x3)
theorem val_main_v43_apply (x0 x1 x2 : (⟨S8192x2048, .f32⟩ : BufTy).Contents (Elt F)) (x3 : (⟨S8192x32, .f32⟩ : BufTy).Contents (Elt F)) (x4 : (⟨S8192x2048, .f32⟩ : BufTy).Contents (Elt F)) (i : S8192x32x64.Idx) :
    val_main_v43 (F := F) x0 x1 x2 x3 x4 i = FloatOps.mulf (val_main_v11 (F := F) x4 i) (val_main_v42 (F := F) x0 x1 x2 x3 i) := rfl

-- %cst_3 = stablehlo.constant dense<0.000000e+00> : tensor<f32>
def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

-- %44 = stablehlo.reduce(%43 init: %cst_3) applies stablehlo.add across dimensions = [2] : (tensor<8192x32x64xf32>, tensor<f32>) -> tensor<8192x32xf32> {
def val_main_v44 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x32, .f32⟩ : BufTy).Contents (Elt F) :=
  Host.reduceAdd (val_main_v43 (F := F) x0 x1 x2 x3 x4) (val_main_cst_3 (F := F)) reducesTo_S8192x32x64_S8192x32_d2 h_S_
abbrev idx_main_v44 (i : S8192x32.Idx) (k : Fin 64) : S8192x32x64.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v44_apply (x0 x1 x2 : (⟨S8192x2048, .f32⟩ : BufTy).Contents (Elt Ideal)) (x3 : (⟨S8192x32, .f32⟩ : BufTy).Contents (Elt Ideal)) (x4 : (⟨S8192x2048, .f32⟩ : BufTy).Contents (Elt Ideal)) (i : S8192x32.Idx) :
    val_main_v44 (F := Ideal) x0 x1 x2 x3 x4 i = (val_main_cst_3 (F := Ideal)) (Shape.Idx.first h_S_) + ∑ k : Fin 64, (val_main_v43 (F := Ideal) x0 x1 x2 x3 x4) (idx_main_v44 i k) := by
  unfold val_main_v44
  generalize val_main_v43 (F := Ideal) x0 x1 x2 x3 x4 = y0
  simp only [Host.reduceAdd, Ideal.hostReduceAdd_def]
  rw [Ideal.hostReduceAdd_single reducesTo_S8192x32x64_S8192x32_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %cst_4 = stablehlo.constant dense<1.000000e+00> : tensor<f32>
def val_main_cst_4 : (⟨S_, .f32⟩ : BufTy).Contents (Elt F) :=
  constant S_ .f32 0x3F800000#32
theorem val_main_cst_4_apply (i : S_.Idx) :
    val_main_cst_4 (F := F) i = FloatOps.ofBits .f32 0x3F800000#32 := rfl

-- %45 = stablehlo.broadcast_in_dim %cst_4, dims = [] : (tensor<f32>) -> tensor<8192x32x3xf32>
def val_main_v45 : (⟨S8192x32x3, .f32⟩ : BufTy).Contents (Elt F) :=
  broadcastInDim S8192x32x3 ![] bcast_S_S8192x32x3 (val_main_cst_4 (F := F))
abbrev idx_main_v45 (i : S8192x32x3.Idx) : S_.Idx := fun a => a.elim0
theorem val_main_v45_apply (i : S8192x32x3.Idx) :
    val_main_v45 (F := F) i = val_main_cst_4 (F := F) (idx_main_v45 i) := by
  unfold val_main_v45
  generalize val_main_cst_4 (F := F) = y
  exact broadcastInDim_apply _ bcast_S_S8192x32x3 y i (idx_main_v45 i) (fun a => a.elim0)

-- %cst_5 = stablehlo.constant dense<1.250000e-01> : tensor<f32>
def val_main_cst_5 : (⟨S_, .f32⟩ : BufTy).Contents (Elt F) :=
  constant S_ .f32 0x3E000000#32
theorem val_main_cst_5_apply (i : S_.Idx) :
    val_main_cst_5 (F := F) i = FloatOps.ofBits .f32 0x3E000000#32 := rfl

-- %46 = stablehlo.broadcast_in_dim %cst_5, dims = [] : (tensor<f32>) -> tensor<8192x32x64xf32>
def val_main_v46 : (⟨S8192x32x64, .f32⟩ : BufTy).Contents (Elt F) :=
  broadcastInDim S8192x32x64 ![] bcast_S_S8192x32x64 (val_main_cst_5 (F := F))
abbrev idx_main_v46 (i : S8192x32x64.Idx) : S_.Idx := fun a => a.elim0
theorem val_main_v46_apply (i : S8192x32x64.Idx) :
    val_main_v46 (F := F) i = val_main_cst_5 (F := F) (idx_main_v46 i) := by
  unfold val_main_v46
  generalize val_main_cst_5 (F := F) = y
  exact broadcastInDim_apply _ bcast_S_S8192x32x64 y i (idx_main_v46 i) (fun a => a.elim0)

-- %47 = stablehlo.multiply %2, %46 : tensor<8192x32x64xf32>
def val_main_v47 (x0 : (⟨S8192x2048, .f32⟩ : BufTy).Contents (Elt F)) : (⟨S8192x32x64, .f32⟩ : BufTy).Contents (Elt F) :=
  mulf (val_main_v2 (F := F) x0) (val_main_v46 (F := F))
theorem val_main_v47_apply (x0 : (⟨S8192x2048, .f32⟩ : BufTy).Contents (Elt F)) (i : S8192x32x64.Idx) :
    val_main_v47 (F := F) x0 i = FloatOps.mulf (val_main_v2 (F := F) x0 i) (val_main_v46 (F := F) i) := rfl

-- %48 = stablehlo.negate %41 : tensor<8192x32xf32>
def val_main_v48 (x0 x1 : (⟨S8192x2048, .f32⟩ : BufTy).Contents (Elt F)) (x3 : (⟨S8192x32, .f32⟩ : BufTy).Contents (Elt F)) : (⟨S8192x32, .f32⟩ : BufTy).Contents (Elt F) :=
  Host.negf (val_main_v41 (F := F) x0 x1 x3)
theorem val_main_v48_apply (x0 x1 : (⟨S8192x2048, .f32⟩ : BufTy).Contents (Elt F)) (x3 : (⟨S8192x32, .f32⟩ : BufTy).Contents (Elt F)) (i : S8192x32.Idx) :
    val_main_v48 (F := F) x0 x1 x3 i = FloatOps.hostNegf (val_main_v41 (F := F) x0 x1 x3 i) := rfl

-- %49 = stablehlo.convert %48 : (tensor<8192x32xf32>) -> tensor<8192x32xbf16>
def val_main_v49 (x0 x1 : (⟨S8192x2048, .f32⟩ : BufTy).Contents (Elt F)) (x3 : (⟨S8192x32, .f32⟩ : BufTy).Contents (Elt F)) : (⟨S8192x32, .bf16⟩ : BufTy).Contents (Elt F) :=
  truncf .bf16 (val_main_v48 (F := F) x0 x1 x3) bitsLt_bf16_f32
theorem val_main_v49_apply (x0 x1 : (⟨S8192x2048, .f32⟩ : BufTy).Contents (Elt F)) (x3 : (⟨S8192x32, .f32⟩ : BufTy).Contents (Elt F)) (i : S8192x32.Idx) :
    val_main_v49 (F := F) x0 x1 x3 i = FloatOps.truncf .bf16 bitsLt_bf16_f32 (val_main_v48 (F := F) x0 x1 x3 i) := rfl

-- %50 = stablehlo.convert %49 : (tensor<8192x32xbf16>) -> tensor<8192x32xf32>
def val_main_v50 (x0 x1 : (⟨S8192x2048, .f32⟩ : BufTy).Contents (Elt F)) (x3 : (⟨S8192x32, .f32⟩ : BufTy).Contents (Elt F)) : (⟨S8192x32, .f32⟩ : BufTy).Contents (Elt F) :=
  extf .f32 (val_main_v49 (F := F) x0 x1 x3) bitsLt_bf16_f32
theorem val_main_v50_apply (x0 x1 : (⟨S8192x2048, .f32⟩ : BufTy).Contents (Elt F)) (x3 : (⟨S8192x32, .f32⟩ : BufTy).Contents (Elt F)) (i : S8192x32.Idx) :
    val_main_v50 (F := F) x0 x1 x3 i = FloatOps.extf .f32 bitsLt_bf16_f32 (val_main_v49 (F := F) x0 x1 x3 i) := rfl

-- %51 = stablehlo.subtract %48, %50 : tensor<8192x32xf32>
def val_main_v51 (x0 x1 : (⟨S8192x2048, .f32⟩ : BufTy).Contents (Elt F)) (x3 : (⟨S8192x32, .f32⟩ : BufTy).Contents (Elt F)) : (⟨S8192x32, .f32⟩ : BufTy).Contents (Elt F) :=
  subf (val_main_v48 (F := F) x0 x1 x3) (val_main_v50 (F := F) x0 x1 x3)
theorem val_main_v51_apply (x0 x1 : (⟨S8192x2048, .f32⟩ : BufTy).Contents (Elt F)) (x3 : (⟨S8192x32, .f32⟩ : BufTy).Contents (Elt F)) (i : S8192x32.Idx) :
    val_main_v51 (F := F) x0 x1 x3 i = FloatOps.subf (val_main_v48 (F := F) x0 x1 x3 i) (val_main_v50 (F := F) x0 x1 x3 i) := rfl

-- %52 = stablehlo.convert %51 : (tensor<8192x32xf32>) -> tensor<8192x32xbf16>
def val_main_v52 (x0 x1 : (⟨S8192x2048, .f32⟩ : BufTy).Contents (Elt F)) (x3 : (⟨S8192x32, .f32⟩ : BufTy).Contents (Elt F)) : (⟨S8192x32, .bf16⟩ : BufTy).Contents (Elt F) :=
  truncf .bf16 (val_main_v51 (F := F) x0 x1 x3) bitsLt_bf16_f32
theorem val_main_v52_apply (x0 x1 : (⟨S8192x2048, .f32⟩ : BufTy).Contents (Elt F)) (x3 : (⟨S8192x32, .f32⟩ : BufTy).Contents (Elt F)) (i : S8192x32.Idx) :
    val_main_v52 (F := F) x0 x1 x3 i = FloatOps.truncf .bf16 bitsLt_bf16_f32 (val_main_v51 (F := F) x0 x1 x3 i) := rfl

-- %53 = stablehlo.convert %52 : (tensor<8192x32xbf16>) -> tensor<8192x32xf32>
def val_main_v53 (x0 x1 : (⟨S8192x2048, .f32⟩ : BufTy).Contents (Elt F)) (x3 : (⟨S8192x32, .f32⟩ : BufTy).Contents (Elt F)) : (⟨S8192x32, .f32⟩ : BufTy).Contents (Elt F) :=
  extf .f32 (val_main_v52 (F := F) x0 x1 x3) bitsLt_bf16_f32
theorem val_main_v53_apply (x0 x1 : (⟨S8192x2048, .f32⟩ : BufTy).Contents (Elt F)) (x3 : (⟨S8192x32, .f32⟩ : BufTy).Contents (Elt F)) (i : S8192x32.Idx) :
    val_main_v53 (F := F) x0 x1 x3 i = FloatOps.extf .f32 bitsLt_bf16_f32 (val_main_v52 (F := F) x0 x1 x3 i) := rfl

-- %54 = stablehlo.subtract %48, %50 : tensor<8192x32xf32>
def val_main_v54 (x0 x1 : (⟨S8192x2048, .f32⟩ : BufTy).Contents (Elt F)) (x3 : (⟨S8192x32, .f32⟩ : BufTy).Contents (Elt F)) : (⟨S8192x32, .f32⟩ : BufTy).Contents (Elt F) :=
  subf (val_main_v48 (F := F) x0 x1 x3) (val_main_v50 (F := F) x0 x1 x3)
theorem val_main_v54_apply (x0 x1 : (⟨S8192x2048, .f32⟩ : BufTy).Contents (Elt F)) (x3 : (⟨S8192x32, .f32⟩ : BufTy).Contents (Elt F)) (i : S8192x32.Idx) :
    val_main_v54 (F := F) x0 x1 x3 i = FloatOps.subf (val_main_v48 (F := F) x0 x1 x3 i) (val_main_v50 (F := F) x0 x1 x3 i) := rfl

-- %55 = stablehlo.subtract %54, %53 : tensor<8192x32xf32>
def val_main_v55 (x0 x1 : (⟨S8192x2048, .f32⟩ : BufTy).Contents (Elt F)) (x3 : (⟨S8192x32, .f32⟩ : BufTy).Contents (Elt F)) : (⟨S8192x32, .f32⟩ : BufTy).Contents (Elt F) :=
  subf (val_main_v54 (F := F) x0 x1 x3) (val_main_v53 (F := F) x0 x1 x3)
theorem val_main_v55_apply (x0 x1 : (⟨S8192x2048, .f32⟩ : BufTy).Contents (Elt F)) (x3 : (⟨S8192x32, .f32⟩ : BufTy).Contents (Elt F)) (i : S8192x32.Idx) :
    val_main_v55 (F := F) x0 x1 x3 i = FloatOps.subf (val_main_v54 (F := F) x0 x1 x3 i) (val_main_v53 (F := F) x0 x1 x3 i) := rfl

-- %56 = stablehlo.convert %55 : (tensor<8192x32xf32>) -> tensor<8192x32xbf16>
def val_main_v56 (x0 x1 : (⟨S8192x2048, .f32⟩ : BufTy).Contents (Elt F)) (x3 : (⟨S8192x32, .f32⟩ : BufTy).Contents (Elt F)) : (⟨S8192x32, .bf16⟩ : BufTy).Contents (Elt F) :=
  truncf .bf16 (val_main_v55 (F := F) x0 x1 x3) bitsLt_bf16_f32
theorem val_main_v56_apply (x0 x1 : (⟨S8192x2048, .f32⟩ : BufTy).Contents (Elt F)) (x3 : (⟨S8192x32, .f32⟩ : BufTy).Contents (Elt F)) (i : S8192x32.Idx) :
    val_main_v56 (F := F) x0 x1 x3 i = FloatOps.truncf .bf16 bitsLt_bf16_f32 (val_main_v55 (F := F) x0 x1 x3 i) := rfl

-- %57 = stablehlo.convert %56 : (tensor<8192x32xbf16>) -> tensor<8192x32xf32>
def val_main_v57 (x0 x1 : (⟨S8192x2048, .f32⟩ : BufTy).Contents (Elt F)) (x3 : (⟨S8192x32, .f32⟩ : BufTy).Contents (Elt F)) : (⟨S8192x32, .f32⟩ : BufTy).Contents (Elt F) :=
  extf .f32 (val_main_v56 (F := F) x0 x1 x3) bitsLt_bf16_f32
theorem val_main_v57_apply (x0 x1 : (⟨S8192x2048, .f32⟩ : BufTy).Contents (Elt F)) (x3 : (⟨S8192x32, .f32⟩ : BufTy).Contents (Elt F)) (i : S8192x32.Idx) :
    val_main_v57 (F := F) x0 x1 x3 i = FloatOps.extf .f32 bitsLt_bf16_f32 (val_main_v56 (F := F) x0 x1 x3 i) := rfl

-- %58 = stablehlo.broadcast_in_dim %50, dims = [0, 1] : (tensor<8192x32xf32>) -> tensor<8192x32x1xf32>
def val_main_v58 (x0 x1 : (⟨S8192x2048, .f32⟩ : BufTy).Contents (Elt F)) (x3 : (⟨S8192x32, .f32⟩ : BufTy).Contents (Elt F)) : (⟨S8192x32x1, .f32⟩ : BufTy).Contents (Elt F) :=
  broadcastInDim S8192x32x1 ![0, 1] bcast_S8192x32_S8192x32x1_0_1 (val_main_v50 (F := F) x0 x1 x3)
abbrev idx_main_v58 (i : S8192x32x1.Idx) : S8192x32.Idx := fun a => match a with
  | ⟨0, _⟩ => ⟨(i 0).val, (i 0).isLt⟩
  | ⟨1, _⟩ => ⟨(i 1).val, (i 1).isLt⟩
theorem val_main_v58_apply (x0 x1 : (⟨S8192x2048, .f32⟩ : BufTy).Contents (Elt F)) (x3 : (⟨S8192x32, .f32⟩ : BufTy).Contents (Elt F)) (i : S8192x32x1.Idx) :
    val_main_v58 (F := F) x0 x1 x3 i = val_main_v50 (F := F) x0 x1 x3 (idx_main_v58 i) := by
  unfold val_main_v58
  generalize val_main_v50 (F := F) x0 x1 x3 = y
  exact broadcastInDim_apply _ bcast_S8192x32_S8192x32x1_0_1 y i (idx_main_v58 i) (fun a => match a with
    | ⟨0, _⟩ => by show (i 0).val = if (8192 : Nat) = 1 then 0 else (i 0).val; rw [if_neg (by decide)]
    | ⟨1, _⟩ => by show (i 1).val = if (32 : Nat) = 1 then 0 else (i 1).val; rw [if_neg (by decide)])

-- %59 = stablehlo.broadcast_in_dim %53, dims = [0, 1] : (tensor<8192x32xf32>) -> tensor<8192x32x1xf32>
def val_main_v59 (x0 x1 : (⟨S8192x2048, .f32⟩ : BufTy).Contents (Elt F)) (x3 : (⟨S8192x32, .f32⟩ : BufTy).Contents (Elt F)) : (⟨S8192x32x1, .f32⟩ : BufTy).Contents (Elt F) :=
  broadcastInDim S8192x32x1 ![0, 1] bcast_S8192x32_S8192x32x1_0_1 (val_main_v53 (F := F) x0 x1 x3)
abbrev idx_main_v59 (i : S8192x32x1.Idx) : S8192x32.Idx := fun a => match a with
  | ⟨0, _⟩ => ⟨(i 0).val, (i 0).isLt⟩
  | ⟨1, _⟩ => ⟨(i 1).val, (i 1).isLt⟩
theorem val_main_v59_apply (x0 x1 : (⟨S8192x2048, .f32⟩ : BufTy).Contents (Elt F)) (x3 : (⟨S8192x32, .f32⟩ : BufTy).Contents (Elt F)) (i : S8192x32x1.Idx) :
    val_main_v59 (F := F) x0 x1 x3 i = val_main_v53 (F := F) x0 x1 x3 (idx_main_v59 i) := by
  unfold val_main_v59
  generalize val_main_v53 (F := F) x0 x1 x3 = y
  exact broadcastInDim_apply _ bcast_S8192x32_S8192x32x1_0_1 y i (idx_main_v59 i) (fun a => match a with
    | ⟨0, _⟩ => by show (i 0).val = if (8192 : Nat) = 1 then 0 else (i 0).val; rw [if_neg (by decide)]
    | ⟨1, _⟩ => by show (i 1).val = if (32 : Nat) = 1 then 0 else (i 1).val; rw [if_neg (by decide)])

-- %60 = stablehlo.broadcast_in_dim %57, dims = [0, 1] : (tensor<8192x32xf32>) -> tensor<8192x32x1xf32>
def val_main_v60 (x0 x1 : (⟨S8192x2048, .f32⟩ : BufTy).Contents (Elt F)) (x3 : (⟨S8192x32, .f32⟩ : BufTy).Contents (Elt F)) : (⟨S8192x32x1, .f32⟩ : BufTy).Contents (Elt F) :=
  broadcastInDim S8192x32x1 ![0, 1] bcast_S8192x32_S8192x32x1_0_1 (val_main_v57 (F := F) x0 x1 x3)
abbrev idx_main_v60 (i : S8192x32x1.Idx) : S8192x32.Idx := fun a => match a with
  | ⟨0, _⟩ => ⟨(i 0).val, (i 0).isLt⟩
  | ⟨1, _⟩ => ⟨(i 1).val, (i 1).isLt⟩
theorem val_main_v60_apply (x0 x1 : (⟨S8192x2048, .f32⟩ : BufTy).Contents (Elt F)) (x3 : (⟨S8192x32, .f32⟩ : BufTy).Contents (Elt F)) (i : S8192x32x1.Idx) :
    val_main_v60 (F := F) x0 x1 x3 i = val_main_v57 (F := F) x0 x1 x3 (idx_main_v60 i) := by
  unfold val_main_v60
  generalize val_main_v57 (F := F) x0 x1 x3 = y
  exact broadcastInDim_apply _ bcast_S8192x32_S8192x32x1_0_1 y i (idx_main_v60 i) (fun a => match a with
    | ⟨0, _⟩ => by show (i 0).val = if (8192 : Nat) = 1 then 0 else (i 0).val; rw [if_neg (by decide)]
    | ⟨1, _⟩ => by show (i 1).val = if (32 : Nat) = 1 then 0 else (i 1).val; rw [if_neg (by decide)])

-- %61 = stablehlo.concatenate %58, %59, %60, dim = 2 : (tensor<8192x32x1xf32>, tensor<8192x32x1xf32>, tensor<8192x32x1xf32>) -> tensor<8192x32x3xf32>
def val_main_v61 (x0 x1 : (⟨S8192x2048, .f32⟩ : BufTy).Contents (Elt F)) (x3 : (⟨S8192x32, .f32⟩ : BufTy).Contents (Elt F)) : (⟨S8192x32x3, .f32⟩ : BufTy).Contents (Elt F) :=
  (concatenate S8192x32x3 2 [⟨S8192x32x1, ((val_main_v58 (F := F) x0 x1 x3) : (⟨S8192x32x1, .f32⟩ : BufTy).Contents (Elt F))⟩, ⟨S8192x32x1, ((val_main_v59 (F := F) x0 x1 x3) : (⟨S8192x32x1, .f32⟩ : BufTy).Contents (Elt F))⟩, ⟨S8192x32x1, ((val_main_v60 (F := F) x0 x1 x3) : (⟨S8192x32x1, .f32⟩ : BufTy).Contents (Elt F))⟩] concatenates_S8192x32x1_S8192x32x1_S8192x32x1_S8192x32x3_d2 : (⟨S8192x32x3, .f32⟩ : BufTy).Contents (Elt F))

-- %cst_6 = stablehlo.constant dense<0.000000e+00> : tensor<f32>
def val_main_cst_6 : (⟨S_, .f32⟩ : BufTy).Contents (Elt F) :=
  constant S_ .f32 0x00000000#32
theorem val_main_cst_6_apply (i : S_.Idx) :
    val_main_cst_6 (F := F) i = FloatOps.ofBits .f32 0x00000000#32 := rfl

-- %62 = stablehlo.broadcast_in_dim %cst_6, dims = [] : (tensor<f32>) -> tensor<8192x32x58xf32>
def val_main_v62 : (⟨S8192x32x58, .f32⟩ : BufTy).Contents (Elt F) :=
  broadcastInDim S8192x32x58 ![] bcast_S_S8192x32x58 (val_main_cst_6 (F := F))
abbrev idx_main_v62 (i : S8192x32x58.Idx) : S_.Idx := fun a => a.elim0
theorem val_main_v62_apply (i : S8192x32x58.Idx) :
    val_main_v62 (F := F) i = val_main_cst_6 (F := F) (idx_main_v62 i) := by
  unfold val_main_v62
  generalize val_main_cst_6 (F := F) = y
  exact broadcastInDim_apply _ bcast_S_S8192x32x58 y i (idx_main_v62 i) (fun a => a.elim0)

-- %63 = stablehlo.concatenate %47, %45, %61, %62, dim = 2 : (tensor<8192x32x64xf32>, tensor<8192x32x3xf32>, tensor<8192x32x3xf32>, tensor<8192x32x58xf32>) -> tensor<8192x32x128xf32>
def val_main_v63 (x0 x1 : (⟨S8192x2048, .f32⟩ : BufTy).Contents (Elt F)) (x3 : (⟨S8192x32, .f32⟩ : BufTy).Contents (Elt F)) : (⟨S8192x32x128, .f32⟩ : BufTy).Contents (Elt F) :=
  (concatenate S8192x32x128 2 [⟨S8192x32x64, ((val_main_v47 (F := F) x0) : (⟨S8192x32x64, .f32⟩ : BufTy).Contents (Elt F))⟩, ⟨S8192x32x3, ((val_main_v45 (F := F)) : (⟨S8192x32x3, .f32⟩ : BufTy).Contents (Elt F))⟩, ⟨S8192x32x3, ((val_main_v61 (F := F) x0 x1 x3) : (⟨S8192x32x3, .f32⟩ : BufTy).Contents (Elt F))⟩, ⟨S8192x32x58, ((val_main_v62 (F := F)) : (⟨S8192x32x58, .f32⟩ : BufTy).Contents (Elt F))⟩] concatenates_S8192x32x64_S8192x32x3_S8192x32x3_S8192x32x58_S8192x32x128_d2 : (⟨S8192x32x128, .f32⟩ : BufTy).Contents (Elt F))

-- %64 = stablehlo.convert %63 : (tensor<8192x32x128xf32>) -> tensor<8192x32x128xbf16>
def val_main_v64 (x0 x1 : (⟨S8192x2048, .f32⟩ : BufTy).Contents (Elt F)) (x3 : (⟨S8192x32, .f32⟩ : BufTy).Contents (Elt F)) : (⟨S8192x32x128, .bf16⟩ : BufTy).Contents (Elt F) :=
  truncf .bf16 (val_main_v63 (F := F) x0 x1 x3) bitsLt_bf16_f32
theorem val_main_v64_apply (x0 x1 : (⟨S8192x2048, .f32⟩ : BufTy).Contents (Elt F)) (x3 : (⟨S8192x32, .f32⟩ : BufTy).Contents (Elt F)) (i : S8192x32x128.Idx) :
    val_main_v64 (F := F) x0 x1 x3 i = FloatOps.truncf .bf16 bitsLt_bf16_f32 (val_main_v63 (F := F) x0 x1 x3 i) := rfl

-- %65 = stablehlo.reshape %64 : (tensor<8192x32x128xbf16>) -> tensor<8192x4096xbf16>
def val_main_v65 (x0 x1 : (⟨S8192x2048, .f32⟩ : BufTy).Contents (Elt F)) (x3 : (⟨S8192x32, .f32⟩ : BufTy).Contents (Elt F)) : (⟨S8192x4096, .bf16⟩ : BufTy).Contents (Elt F) :=
  shapeCast _ (val_main_v64 (F := F) x0 x1 x3) shapeCasts_S8192x32x128_S8192x4096
set_option backward.proofsInPublic true in
abbrev idx_main_v65 (i : S8192x4096.Idx) : S8192x32x128.Idx := fun a => match a with
  | ⟨0, _⟩ => ⟨((i 0).val * 4096 + (i 1).val) / 4096, by have h0 : (i 0).val < 8192 := (i 0).isLt; have h1 : (i 1).val < 4096 := (i 1).isLt; show ((i 0).val * 4096 + (i 1).val) / 4096 < 8192; omega⟩
  | ⟨1, _⟩ => ⟨((i 0).val * 4096 + (i 1).val) / 128 % 32, by have h0 : (i 0).val < 8192 := (i 0).isLt; have h1 : (i 1).val < 4096 := (i 1).isLt; show ((i 0).val * 4096 + (i 1).val) / 128 % 32 < 32; omega⟩
  | ⟨2, _⟩ => ⟨((i 0).val * 4096 + (i 1).val) % 128, by have h0 : (i 0).val < 8192 := (i 0).isLt; have h1 : (i 1).val < 4096 := (i 1).isLt; show ((i 0).val * 4096 + (i 1).val) % 128 < 128; omega⟩
theorem val_main_v65_apply (x0 x1 : (⟨S8192x2048, .f32⟩ : BufTy).Contents (Elt F)) (x3 : (⟨S8192x32, .f32⟩ : BufTy).Contents (Elt F)) (i : S8192x4096.Idx) :
    val_main_v65 (F := F) x0 x1 x3 i = val_main_v64 (F := F) x0 x1 x3 (idx_main_v65 i) := by
  unfold val_main_v65
  generalize val_main_v64 (F := F) x0 x1 x3 = y
  exact shapeCast_apply y shapeCasts_S8192x32x128_S8192x4096 i (idx_main_v65 i)
    (by rewrite [Shape.rowMajor_val_three, Shape.rowMajor_val_two]; have h0 : (i 0).val < 8192 := (i 0).isLt; have h1 : (i 1).val < 4096 := (i 1).isLt; show (((i 0).val * 4096 + (i 1).val) / 4096 * 32 + ((i 0).val * 4096 + (i 1).val) / 128 % 32) * 128 + ((i 0).val * 4096 + (i 1).val) % 128 = (i 0).val * 4096 + (i 1).val; omega)

-- %66 = stablehlo.negate %arg3 : tensor<8192x32xf32>
def val_main_v66 (x3 : (⟨S8192x32, .f32⟩ : BufTy).Contents (Elt F)) : (⟨S8192x32, .f32⟩ : BufTy).Contents (Elt F) :=
  Host.negf (x3)
theorem val_main_v66_apply (x3 : (⟨S8192x32, .f32⟩ : BufTy).Contents (Elt F)) (i : S8192x32.Idx) :
    val_main_v66 (F := F) x3 i = FloatOps.hostNegf (x3 i) := rfl

-- %67 = stablehlo.convert %66 : (tensor<8192x32xf32>) -> tensor<8192x32xbf16>
def val_main_v67 (x3 : (⟨S8192x32, .f32⟩ : BufTy).Contents (Elt F)) : (⟨S8192x32, .bf16⟩ : BufTy).Contents (Elt F) :=
  truncf .bf16 (val_main_v66 (F := F) x3) bitsLt_bf16_f32
theorem val_main_v67_apply (x3 : (⟨S8192x32, .f32⟩ : BufTy).Contents (Elt F)) (i : S8192x32.Idx) :
    val_main_v67 (F := F) x3 i = FloatOps.truncf .bf16 bitsLt_bf16_f32 (val_main_v66 (F := F) x3 i) := rfl

-- %68 = stablehlo.convert %67 : (tensor<8192x32xbf16>) -> tensor<8192x32xf32>
def val_main_v68 (x3 : (⟨S8192x32, .f32⟩ : BufTy).Contents (Elt F)) : (⟨S8192x32, .f32⟩ : BufTy).Contents (Elt F) :=
  extf .f32 (val_main_v67 (F := F) x3) bitsLt_bf16_f32
theorem val_main_v68_apply (x3 : (⟨S8192x32, .f32⟩ : BufTy).Contents (Elt F)) (i : S8192x32.Idx) :
    val_main_v68 (F := F) x3 i = FloatOps.extf .f32 bitsLt_bf16_f32 (val_main_v67 (F := F) x3 i) := rfl

-- %69 = stablehlo.subtract %66, %68 : tensor<8192x32xf32>
def val_main_v69 (x3 : (⟨S8192x32, .f32⟩ : BufTy).Contents (Elt F)) : (⟨S8192x32, .f32⟩ : BufTy).Contents (Elt F) :=
  subf (val_main_v66 (F := F) x3) (val_main_v68 (F := F) x3)
theorem val_main_v69_apply (x3 : (⟨S8192x32, .f32⟩ : BufTy).Contents (Elt F)) (i : S8192x32.Idx) :
    val_main_v69 (F := F) x3 i = FloatOps.subf (val_main_v66 (F := F) x3 i) (val_main_v68 (F := F) x3 i) := rfl

-- %70 = stablehlo.convert %69 : (tensor<8192x32xf32>) -> tensor<8192x32xbf16>
def val_main_v70 (x3 : (⟨S8192x32, .f32⟩ : BufTy).Contents (Elt F)) : (⟨S8192x32, .bf16⟩ : BufTy).Contents (Elt F) :=
  truncf .bf16 (val_main_v69 (F := F) x3) bitsLt_bf16_f32
theorem val_main_v70_apply (x3 : (⟨S8192x32, .f32⟩ : BufTy).Contents (Elt F)) (i : S8192x32.Idx) :
    val_main_v70 (F := F) x3 i = FloatOps.truncf .bf16 bitsLt_bf16_f32 (val_main_v69 (F := F) x3 i) := rfl

-- %71 = stablehlo.convert %70 : (tensor<8192x32xbf16>) -> tensor<8192x32xf32>
def val_main_v71 (x3 : (⟨S8192x32, .f32⟩ : BufTy).Contents (Elt F)) : (⟨S8192x32, .f32⟩ : BufTy).Contents (Elt F) :=
  extf .f32 (val_main_v70 (F := F) x3) bitsLt_bf16_f32
theorem val_main_v71_apply (x3 : (⟨S8192x32, .f32⟩ : BufTy).Contents (Elt F)) (i : S8192x32.Idx) :
    val_main_v71 (F := F) x3 i = FloatOps.extf .f32 bitsLt_bf16_f32 (val_main_v70 (F := F) x3 i) := rfl

-- %72 = stablehlo.subtract %66, %68 : tensor<8192x32xf32>
def val_main_v72 (x3 : (⟨S8192x32, .f32⟩ : BufTy).Contents (Elt F)) : (⟨S8192x32, .f32⟩ : BufTy).Contents (Elt F) :=
  subf (val_main_v66 (F := F) x3) (val_main_v68 (F := F) x3)
theorem val_main_v72_apply (x3 : (⟨S8192x32, .f32⟩ : BufTy).Contents (Elt F)) (i : S8192x32.Idx) :
    val_main_v72 (F := F) x3 i = FloatOps.subf (val_main_v66 (F := F) x3 i) (val_main_v68 (F := F) x3 i) := rfl

-- %73 = stablehlo.subtract %72, %71 : tensor<8192x32xf32>
def val_main_v73 (x3 : (⟨S8192x32, .f32⟩ : BufTy).Contents (Elt F)) : (⟨S8192x32, .f32⟩ : BufTy).Contents (Elt F) :=
  subf (val_main_v72 (F := F) x3) (val_main_v71 (F := F) x3)
theorem val_main_v73_apply (x3 : (⟨S8192x32, .f32⟩ : BufTy).Contents (Elt F)) (i : S8192x32.Idx) :
    val_main_v73 (F := F) x3 i = FloatOps.subf (val_main_v72 (F := F) x3 i) (val_main_v71 (F := F) x3 i) := rfl

-- %74 = stablehlo.convert %73 : (tensor<8192x32xf32>) -> tensor<8192x32xbf16>
def val_main_v74 (x3 : (⟨S8192x32, .f32⟩ : BufTy).Contents (Elt F)) : (⟨S8192x32, .bf16⟩ : BufTy).Contents (Elt F) :=
  truncf .bf16 (val_main_v73 (F := F) x3) bitsLt_bf16_f32
theorem val_main_v74_apply (x3 : (⟨S8192x32, .f32⟩ : BufTy).Contents (Elt F)) (i : S8192x32.Idx) :
    val_main_v74 (F := F) x3 i = FloatOps.truncf .bf16 bitsLt_bf16_f32 (val_main_v73 (F := F) x3 i) := rfl

-- %75 = stablehlo.convert %74 : (tensor<8192x32xbf16>) -> tensor<8192x32xf32>
def val_main_v75 (x3 : (⟨S8192x32, .f32⟩ : BufTy).Contents (Elt F)) : (⟨S8192x32, .f32⟩ : BufTy).Contents (Elt F) :=
  extf .f32 (val_main_v74 (F := F) x3) bitsLt_bf16_f32
theorem val_main_v75_apply (x3 : (⟨S8192x32, .f32⟩ : BufTy).Contents (Elt F)) (i : S8192x32.Idx) :
    val_main_v75 (F := F) x3 i = FloatOps.extf .f32 bitsLt_bf16_f32 (val_main_v74 (F := F) x3 i) := rfl

-- %76 = stablehlo.broadcast_in_dim %68, dims = [0, 1] : (tensor<8192x32xf32>) -> tensor<8192x32x1xf32>
def val_main_v76 (x3 : (⟨S8192x32, .f32⟩ : BufTy).Contents (Elt F)) : (⟨S8192x32x1, .f32⟩ : BufTy).Contents (Elt F) :=
  broadcastInDim S8192x32x1 ![0, 1] bcast_S8192x32_S8192x32x1_0_1 (val_main_v68 (F := F) x3)
abbrev idx_main_v76 (i : S8192x32x1.Idx) : S8192x32.Idx := fun a => match a with
  | ⟨0, _⟩ => ⟨(i 0).val, (i 0).isLt⟩
  | ⟨1, _⟩ => ⟨(i 1).val, (i 1).isLt⟩
theorem val_main_v76_apply (x3 : (⟨S8192x32, .f32⟩ : BufTy).Contents (Elt F)) (i : S8192x32x1.Idx) :
    val_main_v76 (F := F) x3 i = val_main_v68 (F := F) x3 (idx_main_v76 i) := by
  unfold val_main_v76
  generalize val_main_v68 (F := F) x3 = y
  exact broadcastInDim_apply _ bcast_S8192x32_S8192x32x1_0_1 y i (idx_main_v76 i) (fun a => match a with
    | ⟨0, _⟩ => by show (i 0).val = if (8192 : Nat) = 1 then 0 else (i 0).val; rw [if_neg (by decide)]
    | ⟨1, _⟩ => by show (i 1).val = if (32 : Nat) = 1 then 0 else (i 1).val; rw [if_neg (by decide)])

-- %77 = stablehlo.broadcast_in_dim %71, dims = [0, 1] : (tensor<8192x32xf32>) -> tensor<8192x32x1xf32>
def val_main_v77 (x3 : (⟨S8192x32, .f32⟩ : BufTy).Contents (Elt F)) : (⟨S8192x32x1, .f32⟩ : BufTy).Contents (Elt F) :=
  broadcastInDim S8192x32x1 ![0, 1] bcast_S8192x32_S8192x32x1_0_1 (val_main_v71 (F := F) x3)
abbrev idx_main_v77 (i : S8192x32x1.Idx) : S8192x32.Idx := fun a => match a with
  | ⟨0, _⟩ => ⟨(i 0).val, (i 0).isLt⟩
  | ⟨1, _⟩ => ⟨(i 1).val, (i 1).isLt⟩
theorem val_main_v77_apply (x3 : (⟨S8192x32, .f32⟩ : BufTy).Contents (Elt F)) (i : S8192x32x1.Idx) :
    val_main_v77 (F := F) x3 i = val_main_v71 (F := F) x3 (idx_main_v77 i) := by
  unfold val_main_v77
  generalize val_main_v71 (F := F) x3 = y
  exact broadcastInDim_apply _ bcast_S8192x32_S8192x32x1_0_1 y i (idx_main_v77 i) (fun a => match a with
    | ⟨0, _⟩ => by show (i 0).val = if (8192 : Nat) = 1 then 0 else (i 0).val; rw [if_neg (by decide)]
    | ⟨1, _⟩ => by show (i 1).val = if (32 : Nat) = 1 then 0 else (i 1).val; rw [if_neg (by decide)])

-- %78 = stablehlo.broadcast_in_dim %75, dims = [0, 1] : (tensor<8192x32xf32>) -> tensor<8192x32x1xf32>
def val_main_v78 (x3 : (⟨S8192x32, .f32⟩ : BufTy).Contents (Elt F)) : (⟨S8192x32x1, .f32⟩ : BufTy).Contents (Elt F) :=
  broadcastInDim S8192x32x1 ![0, 1] bcast_S8192x32_S8192x32x1_0_1 (val_main_v75 (F := F) x3)
abbrev idx_main_v78 (i : S8192x32x1.Idx) : S8192x32.Idx := fun a => match a with
  | ⟨0, _⟩ => ⟨(i 0).val, (i 0).isLt⟩
  | ⟨1, _⟩ => ⟨(i 1).val, (i 1).isLt⟩
theorem val_main_v78_apply (x3 : (⟨S8192x32, .f32⟩ : BufTy).Contents (Elt F)) (i : S8192x32x1.Idx) :
    val_main_v78 (F := F) x3 i = val_main_v75 (F := F) x3 (idx_main_v78 i) := by
  unfold val_main_v78
  generalize val_main_v75 (F := F) x3 = y
  exact broadcastInDim_apply _ bcast_S8192x32_S8192x32x1_0_1 y i (idx_main_v78 i) (fun a => match a with
    | ⟨0, _⟩ => by show (i 0).val = if (8192 : Nat) = 1 then 0 else (i 0).val; rw [if_neg (by decide)]
    | ⟨1, _⟩ => by show (i 1).val = if (32 : Nat) = 1 then 0 else (i 1).val; rw [if_neg (by decide)])

-- %79 = stablehlo.concatenate %76, %77, %78, dim = 2 : (tensor<8192x32x1xf32>, tensor<8192x32x1xf32>, tensor<8192x32x1xf32>) -> tensor<8192x32x3xf32>
def val_main_v79 (x3 : (⟨S8192x32, .f32⟩ : BufTy).Contents (Elt F)) : (⟨S8192x32x3, .f32⟩ : BufTy).Contents (Elt F) :=
  (concatenate S8192x32x3 2 [⟨S8192x32x1, ((val_main_v76 (F := F) x3) : (⟨S8192x32x1, .f32⟩ : BufTy).Contents (Elt F))⟩, ⟨S8192x32x1, ((val_main_v77 (F := F) x3) : (⟨S8192x32x1, .f32⟩ : BufTy).Contents (Elt F))⟩, ⟨S8192x32x1, ((val_main_v78 (F := F) x3) : (⟨S8192x32x1, .f32⟩ : BufTy).Contents (Elt F))⟩] concatenates_S8192x32x1_S8192x32x1_S8192x32x1_S8192x32x3_d2 : (⟨S8192x32x3, .f32⟩ : BufTy).Contents (Elt F))

-- %cst_7 = stablehlo.constant dense<0.000000e+00> : tensor<f32>
def val_main_cst_7 : (⟨S_, .f32⟩ : BufTy).Contents (Elt F) :=
  constant S_ .f32 0x00000000#32
theorem val_main_cst_7_apply (i : S_.Idx) :
    val_main_cst_7 (F := F) i = FloatOps.ofBits .f32 0x00000000#32 := rfl

-- %80 = stablehlo.broadcast_in_dim %cst_7, dims = [] : (tensor<f32>) -> tensor<8192x32x58xf32>
def val_main_v80 : (⟨S8192x32x58, .f32⟩ : BufTy).Contents (Elt F) :=
  broadcastInDim S8192x32x58 ![] bcast_S_S8192x32x58 (val_main_cst_7 (F := F))
abbrev idx_main_v80 (i : S8192x32x58.Idx) : S_.Idx := fun a => a.elim0
theorem val_main_v80_apply (i : S8192x32x58.Idx) :
    val_main_v80 (F := F) i = val_main_cst_7 (F := F) (idx_main_v80 i) := by
  unfold val_main_v80
  generalize val_main_cst_7 (F := F) = y
  exact broadcastInDim_apply _ bcast_S_S8192x32x58 y i (idx_main_v80 i) (fun a => a.elim0)

-- %81 = stablehlo.concatenate %5, %79, %45, %80, dim = 2 : (tensor<8192x32x64xf32>, tensor<8192x32x3xf32>, tensor<8192x32x3xf32>, tensor<8192x32x58xf32>) -> tensor<8192x32x128xf32>
def val_main_v81 (x1 : (⟨S8192x2048, .f32⟩ : BufTy).Contents (Elt F)) (x3 : (⟨S8192x32, .f32⟩ : BufTy).Contents (Elt F)) : (⟨S8192x32x128, .f32⟩ : BufTy).Contents (Elt F) :=
  (concatenate S8192x32x128 2 [⟨S8192x32x64, ((val_main_v5 (F := F) x1) : (⟨S8192x32x64, .f32⟩ : BufTy).Contents (Elt F))⟩, ⟨S8192x32x3, ((val_main_v79 (F := F) x3) : (⟨S8192x32x3, .f32⟩ : BufTy).Contents (Elt F))⟩, ⟨S8192x32x3, ((val_main_v45 (F := F)) : (⟨S8192x32x3, .f32⟩ : BufTy).Contents (Elt F))⟩, ⟨S8192x32x58, ((val_main_v80 (F := F)) : (⟨S8192x32x58, .f32⟩ : BufTy).Contents (Elt F))⟩] concatenates_S8192x32x64_S8192x32x3_S8192x32x3_S8192x32x58_S8192x32x128_d2 : (⟨S8192x32x128, .f32⟩ : BufTy).Contents (Elt F))

-- %82 = stablehlo.convert %81 : (tensor<8192x32x128xf32>) -> tensor<8192x32x128xbf16>
def val_main_v82 (x1 : (⟨S8192x2048, .f32⟩ : BufTy).Contents (Elt F)) (x3 : (⟨S8192x32, .f32⟩ : BufTy).Contents (Elt F)) : (⟨S8192x32x128, .bf16⟩ : BufTy).Contents (Elt F) :=
  truncf .bf16 (val_main_v81 (F := F) x1 x3) bitsLt_bf16_f32
theorem val_main_v82_apply (x1 : (⟨S8192x2048, .f32⟩ : BufTy).Contents (Elt F)) (x3 : (⟨S8192x32, .f32⟩ : BufTy).Contents (Elt F)) (i : S8192x32x128.Idx) :
    val_main_v82 (F := F) x1 x3 i = FloatOps.truncf .bf16 bitsLt_bf16_f32 (val_main_v81 (F := F) x1 x3 i) := rfl

-- %83 = stablehlo.reshape %82 : (tensor<8192x32x128xbf16>) -> tensor<8192x4096xbf16>
def val_main_v83 (x1 : (⟨S8192x2048, .f32⟩ : BufTy).Contents (Elt F)) (x3 : (⟨S8192x32, .f32⟩ : BufTy).Contents (Elt F)) : (⟨S8192x4096, .bf16⟩ : BufTy).Contents (Elt F) :=
  shapeCast _ (val_main_v82 (F := F) x1 x3) shapeCasts_S8192x32x128_S8192x4096
set_option backward.proofsInPublic true in
abbrev idx_main_v83 (i : S8192x4096.Idx) : S8192x32x128.Idx := fun a => match a with
  | ⟨0, _⟩ => ⟨((i 0).val * 4096 + (i 1).val) / 4096, by have h0 : (i 0).val < 8192 := (i 0).isLt; have h1 : (i 1).val < 4096 := (i 1).isLt; show ((i 0).val * 4096 + (i 1).val) / 4096 < 8192; omega⟩
  | ⟨1, _⟩ => ⟨((i 0).val * 4096 + (i 1).val) / 128 % 32, by have h0 : (i 0).val < 8192 := (i 0).isLt; have h1 : (i 1).val < 4096 := (i 1).isLt; show ((i 0).val * 4096 + (i 1).val) / 128 % 32 < 32; omega⟩
  | ⟨2, _⟩ => ⟨((i 0).val * 4096 + (i 1).val) % 128, by have h0 : (i 0).val < 8192 := (i 0).isLt; have h1 : (i 1).val < 4096 := (i 1).isLt; show ((i 0).val * 4096 + (i 1).val) % 128 < 128; omega⟩
theorem val_main_v83_apply (x1 : (⟨S8192x2048, .f32⟩ : BufTy).Contents (Elt F)) (x3 : (⟨S8192x32, .f32⟩ : BufTy).Contents (Elt F)) (i : S8192x4096.Idx) :
    val_main_v83 (F := F) x1 x3 i = val_main_v82 (F := F) x1 x3 (idx_main_v83 i) := by
  unfold val_main_v83
  generalize val_main_v82 (F := F) x1 x3 = y
  exact shapeCast_apply y shapeCasts_S8192x32x128_S8192x4096 i (idx_main_v83 i)
    (by rewrite [Shape.rowMajor_val_three, Shape.rowMajor_val_two]; have h0 : (i 0).val < 8192 := (i 0).isLt; have h1 : (i 1).val < 4096 := (i 1).isLt; show (((i 0).val * 4096 + (i 1).val) / 4096 * 32 + ((i 0).val * 4096 + (i 1).val) / 128 % 32) * 128 + ((i 0).val * 4096 + (i 1).val) % 128 = (i 0).val * 4096 + (i 1).val; omega)

-- %cst_8 = stablehlo.constant dense<0.000000e+00> : tensor<f32>
def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

-- %84 = stablehlo.broadcast_in_dim %cst_8, dims = [] : (tensor<f32>) -> tensor<8192x32x61xf32>
def val_main_v84 : (⟨S8192x32x61, .f32⟩ : BufTy).Contents (Elt F) :=
  broadcastInDim S8192x32x61 ![] bcast_S_S8192x32x61 (val_main_cst_8 (F := F))
abbrev idx_main_v84 (i : S8192x32x61.Idx) : S_.Idx := fun a => a.elim0
theorem val_main_v84_apply (i : S8192x32x61.Idx) :
    val_main_v84 (F := F) i = val_main_cst_8 (F := F) (idx_main_v84 i) := by
  unfold val_main_v84
  generalize val_main_cst_8 (F := F) = y
  exact broadcastInDim_apply _ bcast_S_S8192x32x61 y i (idx_main_v84 i) (fun a => a.elim0)

-- %85 = stablehlo.concatenate %8, %45, %84, dim = 2 : (tensor<8192x32x64xf32>, tensor<8192x32x3xf32>, tensor<8192x32x61xf32>) -> tensor<8192x32x128xf32>
def val_main_v85 (x2 : (⟨S8192x2048, .f32⟩ : BufTy).Contents (Elt F)) : (⟨S8192x32x128, .f32⟩ : BufTy).Contents (Elt F) :=
  (concatenate S8192x32x128 2 [⟨S8192x32x64, ((val_main_v8 (F := F) x2) : (⟨S8192x32x64, .f32⟩ : BufTy).Contents (Elt F))⟩, ⟨S8192x32x3, ((val_main_v45 (F := F)) : (⟨S8192x32x3, .f32⟩ : BufTy).Contents (Elt F))⟩, ⟨S8192x32x61, ((val_main_v84 (F := F)) : (⟨S8192x32x61, .f32⟩ : BufTy).Contents (Elt F))⟩] concatenates_S8192x32x64_S8192x32x3_S8192x32x61_S8192x32x128_d2 : (⟨S8192x32x128, .f32⟩ : BufTy).Contents (Elt F))

-- %86 = stablehlo.convert %85 : (tensor<8192x32x128xf32>) -> tensor<8192x32x128xbf16>
def val_main_v86 (x2 : (⟨S8192x2048, .f32⟩ : BufTy).Contents (Elt F)) : (⟨S8192x32x128, .bf16⟩ : BufTy).Contents (Elt F) :=
  truncf .bf16 (val_main_v85 (F := F) x2) bitsLt_bf16_f32
theorem val_main_v86_apply (x2 : (⟨S8192x2048, .f32⟩ : BufTy).Contents (Elt F)) (i : S8192x32x128.Idx) :
    val_main_v86 (F := F) x2 i = FloatOps.truncf .bf16 bitsLt_bf16_f32 (val_main_v85 (F := F) x2 i) := rfl

-- %87 = stablehlo.reshape %86 : (tensor<8192x32x128xbf16>) -> tensor<8192x4096xbf16>
def val_main_v87 (x2 : (⟨S8192x2048, .f32⟩ : BufTy).Contents (Elt F)) : (⟨S8192x4096, .bf16⟩ : BufTy).Contents (Elt F) :=
  shapeCast _ (val_main_v86 (F := F) x2) shapeCasts_S8192x32x128_S8192x4096
set_option backward.proofsInPublic true in
abbrev idx_main_v87 (i : S8192x4096.Idx) : S8192x32x128.Idx := fun a => match a with
  | ⟨0, _⟩ => ⟨((i 0).val * 4096 + (i 1).val) / 4096, by have h0 : (i 0).val < 8192 := (i 0).isLt; have h1 : (i 1).val < 4096 := (i 1).isLt; show ((i 0).val * 4096 + (i 1).val) / 4096 < 8192; omega⟩
  | ⟨1, _⟩ => ⟨((i 0).val * 4096 + (i 1).val) / 128 % 32, by have h0 : (i 0).val < 8192 := (i 0).isLt; have h1 : (i 1).val < 4096 := (i 1).isLt; show ((i 0).val * 4096 + (i 1).val) / 128 % 32 < 32; omega⟩
  | ⟨2, _⟩ => ⟨((i 0).val * 4096 + (i 1).val) % 128, by have h0 : (i 0).val < 8192 := (i 0).isLt; have h1 : (i 1).val < 4096 := (i 1).isLt; show ((i 0).val * 4096 + (i 1).val) % 128 < 128; omega⟩
theorem val_main_v87_apply (x2 : (⟨S8192x2048, .f32⟩ : BufTy).Contents (Elt F)) (i : S8192x4096.Idx) :
    val_main_v87 (F := F) x2 i = val_main_v86 (F := F) x2 (idx_main_v87 i) := by
  unfold val_main_v87
  generalize val_main_v86 (F := F) x2 = y
  exact shapeCast_apply y shapeCasts_S8192x32x128_S8192x4096 i (idx_main_v87 i)
    (by rewrite [Shape.rowMajor_val_three, Shape.rowMajor_val_two]; have h0 : (i 0).val < 8192 := (i 0).isLt; have h1 : (i 1).val < 4096 := (i 1).isLt; show (((i 0).val * 4096 + (i 1).val) / 4096 * 32 + ((i 0).val * 4096 + (i 1).val) / 128 % 32) * 128 + ((i 0).val * 4096 + (i 1).val) % 128 = (i 0).val * 4096 + (i 1).val; omega)

-- %88 = stablehlo.negate %44 : tensor<8192x32xf32>
def val_main_v88 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x32, .f32⟩ : BufTy).Contents (Elt F) :=
  Host.negf (val_main_v44 (F := F) x0 x1 x2 x3 x4)
theorem val_main_v88_apply (x0 x1 x2 : (⟨S8192x2048, .f32⟩ : BufTy).Contents (Elt F)) (x3 : (⟨S8192x32, .f32⟩ : BufTy).Contents (Elt F)) (x4 : (⟨S8192x2048, .f32⟩ : BufTy).Contents (Elt F)) (i : S8192x32.Idx) :
    val_main_v88 (F := F) x0 x1 x2 x3 x4 i = FloatOps.hostNegf (val_main_v44 (F := F) x0 x1 x2 x3 x4 i) := rfl

-- %89 = stablehlo.convert %88 : (tensor<8192x32xf32>) -> tensor<8192x32xbf16>
def val_main_v89 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x32, .bf16⟩ : BufTy).Contents (Elt F) :=
  truncf .bf16 (val_main_v88 (F := F) x0 x1 x2 x3 x4) bitsLt_bf16_f32
theorem val_main_v89_apply (x0 x1 x2 : (⟨S8192x2048, .f32⟩ : BufTy).Contents (Elt F)) (x3 : (⟨S8192x32, .f32⟩ : BufTy).Contents (Elt F)) (x4 : (⟨S8192x2048, .f32⟩ : BufTy).Contents (Elt F)) (i : S8192x32.Idx) :
    val_main_v89 (F := F) x0 x1 x2 x3 x4 i = FloatOps.truncf .bf16 bitsLt_bf16_f32 (val_main_v88 (F := F) x0 x1 x2 x3 x4 i) := rfl

-- %90 = stablehlo.convert %89 : (tensor<8192x32xbf16>) -> tensor<8192x32xf32>
def val_main_v90 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x32, .f32⟩ : BufTy).Contents (Elt F) :=
  extf .f32 (val_main_v89 (F := F) x0 x1 x2 x3 x4) bitsLt_bf16_f32
theorem val_main_v90_apply (x0 x1 x2 : (⟨S8192x2048, .f32⟩ : BufTy).Contents (Elt F)) (x3 : (⟨S8192x32, .f32⟩ : BufTy).Contents (Elt F)) (x4 : (⟨S8192x2048, .f32⟩ : BufTy).Contents (Elt F)) (i : S8192x32.Idx) :
    val_main_v90 (F := F) x0 x1 x2 x3 x4 i = FloatOps.extf .f32 bitsLt_bf16_f32 (val_main_v89 (F := F) x0 x1 x2 x3 x4 i) := rfl

-- %91 = stablehlo.subtract %88, %90 : tensor<8192x32xf32>
def val_main_v91 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x32, .f32⟩ : BufTy).Contents (Elt F) :=
  subf (val_main_v88 (F := F) x0 x1 x2 x3 x4) (val_main_v90 (F := F) x0 x1 x2 x3 x4)
theorem val_main_v91_apply (x0 x1 x2 : (⟨S8192x2048, .f32⟩ : BufTy).Contents (Elt F)) (x3 : (⟨S8192x32, .f32⟩ : BufTy).Contents (Elt F)) (x4 : (⟨S8192x2048, .f32⟩ : BufTy).Contents (Elt F)) (i : S8192x32.Idx) :
    val_main_v91 (F := F) x0 x1 x2 x3 x4 i = FloatOps.subf (val_main_v88 (F := F) x0 x1 x2 x3 x4 i) (val_main_v90 (F := F) x0 x1 x2 x3 x4 i) := rfl

-- %92 = stablehlo.convert %91 : (tensor<8192x32xf32>) -> tensor<8192x32xbf16>
def val_main_v92 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x32, .bf16⟩ : BufTy).Contents (Elt F) :=
  truncf .bf16 (val_main_v91 (F := F) x0 x1 x2 x3 x4) bitsLt_bf16_f32
theorem val_main_v92_apply (x0 x1 x2 : (⟨S8192x2048, .f32⟩ : BufTy).Contents (Elt F)) (x3 : (⟨S8192x32, .f32⟩ : BufTy).Contents (Elt F)) (x4 : (⟨S8192x2048, .f32⟩ : BufTy).Contents (Elt F)) (i : S8192x32.Idx) :
    val_main_v92 (F := F) x0 x1 x2 x3 x4 i = FloatOps.truncf .bf16 bitsLt_bf16_f32 (val_main_v91 (F := F) x0 x1 x2 x3 x4 i) := rfl

-- %93 = stablehlo.convert %92 : (tensor<8192x32xbf16>) -> tensor<8192x32xf32>
def val_main_v93 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x32, .f32⟩ : BufTy).Contents (Elt F) :=
  extf .f32 (val_main_v92 (F := F) x0 x1 x2 x3 x4) bitsLt_bf16_f32
theorem val_main_v93_apply (x0 x1 x2 : (⟨S8192x2048, .f32⟩ : BufTy).Contents (Elt F)) (x3 : (⟨S8192x32, .f32⟩ : BufTy).Contents (Elt F)) (x4 : (⟨S8192x2048, .f32⟩ : BufTy).Contents (Elt F)) (i : S8192x32.Idx) :
    val_main_v93 (F := F) x0 x1 x2 x3 x4 i = FloatOps.extf .f32 bitsLt_bf16_f32 (val_main_v92 (F := F) x0 x1 x2 x3 x4 i) := rfl

-- %94 = stablehlo.subtract %88, %90 : tensor<8192x32xf32>
def val_main_v94 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x32, .f32⟩ : BufTy).Contents (Elt F) :=
  subf (val_main_v88 (F := F) x0 x1 x2 x3 x4) (val_main_v90 (F := F) x0 x1 x2 x3 x4)
theorem val_main_v94_apply (x0 x1 x2 : (⟨S8192x2048, .f32⟩ : BufTy).Contents (Elt F)) (x3 : (⟨S8192x32, .f32⟩ : BufTy).Contents (Elt F)) (x4 : (⟨S8192x2048, .f32⟩ : BufTy).Contents (Elt F)) (i : S8192x32.Idx) :
    val_main_v94 (F := F) x0 x1 x2 x3 x4 i = FloatOps.subf (val_main_v88 (F := F) x0 x1 x2 x3 x4 i) (val_main_v90 (F := F) x0 x1 x2 x3 x4 i) := rfl

-- %95 = stablehlo.subtract %94, %93 : tensor<8192x32xf32>
def val_main_v95 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x32, .f32⟩ : BufTy).Contents (Elt F) :=
  subf (val_main_v94 (F := F) x0 x1 x2 x3 x4) (val_main_v93 (F := F) x0 x1 x2 x3 x4)
theorem val_main_v95_apply (x0 x1 x2 : (⟨S8192x2048, .f32⟩ : BufTy).Contents (Elt F)) (x3 : (⟨S8192x32, .f32⟩ : BufTy).Contents (Elt F)) (x4 : (⟨S8192x2048, .f32⟩ : BufTy).Contents (Elt F)) (i : S8192x32.Idx) :
    val_main_v95 (F := F) x0 x1 x2 x3 x4 i = FloatOps.subf (val_main_v94 (F := F) x0 x1 x2 x3 x4 i) (val_main_v93 (F := F) x0 x1 x2 x3 x4 i) := rfl

-- %96 = stablehlo.convert %95 : (tensor<8192x32xf32>) -> tensor<8192x32xbf16>
def val_main_v96 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x32, .bf16⟩ : BufTy).Contents (Elt F) :=
  truncf .bf16 (val_main_v95 (F := F) x0 x1 x2 x3 x4) bitsLt_bf16_f32
theorem val_main_v96_apply (x0 x1 x2 : (⟨S8192x2048, .f32⟩ : BufTy).Contents (Elt F)) (x3 : (⟨S8192x32, .f32⟩ : BufTy).Contents (Elt F)) (x4 : (⟨S8192x2048, .f32⟩ : BufTy).Contents (Elt F)) (i : S8192x32.Idx) :
    val_main_v96 (F := F) x0 x1 x2 x3 x4 i = FloatOps.truncf .bf16 bitsLt_bf16_f32 (val_main_v95 (F := F) x0 x1 x2 x3 x4 i) := rfl

-- %97 = stablehlo.convert %96 : (tensor<8192x32xbf16>) -> tensor<8192x32xf32>
def val_main_v97 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x32, .f32⟩ : BufTy).Contents (Elt F) :=
  extf .f32 (val_main_v96 (F := F) x0 x1 x2 x3 x4) bitsLt_bf16_f32
theorem val_main_v97_apply (x0 x1 x2 : (⟨S8192x2048, .f32⟩ : BufTy).Contents (Elt F)) (x3 : (⟨S8192x32, .f32⟩ : BufTy).Contents (Elt F)) (x4 : (⟨S8192x2048, .f32⟩ : BufTy).Contents (Elt F)) (i : S8192x32.Idx) :
    val_main_v97 (F := F) x0 x1 x2 x3 x4 i = FloatOps.extf .f32 bitsLt_bf16_f32 (val_main_v96 (F := F) x0 x1 x2 x3 x4 i) := rfl

-- %98 = stablehlo.broadcast_in_dim %90, dims = [0, 1] : (tensor<8192x32xf32>) -> tensor<8192x32x1xf32>
def val_main_v98 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x32x1, .f32⟩ : BufTy).Contents (Elt F) :=
  broadcastInDim S8192x32x1 ![0, 1] bcast_S8192x32_S8192x32x1_0_1 (val_main_v90 (F := F) x0 x1 x2 x3 x4)
abbrev idx_main_v98 (i : S8192x32x1.Idx) : S8192x32.Idx := fun a => match a with
  | ⟨0, _⟩ => ⟨(i 0).val, (i 0).isLt⟩
  | ⟨1, _⟩ => ⟨(i 1).val, (i 1).isLt⟩
theorem val_main_v98_apply (x0 x1 x2 : (⟨S8192x2048, .f32⟩ : BufTy).Contents (Elt F)) (x3 : (⟨S8192x32, .f32⟩ : BufTy).Contents (Elt F)) (x4 : (⟨S8192x2048, .f32⟩ : BufTy).Contents (Elt F)) (i : S8192x32x1.Idx) :
    val_main_v98 (F := F) x0 x1 x2 x3 x4 i = val_main_v90 (F := F) x0 x1 x2 x3 x4 (idx_main_v98 i) := by
  unfold val_main_v98
  generalize val_main_v90 (F := F) x0 x1 x2 x3 x4 = y
  exact broadcastInDim_apply _ bcast_S8192x32_S8192x32x1_0_1 y i (idx_main_v98 i) (fun a => match a with
    | ⟨0, _⟩ => by show (i 0).val = if (8192 : Nat) = 1 then 0 else (i 0).val; rw [if_neg (by decide)]
    | ⟨1, _⟩ => by show (i 1).val = if (32 : Nat) = 1 then 0 else (i 1).val; rw [if_neg (by decide)])

-- %99 = stablehlo.broadcast_in_dim %93, dims = [0, 1] : (tensor<8192x32xf32>) -> tensor<8192x32x1xf32>
def val_main_v99 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x32x1, .f32⟩ : BufTy).Contents (Elt F) :=
  broadcastInDim S8192x32x1 ![0, 1] bcast_S8192x32_S8192x32x1_0_1 (val_main_v93 (F := F) x0 x1 x2 x3 x4)
abbrev idx_main_v99 (i : S8192x32x1.Idx) : S8192x32.Idx := fun a => match a with
  | ⟨0, _⟩ => ⟨(i 0).val, (i 0).isLt⟩
  | ⟨1, _⟩ => ⟨(i 1).val, (i 1).isLt⟩
theorem val_main_v99_apply (x0 x1 x2 : (⟨S8192x2048, .f32⟩ : BufTy).Contents (Elt F)) (x3 : (⟨S8192x32, .f32⟩ : BufTy).Contents (Elt F)) (x4 : (⟨S8192x2048, .f32⟩ : BufTy).Contents (Elt F)) (i : S8192x32x1.Idx) :
    val_main_v99 (F := F) x0 x1 x2 x3 x4 i = val_main_v93 (F := F) x0 x1 x2 x3 x4 (idx_main_v99 i) := by
  unfold val_main_v99
  generalize val_main_v93 (F := F) x0 x1 x2 x3 x4 = y
  exact broadcastInDim_apply _ bcast_S8192x32_S8192x32x1_0_1 y i (idx_main_v99 i) (fun a => match a with
    | ⟨0, _⟩ => by show (i 0).val = if (8192 : Nat) = 1 then 0 else (i 0).val; rw [if_neg (by decide)]
    | ⟨1, _⟩ => by show (i 1).val = if (32 : Nat) = 1 then 0 else (i 1).val; rw [if_neg (by decide)])

-- %100 = stablehlo.broadcast_in_dim %97, dims = [0, 1] : (tensor<8192x32xf32>) -> tensor<8192x32x1xf32>
def val_main_v100 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x32x1, .f32⟩ : BufTy).Contents (Elt F) :=
  broadcastInDim S8192x32x1 ![0, 1] bcast_S8192x32_S8192x32x1_0_1 (val_main_v97 (F := F) x0 x1 x2 x3 x4)
abbrev idx_main_v100 (i : S8192x32x1.Idx) : S8192x32.Idx := fun a => match a with
  | ⟨0, _⟩ => ⟨(i 0).val, (i 0).isLt⟩
  | ⟨1, _⟩ => ⟨(i 1).val, (i 1).isLt⟩
theorem val_main_v100_apply (x0 x1 x2 : (⟨S8192x2048, .f32⟩ : BufTy).Contents (Elt F)) (x3 : (⟨S8192x32, .f32⟩ : BufTy).Contents (Elt F)) (x4 : (⟨S8192x2048, .f32⟩ : BufTy).Contents (Elt F)) (i : S8192x32x1.Idx) :
    val_main_v100 (F := F) x0 x1 x2 x3 x4 i = val_main_v97 (F := F) x0 x1 x2 x3 x4 (idx_main_v100 i) := by
  unfold val_main_v100
  generalize val_main_v97 (F := F) x0 x1 x2 x3 x4 = y
  exact broadcastInDim_apply _ bcast_S8192x32_S8192x32x1_0_1 y i (idx_main_v100 i) (fun a => match a with
    | ⟨0, _⟩ => by show (i 0).val = if (8192 : Nat) = 1 then 0 else (i 0).val; rw [if_neg (by decide)]
    | ⟨1, _⟩ => by show (i 1).val = if (32 : Nat) = 1 then 0 else (i 1).val; rw [if_neg (by decide)])

-- %101 = stablehlo.concatenate %98, %99, %100, dim = 2 : (tensor<8192x32x1xf32>, tensor<8192x32x1xf32>, tensor<8192x32x1xf32>) -> tensor<8192x32x3xf32>
def val_main_v101 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x32x3, .f32⟩ : BufTy).Contents (Elt F) :=
  (concatenate S8192x32x3 2 [⟨S8192x32x1, ((val_main_v98 (F := F) x0 x1 x2 x3 x4) : (⟨S8192x32x1, .f32⟩ : BufTy).Contents (Elt F))⟩, ⟨S8192x32x1, ((val_main_v99 (F := F) x0 x1 x2 x3 x4) : (⟨S8192x32x1, .f32⟩ : BufTy).Contents (Elt F))⟩, ⟨S8192x32x1, ((val_main_v100 (F := F) x0 x1 x2 x3 x4) : (⟨S8192x32x1, .f32⟩ : BufTy).Contents (Elt F))⟩] concatenates_S8192x32x1_S8192x32x1_S8192x32x1_S8192x32x3_d2 : (⟨S8192x32x3, .f32⟩ : BufTy).Contents (Elt F))

-- %cst_9 = stablehlo.constant dense<0.000000e+00> : tensor<f32>
def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

-- %102 = stablehlo.broadcast_in_dim %cst_9, dims = [] : (tensor<f32>) -> tensor<8192x32x61xf32>
def val_main_v102 : (⟨S8192x32x61, .f32⟩ : BufTy).Contents (Elt F) :=
  broadcastInDim S8192x32x61 ![] bcast_S_S8192x32x61 (val_main_cst_9 (F := F))
abbrev idx_main_v102 (i : S8192x32x61.Idx) : S_.Idx := fun a => a.elim0
theorem val_main_v102_apply (i : S8192x32x61.Idx) :
    val_main_v102 (F := F) i = val_main_cst_9 (F := F) (idx_main_v102 i) := by
  unfold val_main_v102
  generalize val_main_cst_9 (F := F) = y
  exact broadcastInDim_apply _ bcast_S_S8192x32x61 y i (idx_main_v102 i) (fun a => a.elim0)

-- %103 = stablehlo.concatenate %11, %101, %102, dim = 2 : (tensor<8192x32x64xf32>, tensor<8192x32x3xf32>, tensor<8192x32x61xf32>) -> tensor<8192x32x128xf32>
def val_main_v103 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x32x128, .f32⟩ : BufTy).Contents (Elt F) :=
  (concatenate S8192x32x128 2 [⟨S8192x32x64, ((val_main_v11 (F := F) x4) : (⟨S8192x32x64, .f32⟩ : BufTy).Contents (Elt F))⟩, ⟨S8192x32x3, ((val_main_v101 (F := F) x0 x1 x2 x3 x4) : (⟨S8192x32x3, .f32⟩ : BufTy).Contents (Elt F))⟩, ⟨S8192x32x61, ((val_main_v102 (F := F)) : (⟨S8192x32x61, .f32⟩ : BufTy).Contents (Elt F))⟩] concatenates_S8192x32x64_S8192x32x3_S8192x32x61_S8192x32x128_d2 : (⟨S8192x32x128, .f32⟩ : BufTy).Contents (Elt F))

-- %104 = stablehlo.convert %103 : (tensor<8192x32x128xf32>) -> tensor<8192x32x128xbf16>
def val_main_v104 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x32x128, .bf16⟩ : BufTy).Contents (Elt F) :=
  truncf .bf16 (val_main_v103 (F := F) x0 x1 x2 x3 x4) bitsLt_bf16_f32
theorem val_main_v104_apply (x0 x1 x2 : (⟨S8192x2048, .f32⟩ : BufTy).Contents (Elt F)) (x3 : (⟨S8192x32, .f32⟩ : BufTy).Contents (Elt F)) (x4 : (⟨S8192x2048, .f32⟩ : BufTy).Contents (Elt F)) (i : S8192x32x128.Idx) :
    val_main_v104 (F := F) x0 x1 x2 x3 x4 i = FloatOps.truncf .bf16 bitsLt_bf16_f32 (val_main_v103 (F := F) x0 x1 x2 x3 x4 i) := rfl

-- %105 = stablehlo.reshape %104 : (tensor<8192x32x128xbf16>) -> tensor<8192x4096xbf16>
def val_main_v105 (x0 x1 x2 : (⟨S8192x2048, .f32⟩ : BufTy).Contents (Elt F)) (x3 : (⟨S8192x32, .f32⟩ : BufTy).Contents (Elt F)) (x4 : (⟨S8192x2048, .f32⟩ : BufTy).Contents (Elt F)) : (⟨S8192x4096, .bf16⟩ : BufTy).Contents (Elt F) :=
  shapeCast _ (val_main_v104 (F := F) x0 x1 x2 x3 x4) shapeCasts_S8192x32x128_S8192x4096
set_option backward.proofsInPublic true in
abbrev idx_main_v105 (i : S8192x4096.Idx) : S8192x32x128.Idx := fun a => match a with
  | ⟨0, _⟩ => ⟨((i 0).val * 4096 + (i 1).val) / 4096, by have h0 : (i 0).val < 8192 := (i 0).isLt; have h1 : (i 1).val < 4096 := (i 1).isLt; show ((i 0).val * 4096 + (i 1).val) / 4096 < 8192; omega⟩
  | ⟨1, _⟩ => ⟨((i 0).val * 4096 + (i 1).val) / 128 % 32, by have h0 : (i 0).val < 8192 := (i 0).isLt; have h1 : (i 1).val < 4096 := (i 1).isLt; show ((i 0).val * 4096 + (i 1).val) / 128 % 32 < 32; omega⟩
  | ⟨2, _⟩ => ⟨((i 0).val * 4096 + (i 1).val) % 128, by have h0 : (i 0).val < 8192 := (i 0).isLt; have h1 : (i 1).val < 4096 := (i 1).isLt; show ((i 0).val * 4096 + (i 1).val) % 128 < 128; omega⟩
theorem val_main_v105_apply (x0 x1 x2 : (⟨S8192x2048, .f32⟩ : BufTy).Contents (Elt F)) (x3 : (⟨S8192x32, .f32⟩ : BufTy).Contents (Elt F)) (x4 : (⟨S8192x2048, .f32⟩ : BufTy).Contents (Elt F)) (i : S8192x4096.Idx) :
    val_main_v105 (F := F) x0 x1 x2 x3 x4 i = val_main_v104 (F := F) x0 x1 x2 x3 x4 (idx_main_v105 i) := by
  unfold val_main_v105
  generalize val_main_v104 (F := F) x0 x1 x2 x3 x4 = y
  exact shapeCast_apply y shapeCasts_S8192x32x128_S8192x4096 i (idx_main_v105 i)
    (by rewrite [Shape.rowMajor_val_three, Shape.rowMajor_val_two]; have h0 : (i 0).val < 8192 := (i 0).isLt; have h1 : (i 1).val < 4096 := (i 1).isLt; show (((i 0).val * 4096 + (i 1).val) / 4096 * 32 + ((i 0).val * 4096 + (i 1).val) / 128 % 32) * 128 + ((i 0).val * 4096 + (i 1).val) % 128 = (i 0).val * 4096 + (i 1).val; omega)

end Cert.Proof.Pre

end
-- ==== Proof.PrefixVals.lean ====
/-
  The kernel's operands, as the host's values.
-/
module
public import proofs.«01_k».proof.Proof.Run
public import proofs.«01_k».proof.Proof.PrefixRead
@[expose] public section
set_option maxRecDepth 16384
noncomputable section
open Idealize.ShloMosaic Idealize.SL Idealize.SL.Sem Idealize.ShloMosaic.TcCoe Idealize.ShloMosaic.StableHlo

namespace Cert.Proof.Fox
open Cert.KernelIdeal Cert.KernelIdeal.Gen

variable {F : FTy → Type} [FloatOps F] [Named F] (m : (ℓ : Loc nD τ sig) → Buf (Elt F) ℓ)

/-- Three single lanes side by side. -/
def cat3 (a b c : (⟨S8192x32x1, .f32⟩ : BufTy).Contents (Elt F)) : (⟨S8192x32x3, .f32⟩ : BufTy).Contents (Elt F) :=
  concatenate S8192x32x3 2 [⟨S8192x32x1, a⟩, ⟨S8192x32x1, b⟩, ⟨S8192x32x1, c⟩] concatenates_S8192x32x1_S8192x32x1_S8192x32x1_S8192x32x3_d2

/-- The lanes of a query's or a key's slot: the data, two threes, and zeros. -/
def catQ (a : (⟨S8192x32x64, .f32⟩ : BufTy).Contents (Elt F)) (b c : (⟨S8192x32x3, .f32⟩ : BufTy).Contents (Elt F)) (d : (⟨S8192x32x58, .f32⟩ : BufTy).Contents (Elt F)) : (⟨S8192x32x128, .f32⟩ : BufTy).Contents (Elt F) :=
  concatenate S8192x32x128 2 [⟨S8192x32x64, a⟩, ⟨S8192x32x3, b⟩, ⟨S8192x32x3, c⟩, ⟨S8192x32x58, d⟩] concatenates_S8192x32x64_S8192x32x3_S8192x32x3_S8192x32x58_S8192x32x128_d2

/-- The lanes of a value's or a cotangent's slot: the data, one three, and zeros. -/
def catV (a : (⟨S8192x32x64, .f32⟩ : BufTy).Contents (Elt F)) (b : (⟨S8192x32x3, .f32⟩ : BufTy).Contents (Elt F)) (d : (⟨S8192x32x61, .f32⟩ : BufTy).Contents (Elt F)) : (⟨S8192x32x128, .f32⟩ : BufTy).Contents (Elt F) :=
  concatenate S8192x32x128 2 [⟨S8192x32x64, a⟩, ⟨S8192x32x3, b⟩, ⟨S8192x32x61, d⟩] concatenates_S8192x32x64_S8192x32x3_S8192x32x61_S8192x32x128_d2

/-- The last stretch of operations before the region, with its concatenations by name. -/
abbrev hostOpsCat : List (HloOp τ sig (Elt F)) :=
  ( StableHlo.nullary main_cst_1 (constant S_ .f32 0xFF800000#32)
  :: StableHlo.binary main_v27 main_cst_1 main_v28 ((fun x v => Host.reduce FloatOps.maximumf x v reducesTo_S32x8192x8192_S32x8192_d2 h_S_) : (⟨S32x8192x8192, .f32⟩ : BufTy).Contents (Elt F) → (⟨S_, .f32⟩ : BufTy).Contents (Elt F) → (⟨S32x8192, .f32⟩ : BufTy).Contents (Elt F))
  :: StableHlo.unary main_v28 main_v29 (broadcastInDim S32x8192x1 ![0, 1] bcast_S32x8192_S32x8192x1_0_1 : (⟨S32x8192, .f32⟩ : BufTy).Contents (Elt F) → (⟨S32x8192x1, .f32⟩ : BufTy).Contents (Elt F))
  :: StableHlo.unary main_v29 main_v30 (broadcastInDim S32x8192x8192 ![0, 1, 2] bcast_S32x8192x1_S32x8192x8192_0_1_2 : (⟨S32x8192x1, .f32⟩ : BufTy).Contents (Elt F) → (⟨S32x8192x8192, .f32⟩ : BufTy).Contents (Elt F))
  :: StableHlo.binary main_v27 main_v30 main_v31 (subf : (⟨S32x8192x8192, .f32⟩ : BufTy).Contents (Elt F) → (⟨S32x8192x8192, .f32⟩ : BufTy).Contents (Elt F) → (⟨S32x8192x8192, .f32⟩ : BufTy).Contents (Elt F))
  :: StableHlo.unary main_v31 main_v32 (Host.exp : (⟨S32x8192x8192, .f32⟩ : BufTy).Contents (Elt F) → (⟨S32x8192x8192, .f32⟩ : BufTy).Contents (Elt F))
  :: StableHlo.nullary main_cst_2 (constant S_ .f32 0x00000000#32)
  :: StableHlo.binary main_v32 main_cst_2 main_v33 ((fun x v => Host.reduceAdd x v reducesTo_S32x8192x8192_S32x8192_d2 h_S_) : (⟨S32x8192x8192, .f32⟩ : BufTy).Contents (Elt F) → (⟨S_, .f32⟩ : BufTy).Contents (Elt F) → (⟨S32x8192, .f32⟩ : BufTy).Contents (Elt F))
  :: StableHlo.unary main_v33 main_v34 (broadcastInDim S32x8192x1 ![0, 1] bcast_S32x8192_S32x8192x1_0_1 : (⟨S32x8192, .f32⟩ : BufTy).Contents (Elt F) → (⟨S32x8192x1, .f32⟩ : BufTy).Contents (Elt F))
  :: StableHlo.binary main_v32 main_v8 main_v35 ((fun l r => Host.dotGeneral dot_S32x8192x8192_S8192x32x64_S32x8192x64_2_0_1_2_0_1 none l r) : (⟨S32x8192x8192, .f32⟩ : BufTy).Contents (Elt F) → (⟨S8192x32x64, .f32⟩ : BufTy).Contents (Elt F) → (⟨S32x8192x64, .f32⟩ : BufTy).Contents (Elt F))
  :: StableHlo.unary main_v34 main_v36 (broadcastInDim S32x8192x64 ![0, 1, 2] bcast_S32x8192x1_S32x8192x64_0_1_2 : (⟨S32x8192x1, .f32⟩ : BufTy).Contents (Elt F) → (⟨S32x8192x64, .f32⟩ : BufTy).Contents (Elt F))
  :: StableHlo.binary main_v35 main_v36 main_v37 (Host.divf : (⟨S32x8192x64, .f32⟩ : BufTy).Contents (Elt F) → (⟨S32x8192x64, .f32⟩ : BufTy).Contents (Elt F) → (⟨S32x8192x64, .f32⟩ : BufTy).Contents (Elt F))
  :: StableHlo.unary main_v34 main_v38 (Host.log : (⟨S32x8192x1, .f32⟩ : BufTy).Contents (Elt F) → (⟨S32x8192x1, .f32⟩ : BufTy).Contents (Elt F))
  :: StableHlo.binary main_v29 main_v38 main_v39 (addf : (⟨S32x8192x1, .f32⟩ : BufTy).Contents (Elt F) → (⟨S32x8192x1, .f32⟩ : BufTy).Contents (Elt F) → (⟨S32x8192x1, .f32⟩ : BufTy).Contents (Elt F))
  :: StableHlo.reshape main_v39 main_v40 (rfl : (.f32 : EltTy) = .f32) shapeCasts_S32x8192x1_S32x8192
  :: StableHlo.unary main_v40 main_v41 ((transpose S8192x32 [1, 0] · transposes_S32x8192_S8192x32_1_0) : (⟨S32x8192, .f32⟩ : BufTy).Contents (Elt F) → (⟨S8192x32, .f32⟩ : BufTy).Contents (Elt F))
  :: StableHlo.unary main_v37 main_v42 ((transpose S8192x32x64 [1, 0, 2] · transposes_S32x8192x64_S8192x32x64_1_0_2) : (⟨S32x8192x64, .f32⟩ : BufTy).Contents (Elt F) → (⟨S8192x32x64, .f32⟩ : BufTy).Contents (Elt F))
  :: StableHlo.binary main_v11 main_v42 main_v43 (mulf : (⟨S8192x32x64, .f32⟩ : BufTy).Contents (Elt F) → (⟨S8192x32x64, .f32⟩ : BufTy).Contents (Elt F) → (⟨S8192x32x64, .f32⟩ : BufTy).Contents (Elt F))
  :: StableHlo.nullary main_cst_3 (constant S_ .f32 0x00000000#32)
  :: StableHlo.binary main_v43 main_cst_3 main_v44 ((fun x v => Host.reduceAdd x v reducesTo_S8192x32x64_S8192x32_d2 h_S_) : (⟨S8192x32x64, .f32⟩ : BufTy).Contents (Elt F) → (⟨S_, .f32⟩ : BufTy).Contents (Elt F) → (⟨S8192x32, .f32⟩ : BufTy).Contents (Elt F))
  :: StableHlo.nullary main_cst_4 (constant S_ .f32 0x3F800000#32)
  :: StableHlo.unary main_cst_4 main_v45 (broadcastInDim S8192x32x3 ![] bcast_S_S8192x32x3 : (⟨S_, .f32⟩ : BufTy).Contents (Elt F) → (⟨S8192x32x3, .f32⟩ : BufTy).Contents (Elt F))
  :: StableHlo.nullary main_cst_5 (constant S_ .f32 0x3E000000#32)
  :: StableHlo.unary main_cst_5 main_v46 (broadcastInDim S8192x32x64 ![] bcast_S_S8192x32x64 : (⟨S_, .f32⟩ : BufTy).Contents (Elt F) → (⟨S8192x32x64, .f32⟩ : BufTy).Contents (Elt F))
  :: StableHlo.binary main_v2 main_v46 main_v47 (mulf : (⟨S8192x32x64, .f32⟩ : BufTy).Contents (Elt F) → (⟨S8192x32x64, .f32⟩ : BufTy).Contents (Elt F) → (⟨S8192x32x64, .f32⟩ : BufTy).Contents (Elt F))
  :: StableHlo.unary main_v41 main_v48 (Host.negf : (⟨S8192x32, .f32⟩ : BufTy).Contents (Elt F) → (⟨S8192x32, .f32⟩ : BufTy).Contents (Elt F))
  :: StableHlo.unary main_v48 main_v49 ((truncf .bf16 · bitsLt_bf16_f32) : (⟨S8192x32, .f32⟩ : BufTy).Contents (Elt F) → (⟨S8192x32, .bf16⟩ : BufTy).Contents (Elt F))
  :: StableHlo.unary main_v49 main_v50 ((extf .f32 · bitsLt_bf16_f32) : (⟨S8192x32, .bf16⟩ : BufTy).Contents (Elt F) → (⟨S8192x32, .f32⟩ : BufTy).Contents (Elt F))
  :: StableHlo.binary main_v48 main_v50 main_v51 (subf : (⟨S8192x32, .f32⟩ : BufTy).Contents (Elt F) → (⟨S8192x32, .f32⟩ : BufTy).Contents (Elt F) → (⟨S8192x32, .f32⟩ : BufTy).Contents (Elt F))
  :: StableHlo.unary main_v51 main_v52 ((truncf .bf16 · bitsLt_bf16_f32) : (⟨S8192x32, .f32⟩ : BufTy).Contents (Elt F) → (⟨S8192x32, .bf16⟩ : BufTy).Contents (Elt F))
  :: StableHlo.unary main_v52 main_v53 ((extf .f32 · bitsLt_bf16_f32) : (⟨S8192x32, .bf16⟩ : BufTy).Contents (Elt F) → (⟨S8192x32, .f32⟩ : BufTy).Contents (Elt F))
  :: StableHlo.binary main_v48 main_v50 main_v54 (subf : (⟨S8192x32, .f32⟩ : BufTy).Contents (Elt F) → (⟨S8192x32, .f32⟩ : BufTy).Contents (Elt F) → (⟨S8192x32, .f32⟩ : BufTy).Contents (Elt F))
  :: StableHlo.binary main_v54 main_v53 main_v55 (subf : (⟨S8192x32, .f32⟩ : BufTy).Contents (Elt F) → (⟨S8192x32, .f32⟩ : BufTy).Contents (Elt F) → (⟨S8192x32, .f32⟩ : BufTy).Contents (Elt F))
  :: StableHlo.unary main_v55 main_v56 ((truncf .bf16 · bitsLt_bf16_f32) : (⟨S8192x32, .f32⟩ : BufTy).Contents (Elt F) → (⟨S8192x32, .bf16⟩ : BufTy).Contents (Elt F))
  :: StableHlo.unary main_v56 main_v57 ((extf .f32 · bitsLt_bf16_f32) : (⟨S8192x32, .bf16⟩ : BufTy).Contents (Elt F) → (⟨S8192x32, .f32⟩ : BufTy).Contents (Elt F))
  :: StableHlo.unary main_v50 main_v58 (broadcastInDim S8192x32x1 ![0, 1] bcast_S8192x32_S8192x32x1_0_1 : (⟨S8192x32, .f32⟩ : BufTy).Contents (Elt F) → (⟨S8192x32x1, .f32⟩ : BufTy).Contents (Elt F))
  :: StableHlo.unary main_v53 main_v59 (broadcastInDim S8192x32x1 ![0, 1] bcast_S8192x32_S8192x32x1_0_1 : (⟨S8192x32, .f32⟩ : BufTy).Contents (Elt F) → (⟨S8192x32x1, .f32⟩ : BufTy).Contents (Elt F))
  :: StableHlo.unary main_v57 main_v60 (broadcastInDim S8192x32x1 ![0, 1] bcast_S8192x32_S8192x32x1_0_1 : (⟨S8192x32, .f32⟩ : BufTy).Contents (Elt F) → (⟨S8192x32x1, .f32⟩ : BufTy).Contents (Elt F))
  :: StableHlo.nary ![main_v58, main_v59, main_v60] main_v61 (fun u => cat3 (u 0) (u 1) (u 2))
  :: StableHlo.nullary main_cst_6 (constant S_ .f32 0x00000000#32)
  :: StableHlo.unary main_cst_6 main_v62 (broadcastInDim S8192x32x58 ![] bcast_S_S8192x32x58 : (⟨S_, .f32⟩ : BufTy).Contents (Elt F) → (⟨S8192x32x58, .f32⟩ : BufTy).Contents (Elt F))
  :: StableHlo.nary ![main_v47, main_v45, main_v61, main_v62] main_v63 (fun u => catQ (u 0) (u 1) (u 2) (u 3))
  :: StableHlo.unary main_v63 main_v64 ((truncf .bf16 · bitsLt_bf16_f32) : (⟨S8192x32x128, .f32⟩ : BufTy).Contents (Elt F) → (⟨S8192x32x128, .bf16⟩ : BufTy).Contents (Elt F))
  :: StableHlo.reshape main_v64 main_v65 (rfl : (.bf16 : EltTy) = .bf16) shapeCasts_S8192x32x128_S8192x4096
  :: StableHlo.unary main_arg3 main_v66 (Host.negf : (⟨S8192x32, .f32⟩ : BufTy).Contents (Elt F) → (⟨S8192x32, .f32⟩ : BufTy).Contents (Elt F))
  :: StableHlo.unary main_v66 main_v67 ((truncf .bf16 · bitsLt_bf16_f32) : (⟨S8192x32, .f32⟩ : BufTy).Contents (Elt F) → (⟨S8192x32, .bf16⟩ : BufTy).Contents (Elt F))
  :: StableHlo.unary main_v67 main_v68 ((extf .f32 · bitsLt_bf16_f32) : (⟨S8192x32, .bf16⟩ : BufTy).Contents (Elt F) → (⟨S8192x32, .f32⟩ : BufTy).Contents (Elt F))
  :: StableHlo.binary main_v66 main_v68 main_v69 (subf : (⟨S8192x32, .f32⟩ : BufTy).Contents (Elt F) → (⟨S8192x32, .f32⟩ : BufTy).Contents (Elt F) → (⟨S8192x32, .f32⟩ : BufTy).Contents (Elt F))
  :: StableHlo.unary main_v69 main_v70 ((truncf .bf16 · bitsLt_bf16_f32) : (⟨S8192x32, .f32⟩ : BufTy).Contents (Elt F) → (⟨S8192x32, .bf16⟩ : BufTy).Contents (Elt F))
  :: StableHlo.unary main_v70 main_v71 ((extf .f32 · bitsLt_bf16_f32) : (⟨S8192x32, .bf16⟩ : BufTy).Contents (Elt F) → (⟨S8192x32, .f32⟩ : BufTy).Contents (Elt F))
  :: StableHlo.binary main_v66 main_v68 main_v72 (subf : (⟨S8192x32, .f32⟩ : BufTy).Contents (Elt F) → (⟨S8192x32, .f32⟩ : BufTy).Contents (Elt F) → (⟨S8192x32, .f32⟩ : BufTy).Contents (Elt F))
  :: StableHlo.binary main_v72 main_v71 main_v73 (subf : (⟨S8192x32, .f32⟩ : BufTy).Contents (Elt F) → (⟨S8192x32, .f32⟩ : BufTy).Contents (Elt F) → (⟨S8192x32, .f32⟩ : BufTy).Contents (Elt F))
  :: StableHlo.unary main_v73 main_v74 ((truncf .bf16 · bitsLt_bf16_f32) : (⟨S8192x32, .f32⟩ : BufTy).Contents (Elt F) → (⟨S8192x32, .bf16⟩ : BufTy).Contents (Elt F))
  :: StableHlo.unary main_v74 main_v75 ((extf .f32 · bitsLt_bf16_f32) : (⟨S8192x32, .bf16⟩ : BufTy).Contents (Elt F) → (⟨S8192x32, .f32⟩ : BufTy).Contents (Elt F))
  :: StableHlo.unary main_v68 main_v76 (broadcastInDim S8192x32x1 ![0, 1] bcast_S8192x32_S8192x32x1_0_1 : (⟨S8192x32, .f32⟩ : BufTy).Contents (Elt F) → (⟨S8192x32x1, .f32⟩ : BufTy).Contents (Elt F))
  :: StableHlo.unary main_v71 main_v77 (broadcastInDim S8192x32x1 ![0, 1] bcast_S8192x32_S8192x32x1_0_1 : (⟨S8192x32, .f32⟩ : BufTy).Contents (Elt F) → (⟨S8192x32x1, .f32⟩ : BufTy).Contents (Elt F))
  :: StableHlo.unary main_v75 main_v78 (broadcastInDim S8192x32x1 ![0, 1] bcast_S8192x32_S8192x32x1_0_1 : (⟨S8192x32, .f32⟩ : BufTy).Contents (Elt F) → (⟨S8192x32x1, .f32⟩ : BufTy).Contents (Elt F))
  :: StableHlo.nary ![main_v76, main_v77, main_v78] main_v79 (fun u => cat3 (u 0) (u 1) (u 2))
  :: StableHlo.nullary main_cst_7 (constant S_ .f32 0x00000000#32)
  :: StableHlo.unary main_cst_7 main_v80 (broadcastInDim S8192x32x58 ![] bcast_S_S8192x32x58 : (⟨S_, .f32⟩ : BufTy).Contents (Elt F) → (⟨S8192x32x58, .f32⟩ : BufTy).Contents (Elt F))
  :: StableHlo.nary ![main_v5, main_v79, main_v45, main_v80] main_v81 (fun u => catQ (u 0) (u 1) (u 2) (u 3))
  :: StableHlo.unary main_v81 main_v82 ((truncf .bf16 · bitsLt_bf16_f32) : (⟨S8192x32x128, .f32⟩ : BufTy).Contents (Elt F) → (⟨S8192x32x128, .bf16⟩ : BufTy).Contents (Elt F))
  :: StableHlo.reshape main_v82 main_v83 (rfl : (.bf16 : EltTy) = .bf16) shapeCasts_S8192x32x128_S8192x4096
  :: StableHlo.nullary main_cst_8 (constant S_ .f32 0x00000000#32)
  :: StableHlo.unary main_cst_8 main_v84 (broadcastInDim S8192x32x61 ![] bcast_S_S8192x32x61 : (⟨S_, .f32⟩ : BufTy).Contents (Elt F) → (⟨S8192x32x61, .f32⟩ : BufTy).Contents (Elt F))
  :: StableHlo.nary ![main_v8, main_v45, main_v84] main_v85 (fun u => catV (u 0) (u 1) (u 2))
  :: StableHlo.unary main_v85 main_v86 ((truncf .bf16 · bitsLt_bf16_f32) : (⟨S8192x32x128, .f32⟩ : BufTy).Contents (Elt F) → (⟨S8192x32x128, .bf16⟩ : BufTy).Contents (Elt F))
  :: StableHlo.reshape main_v86 main_v87 (rfl : (.bf16 : EltTy) = .bf16) shapeCasts_S8192x32x128_S8192x4096
  :: StableHlo.unary main_v44 main_v88 (Host.negf : (⟨S8192x32, .f32⟩ : BufTy).Contents (Elt F) → (⟨S8192x32, .f32⟩ : BufTy).Contents (Elt F))
  :: StableHlo.unary main_v88 main_v89 ((truncf .bf16 · bitsLt_bf16_f32) : (⟨S8192x32, .f32⟩ : BufTy).Contents (Elt F) → (⟨S8192x32, .bf16⟩ : BufTy).Contents (Elt F))
  :: StableHlo.unary main_v89 main_v90 ((extf .f32 · bitsLt_bf16_f32) : (⟨S8192x32, .bf16⟩ : BufTy).Contents (Elt F) → (⟨S8192x32, .f32⟩ : BufTy).Contents (Elt F))
  :: StableHlo.binary main_v88 main_v90 main_v91 (subf : (⟨S8192x32, .f32⟩ : BufTy).Contents (Elt F) → (⟨S8192x32, .f32⟩ : BufTy).Contents (Elt F) → (⟨S8192x32, .f32⟩ : BufTy).Contents (Elt F))
  :: StableHlo.unary main_v91 main_v92 ((truncf .bf16 · bitsLt_bf16_f32) : (⟨S8192x32, .f32⟩ : BufTy).Contents (Elt F) → (⟨S8192x32, .bf16⟩ : BufTy).Contents (Elt F))
  :: StableHlo.unary main_v92 main_v93 ((extf .f32 · bitsLt_bf16_f32) : (⟨S8192x32, .bf16⟩ : BufTy).Contents (Elt F) → (⟨S8192x32, .f32⟩ : BufTy).Contents (Elt F))
  :: StableHlo.binary main_v88 main_v90 main_v94 (subf : (⟨S8192x32, .f32⟩ : BufTy).Contents (Elt F) → (⟨S8192x32, .f32⟩ : BufTy).Contents (Elt F) → (⟨S8192x32, .f32⟩ : BufTy).Contents (Elt F))
  :: StableHlo.binary main_v94 main_v93 main_v95 (subf : (⟨S8192x32, .f32⟩ : BufTy).Contents (Elt F) → (⟨S8192x32, .f32⟩ : BufTy).Contents (Elt F) → (⟨S8192x32, .f32⟩ : BufTy).Contents (Elt F))
  :: StableHlo.unary main_v95 main_v96 ((truncf .bf16 · bitsLt_bf16_f32) : (⟨S8192x32, .f32⟩ : BufTy).Contents (Elt F) → (⟨S8192x32, .bf16⟩ : BufTy).Contents (Elt F))
  :: StableHlo.unary main_v96 main_v97 ((extf .f32 · bitsLt_bf16_f32) : (⟨S8192x32, .bf16⟩ : BufTy).Contents (Elt F) → (⟨S8192x32, .f32⟩ : BufTy).Contents (Elt F))
  :: StableHlo.unary main_v90 main_v98 (broadcastInDim S8192x32x1 ![0, 1] bcast_S8192x32_S8192x32x1_0_1 : (⟨S8192x32, .f32⟩ : BufTy).Contents (Elt F) → (⟨S8192x32x1, .f32⟩ : BufTy).Contents (Elt F))
  :: StableHlo.unary main_v93 main_v99 (broadcastInDim S8192x32x1 ![0, 1] bcast_S8192x32_S8192x32x1_0_1 : (⟨S8192x32, .f32⟩ : BufTy).Contents (Elt F) → (⟨S8192x32x1, .f32⟩ : BufTy).Contents (Elt F))
  :: StableHlo.unary main_v97 main_v100 (broadcastInDim S8192x32x1 ![0, 1] bcast_S8192x32_S8192x32x1_0_1 : (⟨S8192x32, .f32⟩ : BufTy).Contents (Elt F) → (⟨S8192x32x1, .f32⟩ : BufTy).Contents (Elt F))
  :: StableHlo.nary ![main_v98, main_v99, main_v100] main_v101 (fun u => cat3 (u 0) (u 1) (u 2))
  :: StableHlo.nullary main_cst_9 (constant S_ .f32 0x00000000#32)
  :: StableHlo.unary main_cst_9 main_v102 (broadcastInDim S8192x32x61 ![] bcast_S_S8192x32x61 : (⟨S_, .f32⟩ : BufTy).Contents (Elt F) → (⟨S8192x32x61, .f32⟩ : BufTy).Contents (Elt F))
  :: StableHlo.nary ![main_v11, main_v101, main_v102] main_v103 (fun u => catV (u 0) (u 1) (u 2))
  :: StableHlo.unary main_v103 main_v104 ((truncf .bf16 · bitsLt_bf16_f32) : (⟨S8192x32x128, .f32⟩ : BufTy).Contents (Elt F) → (⟨S8192x32x128, .bf16⟩ : BufTy).Contents (Elt F))
  :: StableHlo.reshape main_v104 main_v105 (rfl : (.bf16 : EltTy) = .bf16) shapeCasts_S8192x32x128_S8192x4096
  :: [] )
set_option maxHeartbeats 40000000 in  -- a long stretch: its list (or the term over it) exceeds the default budget
/-- Each touches TensorCore references only (`HostSeg.ofOps` over `StableHlo.tcRefs`, or a subset by `sub_ucRefs`). -/
theorem hostOpsCat_sub : (hostOpsCat : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.reshape_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.nary_bufs_sub .., StableHlo.nullary_bufs_sub .., StableHlo.unary_bufs_sub .., StableHlo.nary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.nary_bufs_sub .., StableHlo.nullary_bufs_sub .., StableHlo.unary_bufs_sub .., StableHlo.nary_bufs_sub .., StableHlo.unary_bufs_sub .., StableHlo.reshape_bufs_sub .., StableHlo.nullary_bufs_sub .., StableHlo.unary_bufs_sub .., StableHlo.nary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.nary_bufs_sub .., StableHlo.nullary_bufs_sub .., StableHlo.unary_bufs_sub .., StableHlo.nary_bufs_sub .., StableHlo.unary_bufs_sub .., StableHlo.reshape_bufs_sub ..⟩
/-- 18 host operations of @main, in order. -/
abbrev hostOps1 : List (HloOp τ sig (Elt F)) :=
  [ StableHlo.reshape main_v106_0 main_v107 (rfl : (.f32 : EltTy) = .f32) shapeCasts_S8192x4096_S8192x32x128,
    StableHlo.reshape main_v106_1 main_v108 (rfl : (.f32 : EltTy) = .f32) shapeCasts_S8192x4096_S8192x32x128,
    StableHlo.unary main_v106_2 main_v109 ((extf .f32 · bitsLt_bf16_f32) : (⟨S8192x4096, .bf16⟩ : BufTy).Contents (Elt F) → (⟨S8192x4096, .f32⟩ : BufTy).Contents (Elt F)),
    StableHlo.reshape main_v109 main_v110 (rfl : (.f32 : EltTy) = .f32) shapeCasts_S8192x4096_S8192x32x128,
    StableHlo.unary main_v107 main_v111 ((extractStridedSlice S8192x32x64 ![0, 0, 0] · slices_S8192x32x128_S8192x32x64_0_0_0) : (⟨S8192x32x128, .f32⟩ : BufTy).Contents (Elt F) → (⟨S8192x32x64, .f32⟩ : BufTy).Contents (Elt F)),
    StableHlo.nullary main_cst_10 (constant S_ .f32 0x3E000000#32),
    StableHlo.unary main_cst_10 main_v112 (broadcastInDim S8192x32x64 ![] bcast_S_S8192x32x64 : (⟨S_, .f32⟩ : BufTy).Contents (Elt F) → (⟨S8192x32x64, .f32⟩ : BufTy).Contents (Elt F)),
    StableHlo.binary main_v111 main_v112 main_v113 (mulf : (⟨S8192x32x64, .f32⟩ : BufTy).Contents (Elt F) → (⟨S8192x32x64, .f32⟩ : BufTy).Contents (Elt F) → (⟨S8192x32x64, .f32⟩ : BufTy).Contents (Elt F)),
    StableHlo.reshape main_v113 main_v114 (rfl : (.f32 : EltTy) = .f32) shapeCasts_S8192x32x64_S8192x2048,
    StableHlo.unary main_v108 main_v115 ((extractStridedSlice S8192x32x64 ![0, 0, 0] · slices_S8192x32x128_S8192x32x64_0_0_0) : (⟨S8192x32x128, .f32⟩ : BufTy).Contents (Elt F) → (⟨S8192x32x64, .f32⟩ : BufTy).Contents (Elt F)),
    StableHlo.reshape main_v115 main_v116 (rfl : (.f32 : EltTy) = .f32) shapeCasts_S8192x32x64_S8192x2048,
    StableHlo.unary main_v110 main_v117 ((extractStridedSlice S8192x32x64 ![0, 0, 0] · slices_S8192x32x128_S8192x32x64_0_0_0) : (⟨S8192x32x128, .f32⟩ : BufTy).Contents (Elt F) → (⟨S8192x32x64, .f32⟩ : BufTy).Contents (Elt F)),
    StableHlo.reshape main_v117 main_v118 (rfl : (.f32 : EltTy) = .f32) shapeCasts_S8192x32x64_S8192x2048,
    StableHlo.unary main_v107 main_v119 ((extractStridedSlice S8192x32x1 ![0, 0, 67] · slices_S8192x32x128_S8192x32x1_0_0_67) : (⟨S8192x32x128, .f32⟩ : BufTy).Contents (Elt F) → (⟨S8192x32x1, .f32⟩ : BufTy).Contents (Elt F)),
    StableHlo.reshape main_v119 main_v120 (rfl : (.f32 : EltTy) = .f32) shapeCasts_S8192x32x1_S8192x32,
    StableHlo.unary main_v108 main_v121 ((extractStridedSlice S8192x32x1 ![0, 0, 64] · slices_S8192x32x128_S8192x32x1_0_0_64) : (⟨S8192x32x128, .f32⟩ : BufTy).Contents (Elt F) → (⟨S8192x32x1, .f32⟩ : BufTy).Contents (Elt F)),
    StableHlo.reshape main_v121 main_v122 (rfl : (.f32 : EltTy) = .f32) shapeCasts_S8192x32x1_S8192x32,
    StableHlo.binary main_v120 main_v122 main_v123 (subf : (⟨S8192x32, .f32⟩ : BufTy).Contents (Elt F) → (⟨S8192x32, .f32⟩ : BufTy).Contents (Elt F) → (⟨S8192x32, .f32⟩ : BufTy).Contents (Elt F)) ]
/-- Each touches TensorCore references only (`HostSeg.ofOps` over `StableHlo.tcRefs`, or a subset by `sub_ucRefs`). -/
theorem hostOps1_sub : (hostOps1 : List (HloOp τ sig (Elt F))).Forall fun op => op.bufs ⊆ StableHlo.tcRefs τ sig :=
  ⟨StableHlo.reshape_bufs_sub .., StableHlo.reshape_bufs_sub .., StableHlo.unary_bufs_sub .., StableHlo.reshape_bufs_sub .., StableHlo.unary_bufs_sub .., StableHlo.nullary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub ..⟩
/-- 29 host operations of @main, window 0 (statements 1 … 60), in order. -/
abbrev main_part0_ops0 : List (HloOp τ sig (Elt F)) :=
  [ StableHlo.unary main_arg0 main_v0 ((truncf .bf16 · bitsLt_bf16_f32) : (⟨S8192x2048, .f32⟩ : BufTy).Contents (Elt F) → (⟨S8192x2048, .bf16⟩ : BufTy).Contents (Elt F)),
    StableHlo.unary main_v0 main_v1 ((extf .f32 · bitsLt_bf16_f32) : (⟨S8192x2048, .bf16⟩ : BufTy).Contents (Elt F) → (⟨S8192x2048, .f32⟩ : BufTy).Contents (Elt F)),
    StableHlo.reshape main_v1 main_v2 (rfl : (.f32 : EltTy) = .f32) shapeCasts_S8192x2048_S8192x32x64,
    StableHlo.unary main_arg1 main_v3 ((truncf .bf16 · bitsLt_bf16_f32) : (⟨S8192x2048, .f32⟩ : BufTy).Contents (Elt F) → (⟨S8192x2048, .bf16⟩ : BufTy).Contents (Elt F)),
    StableHlo.unary main_v3 main_v4 ((extf .f32 · bitsLt_bf16_f32) : (⟨S8192x2048, .bf16⟩ : BufTy).Contents (Elt F) → (⟨S8192x2048, .f32⟩ : BufTy).Contents (Elt F)),
    StableHlo.reshape main_v4 main_v5 (rfl : (.f32 : EltTy) = .f32) shapeCasts_S8192x2048_S8192x32x64,
    StableHlo.unary main_arg2 main_v6 ((truncf .bf16 · bitsLt_bf16_f32) : (⟨S8192x2048, .f32⟩ : BufTy).Contents (Elt F) → (⟨S8192x2048, .bf16⟩ : BufTy).Contents (Elt F)),
    StableHlo.unary main_v6 main_v7 ((extf .f32 · bitsLt_bf16_f32) : (⟨S8192x2048, .bf16⟩ : BufTy).Contents (Elt F) → (⟨S8192x2048, .f32⟩ : BufTy).Contents (Elt F)),
    StableHlo.reshape main_v7 main_v8 (rfl : (.f32 : EltTy) = .f32) shapeCasts_S8192x2048_S8192x32x64,
    StableHlo.unary main_arg4 main_v9 ((truncf .bf16 · bitsLt_bf16_f32) : (⟨S8192x2048, .f32⟩ : BufTy).Contents (Elt F) → (⟨S8192x2048, .bf16⟩ : BufTy).Contents (Elt F)),
    StableHlo.unary main_v9 main_v10 ((extf .f32 · bitsLt_bf16_f32) : (⟨S8192x2048, .bf16⟩ : BufTy).Contents (Elt F) → (⟨S8192x2048, .f32⟩ : BufTy).Contents (Elt F)),
    StableHlo.reshape main_v10 main_v11 (rfl : (.f32 : EltTy) = .f32) shapeCasts_S8192x2048_S8192x32x64,
    StableHlo.binary main_v2 main_v5 main_v12 ((fun l r => Host.dotGeneral dot_S8192x32x64_S8192x32x64_S32x8192x8192_2_2_0_0_1_1 none l r) : (⟨S8192x32x64, .f32⟩ : BufTy).Contents (Elt F) → (⟨S8192x32x64, .f32⟩ : BufTy).Contents (Elt F) → (⟨S32x8192x8192, .f32⟩ : BufTy).Contents (Elt F)),
    StableHlo.nullary main_cst (constant S_ .f32 0x3E000000#32),
    StableHlo.unary main_cst main_v13 (broadcastInDim S32x8192x8192 ![] bcast_S_S32x8192x8192 : (⟨S_, .f32⟩ : BufTy).Contents (Elt F) → (⟨S32x8192x8192, .f32⟩ : BufTy).Contents (Elt F)),
    StableHlo.binary main_v12 main_v13 main_v14 (mulf : (⟨S32x8192x8192, .f32⟩ : BufTy).Contents (Elt F) → (⟨S32x8192x8192, .f32⟩ : BufTy).Contents (Elt F) → (⟨S32x8192x8192, .f32⟩ : BufTy).Contents (Elt F)),
    StableHlo.unary main_arg3 main_v15 ((transpose S32x8192 [1, 0] · transposes_S8192x32_S32x8192_1_0) : (⟨S8192x32, .f32⟩ : BufTy).Contents (Elt F) → (⟨S32x8192, .f32⟩ : BufTy).Contents (Elt F)),
    StableHlo.unary main_v15 main_v16 (broadcastInDim S32x1x8192 ![0, 2] bcast_S32x8192_S32x1x8192_0_2 : (⟨S32x8192, .f32⟩ : BufTy).Contents (Elt F) → (⟨S32x1x8192, .f32⟩ : BufTy).Contents (Elt F)),
    StableHlo.unary main_v16 main_v17 (broadcastInDim S32x8192x8192 ![0, 1, 2] bcast_S32x1x8192_S32x8192x8192_0_1_2 : (⟨S32x1x8192, .f32⟩ : BufTy).Contents (Elt F) → (⟨S32x8192x8192, .f32⟩ : BufTy).Contents (Elt F)),
    StableHlo.binary main_v14 main_v17 main_v18 (subf : (⟨S32x8192x8192, .f32⟩ : BufTy).Contents (Elt F) → (⟨S32x8192x8192, .f32⟩ : BufTy).Contents (Elt F) → (⟨S32x8192x8192, .f32⟩ : BufTy).Contents (Elt F)),
    StableHlo.nullary main_v19 (iotaInDim S8192 32 0),
    StableHlo.unary main_v19 main_v20 (broadcastInDim S1x8192 ![1] bcast_S8192_S1x8192_1 : (⟨S8192, .i32⟩ : BufTy).Contents (Elt F) → (⟨S1x8192, .i32⟩ : BufTy).Contents (Elt F)),
    StableHlo.nullary main_v21 (iotaInDim S8192 32 0),
    StableHlo.unary main_v21 main_v22 (broadcastInDim S8192x1 ![0] bcast_S8192_S8192x1_0 : (⟨S8192, .i32⟩ : BufTy).Contents (Elt F) → (⟨S8192x1, .i32⟩ : BufTy).Contents (Elt F)),
    StableHlo.unary main_v20 main_v23 (broadcastInDim S8192x8192 ![0, 1] bcast_S1x8192_S8192x8192_0_1 : (⟨S1x8192, .i32⟩ : BufTy).Contents (Elt F) → (⟨S8192x8192, .i32⟩ : BufTy).Contents (Elt F)),
    StableHlo.unary main_v22 main_v24 (broadcastInDim S8192x8192 ![0, 1] bcast_S8192x1_S8192x8192_0_1 : (⟨S8192x1, .i32⟩ : BufTy).Contents (Elt F) → (⟨S8192x8192, .i32⟩ : BufTy).Contents (Elt F)),
    StableHlo.binary main_v23 main_v24 main_v25 (cmpi .sle : (⟨S8192x8192, .i32⟩ : BufTy).Contents (Elt F) → (⟨S8192x8192, .i32⟩ : BufTy).Contents (Elt F) → (⟨S8192x8192, .i1⟩ : BufTy).Contents (Elt F)),
    StableHlo.unary main_v25 main_v26 (broadcastInDim S1x8192x8192 ![1, 2] bcast_S8192x8192_S1x8192x8192_1_2 : (⟨S8192x8192, .i1⟩ : BufTy).Contents (Elt F) → (⟨S1x8192x8192, .i1⟩ : BufTy).Contents (Elt F)),
    StableHlo.nullary main_cst_0 (constant S_ .f32 0xFF800000#32) ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.unary_bufs_sub .., StableHlo.binary_bufs_sub .., StableHlo.unary_bufs_sub .., StableHlo.nullary_bufs_sub ..⟩
/-- 4 host operations of @_where (main_call0), window 0 (statements 1 … 60), in order. -/
abbrev main_part0_ops1 : List (HloOp τ sig (Elt F)) :=
  [ StableHlo.TRef.unary (.of main_cst_0 : StableHlo.TRef sig ⟨S_, .f32⟩) (.of main_call0_v0 : StableHlo.TRef sig ⟨S_, .f32⟩) id,
    StableHlo.TRef.unary (.of main_v26 : StableHlo.TRef sig ⟨S1x8192x8192, .i1⟩) (.of main_call0_v1 : StableHlo.TRef sig ⟨S32x8192x8192, .i1⟩) (broadcastInDim S32x8192x8192 ![0, 1, 2] bcast_S1x8192x8192_S32x8192x8192_0_1_2),
    StableHlo.TRef.unary (.of main_call0_v0 : StableHlo.TRef sig ⟨S_, .f32⟩) (.of main_call0_v2 : StableHlo.TRef sig ⟨S32x8192x8192, .f32⟩) (broadcastInDim S32x8192x8192 ![] bcast_S_S32x8192x8192),
    StableHlo.TRef.ternary (.of main_call0_v1 : StableHlo.TRef sig ⟨S32x8192x8192, .i1⟩) (.of main_v18 : StableHlo.TRef sig ⟨S32x8192x8192, .f32⟩) (.of main_call0_v2 : StableHlo.TRef sig ⟨S32x8192x8192, .f32⟩) (.of main_v27 : StableHlo.TRef sig ⟨S32x8192x8192, .f32⟩) select ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 30 host operations of @main, window 0 (statements 1 … 60), in order. -/
abbrev main_part0_ops2 : List (HloOp τ sig (Elt F)) :=
  [ StableHlo.nullary main_cst_1 (constant S_ .f32 0xFF800000#32),
    StableHlo.binary main_v27 main_cst_1 main_v28 ((fun x v => Host.reduce FloatOps.maximumf x v reducesTo_S32x8192x8192_S32x8192_d2 h_S_) : (⟨S32x8192x8192, .f32⟩ : BufTy).Contents (Elt F) → (⟨S_, .f32⟩ : BufTy).Contents (Elt F) → (⟨S32x8192, .f32⟩ : BufTy).Contents (Elt F)),
    StableHlo.unary main_v28 main_v29 (broadcastInDim S32x8192x1 ![0, 1] bcast_S32x8192_S32x8192x1_0_1 : (⟨S32x8192, .f32⟩ : BufTy).Contents (Elt F) → (⟨S32x8192x1, .f32⟩ : BufTy).Contents (Elt F)),
    StableHlo.unary main_v29 main_v30 (broadcastInDim S32x8192x8192 ![0, 1, 2] bcast_S32x8192x1_S32x8192x8192_0_1_2 : (⟨S32x8192x1, .f32⟩ : BufTy).Contents (Elt F) → (⟨S32x8192x8192, .f32⟩ : BufTy).Contents (Elt F)),
    StableHlo.binary main_v27 main_v30 main_v31 (subf : (⟨S32x8192x8192, .f32⟩ : BufTy).Contents (Elt F) → (⟨S32x8192x8192, .f32⟩ : BufTy).Contents (Elt F) → (⟨S32x8192x8192, .f32⟩ : BufTy).Contents (Elt F)),
    StableHlo.unary main_v31 main_v32 (Host.exp : (⟨S32x8192x8192, .f32⟩ : BufTy).Contents (Elt F) → (⟨S32x8192x8192, .f32⟩ : BufTy).Contents (Elt F)),
    StableHlo.nullary main_cst_2 (constant S_ .f32 0x00000000#32),
    StableHlo.binary main_v32 main_cst_2 main_v33 ((fun x v => Host.reduceAdd x v reducesTo_S32x8192x8192_S32x8192_d2 h_S_) : (⟨S32x8192x8192, .f32⟩ : BufTy).Contents (Elt F) → (⟨S_, .f32⟩ : BufTy).Contents (Elt F) → (⟨S32x8192, .f32⟩ : BufTy).Contents (Elt F)),
    StableHlo.unary main_v33 main_v34 (broadcastInDim S32x8192x1 ![0, 1] bcast_S32x8192_S32x8192x1_0_1 : (⟨S32x8192, .f32⟩ : BufTy).Contents (Elt F) → (⟨S32x8192x1, .f32⟩ : BufTy).Contents (Elt F)),
    StableHlo.binary main_v32 main_v8 main_v35 ((fun l r => Host.dotGeneral dot_S32x8192x8192_S8192x32x64_S32x8192x64_2_0_1_2_0_1 none l r) : (⟨S32x8192x8192, .f32⟩ : BufTy).Contents (Elt F) → (⟨S8192x32x64, .f32⟩ : BufTy).Contents (Elt F) → (⟨S32x8192x64, .f32⟩ : BufTy).Contents (Elt F)),
    StableHlo.unary main_v34 main_v36 (broadcastInDim S32x8192x64 ![0, 1, 2] bcast_S32x8192x1_S32x8192x64_0_1_2 : (⟨S32x8192x1, .f32⟩ : BufTy).Contents (Elt F) → (⟨S32x8192x64, .f32⟩ : BufTy).Contents (Elt F)),
    StableHlo.binary main_v35 main_v36 main_v37 (Host.divf : (⟨S32x8192x64, .f32⟩ : BufTy).Contents (Elt F) → (⟨S32x8192x64, .f32⟩ : BufTy).Contents (Elt F) → (⟨S32x8192x64, .f32⟩ : BufTy).Contents (Elt F)),
    StableHlo.unary main_v34 main_v38 (Host.log : (⟨S32x8192x1, .f32⟩ : BufTy).Contents (Elt F) → (⟨S32x8192x1, .f32⟩ : BufTy).Contents (Elt F)),
    StableHlo.binary main_v29 main_v38 main_v39 (addf : (⟨S32x8192x1, .f32⟩ : BufTy).Contents (Elt F) → (⟨S32x8192x1, .f32⟩ : BufTy).Contents (Elt F) → (⟨S32x8192x1, .f32⟩ : BufTy).Contents (Elt F)),
    StableHlo.reshape main_v39 main_v40 (rfl : (.f32 : EltTy) = .f32) shapeCasts_S32x8192x1_S32x8192,
    StableHlo.unary main_v40 main_v41 ((transpose S8192x32 [1, 0] · transposes_S32x8192_S8192x32_1_0) : (⟨S32x8192, .f32⟩ : BufTy).Contents (Elt F) → (⟨S8192x32, .f32⟩ : BufTy).Contents (Elt F)),
    StableHlo.unary main_v37 main_v42 ((transpose S8192x32x64 [1, 0, 2] · transposes_S32x8192x64_S8192x32x64_1_0_2) : (⟨S32x8192x64, .f32⟩ : BufTy).Contents (Elt F) → (⟨S8192x32x64, .f32⟩ : BufTy).Contents (Elt F)),
    StableHlo.binary main_v11 main_v42 main_v43 (mulf : (⟨S8192x32x64, .f32⟩ : BufTy).Contents (Elt F) → (⟨S8192x32x64, .f32⟩ : BufTy).Contents (Elt F) → (⟨S8192x32x64, .f32⟩ : BufTy).Contents (Elt F)),
    StableHlo.nullary main_cst_3 (constant S_ .f32 0x00000000#32),
    StableHlo.binary main_v43 main_cst_3 main_v44 ((fun x v => Host.reduceAdd x v reducesTo_S8192x32x64_S8192x32_d2 h_S_) : (⟨S8192x32x64, .f32⟩ : BufTy).Contents (Elt F) → (⟨S_, .f32⟩ : BufTy).Contents (Elt F) → (⟨S8192x32, .f32⟩ : BufTy).Contents (Elt F)),
    StableHlo.nullary main_cst_4 (constant S_ .f32 0x3F800000#32),
    StableHlo.unary main_cst_4 main_v45 (broadcastInDim S8192x32x3 ![] bcast_S_S8192x32x3 : (⟨S_, .f32⟩ : BufTy).Contents (Elt F) → (⟨S8192x32x3, .f32⟩ : BufTy).Contents (Elt F)),
    StableHlo.nullary main_cst_5 (constant S_ .f32 0x3E000000#32),
    StableHlo.unary main_cst_5 main_v46 (broadcastInDim S8192x32x64 ![] bcast_S_S8192x32x64 : (⟨S_, .f32⟩ : BufTy).Contents (Elt F) → (⟨S8192x32x64, .f32⟩ : BufTy).Contents (Elt F)),
    StableHlo.binary main_v2 main_v46 main_v47 (mulf : (⟨S8192x32x64, .f32⟩ : BufTy).Contents (Elt F) → (⟨S8192x32x64, .f32⟩ : BufTy).Contents (Elt F) → (⟨S8192x32x64, .f32⟩ : BufTy).Contents (Elt F)),
    StableHlo.unary main_v41 main_v48 (Host.negf : (⟨S8192x32, .f32⟩ : BufTy).Contents (Elt F) → (⟨S8192x32, .f32⟩ : BufTy).Contents (Elt F)),
    StableHlo.unary main_v48 main_v49 ((truncf .bf16 · bitsLt_bf16_f32) : (⟨S8192x32, .f32⟩ : BufTy).Contents (Elt F) → (⟨S8192x32, .bf16⟩ : BufTy).Contents (Elt F)),
    StableHlo.unary main_v49 main_v50 ((extf .f32 · bitsLt_bf16_f32) : (⟨S8192x32, .bf16⟩ : BufTy).Contents (Elt F) → (⟨S8192x32, .f32⟩ : BufTy).Contents (Elt F)),
    StableHlo.binary main_v48 main_v50 main_v51 (subf : (⟨S8192x32, .f32⟩ : BufTy).Contents (Elt F) → (⟨S8192x32, .f32⟩ : BufTy).Contents (Elt F) → (⟨S8192x32, .f32⟩ : BufTy).Contents (Elt F)),
    StableHlo.unary main_v51 main_v52 ((truncf .bf16 · bitsLt_bf16_f32) : (⟨S8192x32, .f32⟩ : BufTy).Contents (Elt F) → (⟨S8192x32, .bf16⟩ : BufTy).Contents (Elt F)) ]
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.reshape_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    StableHlo.seq main_part0_ops1 ]
  (StableHlo.seq main_part0_ops2) : Prog (TpuEff nD τ sig (Elt F) (Pipeline.Sig Λ₀ (Fin 1) fun p => (pcfgs (F := F) p).Adm) .tc) PUnit) := by
  rewrite [StableHlo.chainK_seq_cons, Pipeline.chainK_cons]
  chain_rfl

set_option maxHeartbeats 4000000 in
theorem hostOpsCat_eq : (hostOps0_2 : List (HloOp τ sig (Elt F))) = hostOpsCat := rfl

theorem pre_v61 (x0 x1 : (⟨S8192x2048, .f32⟩ : BufTy).Contents (Elt F)) (x3 : (⟨S8192x32, .f32⟩ : BufTy).Contents (Elt F)) :
    Pre.val_main_v61 (F := F) x0 x1 x3 = cat3 (Pre.val_main_v58 (F := F) x0 x1 x3) (Pre.val_main_v59 (F := F) x0 x1 x3) (Pre.val_main_v60 (F := F) x0 x1 x3) := rfl

theorem pre_v63 (x0 x1 : (⟨S8192x2048, .f32⟩ : BufTy).Contents (Elt F)) (x3 : (⟨S8192x32, .f32⟩ : BufTy).Contents (Elt F)) :
    Pre.val_main_v63 (F := F) x0 x1 x3 = catQ (Pre.val_main_v47 (F := F) x0) (Pre.val_main_v45 (F := F)) (Pre.val_main_v61 (F := F) x0 x1 x3) (Pre.val_main_v62 (F := F)) := rfl

theorem pre_v79 (x3 : (⟨S8192x32, .f32⟩ : BufTy).Contents (Elt F)) :
    Pre.val_main_v79 (F := F) x3 = cat3 (Pre.val_main_v76 (F := F) x3) (Pre.val_main_v77 (F := F) x3) (Pre.val_main_v78 (F := F) x3) := rfl

theorem pre_v81 (x1 : (⟨S8192x2048, .f32⟩ : BufTy).Contents (Elt F)) (x3 : (⟨S8192x32, .f32⟩ : BufTy).Contents (Elt F)) :
    Pre.val_main_v81 (F := F) x1 x3 = catQ (Pre.val_main_v5 (F := F) x1) (Pre.val_main_v79 (F := F) x3) (Pre.val_main_v45 (F := F)) (Pre.val_main_v80 (F := F)) := rfl

theorem pre_v85 (x2 : (⟨S8192x2048, .f32⟩ : BufTy).Contents (Elt F)) :
    Pre.val_main_v85 (F := F) x2 = catV (Pre.val_main_v8 (F := F) x2) (Pre.val_main_v45 (F := F)) (Pre.val_main_v84 (F := F)) := rfl

theorem pre_v101 (x0 x1 x2 : (⟨S8192x2048, .f32⟩ : BufTy).Contents (Elt F)) (x3 : (⟨S8192x32, .f32⟩ : BufTy).Contents (Elt F)) (x4 : (⟨S8192x2048, .f32⟩ : BufTy).Contents (Elt F)) :
    Pre.val_main_v101 (F := F) x0 x1 x2 x3 x4 = cat3 (Pre.val_main_v98 (F := F) x0 x1 x2 x3 x4) (Pre.val_main_v99 (F := F) x0 x1 x2 x3 x4) (Pre.val_main_v100 (F := F) x0 x1 x2 x3 x4) := rfl

theorem pre_v103 (x0 x1 x2 : (⟨S8192x2048, .f32⟩ : BufTy).Contents (Elt F)) (x3 : (⟨S8192x32, .f32⟩ : BufTy).Contents (Elt F)) (x4 : (⟨S8192x2048, .f32⟩ : BufTy).Contents (Elt F)) :
    Pre.val_main_v103 (F := F) x0 x1 x2 x3 x4 = catV (Pre.val_main_v11 (F := F) x4) (Pre.val_main_v101 (F := F) x0 x1 x2 x3 x4) (Pre.val_main_v102 (F := F)) := rfl

set_option maxHeartbeats 45200000 in
theorem V_v65 (c : Dev nD) : V m c main_v65 = Pre.val_main_v65 (F := F) (m ((c : Thread nD τ).loc main_arg0)) (m ((c : Thread nD τ).loc main_arg1)) (m ((c : Thread nD τ).loc main_arg3)) := by
  show StableHlo.after [hostOps0, hostOps0_1, hostOps0_2].flatten _ _ = _
  rw [hostOpsCat_eq]
  simp only [hostOps0, hostOps0_1, hostOpsCat, List.flatten_cons, List.flatten_nil, List.append_nil, List.cons_append, List.nil_append,
    TRef.ternary, TRef.unary, TRef.toBuf, TRef.ofBuf, cast_eq]
  after_results_simp <;> (try dsimp only [Matrix.cons_val]) <;> (try after_results_simp) <;> (try dsimp only [Matrix.cons_val]) <;> (try after_results_simp) <;> skip
  simp only [Pre.val_main_v0, Pre.val_main_v1, Pre.val_main_v2, Pre.val_main_v3, Pre.val_main_v4, Pre.val_main_v5, Pre.val_main_v6,
    Pre.val_main_v7, Pre.val_main_v8, Pre.val_main_v9, Pre.val_main_v10, Pre.val_main_v11, Pre.val_main_v12, Pre.val_main_cst,
    Pre.val_main_v13, Pre.val_main_v14, Pre.val_main_v15, Pre.val_main_v16, Pre.val_main_v17, Pre.val_main_v18, Pre.val_main_v19,
    Pre.val_main_v20, Pre.val_main_v21, Pre.val_main_v22, Pre.val_main_v23, Pre.val_main_v24, Pre.val_main_v25, Pre.val_main_v26,
    Pre.val_main_cst_0, Pre.val_main_call0_v0, Pre.val_main_call0_v1, Pre.val_main_call0_v2, Pre.val_main_v27, Pre.val_main_cst_1,
    Pre.val_main_v28, Pre.val_main_v29, Pre.val_main_v30, Pre.val_main_v31, Pre.val_main_v32, Pre.val_main_cst_2, Pre.val_main_v33,
    Pre.val_main_v34, Pre.val_main_v35, Pre.val_main_v36, Pre.val_main_v37, Pre.val_main_v38, Pre.val_main_v39, Pre.val_main_v40,
    Pre.val_main_v41, Pre.val_main_v42, Pre.val_main_v43, Pre.val_main_cst_3, Pre.val_main_v44, Pre.val_main_cst_4, Pre.val_main_v45,
    Pre.val_main_cst_5, Pre.val_main_v46, Pre.val_main_v47, Pre.val_main_v48, Pre.val_main_v49, Pre.val_main_v50, Pre.val_main_v51,
    Pre.val_main_v52, Pre.val_main_v53, Pre.val_main_v54, Pre.val_main_v55, Pre.val_main_v56, Pre.val_main_v57, Pre.val_main_v58,
    Pre.val_main_v59, Pre.val_main_v60, pre_v61, Pre.val_main_cst_6, Pre.val_main_v62, pre_v63, Pre.val_main_v64,
    Pre.val_main_v65, Pre.val_main_v66, Pre.val_main_v67, Pre.val_main_v68, Pre.val_main_v69, Pre.val_main_v70, Pre.val_main_v71,
    Pre.val_main_v72, Pre.val_main_v73, Pre.val_main_v74, Pre.val_main_v75, Pre.val_main_v76, Pre.val_main_v77, Pre.val_main_v78,
    pre_v79, Pre.val_main_cst_7, Pre.val_main_v80, pre_v81, Pre.val_main_v82, Pre.val_main_v83, Pre.val_main_cst_8,
    Pre.val_main_v84, pre_v85, Pre.val_main_v86, Pre.val_main_v87, Pre.val_main_v88, Pre.val_main_v89, Pre.val_main_v90,
    Pre.val_main_v91, Pre.val_main_v92, Pre.val_main_v93, Pre.val_main_v94, Pre.val_main_v95, Pre.val_main_v96, Pre.val_main_v97,
    Pre.val_main_v98, Pre.val_main_v99, Pre.val_main_v100, pre_v101, Pre.val_main_cst_9, Pre.val_main_v102,
    pre_v103, Pre.val_main_v104, Pre.val_main_v105]
  rfl

set_option maxHeartbeats 45200000 in
theorem V_v83 (c : Dev nD) : V m c main_v83 = Pre.val_main_v83 (F := F) (m ((c : Thread nD τ).loc main_arg1)) (m ((c : Thread nD τ).loc main_arg3)) := by
  show StableHlo.after [hostOps0, hostOps0_1, hostOps0_2].flatten _ _ = _
  rw [hostOpsCat_eq]
  simp only [hostOps0, hostOps0_1, hostOpsCat, List.flatten_cons, List.flatten_nil, List.append_nil, List.cons_append, List.nil_append,
    TRef.ternary, TRef.unary, TRef.toBuf, TRef.ofBuf, cast_eq]
  after_results_simp <;> (try dsimp only [Matrix.cons_val]) <;> (try after_results_simp) <;> (try dsimp only [Matrix.cons_val]) <;> (try after_results_simp) <;> skip
  simp only [Pre.val_main_v0, Pre.val_main_v1, Pre.val_main_v2, Pre.val_main_v3, Pre.val_main_v4, Pre.val_main_v5, Pre.val_main_v6,
    Pre.val_main_v7, Pre.val_main_v8, Pre.val_main_v9, Pre.val_main_v10, Pre.val_main_v11, Pre.val_main_v12, Pre.val_main_cst,
    Pre.val_main_v13, Pre.val_main_v14, Pre.val_main_v15, Pre.val_main_v16, Pre.val_main_v17, Pre.val_main_v18, Pre.val_main_v19,
    Pre.val_main_v20, Pre.val_main_v21, Pre.val_main_v22, Pre.val_main_v23, Pre.val_main_v24, Pre.val_main_v25, Pre.val_main_v26,
    Pre.val_main_cst_0, Pre.val_main_call0_v0, Pre.val_main_call0_v1, Pre.val_main_call0_v2, Pre.val_main_v27, Pre.val_main_cst_1,
    Pre.val_main_v28, Pre.val_main_v29, Pre.val_main_v30, Pre.val_main_v31, Pre.val_main_v32, Pre.val_main_cst_2, Pre.val_main_v33,
    Pre.val_main_v34, Pre.val_main_v35, Pre.val_main_v36, Pre.val_main_v37, Pre.val_main_v38, Pre.val_main_v39, Pre.val_main_v40,
    Pre.val_main_v41, Pre.val_main_v42, Pre.val_main_v43, Pre.val_main_cst_3, Pre.val_main_v44, Pre.val_main_cst_4, Pre.val_main_v45,
    Pre.val_main_cst_5, Pre.val_main_v46, Pre.val_main_v47, Pre.val_main_v48, Pre.val_main_v49, Pre.val_main_v50, Pre.val_main_v51,
    Pre.val_main_v52, Pre.val_main_v53, Pre.val_main_v54, Pre.val_main_v55, Pre.val_main_v56, Pre.val_main_v57, Pre.val_main_v58,
    Pre.val_main_v59, Pre.val_main_v60, pre_v61, Pre.val_main_cst_6, Pre.val_main_v62, pre_v63, Pre.val_main_v64,
    Pre.val_main_v65, Pre.val_main_v66, Pre.val_main_v67, Pre.val_main_v68, Pre.val_main_v69, Pre.val_main_v70, Pre.val_main_v71,
    Pre.val_main_v72, Pre.val_main_v73, Pre.val_main_v74, Pre.val_main_v75, Pre.val_main_v76, Pre.val_main_v77, Pre.val_main_v78,
    pre_v79, Pre.val_main_cst_7, Pre.val_main_v80, pre_v81, Pre.val_main_v82, Pre.val_main_v83, Pre.val_main_cst_8,
    Pre.val_main_v84, pre_v85, Pre.val_main_v86, Pre.val_main_v87, Pre.val_main_v88, Pre.val_main_v89, Pre.val_main_v90,
    Pre.val_main_v91, Pre.val_main_v92, Pre.val_main_v93, Pre.val_main_v94, Pre.val_main_v95, Pre.val_main_v96, Pre.val_main_v97,
    Pre.val_main_v98, Pre.val_main_v99, Pre.val_main_v100, pre_v101, Pre.val_main_cst_9, Pre.val_main_v102,
    pre_v103, Pre.val_main_v104, Pre.val_main_v105]
  rfl

set_option maxHeartbeats 45200000 in
theorem V_v87 (c : Dev nD) : V m c main_v87 = Pre.val_main_v87 (F := F) (m ((c : Thread nD τ).loc main_arg2)) := by
  show StableHlo.after [hostOps0, hostOps0_1, hostOps0_2].flatten _ _ = _
  rw [hostOpsCat_eq]
  simp only [hostOps0, hostOps0_1, hostOpsCat, List.flatten_cons, List.flatten_nil, List.append_nil, List.cons_append, List.nil_append,
    TRef.ternary, TRef.unary, TRef.toBuf, TRef.ofBuf, cast_eq]
  after_results_simp <;> (try dsimp only [Matrix.cons_val]) <;> (try after_results_simp) <;> (try dsimp only [Matrix.cons_val]) <;> (try after_results_simp) <;> skip
  simp only [Pre.val_main_v0, Pre.val_main_v1, Pre.val_main_v2, Pre.val_main_v3, Pre.val_main_v4, Pre.val_main_v5, Pre.val_main_v6,
    Pre.val_main_v7, Pre.val_main_v8, Pre.val_main_v9, Pre.val_main_v10, Pre.val_main_v11, Pre.val_main_v12, Pre.val_main_cst,
    Pre.val_main_v13, Pre.val_main_v14, Pre.val_main_v15, Pre.val_main_v16, Pre.val_main_v17, Pre.val_main_v18, Pre.val_main_v19,
    Pre.val_main_v20, Pre.val_main_v21, Pre.val_main_v22, Pre.val_main_v23, Pre.val_main_v24, Pre.val_main_v25, Pre.val_main_v26,
    Pre.val_main_cst_0, Pre.val_main_call0_v0, Pre.val_main_call0_v1, Pre.val_main_call0_v2, Pre.val_main_v27, Pre.val_main_cst_1,
    Pre.val_main_v28, Pre.val_main_v29, Pre.val_main_v30, Pre.val_main_v31, Pre.val_main_v32, Pre.val_main_cst_2, Pre.val_main_v33,
    Pre.val_main_v34, Pre.val_main_v35, Pre.val_main_v36, Pre.val_main_v37, Pre.val_main_v38, Pre.val_main_v39, Pre.val_main_v40,
    Pre.val_main_v41, Pre.val_main_v42, Pre.val_main_v43, Pre.val_main_cst_3, Pre.val_main_v44, Pre.val_main_cst_4, Pre.val_main_v45,
    Pre.val_main_cst_5, Pre.val_main_v46, Pre.val_main_v47, Pre.val_main_v48, Pre.val_main_v49, Pre.val_main_v50, Pre.val_main_v51,
    Pre.val_main_v52, Pre.val_main_v53, Pre.val_main_v54, Pre.val_main_v55, Pre.val_main_v56, Pre.val_main_v57, Pre.val_main_v58,
    Pre.val_main_v59, Pre.val_main_v60, pre_v61, Pre.val_main_cst_6, Pre.val_main_v62, pre_v63, Pre.val_main_v64,
    Pre.val_main_v65, Pre.val_main_v66, Pre.val_main_v67, Pre.val_main_v68, Pre.val_main_v69, Pre.val_main_v70, Pre.val_main_v71,
    Pre.val_main_v72, Pre.val_main_v73, Pre.val_main_v74, Pre.val_main_v75, Pre.val_main_v76, Pre.val_main_v77, Pre.val_main_v78,
    pre_v79, Pre.val_main_cst_7, Pre.val_main_v80, pre_v81, Pre.val_main_v82, Pre.val_main_v83, Pre.val_main_cst_8,
    Pre.val_main_v84, pre_v85, Pre.val_main_v86, Pre.val_main_v87, Pre.val_main_v88, Pre.val_main_v89, Pre.val_main_v90,
    Pre.val_main_v91, Pre.val_main_v92, Pre.val_main_v93, Pre.val_main_v94, Pre.val_main_v95, Pre.val_main_v96, Pre.val_main_v97,
    Pre.val_main_v98, Pre.val_main_v99, Pre.val_main_v100, pre_v101, Pre.val_main_cst_9, Pre.val_main_v102,
    pre_v103, Pre.val_main_v104, Pre.val_main_v105]
  rfl

set_option maxHeartbeats 45200000 in
theorem V_v105 (c : Dev nD) : V m c main_v105 = Pre.val_main_v105 (F := F) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after [hostOps0, hostOps0_1, hostOps0_2].flatten _ _ = _
  rw [hostOpsCat_eq]
  simp only [hostOps0, hostOps0_1, hostOpsCat, List.flatten_cons, List.flatten_nil, List.append_nil, List.cons_append, List.nil_append,
    TRef.ternary, TRef.unary, TRef.toBuf, TRef.ofBuf, cast_eq]
  after_results_simp <;> (try dsimp only [Matrix.cons_val]) <;> (try after_results_simp) <;> (try dsimp only [Matrix.cons_val]) <;> (try after_results_simp) <;> skip
  simp only [Pre.val_main_v0, Pre.val_main_v1, Pre.val_main_v2, Pre.val_main_v3, Pre.val_main_v4, Pre.val_main_v5, Pre.val_main_v6,
    Pre.val_main_v7, Pre.val_main_v8, Pre.val_main_v9, Pre.val_main_v10, Pre.val_main_v11, Pre.val_main_v12, Pre.val_main_cst,
    Pre.val_main_v13, Pre.val_main_v14, Pre.val_main_v15, Pre.val_main_v16, Pre.val_main_v17, Pre.val_main_v18, Pre.val_main_v19,
    Pre.val_main_v20, Pre.val_main_v21, Pre.val_main_v22, Pre.val_main_v23, Pre.val_main_v24, Pre.val_main_v25, Pre.val_main_v26,
    Pre.val_main_cst_0, Pre.val_main_call0_v0, Pre.val_main_call0_v1, Pre.val_main_call0_v2, Pre.val_main_v27, Pre.val_main_cst_1,
    Pre.val_main_v28, Pre.val_main_v29, Pre.val_main_v30, Pre.val_main_v31, Pre.val_main_v32, Pre.val_main_cst_2, Pre.val_main_v33,
    Pre.val_main_v34, Pre.val_main_v35, Pre.val_main_v36, Pre.val_main_v37, Pre.val_main_v38, Pre.val_main_v39, Pre.val_main_v40,
    Pre.val_main_v41, Pre.val_main_v42, Pre.val_main_v43, Pre.val_main_cst_3, Pre.val_main_v44, Pre.val_main_cst_4, Pre.val_main_v45,
    Pre.val_main_cst_5, Pre.val_main_v46, Pre.val_main_v47, Pre.val_main_v48, Pre.val_main_v49, Pre.val_main_v50, Pre.val_main_v51,
    Pre.val_main_v52, Pre.val_main_v53, Pre.val_main_v54, Pre.val_main_v55, Pre.val_main_v56, Pre.val_main_v57, Pre.val_main_v58,
    Pre.val_main_v59, Pre.val_main_v60, pre_v61, Pre.val_main_cst_6, Pre.val_main_v62, pre_v63, Pre.val_main_v64,
    Pre.val_main_v65, Pre.val_main_v66, Pre.val_main_v67, Pre.val_main_v68, Pre.val_main_v69, Pre.val_main_v70, Pre.val_main_v71,
    Pre.val_main_v72, Pre.val_main_v73, Pre.val_main_v74, Pre.val_main_v75, Pre.val_main_v76, Pre.val_main_v77, Pre.val_main_v78,
    pre_v79, Pre.val_main_cst_7, Pre.val_main_v80, pre_v81, Pre.val_main_v82, Pre.val_main_v83, Pre.val_main_cst_8,
    Pre.val_main_v84, pre_v85, Pre.val_main_v86, Pre.val_main_v87, Pre.val_main_v88, Pre.val_main_v89, Pre.val_main_v90,
    Pre.val_main_v91, Pre.val_main_v92, Pre.val_main_v93, Pre.val_main_v94, Pre.val_main_v95, Pre.val_main_v96, Pre.val_main_v97,
    Pre.val_main_v98, Pre.val_main_v99, Pre.val_main_v100, pre_v101, Pre.val_main_cst_9, Pre.val_main_v102,
    pre_v103, Pre.val_main_v104, Pre.val_main_v105]
  rfl

end Cert.Proof.Fox
end
end
-- ==== Proof.Slots.lean ====
/-
  The kernel's operands lane by lane: what the host lays side by side, read at a lane.
-/
module

public import proofs.«01_k».proof.Proof.PrefixVals
public import Idealize.ShloMosaic.Lib.Pointwise

@[expose] public section

set_option maxRecDepth 16384

noncomputable section

namespace Cert.Proof.Fox

open Cert.KernelIdeal Cert.KernelIdeal.Gen
open Idealize.ShloMosaic Idealize.SL.Sem

theorem cat3_zero (a b c : S8192x32x1.Idx → EReal) (t : Fin 8192) (h : Fin 32) :
    cat3 (F := Ideal) a b c (ix3 t h (0 : Fin 3)) = a (ix3 t h (0 : Fin 1)) := by
  pointwise [cat3]
theorem cat3_one (a b c : S8192x32x1.Idx → EReal) (t : Fin 8192) (h : Fin 32) :
    cat3 (F := Ideal) a b c (ix3 t h (1 : Fin 3)) = b (ix3 t h (0 : Fin 1)) := by
  pointwise [cat3]
theorem cat3_two (a b c : S8192x32x1.Idx → EReal) (t : Fin 8192) (h : Fin 32) :
    cat3 (F := Ideal) a b c (ix3 t h (2 : Fin 3)) = c (ix3 t h (0 : Fin 1)) := by
  pointwise [cat3]

theorem catQ_apply (a : S8192x32x64.Idx → EReal) (b c : S8192x32x3.Idx → EReal) (d : S8192x32x58.Idx → EReal) (t : Fin 8192) (h : Fin 32) (l : Fin 128) :
    catQ (F := Ideal) a b c d (ix3 t h l) = if hl : l.val < 64 then a (ix3 t h ⟨l.val, hl⟩) else if h1 : l.val - 64 < 3 then b (ix3 t h ⟨l.val - 64, h1⟩)
      else if h2 : l.val - 64 - 3 < 3 then c (ix3 t h ⟨l.val - 64 - 3, h2⟩) else d (ix3 t h ⟨l.val - 64 - 3 - 3, by omega⟩) := by
  pointwise [catQ]

theorem catV_apply (a : S8192x32x64.Idx → EReal) (b : S8192x32x3.Idx → EReal) (d : S8192x32x61.Idx → EReal) (t : Fin 8192) (h : Fin 32) (l : Fin 128) :
    catV (F := Ideal) a b d (ix3 t h l) = if hl : l.val < 64 then a (ix3 t h ⟨l.val, hl⟩) else if h1 : l.val - 64 < 3 then b (ix3 t h ⟨l.val - 64, h1⟩)
      else d (ix3 t h ⟨l.val - 64 - 3, by omega⟩) := by
  pointwise [catV]

end Cert.Proof.Fox
end
end
-- ==== Proof.KerHost.lean ====
/-
  The host's values before the kernel over the reals, at finite arguments: each array read at an index, and the kernel's four
  operands lane by lane.
-/
module

public import proofs.«01_k».proof.Proof.Lanes
public import proofs.«01_k».proof.Proof.Slots
public import proofs.«01_k».proof.Proof.Step
public import proofs.«01_k».proof.Proof.RefVals

@[expose] public section

set_option maxRecDepth 16384

noncomputable section

namespace Cert.Proof.Ker

open Idealize.ShloMosaic Cert.KernelIdeal Cert.KernelIdeal.Gen Cert.Proof.Pre Cert.Proof.Fox

variable (xq xk xv xo : S8192x2048.Idx → ℝ) (xc : S8192x32.Idx → ℝ)

theorem v2 (i : S8192x32x64.Idx) : val_main_v2 (F := Ideal) (up xq) i = ((hq xq (i 1) (i 0) (i 2) : ℝ) : EReal) := by
  rw [val_main_v2_apply, val_main_v1_apply, val_main_v0_apply]
  exact (ReferenceIdeal.Read.val_main_v0_apply (F := Ideal) (up xq) i).symm.trans (Ref.v0 xq i)
theorem v5 (i : S8192x32x64.Idx) : val_main_v5 (F := Ideal) (up xk) i = ((hq xk (i 1) (i 0) (i 2) : ℝ) : EReal) := by
  rw [val_main_v5_apply, val_main_v4_apply, val_main_v3_apply]
  exact (ReferenceIdeal.Read.val_main_v0_apply (F := Ideal) (up xk) i).symm.trans (Ref.v0 xk i)
theorem v8 (i : S8192x32x64.Idx) : val_main_v8 (F := Ideal) (up xv) i = ((hq xv (i 1) (i 0) (i 2) : ℝ) : EReal) := by
  rw [val_main_v8_apply, val_main_v7_apply, val_main_v6_apply]
  exact (ReferenceIdeal.Read.val_main_v0_apply (F := Ideal) (up xv) i).symm.trans (Ref.v0 xv i)
theorem v11 (i : S8192x32x64.Idx) : val_main_v11 (F := Ideal) (up xo) i = ((hq xo (i 1) (i 0) (i 2) : ℝ) : EReal) := by
  rw [val_main_v11_apply, val_main_v10_apply, val_main_v9_apply]
  exact (ReferenceIdeal.Read.val_main_v0_apply (F := Ideal) (up xo) i).symm.trans (Ref.v0 xo i)
theorem v15 (i : S32x8192.Idx) : val_main_v15 (F := Ideal) (up xc) i = ((hc xc (i 0) (i 1) : ℝ) : EReal) := by
  rw [val_main_v15_apply]
  unfold up hc
  congr 2
  funext a
  match a with
  | ⟨0, _⟩ => rfl
  | ⟨1, _⟩ => rfl

theorem v18 (i : S32x8192x8192.Idx) : val_main_v18 (F := Ideal) (up xq) (up xk) (up xc) i
    = ((rz (hq xq (i 0)) (hq xk (i 0)) (hc xc (i 0)) (i 1) (i 2) : ℝ) : EReal) := by
  rw [val_main_v18_apply, val_main_v14_apply, val_main_v12_apply, val_main_v13_apply, val_main_cst_apply, val_main_v17_apply, val_main_v16_apply, v15]
  simp only [v2, v5, ← EReal.coe_mul, coe_sum]
  show (_ : EReal) * Ideal.ofBits .f32 0x3E000000#32 - _ = _
  rw [ofBits_eighth, ← EReal.coe_mul, ← EReal.coe_sub]
  rfl

/-- The causal mask. -/
theorem mask {α : Type} (i : S32x8192x8192.Idx) (x y : α) :
    Scalar.select (val_main_call0_v1 (F := Ideal) i) x y = if (i 2 : Fin 8192) ≤ (i 1 : Fin 8192) then x else y := by
  rw [val_main_call0_v1_apply, val_main_v26_apply, val_main_v25_apply, val_main_v23_apply, val_main_v24_apply, val_main_v20_apply, val_main_v22_apply,
    val_main_v19_apply, val_main_v21_apply]
  exact sle_choice (i 2).isLt (i 1).isLt x y

theorem v27 (i : S32x8192x8192.Idx) : val_main_v27 (F := Ideal) (up xq) (up xk) (up xc) i
    = if (i 2 : Fin 8192) ≤ (i 1 : Fin 8192) then ((rz (hq xq (i 0)) (hq xk (i 0)) (hc xc (i 0)) (i 1) (i 2) : ℝ) : EReal) else ⊥ := by
  rw [val_main_v27_apply, mask, v18, val_main_call0_v2_apply, val_main_call0_v0_apply, val_main_cst_0_apply]
  split_ifs
  · rfl
  · exact ofBits_bot

/-- A row's greatest score is a real. -/
theorem v28 (j : S32x8192.Idx) : ∃ M : ℝ, val_main_v28 (F := Ideal) (up xq) (up xk) (up xc) j = (M : EReal) := by
  refine row_max _ _ _ ofBits_bot _ j (fun i => ?_) fun h t => ?_
  · rw [v27]; split_ifs
    · exact EReal.coe_ne_top _
    · exact bot_ne_top
  · rw [v27]
    exact (if_pos (le_refl t)).trans_ne (EReal.coe_ne_bot _)

theorem idx40 (i : S32x8192.Idx) : idx_main_v40 i = ix3 (i 0) (i 1) (0 : Fin 1) := by
  have h0 : (i 0).val < 32 := (i 0).isLt
  have h1 : (i 1).val < 8192 := (i 1).isLt
  refine funext fun a => ?_
  match a with
  | ⟨0, _⟩ => refine Fin.ext ?_; show ((i 0).val * 8192 + (i 1).val) / 8192 = (i 0).val; omega
  | ⟨1, _⟩ => refine Fin.ext ?_; show ((i 0).val * 8192 + (i 1).val) / 1 % 8192 = (i 1).val; omega
  | ⟨2, _⟩ => rfl

theorem log_rL (q k : Fin 8192 → Fin 64 → ℝ) (c : Fin 8192 → ℝ) (m : ℝ) (t : Fin 8192) :
    Ideal.log ((rL q k c m t : ℝ) : EReal) = ((Real.log (rL q k c m t) : ℝ) : EReal) := by
  rw [Ideal.log_coe, if_neg (not_le.mpr (rL_pos _ _ _ _ _))]

section Shift
variable (M : Fin 32 → Fin 8192 → ℝ)
  (hM : ∀ j : S32x8192.Idx, val_main_v28 (F := Ideal) (up xq) (up xk) (up xc) j = ((M (j 0) (j 1) : ℝ) : EReal))

/-- A row's offset: the logarithm of the sum of its exponentials. -/
def lse (h : Fin 32) (t : Fin 8192) : ℝ := M h t + Real.log (rL (hq xq h) (hq xk h) (hc xc h) (M h t) t)

include hM

theorem v32 (i : S32x8192x8192.Idx) : val_main_v32 (F := Ideal) (up xq) (up xk) (up xc) i
    = ((rE (hq xq (i 0)) (hq xk (i 0)) (hc xc (i 0)) (M (i 0) (i 1)) (i 1) (i 2) : ℝ) : EReal) := by
  have e : val_main_v31 (F := Ideal) (up xq) (up xk) (up xc) i
      = if (i 2 : Fin 8192) ≤ (i 1 : Fin 8192) then ((rz (hq xq (i 0)) (hq xk (i 0)) (hc xc (i 0)) (i 1) (i 2) - M (i 0) (i 1) : ℝ) : EReal) else ⊥ := by
    rw [val_main_v31_apply, val_main_v30_apply, val_main_v29_apply, hM, v27]
    show (_ : EReal) - ((M (i 0) (i 1) : ℝ) : EReal) = _
    split_ifs
    · rw [← EReal.coe_sub]
    · exact EReal.bot_sub _
  rw [val_main_v32_apply, e]
  exact exp_choice (i 1) (i 2) _

theorem v33 (i : S32x8192.Idx) : val_main_v33 (F := Ideal) (up xq) (up xk) (up xc) i
    = ((rL (hq xq (i 0)) (hq xk (i 0)) (hc xc (i 0)) (M (i 0) (i 1)) (i 1) : ℝ) : EReal) := by
  rw [val_main_v33_apply, val_main_cst_2_apply]
  simp only [v32 xq xk xc M hM, coe_sum]
  show Ideal.ofBits .f32 0x00000000#32 + _ = _
  rw [Ideal.ofBits_zero_f32, zero_add]
  rfl

theorem v34 (i : S32x8192x1.Idx) : val_main_v34 (F := Ideal) (up xq) (up xk) (up xc) i
    = ((rL (hq xq (i 0)) (hq xk (i 0)) (hc xc (i 0)) (M (i 0) (i 1)) (i 1) : ℝ) : EReal) := by
  rw [val_main_v34_apply, v33 xq xk xc M hM]
  rfl

theorem v37 (i : S32x8192x64.Idx) : val_main_v37 (F := Ideal) (up xq) (up xk) (up xv) (up xc) i
    = (((∑ s : Fin 8192, rE (hq xq (i 0)) (hq xk (i 0)) (hc xc (i 0)) (M (i 0) (i 1)) (i 1) s * hq xv (i 0) s (i 2))
        / rL (hq xq (i 0)) (hq xk (i 0)) (hc xc (i 0)) (M (i 0) (i 1)) (i 1) : ℝ) : EReal) := by
  rw [val_main_v37_apply, val_main_v36_apply, val_main_v35_apply, v34 xq xk xc M hM]
  simp only [v32 xq xk xc M hM, v8, ← EReal.coe_mul, coe_sum]
  exact coe_div _ _ (rL_pos _ _ _ _ _).ne'

theorem v39 (i : S32x8192x1.Idx) : val_main_v39 (F := Ideal) (up xq) (up xk) (up xc) i = ((lse xq xk xc M (i 0) (i 1) : ℝ) : EReal) := by
  rw [val_main_v39_apply, val_main_v38_apply, v34 xq xk xc M hM, val_main_v29_apply, hM]
  show (_ : EReal) + Ideal.log ((rL (hq xq (i 0)) (hq xk (i 0)) (hc xc (i 0)) (M (i 0) (i 1)) (i 1) : ℝ) : EReal) = _
  exact (congrArg (fun z : EReal => ((M (i 0) (i 1) : ℝ) : EReal) + z)
    (log_rL (hq xq (i 0)) (hq xk (i 0)) (hc xc (i 0)) (M (i 0) (i 1)) (i 1))).trans (EReal.coe_add _ _).symm

theorem v48 (i : S8192x32.Idx) : val_main_v48 (F := Ideal) (up xq) (up xk) (up xc) i = ((-lse xq xk xc M (i 1) (i 0) : ℝ) : EReal) := by
  rw [val_main_v48_apply, val_main_v41_apply, val_main_v40_apply, v39 xq xk xc M hM]
  show -(_ : EReal) = _
  rw [← EReal.coe_neg, idx40 (idx_main_v41 i)]
  rfl

theorem v88 (i : S8192x32.Idx) : val_main_v88 (F := Ideal) (up xq) (up xk) (up xv) (up xc) (up xo) i
    = ((-rD (hq xq (i 1)) (hq xk (i 1)) (hq xv (i 1)) (hq xo (i 1)) (hc xc (i 1)) (i 0) : ℝ) : EReal) := by
  rw [val_main_v88_apply, val_main_v44_apply, val_main_cst_3_apply]
  simp only [val_main_v43_apply, val_main_v42_apply, v37 xq xk xv xc M hM, v11]
  show -(Ideal.ofBits .f32 0x00000000#32 + ∑ d : Fin 64, (_ : EReal) * _) = _
  simp only [← EReal.coe_mul, coe_sum]
  rw [Ideal.ofBits_zero_f32, zero_add, ← EReal.coe_neg]
  exact congrArg (fun x : ℝ => ((-x : ℝ) : EReal)) (rD_out (hq xq (i 1)) (hq xk (i 1)) (hq xv (i 1)) (hq xo (i 1)) (hc xc (i 1)) (M (i 1) (i 0)) (i 0))

end Shift

/-! ## The offsets in three pieces: over the reals the first is the offset and the others are zero -/

/-- A value's bfloat16 part, over the reals. -/
abbrev rnd (x : EReal) : EReal := FloatOps.extf (F := Ideal) .f32 bitsLt_bf16_f32 (FloatOps.truncf (F := Ideal) .bf16 bitsLt_bf16_f32 x)

theorem piece_two (r : ℝ) : rnd (FloatOps.subf (F := Ideal) (φ := .f32) (r : EReal) (rnd (r : EReal))) = ((0 : ℝ) : EReal) := by
  show (r : EReal) - r = _
  rw [← EReal.coe_sub, sub_self]
theorem piece_three (r : ℝ) : rnd (FloatOps.subf (F := Ideal) (φ := .f32) (FloatOps.subf (F := Ideal) (φ := .f32) (r : EReal) (rnd (r : EReal)))
    (rnd (FloatOps.subf (F := Ideal) (φ := .f32) (r : EReal) (rnd (r : EReal))))) = ((0 : ℝ) : EReal) := by
  show ((r : EReal) - r) - ((r : EReal) - r) = _
  rw [← EReal.coe_sub, sub_self, ← EReal.coe_sub, sub_self]

theorem v58 (M : Fin 32 → Fin 8192 → ℝ)
    (hM : ∀ j : S32x8192.Idx, val_main_v28 (F := Ideal) (up xq) (up xk) (up xc) j = ((M (j 0) (j 1) : ℝ) : EReal)) (i : S8192x32x1.Idx) : val_main_v58 (F := Ideal) (up xq) (up xk) (up xc) i = ((-lse xq xk xc M (i 1) (i 0) : ℝ) : EReal) := by
  rw [val_main_v58_apply, val_main_v50_apply, val_main_v49_apply, v48 xq xk xc M hM]
  rfl
theorem v59 (M : Fin 32 → Fin 8192 → ℝ)
    (hM : ∀ j : S32x8192.Idx, val_main_v28 (F := Ideal) (up xq) (up xk) (up xc) j = ((M (j 0) (j 1) : ℝ) : EReal)) (i : S8192x32x1.Idx) : val_main_v59 (F := Ideal) (up xq) (up xk) (up xc) i = ((0 : ℝ) : EReal) := by
  rw [val_main_v59_apply, val_main_v53_apply, val_main_v52_apply, val_main_v51_apply, val_main_v50_apply, val_main_v49_apply, v48 xq xk xc M hM]
  exact piece_two _
theorem v60 (M : Fin 32 → Fin 8192 → ℝ)
    (hM : ∀ j : S32x8192.Idx, val_main_v28 (F := Ideal) (up xq) (up xk) (up xc) j = ((M (j 0) (j 1) : ℝ) : EReal)) (i : S8192x32x1.Idx) : val_main_v60 (F := Ideal) (up xq) (up xk) (up xc) i = ((0 : ℝ) : EReal) := by
  rw [val_main_v60_apply, val_main_v57_apply, val_main_v56_apply, val_main_v55_apply, val_main_v54_apply, val_main_v53_apply, val_main_v52_apply, val_main_v51_apply, val_main_v50_apply, val_main_v49_apply, v48 xq xk xc M hM]
  exact piece_three _

theorem v66 (i : S8192x32.Idx) : val_main_v66 (F := Ideal) (up xc) i = ((-hc xc (i 1) (i 0) : ℝ) : EReal) := by
  have e : up xc i = ((hc xc (i 1) (i 0) : ℝ) : EReal) := by
    unfold up hc
    congr 2
    funext a
    match a with
    | ⟨0, _⟩ => rfl
    | ⟨1, _⟩ => rfl
  rw [val_main_v66_apply, EReal.coe_neg, e]; rfl

theorem v76 (i : S8192x32x1.Idx) : val_main_v76 (F := Ideal) (up xc) i = ((-hc xc (i 1) (i 0) : ℝ) : EReal) := by
  rw [val_main_v76_apply, val_main_v68_apply, val_main_v67_apply, v66 xc]
  rfl
theorem v77 (i : S8192x32x1.Idx) : val_main_v77 (F := Ideal) (up xc) i = ((0 : ℝ) : EReal) := by
  rw [val_main_v77_apply, val_main_v71_apply, val_main_v70_apply, val_main_v69_apply, val_main_v68_apply, val_main_v67_apply, v66 xc]
  exact piece_two _
theorem v78 (i : S8192x32x1.Idx) : val_main_v78 (F := Ideal) (up xc) i = ((0 : ℝ) : EReal) := by
  rw [val_main_v78_apply, val_main_v75_apply, val_main_v74_apply, val_main_v73_apply, val_main_v72_apply, val_main_v71_apply, val_main_v70_apply, val_main_v69_apply, val_main_v68_apply, val_main_v67_apply, v66 xc]
  exact piece_three _

theorem v98 (M : Fin 32 → Fin 8192 → ℝ)
    (hM : ∀ j : S32x8192.Idx, val_main_v28 (F := Ideal) (up xq) (up xk) (up xc) j = ((M (j 0) (j 1) : ℝ) : EReal)) (i : S8192x32x1.Idx) : val_main_v98 (F := Ideal) (up xq) (up xk) (up xv) (up xc) (up xo) i = ((-rD (hq xq (i 1)) (hq xk (i 1)) (hq xv (i 1)) (hq xo (i 1)) (hc xc (i 1)) (i 0) : ℝ) : EReal) := by
  rw [val_main_v98_apply, val_main_v90_apply, val_main_v89_apply, v88 xq xk xv xo xc M hM]
  rfl
theorem v99 (M : Fin 32 → Fin 8192 → ℝ)
    (hM : ∀ j : S32x8192.Idx, val_main_v28 (F := Ideal) (up xq) (up xk) (up xc) j = ((M (j 0) (j 1) : ℝ) : EReal)) (i : S8192x32x1.Idx) : val_main_v99 (F := Ideal) (up xq) (up xk) (up xv) (up xc) (up xo) i = ((0 : ℝ) : EReal) := by
  rw [val_main_v99_apply, val_main_v93_apply, val_main_v92_apply, val_main_v91_apply, val_main_v90_apply, val_main_v89_apply, v88 xq xk xv xo xc M hM]
  exact piece_two _
theorem v100 (M : Fin 32 → Fin 8192 → ℝ)
    (hM : ∀ j : S32x8192.Idx, val_main_v28 (F := Ideal) (up xq) (up xk) (up xc) j = ((M (j 0) (j 1) : ℝ) : EReal)) (i : S8192x32x1.Idx) : val_main_v100 (F := Ideal) (up xq) (up xk) (up xv) (up xc) (up xo) i = ((0 : ℝ) : EReal) := by
  rw [val_main_v100_apply, val_main_v97_apply, val_main_v96_apply, val_main_v95_apply, val_main_v94_apply, val_main_v93_apply, val_main_v92_apply, val_main_v91_apply, val_main_v90_apply, val_main_v89_apply, v88 xq xk xv xo xc M hM]
  exact piece_three _

theorem one3 (i : S8192x32x3.Idx) : val_main_v45 (F := Ideal) i = ((1 : ℝ) : EReal) := by
  rw [val_main_v45_apply, val_main_cst_4_apply]; exact Ideal.ofBits_one_f32

/-- A slot array at a head's lane. -/
theorem at_slot (y : S8192x32x128.Idx → EReal) (x : S8192x4096.Idx → EReal)
    (hx : ∀ i : S8192x4096.Idx, x i = y (idx_main_v65 i)) (t : Fin 8192) (h : Fin 32) (l : Fin 128) :
    at2 x t.val (128 * h.val + l.val) = y (ix3 t h l) := by
  rw [at2_of_lt _ t.isLt (by omega), hx]
  congr 1
  refine funext fun a => ?_
  match a with
  | ⟨0, _⟩ => refine Fin.ext ?_; show (t.val * 4096 + (128 * h.val + l.val)) / 4096 = t.val; omega
  | ⟨1, _⟩ => refine Fin.ext ?_; show (t.val * 4096 + (128 * h.val + l.val)) / 128 % 32 = h.val; omega
  | ⟨2, _⟩ => refine Fin.ext ?_; show (t.val * 4096 + (128 * h.val + l.val)) % 128 = l.val; omega

/-- The query slots. -/
theorem slotQ (M : Fin 32 → Fin 8192 → ℝ)
    (hM : ∀ j : S32x8192.Idx, val_main_v28 (F := Ideal) (up xq) (up xk) (up xc) j = ((M (j 0) (j 1) : ℝ) : EReal))
    (t : Fin 8192) (h : Fin 32) (l : Fin 128) :
    at2 (val_main_v65 (F := Ideal) (up xq) (up xk) (up xc)) t.val (128 * h.val + l.val) = ((sQ (hq xq h) (lse xq xk xc M h) t l : ℝ) : EReal) := by
  rw [at_slot (val_main_v64 (F := Ideal) (up xq) (up xk) (up xc)) _ (val_main_v65_apply _ _ _), val_main_v64_apply]
  show val_main_v63 (F := Ideal) (up xq) (up xk) (up xc) (ix3 t h l) = _
  rw [pre_v63, catQ_apply, sQ]
  by_cases h0 : l.val < 64
  · rw [dif_pos h0, dif_pos h0, val_main_v47_apply, v2, val_main_v46_apply, val_main_cst_5_apply]
    show (_ : EReal) * Ideal.ofBits .f32 0x3E000000#32 = _
    rw [ofBits_eighth, ← EReal.coe_mul]
    rfl
  rw [dif_neg h0, dif_neg h0]
  by_cases h1 : l.val < 67
  · rw [dif_pos (by omega), if_pos h1, one3]
  rw [dif_neg (by omega), if_neg h1]
  by_cases h2 : l.val < 70
  · rw [dif_pos (by omega), pre_v61]
    rcases (by omega : l.val = 67 ∨ l.val = 68 ∨ l.val = 69) with e | e | e
    · rw [if_pos e, show (⟨l.val - 64 - 3, by omega⟩ : Fin 3) = 0 from Fin.ext (by show l.val - 64 - 3 = 0; omega), cat3_zero]
      exact v58 xq xk xc M hM _
    · rw [if_neg (by omega), show (⟨l.val - 64 - 3, by omega⟩ : Fin 3) = 1 from Fin.ext (by show l.val - 64 - 3 = 1; omega), cat3_one]
      exact v59 xq xk xc M hM _
    · rw [if_neg (by omega), show (⟨l.val - 64 - 3, by omega⟩ : Fin 3) = 2 from Fin.ext (by show l.val - 64 - 3 = 2; omega), cat3_two]
      exact v60 xq xk xc M hM _
  · rw [dif_neg (by omega), if_neg (by omega), val_main_v62_apply, val_main_cst_6_apply]
    exact Ideal.ofBits_zero_f32

/-- The key slots. -/
theorem slotK (s : Fin 8192) (h : Fin 32) (l : Fin 128) :
    at2 (val_main_v83 (F := Ideal) (up xk) (up xc)) s.val (128 * h.val + l.val) = ((sK (hq xk h) (hc xc h) s l : ℝ) : EReal) := by
  rw [at_slot (val_main_v82 (F := Ideal) (up xk) (up xc)) _ (val_main_v83_apply _ _), val_main_v82_apply]
  show val_main_v81 (F := Ideal) (up xk) (up xc) (ix3 s h l) = _
  rw [pre_v81, catQ_apply, sK]
  by_cases h0 : l.val < 64
  · rw [dif_pos h0, dif_pos h0, v5]
    rfl
  rw [dif_neg h0, dif_neg h0]
  by_cases h1 : l.val < 67
  · rw [dif_pos (by omega), pre_v79]
    rcases (by omega : l.val = 64 ∨ l.val = 65 ∨ l.val = 66) with e | e | e
    · rw [if_pos e, show (⟨l.val - 64, by omega⟩ : Fin 3) = 0 from Fin.ext (by show l.val - 64 = 0; omega), cat3_zero]
      exact v76 xc _
    · rw [if_neg (by omega), if_pos h1, show (⟨l.val - 64, by omega⟩ : Fin 3) = 1 from Fin.ext (by show l.val - 64 = 1; omega), cat3_one]
      exact v77 xc _
    · rw [if_neg (by omega), if_pos h1, show (⟨l.val - 64, by omega⟩ : Fin 3) = 2 from Fin.ext (by show l.val - 64 = 2; omega), cat3_two]
      exact v78 xc _
  rw [dif_neg (by omega), if_neg (by omega), if_neg h1]
  by_cases h2 : l.val < 70
  · rw [dif_pos (by omega), if_pos h2, one3]
  · rw [dif_neg (by omega), if_neg h2, val_main_v80_apply, val_main_cst_7_apply]
    exact Ideal.ofBits_zero_f32

/-- The value slots. -/
theorem slotV (s : Fin 8192) (h : Fin 32) (l : Fin 128) :
    at2 (val_main_v87 (F := Ideal) (up xv)) s.val (128 * h.val + l.val) = ((sV (hq xv h) s l : ℝ) : EReal) := by
  rw [at_slot (val_main_v86 (F := Ideal) (up xv)) _ (val_main_v87_apply _), val_main_v86_apply]
  show val_main_v85 (F := Ideal) (up xv) (ix3 s h l) = _
  rw [pre_v85, catV_apply, sV]
  by_cases h0 : l.val < 64
  · rw [dif_pos h0, dif_pos h0, v8]
    rfl
  rw [dif_neg h0, dif_neg h0]
  by_cases h1 : l.val < 67
  · rw [dif_pos (by omega), if_pos h1, one3]
  · rw [dif_neg (by omega), if_neg h1, val_main_v84_apply, val_main_cst_8_apply]
    exact Ideal.ofBits_zero_f32

/-- The cotangent slots. -/
theorem slotO (M : Fin 32 → Fin 8192 → ℝ)
    (hM : ∀ j : S32x8192.Idx, val_main_v28 (F := Ideal) (up xq) (up xk) (up xc) j = ((M (j 0) (j 1) : ℝ) : EReal))
    (t : Fin 8192) (h : Fin 32) (l : Fin 128) :
    at2 (val_main_v105 (F := Ideal) (up xq) (up xk) (up xv) (up xc) (up xo)) t.val (128 * h.val + l.val)
      = ((sO (hq xo h) (rD (hq xq h) (hq xk h) (hq xv h) (hq xo h) (hc xc h)) t l : ℝ) : EReal) := by
  rw [at_slot (val_main_v104 (F := Ideal) (up xq) (up xk) (up xv) (up xc) (up xo)) _ (val_main_v105_apply _ _ _ _ _), val_main_v104_apply]
  show val_main_v103 (F := Ideal) (up xq) (up xk) (up xv) (up xc) (up xo) (ix3 t h l) = _
  rw [pre_v103, catV_apply, sO]
  by_cases h0 : l.val < 64
  · rw [dif_pos h0, dif_pos h0, v11]
    rfl
  rw [dif_neg h0, dif_neg h0]
  by_cases h1 : l.val < 67
  · rw [dif_pos (by omega), pre_v101]
    rcases (by omega : l.val = 64 ∨ l.val = 65 ∨ l.val = 66) with e | e | e
    · rw [if_pos e, show (⟨l.val - 64, by omega⟩ : Fin 3) = 0 from Fin.ext (by show l.val - 64 = 0; omega), cat3_zero]
      exact v98 xq xk xv xo xc M hM _
    · rw [if_neg (by omega), show (⟨l.val - 64, by omega⟩ : Fin 3) = 1 from Fin.ext (by show l.val - 64 = 1; omega), cat3_one]
      exact v99 xq xk xv xo xc M hM _
    · rw [if_neg (by omega), show (⟨l.val - 64, by omega⟩ : Fin 3) = 2 from Fin.ext (by show l.val - 64 = 2; omega), cat3_two]
      exact v100 xq xk xv xo xc M hM _
  · rw [dif_neg (by omega), if_neg (by omega), val_main_v102_apply, val_main_cst_9_apply]
    exact Ideal.ofBits_zero_f32

end Cert.Proof.Ker
end
end
-- ==== Proof.KerVals.lean ====
/-
  The kernel's results over the reals: the three gradients' arrays at a head's lane, and what the host's tail makes of them.
-/
module

public import proofs.«01_k».proof.Proof.Blocks
public import proofs.«01_k».proof.Proof.TailRead
public import proofs.«01_k».proof.Proof.KerHost

@[expose] public section

set_option maxRecDepth 16384

noncomputable section

namespace Cert.Proof.Fox

open Cert.KernelIdeal Cert.KernelIdeal.Gen
open Idealize.ShloMosaic

/-! ## From slots that hold reals to gradients that are reals -/

section Slots
variable (Q K W O : S8192x4096.Idx → EReal) (q k v o : Fin 32 → Fin 8192 → Fin 64 → ℝ) (c M e D : Fin 32 → Fin 8192 → ℝ)
  (hQ : ∀ (t : Fin 8192) (h : Fin 32) (l : Fin 128), at2 Q t.val (128 * h.val + l.val) = ((sQ (q h) (e h) t l : ℝ) : EReal))
  (hK : ∀ (t : Fin 8192) (h : Fin 32) (l : Fin 128), at2 K t.val (128 * h.val + l.val) = ((sK (k h) (c h) t l : ℝ) : EReal))
  (hW : ∀ (t : Fin 8192) (h : Fin 32) (l : Fin 128), at2 W t.val (128 * h.val + l.val) = ((sV (v h) t l : ℝ) : EReal))
  (hO : ∀ (t : Fin 8192) (h : Fin 32) (l : Fin 128), at2 O t.val (128 * h.val + l.val) = ((sO (o h) (D h) t l : ℝ) : EReal))
  (he : ∀ h t, e h t = M h t + Real.log (rL (q h) (k h) (c h) (M h t) t))
  (hD : ∀ h t, D h t = rD (q h) (k h) (v h) (o h) (c h) t)

include hQ hK

theorem gscr_real (h : Fin 32) (t s : Fin 8192) : gscr Q K h.val t.val s.val = ((rz (q h) (k h) (c h) t s - e h t : ℝ) : EReal) := by
  unfold gscr
  simp only [hQ, hK, ← EReal.coe_mul, coe_sum]
  rw [lanes_score]

include he

theorem gwt_real (h : Fin 32) (t s : Fin 8192) : gwt Q K h.val t.val s.val = ((rP (q h) (k h) (c h) t s : ℝ) : EReal) := by
  unfold gwt
  rw [gscr_real Q K q k c e hQ hK, ← rP_log (q h) (k h) (c h) (M h t), ← he]
  by_cases hs : s ≤ t
  · rw [if_pos hs, if_pos (show s.val ≤ t.val from hs)]; rfl
  · rw [if_neg hs, if_neg (show ¬ s.val ≤ t.val from hs)]; rfl

include hW hO hD

theorem gdwt_real (h : Fin 32) (t s : Fin 8192) :
    gdwt Q K W O h.val t.val s.val = ((rS (q h) (k h) (v h) (o h) (c h) t s : ℝ) : EReal) := by
  unfold gdwt
  rw [gwt_real Q K q k c M e hQ hK he]
  simp only [hO, hW, ← EReal.coe_mul, coe_sum]
  rw [lanes_value, hD]
  rfl

theorem gdq_real (i : S8192x4096.Idx) (t : Fin 8192) (h : Fin 32) (l : Fin 128) (h0 : (i 0).val = t.val) (h1 : (i 1).val = 128 * h.val + l.val) :
    gdq Q K W O i = ((∑ s : Fin 8192, rS (q h) (k h) (v h) (o h) (c h) t s * sK (k h) (c h) s l : ℝ) : EReal) := by
  unfold gdq
  rw [h0, h1, show (128 * h.val + l.val) / 128 = h.val by omega]
  simp only [gdwt_real Q K W O q k v o c M e D hQ hK hW hO he hD, hK, ← EReal.coe_mul, coe_sum]

theorem gdk_real (i : S8192x4096.Idx) (s : Fin 8192) (h : Fin 32) (l : Fin 128) (h0 : (i 0).val = s.val) (h1 : (i 1).val = 128 * h.val + l.val) :
    gdk Q K W O i = ((∑ t : Fin 8192, rS (q h) (k h) (v h) (o h) (c h) t s * sQ (q h) (e h) t l : ℝ) : EReal) := by
  unfold gdk
  rw [h0, h1, show (128 * h.val + l.val) / 128 = h.val by omega]
  simp only [gdwt_real Q K W O q k v o c M e D hQ hK hW hO he hD, hQ, ← EReal.coe_mul, coe_sum]

omit hW hD in
theorem gdv_real (i : S8192x4096.Idx) (s : Fin 8192) (h : Fin 32) (l : Fin 128) (h0 : (i 0).val = s.val) (h1 : (i 1).val = 128 * h.val + l.val) :
    gdv Q K O i = ((∑ t : Fin 8192, rP (q h) (k h) (c h) t s * sO (o h) (D h) t l : ℝ) : EReal) := by
  unfold gdv
  rw [h0, h1, show (128 * h.val + l.val) / 128 = h.val by omega]
  simp only [gwt_real Q K q k c M e hQ hK he, hO, ← EReal.coe_mul, coe_sum]

/-! ## The host's tail -/

open Cert.Proof.Tail

/-- The query gradient. -/
theorem tail_dq (j : S8192x32x64.Idx) : val_main_v6 (F := Ideal) (gdq Q K W O) j
    = (((∑ s : Fin 8192, rS (q (j 1)) (k (j 1)) (v (j 1)) (o (j 1)) (c (j 1)) (j 0) s * k (j 1) s (j 2)) * (1 / 8) : ℝ) : EReal) := by
  have b0 : (j 0).val < 8192 := (j 0).isLt
  have b1 : (j 1).val < 32 := (j 1).isLt
  have b2 : (j 2).val < 64 := (j 2).isLt
  rw [val_main_v6_apply, val_main_v4_apply, val_main_v0_apply, val_main_v5_apply, val_main_cst_apply,
    gdq_real Q K W O q k v o c M e D hQ hK hW hO he hD _ (j 0) (j 1) ⟨(j 2).val, by omega⟩
      (by show (((j 0).val * 32 + (j 1).val) * 128 + (j 2).val) / 4096 = (j 0).val; omega)
      (by show (((j 0).val * 32 + (j 1).val) * 128 + (j 2).val) % 4096 = 128 * (j 1).val + (j 2).val; omega)]
  show (_ : EReal) * Ideal.ofBits .f32 0x3E000000#32 = _
  rw [ofBits_eighth, ← EReal.coe_mul]
  refine congrArg (fun x : ℝ => ((x * (1 / 8) : ℝ) : EReal)) (Finset.sum_congr rfl fun s _ => ?_)
  rw [sK, dif_pos b2]
  rfl

/-- The key gradient. -/
theorem tail_dk (j : S8192x32x64.Idx) : val_main_v8 (F := Ideal) (gdk Q K W O) j
    = ((∑ t : Fin 8192, rS (q (j 1)) (k (j 1)) (v (j 1)) (o (j 1)) (c (j 1)) t (j 0) * (q (j 1) t (j 2) * (1 / 8)) : ℝ) : EReal) := by
  have b0 : (j 0).val < 8192 := (j 0).isLt
  have b1 : (j 1).val < 32 := (j 1).isLt
  have b2 : (j 2).val < 64 := (j 2).isLt
  rw [val_main_v8_apply, val_main_v1_apply,
    gdk_real Q K W O q k v o c M e D hQ hK hW hO he hD _ (j 0) (j 1) ⟨(j 2).val, by omega⟩
      (by show (((j 0).val * 32 + (j 1).val) * 128 + (j 2).val) / 4096 = (j 0).val; omega)
      (by show (((j 0).val * 32 + (j 1).val) * 128 + (j 2).val) % 4096 = 128 * (j 1).val + (j 2).val; omega)]
  refine congrArg (fun x : ℝ => (x : EReal)) (Finset.sum_congr rfl fun s _ => ?_)
  rw [sQ, dif_pos b2]
  rfl

/-- The value gradient. -/
theorem tail_dv (j : S8192x32x64.Idx) : val_main_v10 (F := Ideal) (gdv Q K O) j
    = ((∑ t : Fin 8192, rP (q (j 1)) (k (j 1)) (c (j 1)) t (j 0) * o (j 1) t (j 2) : ℝ) : EReal) := by
  have b0 : (j 0).val < 8192 := (j 0).isLt
  have b1 : (j 1).val < 32 := (j 1).isLt
  have b2 : (j 2).val < 64 := (j 2).isLt
  rw [val_main_v10_apply, val_main_v3_apply, val_main_v2_apply]
  refine (gdv_real Q K O q k o c M e D hQ hK hO he _ (j 0) (j 1) ⟨(j 2).val, by omega⟩
      (by show (((j 0).val * 32 + (j 1).val) * 128 + (j 2).val) / 4096 = (j 0).val; omega)
      (by show (((j 0).val * 32 + (j 1).val) * 128 + (j 2).val) % 4096 = 128 * (j 1).val + (j 2).val; omega)).trans ?_
  refine congrArg (fun x : ℝ => (x : EReal)) (Finset.sum_congr rfl fun s _ => ?_)
  rw [sO, dif_pos b2]
  rfl

/-- The gates' gradient: a row's sum less a column's. -/
theorem tail_dc (j : S8192x32.Idx) : val_main_v16 (F := Ideal) (gdq Q K W O) (gdk Q K W O) j
    = ((∑ s : Fin 8192, rS (q (j 1)) (k (j 1)) (v (j 1)) (o (j 1)) (c (j 1)) (j 0) s
        - ∑ t : Fin 8192, rS (q (j 1)) (k (j 1)) (v (j 1)) (o (j 1)) (c (j 1)) t (j 0) : ℝ) : EReal) := by
  have b0 : (j 0).val < 8192 := (j 0).isLt
  have b1 : (j 1).val < 32 := (j 1).isLt
  have n0 : ((j 0).val * 32 + (j 1).val) / 32 = (j 0).val := by omega
  have n1 : ((j 0).val * 32 + (j 1).val) / 1 % 32 = (j 1).val := by omega
  rw [val_main_v16_apply, val_main_v13_apply, val_main_v12_apply, val_main_v0_apply, val_main_v15_apply, val_main_v14_apply, val_main_v1_apply,
    gdq_real Q K W O q k v o c M e D hQ hK hW hO he hD _ (j 0) (j 1) 67
      (by show (((((j 0).val * 32 + (j 1).val) / 32) * 32 + ((j 0).val * 32 + (j 1).val) / 1 % 32) * 128 + (67 + 0)) / 4096 = (j 0).val; rw [n0, n1]; omega)
      (by show (((((j 0).val * 32 + (j 1).val) / 32) * 32 + ((j 0).val * 32 + (j 1).val) / 1 % 32) * 128 + (67 + 0)) % 4096 = 128 * (j 1).val + 67; rw [n0, n1]; omega),
    gdk_real Q K W O q k v o c M e D hQ hK hW hO he hD _ (j 0) (j 1) 64
      (by show (((((j 0).val * 32 + (j 1).val) / 32) * 32 + ((j 0).val * 32 + (j 1).val) / 1 % 32) * 128 + (64 + 0)) / 4096 = (j 0).val; rw [n0, n1]; omega)
      (by show (((((j 0).val * 32 + (j 1).val) / 32) * 32 + ((j 0).val * 32 + (j 1).val) / 1 % 32) * 128 + (64 + 0)) % 4096 = 128 * (j 1).val + 64; rw [n0, n1]; omega)]
  show (_ : EReal) - _ = _
  rw [← EReal.coe_sub]
  have eK : ∀ s, sK (k (j 1)) (c (j 1)) s 67 = 1 := fun s => by
    simp only [sK]; norm_num
  have eQ : ∀ t, sQ (q (j 1)) (e (j 1)) t 64 = 1 := fun t => by
    simp only [sQ]; norm_num
  simp only [eK, eQ, mul_one]

end Slots

end Cert.Proof.Fox
end
end
-- ==== Proof.Grads.lean ====
/-
  The two programs' gradients are the same functions of finite arguments.
-/
module

public import proofs.«01_k».proof.Proof.KerVals
public import proofs.«01_k».proof.Proof.RefVals

@[expose] public section

set_option maxRecDepth 16384

noncomputable section

namespace Cert.Proof.Fox

open Cert.KernelIdeal Cert.KernelIdeal.Gen
open Idealize.ShloMosaic

variable (xq xk xv xo : S8192x2048.Idx → ℝ) (xc : S8192x32.Idx → ℝ)

/-- The array of the queries' slots. -/
abbrev KQ : S8192x4096.Idx → EReal := Pre.val_main_v65 (F := Ideal) (up xq) (up xk) (up xc)
/-- The array of the keys' slots. -/
abbrev KK : S8192x4096.Idx → EReal := Pre.val_main_v83 (F := Ideal) (up xk) (up xc)
/-- The array of the values' slots. -/
abbrev KV : S8192x4096.Idx → EReal := Pre.val_main_v87 (F := Ideal) (up xv)
/-- The array of the output gradients' slots. -/
abbrev KO : S8192x4096.Idx → EReal := Pre.val_main_v105 (F := Ideal) (up xq) (up xk) (up xv) (up xc) (up xo)

/-- A row's greatest score on the kernel's side, a real at every head and row. -/
theorem ker_max : ∃ M : Fin 32 → Fin 8192 → ℝ, ∀ j : S32x8192.Idx,
    Pre.val_main_v28 (F := Ideal) (up xq) (up xk) (up xc) j = ((M (j 0) (j 1) : ℝ) : EReal) := by
  choose M hM using Ker.v28 xq xk xc
  exact ⟨fun h t => M (ix2 h t), fun j => (hM j).trans (congrArg (fun i => ((M i : ℝ) : EReal)) (eq_ix2 j))⟩

/-- A row's greatest score on the reference's side, a real at every head and row. -/
theorem ref_max : ∃ M : Fin 32 → Fin 8192 → ℝ, ∀ j : S32x8192.Idx,
    Cert.ReferenceIdeal.Read.val_main_v20 (F := Ideal) (up xq) (up xk) (up xc) j = ((M (j 0) (j 1) : ℝ) : EReal) := by
  choose M hM using Ref.v20 xq xk xc
  exact ⟨fun h t => M (ix2 h t), fun j => (hM j).trans (congrArg (fun i => ((M i : ℝ) : EReal)) (eq_ix2 j))⟩

theorem grad_dq : Tail.val_main_v7 (F := Ideal) (gdq (KQ xq xk xc) (KK xk xc) (KV xv) (KO xq xk xv xo xc))
    = Cert.ReferenceIdeal.Read.val_main_v86 (F := Ideal) (up xq) (up xk) (up xv) (up xc) (up xo) := by
  obtain ⟨M, hM⟩ := ker_max xq xk xc
  obtain ⟨N, hN⟩ := ref_max xq xk xc
  funext i
  rw [Tail.val_main_v7_apply, Cert.ReferenceIdeal.Read.val_main_v86_apply]
  refine (tail_dq _ _ _ _ (hq xq) (hq xk) (hq xv) (hq xo) (hc xc) M (Ker.lse xq xk xc M) (fun h => rD (hq xq h) (hq xk h) (hq xv h) (hq xo h) (hc xc h))
    (Ker.slotQ xq xk xc M hM) (Ker.slotK xk xc) (Ker.slotV xv) (Ker.slotO xq xk xv xo xc M hM) (fun _ _ => rfl) (fun _ _ => rfl) _).trans ?_
  exact (Ref.v82 xq xk xv xo xc N hN _).symm

theorem grad_dk : Tail.val_main_v9 (F := Ideal) (gdk (KQ xq xk xc) (KK xk xc) (KV xv) (KO xq xk xv xo xc))
    = Cert.ReferenceIdeal.Read.val_main_v85 (F := Ideal) (up xq) (up xk) (up xv) (up xc) (up xo) := by
  obtain ⟨M, hM⟩ := ker_max xq xk xc
  obtain ⟨N, hN⟩ := ref_max xq xk xc
  funext i
  rw [Tail.val_main_v9_apply, Cert.ReferenceIdeal.Read.val_main_v85_apply]
  refine (tail_dk _ _ _ _ (hq xq) (hq xk) (hq xv) (hq xo) (hc xc) M (Ker.lse xq xk xc M) (fun h => rD (hq xq h) (hq xk h) (hq xv h) (hq xo h) (hc xc h))
    (Ker.slotQ xq xk xc M hM) (Ker.slotK xk xc) (Ker.slotV xv) (Ker.slotO xq xk xv xo xc M hM) (fun _ _ => rfl) (fun _ _ => rfl) _).trans ?_
  exact (Ref.v80 xq xk xv xo xc N hN _).symm

theorem grad_dv : Tail.val_main_v11 (F := Ideal) (gdv (KQ xq xk xc) (KK xk xc) (KO xq xk xv xo xc))
    = Cert.ReferenceIdeal.Read.val_main_v84 (F := Ideal) (up xq) (up xk) (up xc) (up xo) := by
  obtain ⟨M, hM⟩ := ker_max xq xk xc
  obtain ⟨N, hN⟩ := ref_max xq xk xc
  funext i
  rw [Tail.val_main_v11_apply, Cert.ReferenceIdeal.Read.val_main_v84_apply]
  refine (tail_dv _ _ (KV xv) _ (hq xq) (hq xk) (hq xv) (hq xo) (hc xc) M (Ker.lse xq xk xc M) (fun h => rD (hq xq h) (hq xk h) (hq xv h) (hq xo h) (hc xc h))
    (Ker.slotQ xq xk xc M hM) (Ker.slotK xk xc) (Ker.slotV xv) (Ker.slotO xq xk xv xo xc M hM) (fun _ _ => rfl) (fun _ _ => rfl) _).trans ?_
  exact (Ref.v55 xq xk xo xc N hN _).symm

theorem grad_dc : Tail.val_main_v16 (F := Ideal) (gdq (KQ xq xk xc) (KK xk xc) (KV xv) (KO xq xk xv xo xc)) (gdk (KQ xq xk xc) (KK xk xc) (KV xv) (KO xq xk xv xo xc))
    = Cert.ReferenceIdeal.Read.val_main_v83 (F := Ideal) (up xq) (up xk) (up xv) (up xc) (up xo) := by
  obtain ⟨M, hM⟩ := ker_max xq xk xc
  obtain ⟨N, hN⟩ := ref_max xq xk xc
  funext i
  refine (tail_dc _ _ _ _ (hq xq) (hq xk) (hq xv) (hq xo) (hc xc) M (Ker.lse xq xk xc M) (fun h => rD (hq xq h) (hq xk h) (hq xv h) (hq xo h) (hc xc h))
    (Ker.slotQ xq xk xc M hM) (Ker.slotK xk xc) (Ker.slotV xv) (Ker.slotO xq xk xv xo xc M hM) (fun _ _ => rfl) (fun _ _ => rfl) _).trans ?_
  exact (Ref.v83 xq xk xv xo xc N hN _).symm

end Cert.Proof.Fox
end
end
-- ==== Proof.TailVals.lean ====
/-
  The kernel's results, as the host's values of the three arrays that the kernel call leaves.
-/
module
public import proofs.«01_k».proof.Proof.Run
public import proofs.«01_k».proof.Proof.TailRead
@[expose] public section
set_option maxRecDepth 16384
noncomputable section
open Idealize.ShloMosaic Idealize.SL Idealize.SL.Sem Idealize.ShloMosaic.TcCoe Idealize.ShloMosaic.StableHlo

namespace Cert.Proof.Fox
open Cert.KernelIdeal Cert.KernelIdeal.Gen

variable {F : FTy → Type} [FloatOps F] [Named F] (m : (ℓ : Loc nD τ sig) → Buf (Elt F) ℓ)

theorem out_dq (c : Dev nD) : Pipeline.afterTail₀ cfgs (dats m) 0 (V0 m) [hostOps1] c main_v114 = Tail.val_main_v7 (F := F) ((dats m 0 c).arrAt 4 cfg0.N) := by
  have e4 := Pipeline.withArrays_arr spec0 winFacts0.arr_inj c (V0 m c) (fun w => (dats m 0 c).arrAt w cfg0.N) 4
  unfold Pipeline.afterTail₀
  rw [← e4]
  show StableHlo.after ([hostOps1] : List (List (HloOp τ sig (Elt F)))).flatten (Pipeline.withArrays spec0 c (V0 m c) fun w => (dats m 0 c).arrAt w cfg0.N) _ = _
  generalize Pipeline.withArrays spec0 c (V0 m c) (fun w => (dats m 0 c).arrAt w cfg0.N) = U
  simp only [hostOps1, List.flatten_cons, List.flatten_nil, List.append_nil]
  after_results_simp
  rfl

theorem out_dk (c : Dev nD) : Pipeline.afterTail₀ cfgs (dats m) 0 (V0 m) [hostOps1] c main_v116 = Tail.val_main_v9 (F := F) ((dats m 0 c).arrAt 5 cfg0.N) := by
  have e5 := Pipeline.withArrays_arr spec0 winFacts0.arr_inj c (V0 m c) (fun w => (dats m 0 c).arrAt w cfg0.N) 5
  unfold Pipeline.afterTail₀
  rw [← e5]
  show StableHlo.after ([hostOps1] : List (List (HloOp τ sig (Elt F)))).flatten (Pipeline.withArrays spec0 c (V0 m c) fun w => (dats m 0 c).arrAt w cfg0.N) _ = _
  generalize Pipeline.withArrays spec0 c (V0 m c) (fun w => (dats m 0 c).arrAt w cfg0.N) = U
  simp only [hostOps1, List.flatten_cons, List.flatten_nil, List.append_nil]
  after_results_simp
  rfl

theorem out_dv (c : Dev nD) : Pipeline.afterTail₀ cfgs (dats m) 0 (V0 m) [hostOps1] c main_v118 = Tail.val_main_v11 (F := F) ((dats m 0 c).arrAt 6 cfg0.N) := by
  have e6 := Pipeline.withArrays_arr spec0 winFacts0.arr_inj c (V0 m c) (fun w => (dats m 0 c).arrAt w cfg0.N) 6
  unfold Pipeline.afterTail₀
  rw [← e6]
  show StableHlo.after ([hostOps1] : List (List (HloOp τ sig (Elt F)))).flatten (Pipeline.withArrays spec0 c (V0 m c) fun w => (dats m 0 c).arrAt w cfg0.N) _ = _
  generalize Pipeline.withArrays spec0 c (V0 m c) (fun w => (dats m 0 c).arrAt w cfg0.N) = U
  simp only [hostOps1, List.flatten_cons, List.flatten_nil, List.append_nil]
  after_results_simp
  rfl

theorem out_dc (c : Dev nD) : Pipeline.afterTail₀ cfgs (dats m) 0 (V0 m) [hostOps1] c main_v123 = Tail.val_main_v16 (F := F) ((dats m 0 c).arrAt 4 cfg0.N) ((dats m 0 c).arrAt 5 cfg0.N) := by
  have e4 := Pipeline.withArrays_arr spec0 winFacts0.arr_inj c (V0 m c) (fun w => (dats m 0 c).arrAt w cfg0.N) 4
  have e5 := Pipeline.withArrays_arr spec0 winFacts0.arr_inj c (V0 m c) (fun w => (dats m 0 c).arrAt w cfg0.N) 5
  unfold Pipeline.afterTail₀
  rw [← e4, ← e5]
  show StableHlo.after ([hostOps1] : List (List (HloOp τ sig (Elt F)))).flatten (Pipeline.withArrays spec0 c (V0 m c) fun w => (dats m 0 c).arrAt w cfg0.N) _ = _
  generalize Pipeline.withArrays spec0 c (V0 m c) (fun w => (dats m 0 c).arrAt w cfg0.N) = U
  simp only [hostOps1, List.flatten_cons, List.flatten_nil, List.append_nil]
  after_results_simp
  rfl

end Cert.Proof.Fox
end
end
-- ==== Proof.Algebraic.lean ====
/-
  The value claim: from memories that agree on finite arguments, the kernel program and the reference end with equal gradients.
-/
module

public import proofs.«01_k».proof.Defs
public import proofs.«01_k».proof.Proof.Finite
public import proofs.«01_k».proof.Proof.Grads
public import proofs.«01_k».proof.Proof.PrefixVals
public import proofs.«01_k».proof.Proof.TailVals
public import proofs.«01_k».proof.Proof.Gen.Pre_finite
public import proofs.«01_k».proof.Proof.Gen.ReferenceIdeal.Run

@[expose] public section

set_option maxRecDepth 16384

noncomputable section

namespace Cert.Proof.Fox

open Cert.KernelIdeal Cert.KernelIdeal.Gen
open Idealize.ShloMosaic Idealize.SL Idealize.SL.Sem Idealize.ShloMosaic.TcCoe

/-- The kernel program's run: its four results are the host's values of the arrays the kernel call leaves, and its arguments are unchanged. -/
theorem ker_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v114) = Tail.val_main_v7 (F := Ideal) (gdq (AQ m c) (AK m c) (AV m c) (AO m c))
      ∧ r.2.mem ((c.tc : Thread nD τ).loc main_v116) = Tail.val_main_v9 (F := Ideal) (gdk (AQ m c) (AK m c) (AV m c) (AO m c))
      ∧ r.2.mem ((c.tc : Thread nD τ).loc main_v118) = Tail.val_main_v11 (F := Ideal) (gdv (AQ m c) (AK m c) (AO m c))
      ∧ r.2.mem ((c.tc : Thread nD τ).loc main_v123) = Tail.val_main_v16 (F := Ideal) (gdq (AQ m c) (AK m c) (AV m c) (AO m c)) (gdk (AQ m c) (AK m c) (AV m c) (AO m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.1 c).2 main_v114 (Pipeline.mem_restRefs_of main_v114 (by decide) (by decide))).trans ((out_dq m c).trans (congrArg (Tail.val_main_v7 (F := Ideal)) (arr_four m c))),
      ((h.1 c).2 main_v116 (Pipeline.mem_restRefs_of main_v116 (by decide) (by decide))).trans ((out_dk m c).trans (congrArg (Tail.val_main_v9 (F := Ideal)) (arr_five m c))),
      ((h.1 c).2 main_v118 (Pipeline.mem_restRefs_of main_v118 (by decide) (by decide))).trans ((out_dv m c).trans (congrArg (Tail.val_main_v11 (F := Ideal)) (arr_six m c))),
      ((h.1 c).2 main_v123 (Pipeline.mem_restRefs_of main_v123 (by decide) (by decide))).trans ((out_dc m c).trans (congrArg₂ (Tail.val_main_v16 (F := Ideal)) (arr_four m c) (arr_five m c))),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c)⟩)
    (run_main m g)

/-- At finite arguments the kernel program's four results are the reference's. -/
theorem ker_eq_ref (m : (ℓ : Loc nD τ sig) → Buf (Elt Ideal) ℓ) (hp : Cert.Pre_KernelIdeal_finite m) (c : Dev nD)
    (y0 y1 y2 : S8192x2048.Idx → EReal) (y3 : S8192x32.Idx → EReal) (y4 : S8192x2048.Idx → EReal)
    (e0 : y0 = m ((c.tc : Thread nD τ).loc main_arg0)) (e1 : y1 = m ((c.tc : Thread nD τ).loc main_arg1))
    (e2 : y2 = m ((c.tc : Thread nD τ).loc main_arg2)) (e3 : y3 = m ((c.tc : Thread nD τ).loc main_arg3)) (e4 : y4 = m ((c.tc : Thread nD τ).loc main_arg4)) :
    Cert.ReferenceIdeal.Read.val_main_v86 (F := Ideal) y0 y1 y2 y3 y4 = Tail.val_main_v7 (F := Ideal) (gdq (AQ m c) (AK m c) (AV m c) (AO m c))
    ∧ Cert.ReferenceIdeal.Read.val_main_v85 (F := Ideal) y0 y1 y2 y3 y4 = Tail.val_main_v9 (F := Ideal) (gdk (AQ m c) (AK m c) (AV m c) (AO m c))
    ∧ Cert.ReferenceIdeal.Read.val_main_v84 (F := Ideal) y0 y1 y3 y4 = Tail.val_main_v11 (F := Ideal) (gdv (AQ m c) (AK m c) (AO m c))
    ∧ Cert.ReferenceIdeal.Read.val_main_v83 (F := Ideal) y0 y1 y2 y3 y4
      = Tail.val_main_v16 (F := Ideal) (gdq (AQ m c) (AK m c) (AV m c) (AO m c)) (gdk (AQ m c) (AK m c) (AV m c) (AO m c)) := by
  obtain ⟨xq, xk, xv, xc, xo, h0, h1, h2, h3, h4⟩ := finite_args _ _ _ _ _ (hp c)
  have f0 := e0.trans h0
  have f1 := e1.trans h1
  have f2 := e2.trans h2
  have f3 := e3.trans h3
  have f4 := e4.trans h4
  have a0 : AQ m c = KQ xq xk xc := (V_v65 m c).trans (by rw [KQ, ← f0, ← f1, ← f3, e0, e1, e3])
  have a1 : AK m c = KK xk xc := (V_v83 m c).trans (by rw [KK, ← f1, ← f3, e1, e3])
  have a2 : AV m c = KV xv := (V_v87 m c).trans (by rw [KV, ← f2, e2])
  have a3 : AO m c = KO xq xk xv xo xc := (V_v105 m c).trans (by rw [KO, ← f0, ← f1, ← f2, ← f3, ← f4, e0, e1, e2, e3, e4])
  rw [a0, a1, a2, a3, f0, f1, f2, f3, f4]
  exact ⟨(grad_dq xq xk xv xo xc).symm, (grad_dk xq xk xv xo xc).symm, (grad_dv xq xk xv xo xc).symm, (grad_dc xq xk xv xo xc).symm⟩

end Cert.Proof.Fox

namespace Cert.Proof

open Idealize.ShloMosaic Idealize.SL Idealize.SL.Sem Idealize.ShloMosaic.TcCoe Cert.Proof.Fox

/-- The value claim. -/
theorem algebraic : Cert.algebraic_KernelIdeal_ReferenceIdeal_pre_finite := fun m g m' g' hp ha =>
  ⟨fun c => Tail.val_main_v7 (F := Ideal) (gdq (AQ m c) (AK m c) (AV m c) (AO m c)),
    fun c => Tail.val_main_v9 (F := Ideal) (gdk (AQ m c) (AK m c) (AV m c) (AO m c)),
    fun c => Tail.val_main_v11 (F := Ideal) (gdv (AQ m c) (AK m c) (AO m c)),
    fun c => Tail.val_main_v16 (F := Ideal) (gdq (AQ m c) (AK m c) (AV m c) (AO m c)) (gdk (AQ m c) (AK m c) (AV m c) (AO m c)),
    ker_run m g,
    (θ_run _ _ _).mono (fun r h c => by
      obtain ⟨h86, h85, h84, h83, hr⟩ := h c
      obtain ⟨b0, b1, b2, b3, b4⟩ := ha c
      obtain ⟨k86, k85, k84, k83⟩ := ker_eq_ref m hp c _ _ _ _ _ b0 b1 b2 b3 b4
      exact ⟨h86.trans ((Cert.ReferenceIdeal.Read.val_main_v86_eq m' c).trans k86), h85.trans ((Cert.ReferenceIdeal.Read.val_main_v85_eq m' c).trans k85),
        h84.trans ((Cert.ReferenceIdeal.Read.val_main_v84_eq m' c).trans k84), h83.trans ((Cert.ReferenceIdeal.Read.val_main_v83_eq m' c).trans k83), hr⟩)
      (Cert.ReferenceIdeal.Value.run (F := Ideal) m' g')⟩

end Cert.Proof
end
end
-- ==== Proof.DownDx.lean ====
/-
  The gradients of gate and up through the down projection and the gated product: what a point of the kernel writes,
  and the kernel program's result at an index.
-/
module

public import proofs.«01_k».proof.Proof.Gen.Kernel2Ideal.Value
public import Idealize.ShloMosaic.Lib.Pointwise

@[expose] public section

set_option maxRecDepth 16384

noncomputable section

namespace Cert.Proof.DownDx

open Cert.Kernel2Ideal Cert.Kernel2Ideal.Gen Cert.Kernel2Ideal.Value
open Idealize.ShloMosaic Idealize.SL Idealize.SL.Sem Idealize.ShloMosaic.TcCoe

theorem hz : (![0, 0] : Fin 2 → ℕ) = fun _ => 0 := funext fun a => by fin_cases a <;> rfl
theorem hz3 : (![0, 0, 0] : Fin 3 → ℕ) = fun _ => 0 := funext fun a => by fin_cases a <;> rfl

section Leaves
variable (x0 : Vec Ideal S512x2048 .bf16) (x1 : Vec Ideal S1x1408x2048 .bf16) (x2 x3 : Vec Ideal S512x1408 .bf16)

/-- Slot 1 of the output's block is the second store. -/
theorem out_one (b : Fin 512) (j : Fin 1408) : out0_4 x0 x1 x2 x3 (ix3 1 b j) = k0_pay5 x0 x1 x2 (ix3 0 b j) := by
  have e : (ix3 1 b j : S2x512x1408.Idx) = r0_4.emb (ix3 0 b j : S1x512x1408.Idx) := funext fun a => Fin.ext (by
    match a with
    | ⟨0, _⟩ => rfl
    | ⟨1, _⟩ => show b.val = 0 + 1 * b.val; omega
    | ⟨2, _⟩ => show j.val = 0 + 1 * j.val; omega)
  unfold out0_4
  rw [e, View.canon_cons_emb]
  simp only [View.ld_unit_zero (S := S512x2048) hz, View.ld_unit_zero (S := S1x1408x2048) hz3, View.ld_unit_zero (S := S512x1408) hz]

theorem off_one (b : Fin 512) (j : Fin 1408) : (ix3 0 b j : S2x512x1408.Idx) ∉ r0_4.set :=
  Rect.not_mem_set_of_axis r0_4 _ 0 1 1 rfl rfl rfl (Or.inl (by show 0 < 1; omega))

/-- Slot 0 is the first. -/
theorem out_zero (b : Fin 512) (j : Fin 1408) : out0_4 x0 x1 x2 x3 (ix3 0 b j) = k0_pay4 x0 x1 x2 x3 (ix3 0 b j) := by
  have e : (ix3 0 b j : S2x512x1408.Idx) = r0_3.emb (ix3 0 b j : S1x512x1408.Idx) := funext fun a => Fin.ext (by
    match a with
    | ⟨0, _⟩ => rfl
    | ⟨1, _⟩ => show b.val = 0 + 1 * b.val; omega
    | ⟨2, _⟩ => show j.val = 0 + 1 * j.val; omega)
  unfold out0_4
  rw [View.canon_cons_of_not_mem (⟨r0_4, k0_pay5 (View.ld x0 r0_0) (View.ld x1 r0_1) (View.ld x2 r0_2)⟩ : View.Piece (Elt Ideal) S2x512x1408 .bf16) _
    (show _ ∉ r0_4.set from off_one b j), e, View.canon_cons_emb]
  simp only [View.ld_unit_zero (S := S512x2048) hz, View.ld_unit_zero (S := S1x1408x2048) hz3, View.ld_unit_zero (S := S512x1408) hz]

/-- The down projection's product at a point, at an index of its block. -/
def prod (b : Fin 512) (j : Fin 1408) : EReal := ∑ l : Fin 2048, (x0 (ix2 b l) : EReal) * (x1 (ix3 0 j l) : EReal)

theorem pay4_apply (b : Fin 512) (j : Fin 1408) : (k0_pay4 x0 x1 x2 x3 (ix3 0 b j) : EReal)
    = ((prod x0 x1 b j * (x3 (ix2 b j) : EReal)) * Ideal.logistic (x2 (ix2 b j)))
      * (1 + (x2 (ix2 b j) : EReal) * (1 - Ideal.logistic (x2 (ix2 b j)))) := by
  unfold prod
  pointwise [k0_pay4, k0_pay3, k0_pay2, k0_pay1]

theorem pay5_apply (b : Fin 512) (j : Fin 1408) : (k0_pay5 x0 x1 x2 (ix3 0 b j) : EReal)
    = (prod x0 x1 b j * (x2 (ix2 b j) : EReal)) * Ideal.logistic (x2 (ix2 b j)) := by
  unfold prod
  pointwise [k0_pay5, k0_pay3, k0_pay2, k0_pay1]

end Leaves

variable (m : (ℓ : Loc nD τ sig) → Buf (Elt Ideal) ℓ) (c : Dev nD)

abbrev argY : S8192x2048.Idx → EReal := m ((c.tc : Thread nD τ).loc main_arg0)
abbrev argW : S4x1408x2048.Idx → EReal := m ((c.tc : Thread nD τ).loc main_arg1)
abbrev argG : S8192x5632.Idx → EReal := m ((c.tc : Thread nD τ).loc main_arg2)
abbrev argU : S8192x5632.Idx → EReal := m ((c.tc : Thread nD τ).loc main_arg3)

theorem index0 : ∀ t : Fin cfg0.N, win0_0.index t 0 = t.val % 16 ∧ win0_0.index t 1 = 0 :=
  (by decide +kernel : ∀ t : Fin grid0.N, _)
theorem index1 : ∀ t : Fin cfg0.N, win0_1.index t 0 = t.val / 16 ∧ win0_1.index t 1 = 0 ∧ win0_1.index t 2 = 0 :=
  (by decide +kernel : ∀ t : Fin grid0.N, _)
theorem index2 : ∀ t : Fin cfg0.N, win0_2.index t 0 = t.val % 16 ∧ win0_2.index t 1 = t.val / 16 :=
  (by decide +kernel : ∀ t : Fin grid0.N, _)
theorem index3 : ∀ t : Fin cfg0.N, win0_3.index t 0 = t.val % 16 ∧ win0_3.index t 1 = t.val / 16 :=
  (by decide +kernel : ∀ t : Fin grid0.N, _)
theorem index4 : ∀ t : Fin cfg0.N, win0_4.index t 0 = 0 ∧ win0_4.index t 1 = t.val % 16 ∧ win0_4.index t 2 = t.val / 16 :=
  (by decide +kernel : ∀ t : Fin grid0.N, _)

theorem block0 (t : Fin cfg0.N) (b : Fin 512) (l : Fin 2048) (i : S8192x2048.Idx) (e0 : (i 0).val = t.val % 16 * 512 + b.val)
    (e1 : (i 1).val = l.val) : (iblk m c 0 t : S512x2048.Idx → EReal) (ix2 b l) = argY m c i := by
  obtain ⟨q0, q1⟩ := index0 t
  unfold iblk argY
  rw [View.read_apply]
  show V m c main_arg0 _ = m (c.tc.loc main_arg0) _
  unfold V
  congr 1
  funext a
  apply Fin.ext
  match a with
  | ⟨0, _⟩ => show win0_0.index t 0 * 512 + 1 * b.val = (i 0).val; omega
  | ⟨1, _⟩ => show win0_0.index t 1 * 2048 + 1 * l.val = (i 1).val; omega

theorem block1 (t : Fin cfg0.N) (j : Fin 1408) (l : Fin 2048) (i : S4x1408x2048.Idx) (e0 : (i 0).val = t.val / 16)
    (e1 : (i 1).val = j.val) (e2 : (i 2).val = l.val) : (iblk m c 1 t : S1x1408x2048.Idx → EReal) (ix3 0 j l) = argW m c i := by
  obtain ⟨q0, q1, q2⟩ := index1 t
  unfold iblk argW
  rw [View.read_apply]
  show V m c main_arg1 _ = m (c.tc.loc main_arg1) _
  unfold V
  congr 1
  funext a
  apply Fin.ext
  match a with
  | ⟨0, _⟩ => show win0_1.index t 0 * 1 + 1 * 0 = (i 0).val; omega
  | ⟨1, _⟩ => show win0_1.index t 1 * 1408 + 1 * j.val = (i 1).val; omega
  | ⟨2, _⟩ => show win0_1.index t 2 * 2048 + 1 * l.val = (i 2).val; omega

theorem block2 (t : Fin cfg0.N) (b : Fin 512) (j : Fin 1408) (i : S8192x5632.Idx) (e0 : (i 0).val = t.val % 16 * 512 + b.val)
    (e1 : (i 1).val = t.val / 16 * 1408 + j.val) : (iblk m c 2 t : S512x1408.Idx → EReal) (ix2 b j) = argG m c i := by
  obtain ⟨q0, q1⟩ := index2 t
  unfold iblk argG
  rw [View.read_apply]
  show V m c main_arg2 _ = m (c.tc.loc main_arg2) _
  unfold V
  congr 1
  funext a
  apply Fin.ext
  match a with
  | ⟨0, _⟩ => show win0_2.index t 0 * 512 + 1 * b.val = (i 0).val; omega
  | ⟨1, _⟩ => show win0_2.index t 1 * 1408 + 1 * j.val = (i 1).val; omega

theorem block3 (t : Fin cfg0.N) (b : Fin 512) (j : Fin 1408) (i : S8192x5632.Idx) (e0 : (i 0).val = t.val % 16 * 512 + b.val)
    (e1 : (i 1).val = t.val / 16 * 1408 + j.val) : (iblk m c 3 t : S512x1408.Idx → EReal) (ix2 b j) = argU m c i := by
  obtain ⟨q0, q1⟩ := index3 t
  unfold iblk argU
  rw [View.read_apply]
  show V m c main_arg3 _ = m (c.tc.loc main_arg3) _
  unfold V
  congr 1
  funext a
  apply Fin.ext
  match a with
  | ⟨0, _⟩ => show win0_3.index t 0 * 512 + 1 * b.val = (i 0).val; omega
  | ⟨1, _⟩ => show win0_3.index t 1 * 1408 + 1 * j.val = (i 1).val; omega

/-- The result at an index of a point's block is what the point wrote there. -/
theorem result_at (t : Fin cfg0.N) (s : Fin 2) (b : Fin 512) (j : Fin 1408) (i : S2x8192x5632.Idx) (e0 : (i 0).val = s.val)
    (e1 : (i 1).val = t.val % 16 * 512 + b.val) (e2 : (i 2).val = t.val / 16 * 1408 + j.val) :
    (dats m 0 c).arrAt 4 cfg0.N i = out0_4 (iblk m c 0 t) (iblk m c 1 t) (iblk m c 2 t) (iblk m c 3 t) (ix3 s b j) := by
  obtain ⟨q0, q1, q2⟩ := index4 t
  have h := congrFun (blocks4 m c t (flush0_4 t)) (ix3 s b j)
  rw [flushed4, View.read_apply] at h
  refine Eq.trans ?_ h
  congr 1
  funext a
  apply Fin.ext
  match a with
  | ⟨0, _⟩ => show (i 0).val = win0_4.index t 0 * 2 + 1 * s.val; omega
  | ⟨1, _⟩ => show (i 1).val = win0_4.index t 1 * 512 + 1 * b.val; omega
  | ⟨2, _⟩ => show (i 2).val = win0_4.index t 2 * 1408 + 1 * j.val; omega

end Cert.Proof.DownDx
end
-- ==== Proof.GatedReal.lean ====
/-
  The derivative of the gated product over the extended reals: the kernel's form and the reference's.
-/
module

public import proofs.«01_k».proof.Proof.Soft
public import Idealize.ShloMosaic.Lib.IdealHost

@[expose] public section

noncomputable section

namespace Cert.Proof.Gated

open Idealize.ShloMosaic

theorem one_sub_one : (1 : EReal) - 1 = 0 := by
  rw [← EReal.coe_one, ← EReal.coe_sub, sub_self, EReal.coe_zero]

/-- The factor (1 + g (1 - s)) distributed, where the product it scales is real. At an infinite g the kernel's and the
    reference's last terms both vanish. -/
theorem gate (x : ℝ) (g : EReal) :
    ((x : EReal) * Ideal.logistic g) * (1 + g * (1 - Ideal.logistic g))
      = (x : EReal) * Ideal.logistic g + (g * (x : EReal)) * (Ideal.logistic g * (1 - Ideal.logistic g)) := by
  induction g with
  | bot => simp
  | top => simp [one_sub_one]
  | coe r =>
    rw [Ideal.logistic_coe]
    generalize (1 + Real.exp (-r))⁻¹ = s
    rw [← EReal.coe_one]
    simp only [← EReal.coe_mul, ← EReal.coe_sub, ← EReal.coe_add]
    congr 1
    ring

theorem up (x g s : EReal) : (x * g) * s = (g * s) * x := by
  rw [mul_assoc, mul_comm]

end Cert.Proof.Gated
end
-- ==== Proof.DownDxEq.lean ====
/-
  The gradients of gate and up: the kernel program's result is the reference's.
-/
module

public import proofs.«01_k».proof.Defs
public import proofs.«01_k».proof.Proof.DownDx
public import proofs.«01_k».proof.Proof.GatedReal
public import proofs.«01_k».proof.Proof.Soft
public import proofs.«01_k».proof.Proof.Gen.Pre_finite2
public import proofs.«01_k».proof.Proof.Gen.Kernel2.Frame
public import proofs.«01_k».proof.Proof.Gen.Kernel2Ideal
public import proofs.«01_k».proof.Proof.Gen.Reference2Ideal.Run
public import proofs.«01_k».proof.Proof.Gen.Reference2Ideal.Read
public import Idealize.ShloMosaic.Lib.Pipeline.Quiescent
public import Idealize.ShloMosaic.Lib.ReduceAll

@[expose] public section

set_option maxRecDepth 16384

noncomputable section

namespace Cert.Proof.DownDx

open Cert.Kernel2Ideal Cert.Kernel2Ideal.Gen Cert.Kernel2Ideal.Value
open Idealize.ShloMosaic Idealize.SL Idealize.SL.Sem Idealize.ShloMosaic.TcCoe

section Reference
variable (x0 : S8192x2048.Idx → EReal) (x1 : S4x1408x2048.Idx → EReal) (x2 x3 : S8192x5632.Idx → EReal)

/-- The gradient of the gated product. -/
abbrev refProd (i : S8192x5632.Idx) : EReal := Cert.Reference2Ideal.Read.val_main_v8 (F := Ideal) x0 x1 i

theorem ref_sigma (i : S8192x5632.Idx) : (Cert.Reference2Ideal.Read.val_main_v4_2 (F := Ideal) x2 i : EReal) = Ideal.logistic (x2 i) := by
  show Ideal.div (Ideal.ofBits .f32 0x3F800000#32) (Ideal.ofBits .f32 0x3F800000#32 + Ideal.exp (-(x2 i))) = _
  rw [Ideal.ofBits_one_f32, Ideal.logistic]

theorem ref_gate (i : S8192x5632.Idx) : (Cert.Reference2Ideal.Read.val_main_v11 (F := Ideal) x0 x1 x2 x3 i : EReal)
    = (refProd x0 x1 i * x3 i) * Ideal.logistic (x2 i)
      + (x2 i * (refProd x0 x1 i * x3 i)) * (Ideal.logistic (x2 i) * (1 - Ideal.logistic (x2 i))) := by
  rw [← ref_sigma, ← Ideal.ofBits_one_f32]
  rfl

theorem ref_up (i : S8192x5632.Idx) : (Cert.Reference2Ideal.Read.val_main_v9 (F := Ideal) x0 x1 x2 i : EReal)
    = (x2 i * Ideal.logistic (x2 i)) * refProd x0 x1 i := by
  rw [← ref_sigma]
  rfl

theorem ref_zero (i : S2x8192x5632.Idx) (j : S8192x5632.Idx) (h : (i 0).val = 0) (h0 : (i 1).val = (j 0).val) (h1 : (i 2).val = (j 1).val) :
    (Cert.Reference2Ideal.Read.val_main_v15 (F := Ideal) x0 x1 x2 x3 i : EReal) = Cert.Reference2Ideal.Read.val_main_v11 (F := Ideal) x0 x1 x2 x3 j := by
  have e : Cert.Reference2Ideal.Read.idx_main_v12 (ix3 0 (j 0) (j 1)) = j := funext fun a => by
    match a with
    | ⟨0, _⟩ => rfl
    | ⟨1, _⟩ => rfl
  refine Eq.trans ?_ ((Cert.Reference2Ideal.Read.val_main_v12_apply (F := Ideal) x0 x1 x2 x3 (ix3 0 (j 0) (j 1))).trans (by rw [e]))
  show Cert.Reference2Ideal.Read.val_main_v14 (F := Ideal) x0 x1 x2 x3 i = _
  unfold Cert.Reference2Ideal.Read.val_main_v14
  refine concatenate_pair_apply_left (t := Cert.Reference2Ideal.S2x8192x5632) (s₁ := Cert.Reference2Ideal.S1x8192x5632) (s₂ := Cert.Reference2Ideal.S1x8192x5632)
    0 _ _ _ i rfl (ix3 0 (j 0) (j 1)) (fun b => ?_)
  match b with
  | ⟨0, _⟩ => exact h.symm
  | ⟨1, _⟩ => exact h0.symm
  | ⟨2, _⟩ => exact h1.symm

theorem ref_one (i : S2x8192x5632.Idx) (j : S8192x5632.Idx) (h : (i 0).val = 1) (h0 : (i 1).val = (j 0).val) (h1 : (i 2).val = (j 1).val) :
    (Cert.Reference2Ideal.Read.val_main_v15 (F := Ideal) x0 x1 x2 x3 i : EReal) = Cert.Reference2Ideal.Read.val_main_v9 (F := Ideal) x0 x1 x2 j := by
  have e : Cert.Reference2Ideal.Read.idx_main_v13 (ix3 0 (j 0) (j 1)) = j := funext fun a => by
    match a with
    | ⟨0, _⟩ => rfl
    | ⟨1, _⟩ => rfl
  refine Eq.trans ?_ ((Cert.Reference2Ideal.Read.val_main_v13_apply (F := Ideal) x0 x1 x2 (ix3 0 (j 0) (j 1))).trans (by rw [e]))
  show Cert.Reference2Ideal.Read.val_main_v14 (F := Ideal) x0 x1 x2 x3 i = _
  unfold Cert.Reference2Ideal.Read.val_main_v14
  refine concatenate_pair_apply_right (t := Cert.Reference2Ideal.S2x8192x5632) (s₁ := Cert.Reference2Ideal.S1x8192x5632) (s₂ := Cert.Reference2Ideal.S1x8192x5632)
    0 _ _ _ i rfl rfl (ix3 0 (j 0) (j 1)) (fun b hb => ?_) ?_
  · match b with
    | ⟨0, _⟩ => exact absurd rfl hb
    | ⟨1, _⟩ => exact h0.symm
    | ⟨2, _⟩ => exact h1.symm
  · show 0 + 1 = (i 0).val
    omega

/-- A sum of products of reals is real. -/
theorem refProd_real (h0 : ∀ i, ∃ r : ℝ, x0 i = (r : EReal)) (h1 : ∀ i, ∃ r : ℝ, x1 i = (r : EReal)) (i : S8192x5632.Idx) :
    ∃ r : ℝ, refProd x0 x1 i = (r : EReal) := by
  choose y0 e0 using h0
  choose y1 e1 using h1
  refine ⟨∑ k : Fin 2048, y0 (Cert.Reference2Ideal.Read.lidx_main_v8 i k)
    * y1 (Cert.Reference2Ideal.Read.idx_main_v1 (Cert.Reference2Ideal.Read.ridx_main_v8 i k)), ?_⟩
  refine (Cert.Reference2Ideal.Read.val_main_v8_apply x0 x1 i).trans (Eq.trans ?_ (Cert.Proof.Fox.coe_sum _ _))
  refine Finset.sum_congr rfl fun k _ => ?_
  rw [EReal.coe_mul, ← e0, ← e1, Cert.Reference2Ideal.Read.val_main_v1_apply]
  rfl

end Reference

section Finite
variable [Cert.Pre_finite2.Facts]

theorem top_bits : Ideal.ofBits .bf16 0x7F80#16 = (⊤ : EReal) := by
  simp [Ideal.ofBits, Ideal.ieee]

/-- A value whose magnitude is below infinity is real. -/
theorem real_of_lt {x : EReal} (h : BitVec.ofBool (decide (max x (-x) < Ideal.ofBits .bf16 0x7F80#16)) = 1#1) : ∃ r : ℝ, x = (r : EReal) := by
  rw [top_bits] at h
  have h'' : max x (-x) < ⊤ := by
    by_contra hn
    rw [decide_eq_false hn] at h
    exact absurd h (by decide)
  have h1 : x ≠ ⊤ := fun e => by rw [e] at h''; exact absurd h'' (by simp)
  have h2 : x ≠ ⊥ := fun e => by rw [e] at h''; exact absurd h'' (by simp)
  exact ⟨x.toReal, (EReal.coe_toReal h1 h2).symm⟩

instance : Subsingleton Cert.Pre_finite2.S_.Idx := ⟨fun a b => funext fun k => k.elim0⟩

theorem reals (a0 : FVec Ideal Cert.Pre_finite2.S8192x2048 .bf16) (a1 : FVec Ideal Cert.Pre_finite2.S4x1408x2048 .bf16)
    (a2 a3 : FVec Ideal Cert.Pre_finite2.S8192x5632 .bf16) (hp : Cert.Pre_finite2.fn (F := Ideal) a0 a1 a2 a3 = fun _ => 1#1) :
    (∀ i, ∃ r : ℝ, (a0 i : EReal) = (r : EReal)) ∧ (∀ i, ∃ r : ℝ, (a1 i : EReal) = (r : EReal)) ∧ (∀ i, ∃ r : ℝ, (a3 i : EReal) = (r : EReal)) := by
  have e := congrFun hp (fun k => k.elim0)
  unfold Cert.Pre_finite2.fn at e
  obtain ⟨e, e3⟩ := IntOp.andi_eq_one.1 e
  obtain ⟨e0, e1⟩ := IntOp.andi_eq_one.1 e
  exact ⟨fun i => real_of_lt (Host.reduce_andi_all _ _ _ _ _ e0 i), fun i => real_of_lt (Host.reduce_andi_all _ _ _ _ _ e1 i),
    fun i => real_of_lt (Host.reduce_andi_all _ _ _ _ _ e3 i)⟩

end Finite

variable (m : (ℓ : Loc nD τ sig) → Buf (Elt Ideal) ℓ) (c : Dev nD)

/-- A point's product is the reference's. -/
theorem prod_eq (t : Fin cfg0.N) (b : Fin 512) (j : Fin 1408) (i : S8192x5632.Idx) (e0 : (i 0).val = t.val % 16 * 512 + b.val)
    (e1 : (i 1).val = t.val / 16 * 1408 + j.val) :
    prod (iblk m c 0 t) (iblk m c 1 t) b j = refProd (argY m c) (argW m c) i := by
  have hj := j.isLt
  refine Eq.trans ?_ (Cert.Reference2Ideal.Read.val_main_v8_apply (argY m c) (argW m c) i).symm
  refine Finset.sum_congr rfl fun l _ => ?_
  have hl := l.isLt
  rw [Cert.Reference2Ideal.Read.val_main_v1_apply]
  refine congrArg₂ (fun (a b : EReal) => a * b) (block0 m c t b l _ ?_ rfl) (block1 m c t j l _ ?_ ?_ ?_)
  · exact e0
  · show ((i 1).val * 2048 + l.val) / 2883584 = t.val / 16; omega
  · show ((i 1).val * 2048 + l.val) / 2048 % 1408 = j.val; omega
  · show ((i 1).val * 2048 + l.val) % 2048 = l.val; omega

theorem result_eq (h0 : ∀ i, ∃ r : ℝ, argY m c i = (r : EReal)) (h1 : ∀ i, ∃ r : ℝ, argW m c i = (r : EReal))
    (h3 : ∀ i, ∃ r : ℝ, argU m c i = (r : EReal)) :
    ((dats m 0 c).arrAt 4 cfg0.N : S2x8192x5632.Idx → EReal)
      = Cert.Reference2Ideal.Read.val_main_v15 (F := Ideal) (argY m c) (argW m c) (argG m c) (argU m c) := by
  funext i
  have b0 : (i 0).val < 2 := (i 0).isLt
  have b1 : (i 1).val < 8192 := (i 1).isLt
  have b2 : (i 2).val < 5632 := (i 2).isLt
  have hN : cfg0.N = 64 := N_0
  have ht : (i 2).val / 1408 * 16 + (i 1).val / 512 < cfg0.N := by omega
  have f1 : (i 1).val = ((i 2).val / 1408 * 16 + (i 1).val / 512) % 16 * 512 + (i 1).val % 512 := by omega
  have f2 : (i 2).val = ((i 2).val / 1408 * 16 + (i 1).val / 512) / 16 * 1408 + (i 2).val % 1408 := by omega
  have r := result_at m c ⟨_, ht⟩ ⟨(i 0).val, b0⟩ ⟨(i 1).val % 512, by omega⟩ ⟨(i 2).val % 1408, by omega⟩ i rfl f1 f2
  have p := prod_eq m c ⟨_, ht⟩ ⟨(i 1).val % 512, by omega⟩ ⟨(i 2).val % 1408, by omega⟩ (ix2 (i 1) (i 2)) f1 f2
  have g := block2 m c ⟨_, ht⟩ ⟨(i 1).val % 512, by omega⟩ ⟨(i 2).val % 1408, by omega⟩ (ix2 (i 1) (i 2)) f1 f2
  have u := block3 m c ⟨_, ht⟩ ⟨(i 1).val % 512, by omega⟩ ⟨(i 2).val % 1408, by omega⟩ (ix2 (i 1) (i 2)) f1 f2
  rcases (by omega : (i 0).val = 0 ∨ (i 0).val = 1) with hs | hs
  · refine r.trans (Eq.trans ?_ ((ref_zero (argY m c) (argW m c) (argG m c) (argU m c) i (ix2 (i 1) (i 2)) hs rfl rfl).trans
      (ref_gate (argY m c) (argW m c) (argG m c) (argU m c) (ix2 (i 1) (i 2)))).symm)
    rw [(Fin.ext hs : (⟨(i 0).val, b0⟩ : Fin 2) = 0), out_zero]
    refine (pay4_apply _ _ _ _ _ _).trans ?_
    rw [p, g, u]
    obtain ⟨x, hx⟩ := refProd_real (argY m c) (argW m c) h0 h1 (ix2 (i 1) (i 2))
    obtain ⟨y, hy⟩ := h3 (ix2 (i 1) (i 2))
    rw [hx, hy, ← EReal.coe_mul]
    exact Gated.gate (x * y) _
  · refine r.trans (Eq.trans ?_ ((ref_one (argY m c) (argW m c) (argG m c) (argU m c) i (ix2 (i 1) (i 2)) hs rfl rfl).trans
      (ref_up (argY m c) (argW m c) (argG m c) (ix2 (i 1) (i 2)))).symm)
    rw [(Fin.ext hs : (⟨(i 0).val, b0⟩ : Fin 2) = 1), out_one]
    refine (pay5_apply _ _ _ _ _).trans ?_
    rw [p, g]
    exact Gated.up _ _ _

end Cert.Proof.DownDx

namespace Cert.Proof
open Idealize.ShloMosaic Idealize.SL Idealize.SL.Sem Idealize.ShloMosaic.TcCoe

theorem frame_kernel2 : Cert.quiescent_Kernel2 := fun m ρ _ => Cert.Kernel2.Gen.frame m ρ
theorem frame_kernel2Ideal : Cert.quiescent_Kernel2Ideal := fun m ρ _ => Cert.Kernel2Ideal.Gen.frame (F := Ideal) m ρ
theorem frame_kernel2Ideal_pre : Cert.quiescent_Kernel2Ideal_pre_finite2 := fun m ρ _ => Cert.Kernel2Ideal.Gen.frame (F := Ideal) m ρ
theorem frame_reference2 : Cert.quiescent_Reference2Ideal := fun m ρ _ =>
  (θ_run _ _ _).mono (fun r h => ⟨fun c => (h c).2, sem_eq_zero_of_no_sems (by decide) r.2⟩) (Cert.Reference2Ideal.Value.run (F := Ideal) m ρ)
theorem frame_reference2_pre : Cert.quiescent_Reference2Ideal_pre_finite2 := fun m ρ _ => frame_reference2 m ρ trivial

theorem algebraic2 : Cert.algebraic_Kernel2Ideal_Reference2Ideal_pre_finite2 := fun m g m' g' hp hm =>
  ⟨fun c => (Cert.Kernel2Ideal.Gen.dats m 0 c).arrAt 4 Cert.Kernel2Ideal.cfg0.N, Cert.Kernel2Ideal.Value.run_blocks m g,
    (θ_run _ _ _).mono (fun r h c => ⟨(h c).1.trans (by
        obtain ⟨a, b, d⟩ := DownDx.reals _ _ _ _ (hp c)
        obtain ⟨e0, e1, e2, e3⟩ := hm c
        rw [e0, e1, e2, e3]
        exact (DownDx.result_eq m c a b d).symm), (h c).2⟩) (Cert.Reference2Ideal.Value.run (F := Ideal) m' g')⟩

end Cert.Proof
end
-- ==== Proof.FoldSum.lean ====
/-
  A running sum that starts anew every so many points, and a long sum cut into runs: what the products that are blocked along the summed axis share.
-/
module

public import Idealize.ShloMosaic.Lib.Pointwise

@[expose] public section

namespace Cert.Proof.Fold

/-- What is left at point `n` is the point's addend at the first of every `P` points, and what the point before left plus the addend at the others:
    so after the last of `P` points it is the sum of their addends. -/
theorem after_run (P : ℕ) {ι β : Type} [AddCommMonoid β] {N : ℕ} (f : (n : ℕ) → n < N → ι → β) (M : ℕ → ι → β)
    (h0 : ∀ n h i, n % P = 0 → f n h i = M n i)
    (hs : ∀ n (h : n + 1 < N) i, (n + 1) % P ≠ 0 → f (n + 1) h i = f n (by omega) i + M (n + 1) i) (r : ℕ) (i : ι) :
    ∀ s, s < P → ∀ h : P * r + s < N, f (P * r + s) h i = ∑ k ∈ Finset.range (s + 1), M (P * r + k) i
  | 0, _, h => by rw [Finset.sum_range_one]; exact h0 _ h i (by simp)
  | s + 1, hsP, h => by
    rw [Finset.sum_range_succ, ← after_run P f M h0 hs r i s (by omega) (by omega)]
    refine hs (P * r + s) h i ?_
    rw [show P * r + s + 1 = s + 1 + P * r by omega, Nat.add_mul_mod_self_left, Nat.mod_eq_of_lt hsP]
    omega

/-- The same with the addends given at the points alone: what is left at the last of `P` points is the sum of the addends of the `P`. -/
theorem sum_of_run (P : ℕ) {ι β : Type} [AddCommMonoid β] {N : ℕ} (f : (n : ℕ) → n < N → ι → β) (M : Fin N → ι → β)
    (h0 : ∀ t : Fin N, t.val % P = 0 → ∀ i, f t.val t.isLt i = M t i)
    (hs : ∀ t : Fin N, t.val % P ≠ 0 → ∀ i, f t.val t.isLt i = f (t.val - 1) (Nat.lt_of_le_of_lt (Nat.sub_le _ _) t.isLt) i + M t i)
    (r s : ℕ) (hP : s + 1 = P) (h : P * r + s < N) (i : ι) :
    f (P * r + s) h i = ∑ k : Fin P, M ⟨P * r + k.val, by have := k.isLt; omega⟩ i := by
  let g : ℕ → ι → β := fun n i => if hn : n < N then M ⟨n, hn⟩ i else 0
  have hg (n : ℕ) (hn : n < N) (i : ι) : M ⟨n, hn⟩ i = g n i := by
    show _ = dite _ _ _
    rw [dif_pos hn]
  refine (after_run P f g (fun n hn i e => (h0 ⟨n, hn⟩ e i).trans (hg n hn i))
    (fun n hn i e => (hs ⟨n + 1, hn⟩ e i).trans (congrArg _ (hg (n + 1) hn i))) r i s (by omega) h).trans ?_
  rw [hP, ← Fin.sum_univ_eq_sum_range (fun k => g (P * r + k) i) P]
  exact Finset.sum_congr rfl fun k _ => (hg _ _ i).symm

/-- A sum over `a * b` places is the sum over `a` runs of `b` places. -/
theorem sum_runs {β : Type} [AddCommMonoid β] (a b : ℕ) (f : Fin (a * b) → β) :
    ∑ s : Fin a, ∑ l : Fin b, f (finProdFinEquiv (s, l)) = ∑ k, f k := by
  rw [← Equiv.sum_comp finProdFinEquiv f, Fintype.sum_prod_type]

/-- A product cut into `P` blocks of `L` places: where each of `P` points adds its own block's sum, the last leaves the whole product's sum. -/
theorem sum_of_blocks (P L : ℕ) {ι β : Type} [AddCommMonoid β] {N : ℕ} {f : (n : ℕ) → n < N → ι → β} {M : Fin N → ι → β}
    (h0 : ∀ t : Fin N, t.val % P = 0 → ∀ i, f t.val t.isLt i = M t i)
    (hs : ∀ t : Fin N, t.val % P ≠ 0 → ∀ i, f t.val t.isLt i = f (t.val - 1) (Nat.lt_of_le_of_lt (Nat.sub_le _ _) t.isLt) i + M t i)
    (r s : ℕ) (hP : s + 1 = P) (h : P * r + s < N) (i : ι) (g : Fin (P * L) → β)
    (hg : ∀ k : Fin P, M ⟨P * r + k.val, by have := k.isLt; omega⟩ i = ∑ l : Fin L, g (finProdFinEquiv (k, l))) :
    f (P * r + s) h i = ∑ k, g k :=
  (sum_of_run P f M h0 hs r s hP h i).trans ((Finset.sum_congr rfl fun k _ => hg k).trans (sum_runs P L g))

theorem zero2 : (![0, 0] : Fin 2 → ℕ) = fun _ => 0 := funext fun a => by fin_cases a <;> rfl
theorem zero3 : (![0, 0, 0] : Fin 3 → ℕ) = fun _ => 0 := funext fun a => by fin_cases a <;> rfl

end Cert.Proof.Fold
-- ==== Proof.UpDx.lean ====
/-
  The gradient of the normed stream through the up projections: what a point of the kernel leaves in its accumulator.
-/
module

public import proofs.«01_k».proof.Proof.FoldSum
public import proofs.«01_k».proof.Proof.Gen.Kernel3Ideal.Value

@[expose] public section

set_option maxRecDepth 16384

noncomputable section

namespace Cert.Proof.UpDx

open Cert.Kernel3Ideal Cert.Kernel3Ideal.Gen Cert.Kernel3Ideal.Value
open Idealize.ShloMosaic Idealize.SL Idealize.SL.Sem Idealize.ShloMosaic.TcCoe

theorem hz : (![0, 0] : Fin 2 → ℕ) = fun _ => 0 := funext fun a => by fin_cases a <;> rfl
theorem hz3 : (![0, 0, 0] : Fin 3 → ℕ) = fun _ => 0 := funext fun a => by fin_cases a <;> rfl

section Leaves
variable {F : FTy → Type} [FloatOps F]
variable (c : Dev nD) (i : grid0.Coords) (a3 : Memref sig .tc .vmem S1x1024x1408 .bf16) (h3 : a3.IsWhole)
  (a4 : Memref sig .tc .vmem S1x2048x1408 .bf16) (h4 : a4.IsWhole) (a5 : Memref sig .tc .vmem S1024x2048 .f32) (h5 : a5.IsWhole)
  (a6 : Memref sig .tc .vmem S1024x2048 .f32) (h6 : a6.IsWhole)
  (x0 : Vec F S1x1024x1408 .bf16) (x1 : Vec F S1x2048x1408 .bf16) (s : Vec F S1024x2048 .f32)

/-- The first point leaves the product. -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1x1024x1408) hz3, View.ld_unit_zero (S := S1x2048x1408) hz3]

/-- A later point adds the product. -/
theorem middle (hc0 : ¬cond0_0 i) (hc1 : cond0_1 i) (hc2 : ¬cond0_2 i) :
    sout0_B_0 c i a3 h3 a4 h4 a5 h5 a6 h6 hc0 hc1 hc2 x0 x1 s = k0_pay2 s x0 x1 := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero hz]
  simp only [View.readAt_eq_ld, h3.read_unread, h4.read_unread, h6.read_unread, View.ld_unit_zero (S := S1x1024x1408) hz3,
    View.ld_unit_zero (S := S1x2048x1408) hz3, View.ld_unit_zero (S := S1024x2048) hz]

/-- So does the last. -/
theorem last (hc0 : ¬cond0_0 i) (hc1 : cond0_1 i) (hc2 : cond0_2 i) :
    sout0_C_0 c i a3 h3 a4 h4 a5 h5 a6 h6 hc0 hc1 hc2 x0 x1 s = k0_pay2 s x0 x1 := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h6.read_unread, View.ld_unit_zero (S := S1x1024x1408) hz3,
    View.ld_unit_zero (S := S1x2048x1408) hz3, View.ld_unit_zero (S := S1024x2048) hz]

/-- And what it leaves in the output's buffer is what it leaves in the accumulator. -/
theorem output (hc0 : ¬cond0_0 i) (hc1 : cond0_1 i) (hc2 : cond0_2 i) :
    out0_C_2 c i a3 h3 a4 h4 a5 h5 a6 h6 hc0 hc1 hc2 x0 x1 s = k0_pay2 s x0 x1 := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz, View.readCov_unit_zero (S := S1024x2048) _ hz]
  simp only [View.readAt_eq_ld, h3.read_unread, h4.read_unread, h6.read_unread, View.ld_unit_zero (S := S1x1024x1408) hz3,
    View.ld_unit_zero (S := S1x2048x1408) hz3, View.ld_unit_zero (S := S1024x2048) hz]

end Leaves

theorem pay1_apply (x0 : Vec Ideal S1x1024x1408 .bf16) (x1 : Vec Ideal S1x2048x1408 .bf16) (y : S1024x2048.Idx) :
    k0_pay1 x0 x1 y = ∑ l : Fin 1408, x0 (ix3 0 (y 0) l) * x1 (ix3 0 (y 1) l) := by
  pointwise [k0_pay1]
theorem pay2_apply (s : Vec Ideal S1024x2048 .f32) (x0 : Vec Ideal S1x1024x1408 .bf16) (x1 : Vec Ideal S1x2048x1408 .bf16) (y : S1024x2048.Idx) :
    k0_pay2 s x0 x1 y = s y + ∑ l : Fin 1408, x0 (ix3 0 (y 0) l) * x1 (ix3 0 (y 1) l) := by
  pointwise [k0_pay2]

variable (m : (ℓ : Loc nD τ sig) → Buf (Elt Ideal) ℓ) (c : Dev nD)

abbrev blkA (t : Fin cfg0.N) : S1x1024x1408.Idx → EReal := iblk m c 0 t
abbrev blkB (t : Fin cfg0.N) : S1x2048x1408.Idx → EReal := iblk m c 1 t

/-- The addend of a point: the product of its two blocks. -/
def addend (n : ℕ) (y : S1024x2048.Idx) : EReal :=
  if h : n < cfg0.N then ∑ l : Fin 1408, blkA m c ⟨n, h⟩ (ix3 0 (y 0) l) * blkB m c ⟨n, h⟩ (ix3 0 (y 1) l) else 0

/-- What the accumulator holds after a point. -/
def held (n : ℕ) (h : n < cfg0.N) (y : S1024x2048.Idx) : EReal := (outsAt0 m c n h).2 y

theorem acc_first (t : Fin cfg0.N) (h0 : t.val % 8 = 0) : (outsAt0 m c t.val t.isLt).2 = k0_pay1 (iblk m c 0 t) (iblk m c 1 t) := by
  rw [outsAt0_A m c t h0 (by omega) (by omega)]
  dsimp only
  rw [first]
theorem acc_later (t : Fin cfg0.N) (h0 : t.val % 8 ≠ 0) :
    (outsAt0 m c t.val t.isLt).2 = k0_pay2 (outsAt0 m c (t.val - 1) (Nat.lt_of_le_of_lt (Nat.sub_le _ _) t.isLt)).2 (iblk m c 0 t) (iblk m c 1 t) := by
  by_cases h7 : t.val % 8 = 7
  · rw [outsAt0_C m c t h0 (by omega) h7]
    dsimp only
    rw [last]
  · rw [outsAt0_B m c t h0 (by omega) h7]
    dsimp only
    rw [middle]

/-- At the last of eight points the output's buffer is left holding what the accumulator holds. -/
theorem out_held (t : Fin cfg0.N) (h7 : t.val % 8 = 7) : (outsAt0 m c t.val t.isLt).1 = (outsAt0 m c t.val t.isLt).2 := by
  rw [acc_later m c t (by omega), outsAt0_C m c t (by omega) (by omega) h7]
  dsimp only
  rw [output]

theorem held_first (n : ℕ) (h : n < cfg0.N) (y : S1024x2048.Idx) (hn : n % 8 = 0) : held m c n h y = addend m c n y := by
  unfold held addend
  rw [dif_pos h]
  exact (congrFun (acc_first m c ⟨n, h⟩ hn) y).trans (pay1_apply (iblk m c 0 ⟨n, h⟩) (iblk m c 1 ⟨n, h⟩) y)

theorem held_later (n : ℕ) (h : n + 1 < cfg0.N) (y : S1024x2048.Idx) (hn : (n + 1) % 8 ≠ 0) :
    held m c (n + 1) h y = held m c n (by omega) y + addend m c (n + 1) y := by
  unfold held addend
  rw [dif_pos h]
  exact (congrFun (acc_later m c ⟨n + 1, h⟩ hn) y).trans (pay2_apply (outsAt0 m c n (by omega)).2 (iblk m c 0 ⟨n + 1, h⟩) (iblk m c 1 ⟨n + 1, h⟩) y)

/-- So it holds the sum of the addends of the eight points. -/
theorem out_last (t : Fin cfg0.N) (r : ℕ) (ht : t.val = 8 * r + 7) (y : S1024x2048.Idx) :
    ((outsAt0 m c t.val t.isLt).1 y : EReal) = ∑ s : Fin 8, addend m c (8 * r + s.val) y := by
  obtain ⟨n, h⟩ := t
  have ht : n = 8 * r + 7 := ht
  subst ht
  refine (congrFun (out_held m c ⟨8 * r + 7, h⟩ (by dsimp only; omega)) y).trans ?_
  refine (Cert.Proof.Fold.after_run 8 (held m c) (addend m c) (held_first m c) (held_later m c) r y 7 (by omega) h).trans ?_
  exact (Fin.sum_univ_eq_sum_range (fun k => addend m c (8 * r + k) y) 8).symm

theorem index0 : ∀ t : Fin cfg0.N, win0_0.index t 0 = t.val % 8 / 4 ∧ win0_0.index t 1 = t.val / 8 ∧ win0_0.index t 2 = t.val % 4 :=
  (by decide +kernel : ∀ t : Fin grid0.N, _)
theorem index1 : ∀ t : Fin cfg0.N, win0_1.index t 0 = t.val % 8 / 2 ∧ win0_1.index t 1 = 0 ∧ win0_1.index t 2 = t.val % 2 :=
  (by decide +kernel : ∀ t : Fin grid0.N, _)

abbrev argA : S2x8192x5632.Idx → EReal := m ((c.tc : Thread nD τ).loc main_arg0)
abbrev argB : S4x2048x2816.Idx → EReal := m ((c.tc : Thread nD τ).loc main_arg1)

theorem block0 (t : Fin cfg0.N) (b : Fin 1024) (l : Fin 1408) (i : S2x8192x5632.Idx) (e0 : (i 0).val = t.val % 8 / 4)
    (e1 : (i 1).val = t.val / 8 * 1024 + b.val) (e2 : (i 2).val = t.val % 4 * 1408 + l.val) :
    blkA m c t (ix3 0 b l) = argA m c i := by
  obtain ⟨q0, q1, q2⟩ := index0 t
  unfold blkA iblk argA
  rw [View.read_apply]
  show V m c main_arg0 _ = m (c.tc.loc main_arg0) _
  unfold V
  congr 1
  funext a
  apply Fin.ext
  match a with
  | ⟨0, _⟩ => show win0_0.index t 0 * 1 + 1 * 0 = (i 0).val; omega
  | ⟨1, _⟩ => show win0_0.index t 1 * 1024 + 1 * b.val = (i 1).val; omega
  | ⟨2, _⟩ => show win0_0.index t 2 * 1408 + 1 * l.val = (i 2).val; omega

theorem block1 (t : Fin cfg0.N) (b : Fin 2048) (l : Fin 1408) (i : S4x2048x2816.Idx) (e0 : (i 0).val = t.val % 8 / 2)
    (e1 : (i 1).val = b.val) (e2 : (i 2).val = t.val % 2 * 1408 + l.val) :
    blkB m c t (ix3 0 b l) = argB m c i := by
  obtain ⟨q0, q1, q2⟩ := index1 t
  unfold blkB iblk argB
  rw [View.read_apply]
  show V m c main_arg1 _ = m (c.tc.loc main_arg1) _
  unfold V
  congr 1
  funext a
  apply Fin.ext
  match a with
  | ⟨0, _⟩ => show win0_1.index t 0 * 1 + 1 * 0 = (i 0).val; omega
  | ⟨1, _⟩ => show win0_1.index t 1 * 2048 + 1 * b.val = (i 1).val; omega
  | ⟨2, _⟩ => show win0_1.index t 2 * 1408 + 1 * l.val = (i 2).val; omega

end Cert.Proof.UpDx
end
-- ==== Proof.UpDxEq.lean ====
/-
  The gradient of the normed stream through the up projections: the kernel program's result is the reference's.
-/
module

public import proofs.«01_k».proof.Defs
public import proofs.«01_k».proof.Proof.UpDx
public import proofs.«01_k».proof.Proof.Gen.Kernel3.Frame
public import proofs.«01_k».proof.Proof.Gen.Kernel3Ideal
public import proofs.«01_k».proof.Proof.Gen.Reference3Ideal.Run
public import proofs.«01_k».proof.Proof.Gen.Reference3Ideal.Read
public import Idealize.ShloMosaic.Lib.Pipeline.Quiescent

@[expose] public section

set_option maxRecDepth 16384

noncomputable section

namespace Cert.Proof.UpDx

open Cert.Kernel3Ideal Cert.Kernel3Ideal.Gen Cert.Kernel3Ideal.Value
open Idealize.ShloMosaic Idealize.SL Idealize.SL.Sem Idealize.ShloMosaic.TcCoe

variable (m : (ℓ : Loc nD τ sig) → Buf (Elt Ideal) ℓ) (c : Dev nD)

/-- An element of the result is the sum of the addends of the eight points of its block. -/
theorem result_sum (i : S8192x2048.Idx) : (G2 m c i : EReal) = ∑ s : Fin 8, addend m c (8 * ((i 0).val / 1024) + s.val) (loc2Of i) := by
  have h0 : (i 0).val < 8192 := (i 0).isLt
  have h1 : (i 1).val < 2048 := (i 1).isLt
  have hN : cfg0.N = 64 := N_0
  have hp : pt2Of i = 8 * ((i 0).val / 1024) + 7 := by show 8 * (1 * ((i 0).val / 1024 - 0) + 1 * ((i 1).val / 2048 - 0)) + 7 = _; omega
  have hlt : pt2Of i < cfg0.N := by omega
  unfold G2
  rw [dif_pos hlt, ← outsAt0_sweep m c (pt2Of i) hlt]
  exact out_last m c ⟨pt2Of i, hlt⟩ _ hp (loc2Of i)

/-- One term of one addend is one term of the reference's sum. -/
theorem term_eq (i : S8192x2048.Idx) (t : Fin cfg0.N) (s : Fin 8) (ht : t.val = 8 * ((i 0).val / 1024) + s.val) (l : Fin 1408) (k : Fin 11264)
    (hk : k.val = l.val + 1408 * s.val) :
    blkA m c t (ix3 0 (loc2Of i 0) l) * blkB m c t (ix3 0 (loc2Of i 1) l)
      = (Cert.Reference3Ideal.Read.val_main_v5 (F := Ideal) (argA m c) (Cert.Reference3Ideal.Read.lidx_main_v8 i k) : EReal)
        * (Cert.Reference3Ideal.Read.val_main_v2 (F := Ideal) (argB m c) (Cert.Reference3Ideal.Read.ridx_main_v8 i k) : EReal) := by
  have h0 : (i 0).val < 8192 := (i 0).isLt
  have h1 : (i 1).val < 2048 := (i 1).isLt
  have hl := l.isLt
  have hs := s.isLt
  rw [Cert.Reference3Ideal.Read.val_main_v5_apply, Cert.Reference3Ideal.Read.val_main_v4_apply, Cert.Reference3Ideal.Read.val_main_v3_apply,
    Cert.Reference3Ideal.Read.val_main_v2_apply, Cert.Reference3Ideal.Read.val_main_v1_apply, Cert.Reference3Ideal.Read.val_main_v0_apply]
  refine congrArg₂ (fun (a b : EReal) => a * b) (block0 m c t (loc2Of i 0) l _ ?_ ?_ ?_) (block1 m c t (loc2Of i 1) l _ ?_ ?_ ?_)
  · show ((i 0).val * 11264 + k.val) / 5632 % 2 = _; omega
  · show ((i 0).val * 11264 + k.val) / 11264 = t.val / 8 * 1024 + (i 0).val % 1024; omega
  · show ((i 0).val * 11264 + k.val) % 5632 = _; omega
  · show ((i 1).val * 11264 + k.val) / 2816 % 4 = _; omega
  · show ((i 1).val * 11264 + k.val) / 11264 = (i 1).val % 2048; omega
  · show ((i 1).val * 11264 + k.val) % 2816 = _; omega

theorem sum_eq (i : S8192x2048.Idx) : ∑ s : Fin 8, addend m c (8 * ((i 0).val / 1024) + s.val) (loc2Of i)
    = (Cert.Reference3Ideal.Read.val_main_v8 (F := Ideal) (argA m c) (argB m c) i : EReal) := by
  have h0 : (i 0).val < 8192 := (i 0).isLt
  have hN : cfg0.N = 64 := N_0
  refine Eq.trans (Eq.trans ?_ (Cert.Proof.Fold.sum_runs 8 1408 _)) (Cert.Reference3Ideal.Read.val_main_v8_apply (argA m c) (argB m c) i).symm
  refine Finset.sum_congr rfl fun s _ => ?_
  have hs := s.isLt
  have hlt : 8 * ((i 0).val / 1024) + s.val < cfg0.N := by omega
  unfold addend
  rw [dif_pos hlt]
  exact Finset.sum_congr rfl fun l _ => term_eq m c i ⟨_, hlt⟩ s rfl l _ rfl

theorem result_eq : (G2 m c : S8192x2048.Idx → EReal) = Cert.Reference3Ideal.Read.val_main_v8 (F := Ideal) (argA m c) (argB m c) :=
  funext fun i => (result_sum m c i).trans (sum_eq m c i)

end Cert.Proof.UpDx

namespace Cert.Proof
open Idealize.ShloMosaic Idealize.SL Idealize.SL.Sem Idealize.ShloMosaic.TcCoe

theorem frame_kernel3 : Cert.quiescent_Kernel3 := fun m ρ _ => Cert.Kernel3.Gen.frame m ρ
theorem frame_kernel3Ideal : Cert.quiescent_Kernel3Ideal := fun m ρ _ => Cert.Kernel3Ideal.Gen.frame (F := Ideal) m ρ
theorem frame_reference3 : Cert.quiescent_Reference3Ideal := fun m ρ _ =>
  (θ_run _ _ _).mono (fun r h => ⟨fun c => (h c).2, sem_eq_zero_of_no_sems (by decide) r.2⟩) (Cert.Reference3Ideal.Value.run (F := Ideal) m ρ)

theorem algebraic3 : Cert.algebraic_Kernel3Ideal_Reference3Ideal := fun m g m' g' _ hm =>
  ⟨fun c => Cert.Kernel3Ideal.Value.G2 m c, Cert.Kernel3Ideal.Value.run m g,
    (θ_run _ _ _).mono (fun r h c => ⟨(h c).1.trans (by
        rw [(hm c).1, (hm c).2]
        exact (UpDx.result_eq m c).symm), (h c).2⟩) (Cert.Reference3Ideal.Value.run (F := Ideal) m' g')⟩

end Cert.Proof
end
-- ==== Proof.UpDw.lean ====
/-
  The gradient of the up projections: what a point of the kernel leaves in its accumulator, and in the output at the last of eight points.
-/
module

public import proofs.«01_k».proof.Proof.FoldSum
public import proofs.«01_k».proof.Proof.Gen.Kernel4Ideal.Value

@[expose] public section

set_option maxRecDepth 16384

noncomputable section

namespace Cert.Proof.UpDw

open Cert.Kernel4Ideal Cert.Kernel4Ideal.Gen Cert.Kernel4Ideal.Value
open Idealize.ShloMosaic Idealize.SL Idealize.SL.Sem Idealize.ShloMosaic.TcCoe

theorem hz : (![0, 0] : Fin 2 → ℕ) = fun _ => 0 := funext fun a => by fin_cases a <;> rfl
theorem hz3 : (![0, 0, 0] : Fin 3 → ℕ) = fun _ => 0 := funext fun a => by fin_cases a <;> rfl

section Leaves
variable {F : FTy → Type} [FloatOps F]
variable (c : Dev nD) (i : grid0.Coords) (a3 : Memref sig .tc .vmem S1024x2048 .bf16) (h3 : a3.IsWhole)
  (a4 : Memref sig .tc .vmem S1x1024x1408 .bf16) (h4 : a4.IsWhole) (a5 : Memref sig .tc .vmem S1x2048x1408 .bf16) (h5 : a5.IsWhole)
  (a6 : Memref sig .tc .vmem S2048x1408 .f32) (h6 : a6.IsWhole)
  (x0 : Vec F S1024x2048 .bf16) (x1 : Vec F S1x1024x1408 .bf16) (s : Vec F S2048x1408 .f32)

/-- The first point leaves the product. -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1024x2048) hz, View.ld_unit_zero (S := S1x1024x1408) hz3]

/-- A later point adds the product. -/
theorem middle (hc0 : ¬cond0_0 i) (hc1 : cond0_1 i) (hc2 : ¬cond0_2 i) :
    sout0_B_0 c i a3 h3 a4 h4 a5 h5 a6 h6 hc0 hc1 hc2 x0 x1 s = k0_pay2 s x0 x1 := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero hz]
  simp only [View.readAt_eq_ld, h3.read_unread, h4.read_unread, h6.read_unread, View.ld_unit_zero (S := S1024x2048) hz,
    View.ld_unit_zero (S := S1x1024x1408) hz3, View.ld_unit_zero (S := S2048x1408) hz]

/-- So does the last. -/
theorem last (hc0 : ¬cond0_0 i) (hc1 : cond0_1 i) (hc2 : cond0_2 i) :
    sout0_C_0 c i a3 h3 a4 h4 a5 h5 a6 h6 hc0 hc1 hc2 x0 x1 s = k0_pay2 s x0 x1 := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h6.read_unread, View.ld_unit_zero (S := S1024x2048) hz,
    View.ld_unit_zero (S := S1x1024x1408) hz3, View.ld_unit_zero (S := S2048x1408) hz]

/-- And what it leaves in the output's buffer is what it leaves in the accumulator, in the narrower format. -/
theorem output (hc0 : ¬cond0_0 i) (hc1 : cond0_1 i) (hc2 : cond0_2 i) :
    out0_C_2 c i a3 h3 a4 h4 a5 h5 a6 h6 hc0 hc1 hc2 x0 x1 s = k0_pay3 (k0_pay2 s x0 x1) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz3, View.readCov_unit_zero (S := S2048x1408) _ hz]
  simp only [View.readAt_eq_ld, h3.read_unread, h4.read_unread, h6.read_unread, View.ld_unit_zero (S := S1024x2048) hz,
    View.ld_unit_zero (S := S1x1024x1408) hz3, View.ld_unit_zero (S := S2048x1408) hz]

end Leaves

theorem pay1_apply (x0 : Vec Ideal S1024x2048 .bf16) (x1 : Vec Ideal S1x1024x1408 .bf16) (y : S2048x1408.Idx) :
    k0_pay1 x0 x1 y = ∑ l : Fin 1024, x0 (ix2 l (y 0)) * x1 (ix3 0 l (y 1)) := by
  pointwise [k0_pay1]
theorem pay2_apply (s : Vec Ideal S2048x1408 .f32) (x0 : Vec Ideal S1024x2048 .bf16) (x1 : Vec Ideal S1x1024x1408 .bf16) (y : S2048x1408.Idx) :
    k0_pay2 s x0 x1 y = s y + ∑ l : Fin 1024, x0 (ix2 l (y 0)) * x1 (ix3 0 l (y 1)) := by
  pointwise [k0_pay2]
theorem pay3_apply (s : Vec Ideal S2048x1408 .f32) (y : S1x2048x1408.Idx) : k0_pay3 s y = s (ix2 (y 1) (y 2)) := by
  pointwise [k0_pay3]

variable (m : (ℓ : Loc nD τ sig) → Buf (Elt Ideal) ℓ) (c : Dev nD)

abbrev blkA (t : Fin cfg0.N) : S1024x2048.Idx → EReal := iblk m c 0 t
abbrev blkB (t : Fin cfg0.N) : S1x1024x1408.Idx → EReal := iblk m c 1 t

/-- The addend of a point: the product of its two blocks. -/
def addend (n : ℕ) (y : S2048x1408.Idx) : EReal :=
  if h : n < cfg0.N then ∑ l : Fin 1024, blkA m c ⟨n, h⟩ (ix2 l (y 0)) * blkB m c ⟨n, h⟩ (ix3 0 l (y 1)) else 0

/-- What the accumulator holds after a point. -/
def held (n : ℕ) (h : n < cfg0.N) (y : S2048x1408.Idx) : EReal := (outsAt0 m c n h).2 y

theorem acc_first (t : Fin cfg0.N) (h0 : t.val % 8 = 0) : (outsAt0 m c t.val t.isLt).2 = k0_pay1 (iblk m c 0 t) (iblk m c 1 t) := by
  rw [outsAt0_A m c t h0 (by omega) (by omega)]
  dsimp only
  rw [first]
theorem acc_later (t : Fin cfg0.N) (h0 : t.val % 8 ≠ 0) :
    (outsAt0 m c t.val t.isLt).2 = k0_pay2 (outsAt0 m c (t.val - 1) (Nat.lt_of_le_of_lt (Nat.sub_le _ _) t.isLt)).2 (iblk m c 0 t) (iblk m c 1 t) := by
  by_cases h7 : t.val % 8 = 7
  · rw [outsAt0_C m c t h0 (by omega) h7]
    dsimp only
    rw [last]
  · rw [outsAt0_B m c t h0 (by omega) h7]
    dsimp only
    rw [middle]

/-- At the last of eight points the output's buffer is left holding what the accumulator holds. -/
theorem out_held (t : Fin cfg0.N) (h7 : t.val % 8 = 7) : (outsAt0 m c t.val t.isLt).1 = k0_pay3 (outsAt0 m c t.val t.isLt).2 := by
  rw [acc_later m c t (by omega), outsAt0_C m c t (by omega) (by omega) h7]
  dsimp only
  rw [output]

theorem held_first (n : ℕ) (h : n < cfg0.N) (y : S2048x1408.Idx) (hn : n % 8 = 0) : held m c n h y = addend m c n y := by
  unfold held addend
  rw [dif_pos h]
  exact (congrFun (acc_first m c ⟨n, h⟩ hn) y).trans (pay1_apply (iblk m c 0 ⟨n, h⟩) (iblk m c 1 ⟨n, h⟩) y)

theorem held_later (n : ℕ) (h : n + 1 < cfg0.N) (y : S2048x1408.Idx) (hn : (n + 1) % 8 ≠ 0) :
    held m c (n + 1) h y = held m c n (by omega) y + addend m c (n + 1) y := by
  unfold held addend
  rw [dif_pos h]
  exact (congrFun (acc_later m c ⟨n + 1, h⟩ hn) y).trans (pay2_apply (outsAt0 m c n (by omega)).2 (iblk m c 0 ⟨n + 1, h⟩) (iblk m c 1 ⟨n + 1, h⟩) y)

/-- So it holds the sum of the addends of the eight points. -/
theorem out_last (t : Fin cfg0.N) (r : ℕ) (ht : t.val = 8 * r + 7) (y : S1x2048x1408.Idx) :
    ((outsAt0 m c t.val t.isLt).1 y : EReal) = ∑ s : Fin 8, addend m c (8 * r + s.val) (ix2 (y 1) (y 2)) := by
  obtain ⟨n, h⟩ := t
  have ht : n = 8 * r + 7 := ht
  subst ht
  refine (congrFun (out_held m c ⟨8 * r + 7, h⟩ (by dsimp only; omega)) y).trans ((pay3_apply (outsAt0 m c (8 * r + 7) h).2 y).trans ?_)
  refine (Cert.Proof.Fold.after_run 8 (held m c) (addend m c) (held_first m c) (held_later m c) r (ix2 (y 1) (y 2)) 7 (by omega) h).trans ?_
  exact (Fin.sum_univ_eq_sum_range (fun k => addend m c (8 * r + k) (ix2 (y 1) (y 2))) 8).symm

theorem index0 : ∀ t : Fin cfg0.N, win0_0.index t 0 = t.val % 8 ∧ win0_0.index t 1 = 0 :=
  (by decide +kernel : ∀ t : Fin grid0.N, _)
theorem index1 : ∀ t : Fin cfg0.N, win0_1.index t 0 = t.val / 8 / 4 ∧ win0_1.index t 1 = t.val % 8 ∧ win0_1.index t 2 = t.val / 8 % 4 :=
  (by decide +kernel : ∀ t : Fin grid0.N, _)

abbrev argA : S8192x2048.Idx → EReal := m ((c.tc : Thread nD τ).loc main_arg0)
abbrev argB : S2x8192x5632.Idx → EReal := m ((c.tc : Thread nD τ).loc main_arg1)

theorem block0 (t : Fin cfg0.N) (l : Fin 1024) (b : Fin 2048) (i : S8192x2048.Idx) (e0 : (i 0).val = t.val % 8 * 1024 + l.val)
    (e1 : (i 1).val = b.val) : blkA m c t (ix2 l b) = argA m c i := by
  obtain ⟨q0, q1⟩ := index0 t
  unfold blkA iblk argA
  rw [View.read_apply]
  show V m c main_arg0 _ = m (c.tc.loc main_arg0) _
  unfold V
  congr 1
  funext a
  apply Fin.ext
  match a with
  | ⟨0, _⟩ => show win0_0.index t 0 * 1024 + 1 * l.val = (i 0).val; omega
  | ⟨1, _⟩ => show win0_0.index t 1 * 2048 + 1 * b.val = (i 1).val; omega

theorem block1 (t : Fin cfg0.N) (l : Fin 1024) (b : Fin 1408) (i : S2x8192x5632.Idx) (e0 : (i 0).val = t.val / 8 / 4)
    (e1 : (i 1).val = t.val % 8 * 1024 + l.val) (e2 : (i 2).val = t.val / 8 % 4 * 1408 + b.val) : blkB m c t (ix3 0 l b) = argB m c i := by
  obtain ⟨q0, q1, q2⟩ := index1 t
  unfold blkB iblk argB
  rw [View.read_apply]
  show V m c main_arg1 _ = m (c.tc.loc main_arg1) _
  unfold V
  congr 1
  funext a
  apply Fin.ext
  match a with
  | ⟨0, _⟩ => show win0_1.index t 0 * 1 + 1 * 0 = (i 0).val; omega
  | ⟨1, _⟩ => show win0_1.index t 1 * 1024 + 1 * l.val = (i 1).val; omega
  | ⟨2, _⟩ => show win0_1.index t 2 * 1408 + 1 * b.val = (i 2).val; omega

end Cert.Proof.UpDw
end
-- ==== Proof.UpDwEq.lean ====
/-
  The gradient of the up projections: the kernel program's result is the reference's.
-/
module

public import proofs.«01_k».proof.Defs
public import proofs.«01_k».proof.Proof.UpDw
public import proofs.«01_k».proof.Proof.Gen.Kernel4.Frame
public import proofs.«01_k».proof.Proof.Gen.Kernel4Ideal
public import proofs.«01_k».proof.Proof.Gen.Reference4Ideal.Run
public import proofs.«01_k».proof.Proof.Gen.Reference4Ideal.Read
public import Idealize.ShloMosaic.Lib.Pipeline.Quiescent

@[expose] public section

set_option maxRecDepth 16384

noncomputable section

namespace Cert.Proof.UpDw

open Cert.Kernel4Ideal Cert.Kernel4Ideal.Gen Cert.Kernel4Ideal.Value
open Idealize.ShloMosaic Idealize.SL Idealize.SL.Sem Idealize.ShloMosaic.TcCoe

variable (m : (ℓ : Loc nD τ sig) → Buf (Elt Ideal) ℓ) (c : Dev nD)

/-- The number of an element's block. -/
abbrev blockOf (i : S4x2048x2816.Idx) : ℕ := 2 * (i 0).val + (i 2).val / 1408

/-- An element of the result is the sum of the addends of the eight points of its block. -/
theorem result_sum (i : S4x2048x2816.Idx) :
    (G2 m c i : EReal) = ∑ s : Fin 8, addend m c (8 * blockOf i + s.val) (ix2 (loc2Of i 1) (loc2Of i 2)) := by
  have h0 : (i 0).val < 4 := (i 0).isLt
  have h1 : (i 1).val < 2048 := (i 1).isLt
  have h2 : (i 2).val < 2816 := (i 2).isLt
  have hN : cfg0.N = 64 := N_0
  have hp : pt2Of i = 8 * blockOf i + 7 := by
    show 8 * (2 * ((i 0).val / 1 - 0) + 2 * ((i 1).val / 2048 - 0) + 1 * ((i 2).val / 1408 - 0)) + 7 = 8 * (2 * (i 0).val + (i 2).val / 1408) + 7
    omega
  have hlt : pt2Of i < cfg0.N := by rw [hp]; show 8 * (2 * (i 0).val + (i 2).val / 1408) + 7 < _; omega
  unfold G2
  rw [dif_pos hlt, ← outsAt0_sweep m c (pt2Of i) hlt]
  exact out_last m c ⟨pt2Of i, hlt⟩ _ hp (loc2Of i)

/-- The element of the reference's product that is the element of the result. -/
abbrev refIdx (i : S4x2048x2816.Idx) : (⟨2, ![11264, 2048]⟩ : Shape).Idx :=
  Cert.Reference4Ideal.Read.idx_main_v7 (Cert.Reference4Ideal.Read.idx_main_v8 (Cert.Reference4Ideal.Read.idx_main_v9 i))

theorem ref_apply (i : S4x2048x2816.Idx) : (Cert.Reference4Ideal.Read.val_main_v10 (F := Ideal) (argA m c) (argB m c) i : EReal)
    = Cert.Reference4Ideal.Read.val_main_v6 (F := Ideal) (argA m c) (argB m c) (refIdx i) := by
  rw [Cert.Reference4Ideal.Read.val_main_v10_apply, Cert.Reference4Ideal.Read.val_main_v9_apply, Cert.Reference4Ideal.Read.val_main_v8_apply,
    Cert.Reference4Ideal.Read.val_main_v7_apply]
  rfl

theorem col_split (k Y : ℕ) (h : Y < 11264) :
    (k * 11264 + Y) / 5632 % 2 = Y / 5632 ∧ (k * 11264 + Y) / 11264 = k ∧ (k * 11264 + Y) % 5632 = Y % 5632 := by omega

/-- One term of one addend is one term of the reference's sum. -/
theorem term_eq (i : S4x2048x2816.Idx) (t : Fin cfg0.N) (s : Fin 8) (ht : t.val = 8 * (2 * (i 0).val + (i 2).val / 1408) + s.val) (l : Fin 1024) (k : Fin 8192)
    (hk : k.val = l.val + 1024 * s.val) :
    blkA m c t (ix2 l (loc2Of i 1)) * blkB m c t (ix3 0 l (loc2Of i 2))
      = (Cert.Reference4Ideal.Read.val_main_v2 (F := Ideal) (argB m c) (Cert.Reference4Ideal.Read.lidx_main_v6 (refIdx i) k) : EReal)
        * (Cert.Reference4Ideal.Read.val_main_v4 (F := Ideal) (argA m c) (Cert.Reference4Ideal.Read.ridx_main_v6 (refIdx i) k) : EReal) := by
  have h0 : (i 0).val < 4 := (i 0).isLt
  have h1 : (i 1).val < 2048 := (i 1).isLt
  have h2 : (i 2).val < 2816 := (i 2).isLt
  have hl := l.isLt
  have hs := s.isLt
  have hd : (((i 1).val * 4 + (i 0).val) * 2816 + (i 2).val) / 11264 = (i 1).val := by omega
  have hr : (((i 1).val * 4 + (i 0).val) * 2816 + (i 2).val) % 11264 = (i 0).val * 2816 + (i 2).val := by omega
  have ht8 : t.val / 8 = 2 * (i 0).val + (i 2).val / 1408 := by omega
  have hm8 : t.val % 8 = s.val := by omega
  have hY : (i 0).val * 2816 + (i 2).val < 11264 := by omega
  obtain ⟨q0, q1, q2⟩ := col_split k.val _ hY
  have q3 : ((i 0).val * 2816 + (i 2).val) / 5632 = (2 * (i 0).val + (i 2).val / 1408) / 4 := by omega
  have q4 : ((i 0).val * 2816 + (i 2).val) % 5632 = (2 * (i 0).val + (i 2).val / 1408) % 4 * 1408 + (i 2).val % 1408 := by omega
  rw [Cert.Reference4Ideal.Read.val_main_v2_apply, Cert.Reference4Ideal.Read.val_main_v1_apply, Cert.Reference4Ideal.Read.val_main_v0_apply,
    Cert.Reference4Ideal.Read.val_main_v4_apply, mul_comm]
  refine congrArg₂ (fun (a b : EReal) => a * b) (block1 m c t l (loc2Of i 2) _ ?_ ?_ ?_) (block0 m c t l (loc2Of i 1) _ ?_ ?_)
  · show (k.val * 11264 + (((i 1).val * 4 + (i 0).val) * 2816 + (i 2).val) % 11264) / 5632 % 2 = _; rw [hr, q0, q3, ht8]
  · show (k.val * 11264 + (((i 1).val * 4 + (i 0).val) * 2816 + (i 2).val) % 11264) / 11264 = _; rw [hr, q1, hk, hm8]; omega
  · show (k.val * 11264 + (((i 1).val * 4 + (i 0).val) * 2816 + (i 2).val) % 11264) % 5632 = t.val / 8 % 4 * 1408 + (i 2).val % 1408; rw [hr, q2, q4, ht8]
  · show k.val = _; rw [hk, hm8]; omega
  · show (((i 1).val * 4 + (i 0).val) * 2816 + (i 2).val) / 11264 = (i 1).val % 2048; rw [hd]; omega

theorem sum_eq (i : S4x2048x2816.Idx) : ∑ s : Fin 8, addend m c (8 * blockOf i + s.val) (ix2 (loc2Of i 1) (loc2Of i 2))
    = (Cert.Reference4Ideal.Read.val_main_v6 (F := Ideal) (argA m c) (argB m c) (refIdx i) : EReal) := by
  have h0 : (i 0).val < 4 := (i 0).isLt
  have h2 : (i 2).val < 2816 := (i 2).isLt
  have hN : cfg0.N = 64 := N_0
  refine Eq.trans (Eq.trans ?_ (Cert.Proof.Fold.sum_runs 8 1024 _)) (Cert.Reference4Ideal.Read.val_main_v6_apply (argA m c) (argB m c) (refIdx i)).symm
  refine Finset.sum_congr rfl fun s _ => ?_
  have hs := s.isLt
  have hlt : 8 * (2 * (i 0).val + (i 2).val / 1408) + s.val < cfg0.N := by omega
  unfold addend
  rw [dif_pos hlt]
  exact Finset.sum_congr rfl fun l _ => term_eq m c i ⟨_, hlt⟩ s rfl l _ rfl

theorem result_eq : (G2 m c : S4x2048x2816.Idx → EReal) = Cert.Reference4Ideal.Read.val_main_v10 (F := Ideal) (argA m c) (argB m c) :=
  funext fun i => (result_sum m c i).trans ((sum_eq m c i).trans (ref_apply m c i).symm)

end Cert.Proof.UpDw

namespace Cert.Proof
open Idealize.ShloMosaic Idealize.SL Idealize.SL.Sem Idealize.ShloMosaic.TcCoe

theorem frame_kernel4 : Cert.quiescent_Kernel4 := fun m ρ _ => Cert.Kernel4.Gen.frame m ρ
theorem frame_kernel4Ideal : Cert.quiescent_Kernel4Ideal := fun m ρ _ => Cert.Kernel4Ideal.Gen.frame (F := Ideal) m ρ
theorem frame_reference4 : Cert.quiescent_Reference4Ideal := fun m ρ _ =>
  (θ_run _ _ _).mono (fun r h => ⟨fun c => (h c).2, sem_eq_zero_of_no_sems (by decide) r.2⟩) (Cert.Reference4Ideal.Value.run (F := Ideal) m ρ)

theorem algebraic4 : Cert.algebraic_Kernel4Ideal_Reference4Ideal := fun m g m' g' _ hm =>
  ⟨fun c => Cert.Kernel4Ideal.Value.G2 m c, Cert.Kernel4Ideal.Value.run m g,
    (θ_run _ _ _).mono (fun r h c => ⟨(h c).1.trans (by
        rw [(hm c).1, (hm c).2]
        exact (UpDw.result_eq m c).symm), (h c).2⟩) (Cert.Reference4Ideal.Value.run (F := Ideal) m' g')⟩

end Cert.Proof
end
-- ==== Proof.DownDw.lean ====
/-
  The gradient of the down projection: what a point of the kernel leaves in its accumulator, and in the output at the last of eight points.
-/
module

public import proofs.«01_k».proof.Proof.FoldSum
public import proofs.«01_k».proof.Proof.Gen.Kernel5Ideal.Value

@[expose] public section

set_option maxRecDepth 16384

noncomputable section

namespace Cert.Proof.DownDw

open Cert.Kernel5Ideal Cert.Kernel5Ideal.Gen Cert.Kernel5Ideal.Value
open Idealize.ShloMosaic Idealize.SL Idealize.SL.Sem Idealize.ShloMosaic.TcCoe

theorem hz : (![0, 0] : Fin 2 → ℕ) = fun _ => 0 := funext fun a => by fin_cases a <;> rfl
theorem hz3 : (![0, 0, 0] : Fin 3 → ℕ) = fun _ => 0 := funext fun a => by fin_cases a <;> rfl

section Leaves
variable {F : FTy → Type} [FloatOps F]
variable (c : Dev nD) (i : grid0.Coords) (a3 : Memref sig .tc .vmem S1024x1408 .bf16) (h3 : a3.IsWhole)
  (a4 : Memref sig .tc .vmem S1024x2048 .bf16) (h4 : a4.IsWhole) (a5 : Memref sig .tc .vmem S1x1408x2048 .bf16) (h5 : a5.IsWhole)
  (a6 : Memref sig .tc .vmem S1408x2048 .f32) (h6 : a6.IsWhole)
  (x0 : Vec F S1024x1408 .bf16) (x1 : Vec F S1024x2048 .bf16) (s : Vec F S1408x2048 .f32)

/-- The first point leaves the product. -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  simp only [View.readAt_eq_ld, h3.read_unread, h4.read_unread, View.ld_unit_zero (S := S1024x1408) hz, View.ld_unit_zero (S := S1024x2048) hz]

/-- A later point adds the product. -/
theorem middle (hc0 : ¬cond0_0 i) (hc1 : cond0_1 i) (hc2 : ¬cond0_2 i) :
    sout0_B_0 c i a3 h3 a4 h4 a5 h5 a6 h6 hc0 hc1 hc2 x0 x1 s = k0_pay2 s x0 x1 := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero hz]
  simp only [View.readAt_eq_ld, h3.read_unread, h4.read_unread, h6.read_unread, View.ld_unit_zero (S := S1024x1408) hz,
    View.ld_unit_zero (S := S1024x2048) hz, View.ld_unit_zero (S := S1408x2048) hz]

/-- So does the last. -/
theorem last (hc0 : ¬cond0_0 i) (hc1 : cond0_1 i) (hc2 : cond0_2 i) :
    sout0_C_0 c i a3 h3 a4 h4 a5 h5 a6 h6 hc0 hc1 hc2 x0 x1 s = k0_pay2 s x0 x1 := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h6.read_unread, View.ld_unit_zero (S := S1024x1408) hz,
    View.ld_unit_zero (S := S1024x2048) hz, View.ld_unit_zero (S := S1408x2048) hz]

/-- And what it leaves in the output's buffer is what it leaves in the accumulator, in the narrower format. -/
theorem output (hc0 : ¬cond0_0 i) (hc1 : cond0_1 i) (hc2 : cond0_2 i) :
    out0_C_2 c i a3 h3 a4 h4 a5 h5 a6 h6 hc0 hc1 hc2 x0 x1 s = k0_pay3 (k0_pay2 s x0 x1) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz3, View.readCov_unit_zero (S := S1408x2048) _ hz]
  simp only [View.readAt_eq_ld, h3.read_unread, h4.read_unread, h6.read_unread, View.ld_unit_zero (S := S1024x1408) hz,
    View.ld_unit_zero (S := S1024x2048) hz, View.ld_unit_zero (S := S1408x2048) hz]

end Leaves

theorem pay1_apply (x0 : Vec Ideal S1024x1408 .bf16) (x1 : Vec Ideal S1024x2048 .bf16) (y : S1408x2048.Idx) :
    k0_pay1 x0 x1 y = ∑ l : Fin 1024, x0 (ix2 l (y 0)) * x1 (ix2 l (y 1)) := by
  pointwise [k0_pay1]
theorem pay2_apply (s : Vec Ideal S1408x2048 .f32) (x0 : Vec Ideal S1024x1408 .bf16) (x1 : Vec Ideal S1024x2048 .bf16) (y : S1408x2048.Idx) :
    k0_pay2 s x0 x1 y = s y + ∑ l : Fin 1024, x0 (ix2 l (y 0)) * x1 (ix2 l (y 1)) := by
  pointwise [k0_pay2]
theorem pay3_apply (s : Vec Ideal S1408x2048 .f32) (y : S1x1408x2048.Idx) : k0_pay3 s y = s (ix2 (y 1) (y 2)) := by
  pointwise [k0_pay3]

variable (m : (ℓ : Loc nD τ sig) → Buf (Elt Ideal) ℓ) (c : Dev nD)

abbrev blkA (t : Fin cfg0.N) : S1024x1408.Idx → EReal := iblk m c 0 t
abbrev blkB (t : Fin cfg0.N) : S1024x2048.Idx → EReal := iblk m c 1 t

/-- The addend of a point: the product of its two blocks. -/
def addend (n : ℕ) (y : S1408x2048.Idx) : EReal :=
  if h : n < cfg0.N then ∑ l : Fin 1024, blkA m c ⟨n, h⟩ (ix2 l (y 0)) * blkB m c ⟨n, h⟩ (ix2 l (y 1)) else 0

/-- What the accumulator holds after a point. -/
def held (n : ℕ) (h : n < cfg0.N) (y : S1408x2048.Idx) : EReal := (outsAt0 m c n h).2 y

theorem acc_first (t : Fin cfg0.N) (h0 : t.val % 8 = 0) : (outsAt0 m c t.val t.isLt).2 = k0_pay1 (iblk m c 0 t) (iblk m c 1 t) := by
  rw [outsAt0_A m c t h0 (by omega) (by omega)]
  dsimp only
  rw [first]
theorem acc_later (t : Fin cfg0.N) (h0 : t.val % 8 ≠ 0) :
    (outsAt0 m c t.val t.isLt).2 = k0_pay2 (outsAt0 m c (t.val - 1) (Nat.lt_of_le_of_lt (Nat.sub_le _ _) t.isLt)).2 (iblk m c 0 t) (iblk m c 1 t) := by
  by_cases h7 : t.val % 8 = 7
  · rw [outsAt0_C m c t h0 (by omega) h7]
    dsimp only
    rw [last]
  · rw [outsAt0_B m c t h0 (by omega) h7]
    dsimp only
    rw [middle]

/-- At the last of eight points the output's buffer is left holding what the accumulator holds. -/
theorem out_held (t : Fin cfg0.N) (h7 : t.val % 8 = 7) : (outsAt0 m c t.val t.isLt).1 = k0_pay3 (outsAt0 m c t.val t.isLt).2 := by
  rw [acc_later m c t (by omega), outsAt0_C m c t (by omega) (by omega) h7]
  dsimp only
  rw [output]

theorem held_first (n : ℕ) (h : n < cfg0.N) (y : S1408x2048.Idx) (hn : n % 8 = 0) : held m c n h y = addend m c n y := by
  unfold held addend
  rw [dif_pos h]
  exact (congrFun (acc_first m c ⟨n, h⟩ hn) y).trans (pay1_apply (iblk m c 0 ⟨n, h⟩) (iblk m c 1 ⟨n, h⟩) y)

theorem held_later (n : ℕ) (h : n + 1 < cfg0.N) (y : S1408x2048.Idx) (hn : (n + 1) % 8 ≠ 0) :
    held m c (n + 1) h y = held m c n (by omega) y + addend m c (n + 1) y := by
  unfold held addend
  rw [dif_pos h]
  exact (congrFun (acc_later m c ⟨n + 1, h⟩ hn) y).trans (pay2_apply (outsAt0 m c n (by omega)).2 (iblk m c 0 ⟨n + 1, h⟩) (iblk m c 1 ⟨n + 1, h⟩) y)

/-- So it holds the sum of the addends of the eight points. -/
theorem out_last (t : Fin cfg0.N) (r : ℕ) (ht : t.val = 8 * r + 7) (y : S1x1408x2048.Idx) :
    ((outsAt0 m c t.val t.isLt).1 y : EReal) = ∑ s : Fin 8, addend m c (8 * r + s.val) (ix2 (y 1) (y 2)) := by
  obtain ⟨n, h⟩ := t
  have ht : n = 8 * r + 7 := ht
  subst ht
  refine (congrFun (out_held m c ⟨8 * r + 7, h⟩ (by dsimp only; omega)) y).trans ((pay3_apply (outsAt0 m c (8 * r + 7) h).2 y).trans ?_)
  refine (Cert.Proof.Fold.after_run 8 (held m c) (addend m c) (held_first m c) (held_later m c) r (ix2 (y 1) (y 2)) 7 (by omega) h).trans ?_
  exact (Fin.sum_univ_eq_sum_range (fun k => addend m c (8 * r + k) (ix2 (y 1) (y 2))) 8).symm

theorem index0 : ∀ t : Fin cfg0.N, win0_0.index t 0 = t.val % 8 ∧ win0_0.index t 1 = t.val / 8 :=
  (by decide +kernel : ∀ t : Fin grid0.N, _)
theorem index1 : ∀ t : Fin cfg0.N, win0_1.index t 0 = t.val % 8 ∧ win0_1.index t 1 = 0 :=
  (by decide +kernel : ∀ t : Fin grid0.N, _)

abbrev argA : S8192x5632.Idx → EReal := m ((c.tc : Thread nD τ).loc main_arg0)
abbrev argB : S8192x2048.Idx → EReal := m ((c.tc : Thread nD τ).loc main_arg1)

theorem block0 (t : Fin cfg0.N) (l : Fin 1024) (b : Fin 1408) (i : S8192x5632.Idx) (e0 : (i 0).val = t.val % 8 * 1024 + l.val)
    (e1 : (i 1).val = t.val / 8 * 1408 + b.val) : blkA m c t (ix2 l b) = argA m c i := by
  obtain ⟨q0, q1⟩ := index0 t
  unfold blkA iblk argA
  rw [View.read_apply]
  show V m c main_arg0 _ = m (c.tc.loc main_arg0) _
  unfold V
  congr 1
  funext a
  apply Fin.ext
  match a with
  | ⟨0, _⟩ => show win0_0.index t 0 * 1024 + 1 * l.val = (i 0).val; omega
  | ⟨1, _⟩ => show win0_0.index t 1 * 1408 + 1 * b.val = (i 1).val; omega

theorem block1 (t : Fin cfg0.N) (l : Fin 1024) (b : Fin 2048) (i : S8192x2048.Idx) (e0 : (i 0).val = t.val % 8 * 1024 + l.val)
    (e1 : (i 1).val = b.val) : blkB m c t (ix2 l b) = argB m c i := by
  obtain ⟨q0, q1⟩ := index1 t
  unfold blkB iblk argB
  rw [View.read_apply]
  show V m c main_arg1 _ = m (c.tc.loc main_arg1) _
  unfold V
  congr 1
  funext a
  apply Fin.ext
  match a with
  | ⟨0, _⟩ => show win0_1.index t 0 * 1024 + 1 * l.val = (i 0).val; omega
  | ⟨1, _⟩ => show win0_1.index t 1 * 2048 + 1 * b.val = (i 1).val; omega

end Cert.Proof.DownDw
end
-- ==== Proof.DownDwEq.lean ====
/-
  The gradient of the down projection: the kernel program's result is the reference's.
-/
module

public import proofs.«01_k».proof.Defs
public import proofs.«01_k».proof.Proof.DownDw
public import proofs.«01_k».proof.Proof.Gen.Kernel5.Frame
public import proofs.«01_k».proof.Proof.Gen.Kernel5Ideal
public import proofs.«01_k».proof.Proof.Gen.Reference5Ideal.Run
public import proofs.«01_k».proof.Proof.Gen.Reference5Ideal.Read
public import Idealize.ShloMosaic.Lib.Pipeline.Quiescent

@[expose] public section

set_option maxRecDepth 16384

noncomputable section

namespace Cert.Proof.DownDw

open Cert.Kernel5Ideal Cert.Kernel5Ideal.Gen Cert.Kernel5Ideal.Value
open Idealize.ShloMosaic Idealize.SL Idealize.SL.Sem Idealize.ShloMosaic.TcCoe

variable (m : (ℓ : Loc nD τ sig) → Buf (Elt Ideal) ℓ) (c : Dev nD)

/-- An element of the result is the sum of the addends of the eight points of its block. -/
theorem result_sum (i : S4x1408x2048.Idx) :
    (G2 m c i : EReal) = ∑ s : Fin 8, addend m c (8 * (i 0).val + s.val) (ix2 (loc2Of i 1) (loc2Of i 2)) := by
  have h0 : (i 0).val < 4 := (i 0).isLt
  have h1 : (i 1).val < 1408 := (i 1).isLt
  have h2 : (i 2).val < 2048 := (i 2).isLt
  have hN : cfg0.N = 32 := N_0
  have hp : pt2Of i = 8 * (i 0).val + 7 := by
    show 8 * (1 * ((i 0).val / 1 - 0) + 1 * ((i 1).val / 1408 - 0) + 1 * ((i 2).val / 2048 - 0)) + 7 = _
    omega
  have hlt : pt2Of i < cfg0.N := by omega
  unfold G2
  rw [dif_pos hlt, ← outsAt0_sweep m c (pt2Of i) hlt]
  exact out_last m c ⟨pt2Of i, hlt⟩ _ hp (loc2Of i)

/-- The element of the reference's product that is the element of the result. -/
abbrev refIdx (i : S4x1408x2048.Idx) : (⟨2, ![2048, 5632]⟩ : Shape).Idx :=
  Cert.Reference5Ideal.Read.idx_main_v5 (Cert.Reference5Ideal.Read.idx_main_v6 i)

theorem ref_apply (i : S4x1408x2048.Idx) : (Cert.Reference5Ideal.Read.val_main_v7 (F := Ideal) (argA m c) (argB m c) i : EReal)
    = Cert.Reference5Ideal.Read.val_main_v4 (F := Ideal) (argA m c) (argB m c) (refIdx i) := by
  rw [Cert.Reference5Ideal.Read.val_main_v7_apply, Cert.Reference5Ideal.Read.val_main_v6_apply, Cert.Reference5Ideal.Read.val_main_v5_apply]
  rfl

/-- One term of one addend is one term of the reference's sum. -/
theorem term_eq (i : S4x1408x2048.Idx) (t : Fin cfg0.N) (s : Fin 8) (ht : t.val = 8 * (i 0).val + s.val) (l : Fin 1024) (k : Fin 8192)
    (hk : k.val = l.val + 1024 * s.val) :
    blkA m c t (ix2 l (loc2Of i 1)) * blkB m c t (ix2 l (loc2Of i 2))
      = (Cert.Reference5Ideal.Read.val_main_v3 (F := Ideal) (argB m c) (Cert.Reference5Ideal.Read.lidx_main_v4 (refIdx i) k) : EReal)
        * (Cert.Reference5Ideal.Read.val_main_v1 (F := Ideal) (argA m c) (Cert.Reference5Ideal.Read.ridx_main_v4 (refIdx i) k) : EReal) := by
  have h0 : (i 0).val < 4 := (i 0).isLt
  have h1 : (i 1).val < 1408 := (i 1).isLt
  have h2 : (i 2).val < 2048 := (i 2).isLt
  have hl := l.isLt
  have hs := s.isLt
  have hm8 : t.val % 8 = s.val := by omega
  have ht8 : t.val / 8 = (i 0).val := by omega
  rw [Cert.Reference5Ideal.Read.val_main_v3_apply, Cert.Reference5Ideal.Read.val_main_v1_apply, mul_comm]
  refine congrArg₂ (fun (a b : EReal) => a * b) (block1 m c t l (loc2Of i 2) _ ?_ ?_) (block0 m c t l (loc2Of i 1) _ ?_ ?_)
  · show k.val = _; rw [hk, hm8]; omega
  · show (((i 0).val * 1408 + (i 1).val) * 2048 + (i 2).val) % 2048 = (i 2).val % 2048; omega
  · show k.val = _; rw [hk, hm8]; omega
  · show (((i 0).val * 1408 + (i 1).val) * 2048 + (i 2).val) / 2048 = t.val / 8 * 1408 + (i 1).val % 1408; rw [ht8]; omega

theorem sum_eq (i : S4x1408x2048.Idx) : ∑ s : Fin 8, addend m c (8 * (i 0).val + s.val) (ix2 (loc2Of i 1) (loc2Of i 2))
    = (Cert.Reference5Ideal.Read.val_main_v4 (F := Ideal) (argA m c) (argB m c) (refIdx i) : EReal) := by
  have h0 : (i 0).val < 4 := (i 0).isLt
  have hN : cfg0.N = 32 := N_0
  refine Eq.trans (Eq.trans ?_ (Cert.Proof.Fold.sum_runs 8 1024 _)) (Cert.Reference5Ideal.Read.val_main_v4_apply (argA m c) (argB m c) (refIdx i)).symm
  refine Finset.sum_congr rfl fun s _ => ?_
  have hs := s.isLt
  have hlt : 8 * (i 0).val + s.val < cfg0.N := by omega
  unfold addend
  rw [dif_pos hlt]
  exact Finset.sum_congr rfl fun l _ => term_eq m c i ⟨_, hlt⟩ s rfl l _ rfl

theorem result_eq : (G2 m c : S4x1408x2048.Idx → EReal) = Cert.Reference5Ideal.Read.val_main_v7 (F := Ideal) (argA m c) (argB m c) :=
  funext fun i => (result_sum m c i).trans ((sum_eq m c i).trans (ref_apply m c i).symm)

end Cert.Proof.DownDw

namespace Cert.Proof
open Idealize.ShloMosaic Idealize.SL Idealize.SL.Sem Idealize.ShloMosaic.TcCoe

theorem frame_kernel5 : Cert.quiescent_Kernel5 := fun m ρ _ => Cert.Kernel5.Gen.frame m ρ
theorem frame_kernel5Ideal : Cert.quiescent_Kernel5Ideal := fun m ρ _ => Cert.Kernel5Ideal.Gen.frame (F := Ideal) m ρ
theorem frame_reference5 : Cert.quiescent_Reference5Ideal := fun m ρ _ =>
  (θ_run _ _ _).mono (fun r h => ⟨fun c => (h c).2, sem_eq_zero_of_no_sems (by decide) r.2⟩) (Cert.Reference5Ideal.Value.run (F := Ideal) m ρ)

theorem algebraic5 : Cert.algebraic_Kernel5Ideal_Reference5Ideal := fun m g m' g' _ hm =>
  ⟨fun c => Cert.Kernel5Ideal.Value.G2 m c, Cert.Kernel5Ideal.Value.run m g,
    (θ_run _ _ _).mono (fun r h c => ⟨(h c).1.trans (by
        rw [(hm c).1, (hm c).2]
        exact (DownDw.result_eq m c).symm), (h c).2⟩) (Cert.Reference5Ideal.Value.run (F := Ideal) m' g')⟩

end Cert.Proof
end
-- ==== Proof.UpForward.lean ====
/-
  The up projections and the gated product, forward: the kernel program's three results are the reference's.
-/
module

public import proofs.«01_k».proof.Defs
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.IdealHost
public import Idealize.ShloMosaic.Lib.Pipeline.Quiescent

@[expose] public section

set_option maxRecDepth 16384

noncomputable section

namespace Cert.Proof.UpForward

open Cert.Kernel6Ideal Cert.Kernel6Ideal.Gen Cert.Kernel6Ideal.Value
open Idealize.ShloMosaic Idealize.SL Idealize.SL.Sem Idealize.ShloMosaic.TcCoe

theorem hz : (![0, 0] : Fin 2 → ℕ) = fun _ => 0 := funext fun a => by fin_cases a <;> rfl
theorem hz3 : (![0, 0, 0] : Fin 3 → ℕ) = fun _ => 0 := funext fun a => by fin_cases a <;> rfl

section Leaves
variable (x0 : Vec Ideal S512x2048 .bf16) (x1 x2 : Vec Ideal S1x2048x1408 .bf16)

/-- A product at a point, at an index of its block. -/
def prod (b : Fin 512) (j : Fin 1408) : EReal := ∑ l : Fin 2048, (x0 (ix2 b l) : EReal) * (x1 (ix3 0 l j) : EReal)

theorem out_gate (b : Fin 512) (j : Fin 1408) : (out0_3 x0 x1 x2 (ix2 b j) : EReal) = prod x0 x1 b j := by
  unfold out0_3 prod
  rw [View.canon_unit_zero hz]
  simp only [View.ld_unit_zero (S := S512x2048) hz, View.ld_unit_zero (S := S1x2048x1408) hz3]
  pointwise [k0_pay3, k0_pay1]

theorem out_up (b : Fin 512) (j : Fin 1408) : (out0_4 x0 x1 x2 (ix2 b j) : EReal) = prod x0 x2 b j := by
  unfold out0_4 prod
  rw [View.canon_unit_zero hz]
  simp only [View.ld_unit_zero (S := S512x2048) hz, View.ld_unit_zero (S := S1x2048x1408) hz3]
  pointwise [k0_pay4, k0_pay2]

theorem out_act (b : Fin 512) (j : Fin 1408) : (out0_5 x0 x1 x2 (ix2 b j) : EReal)
    = (prod x0 x1 b j * Ideal.logistic (prod x0 x1 b j)) * prod x0 x2 b j := by
  unfold out0_5 prod
  rw [View.canon_unit_zero hz]
  simp only [View.ld_unit_zero (S := S512x2048) hz, View.ld_unit_zero (S := S1x2048x1408) hz3]
  pointwise [k0_pay5, k0_pay2, k0_pay1]

end Leaves

variable (m : (ℓ : Loc nD τ sig) → Buf (Elt Ideal) ℓ) (c : Dev nD)

abbrev argH : S8192x2048.Idx → EReal := m ((c.tc : Thread nD τ).loc main_arg0)
abbrev argW : S4x2048x2816.Idx → EReal := m ((c.tc : Thread nD τ).loc main_arg1)

theorem index0 : ∀ t : Fin cfg0.N, win0_0.index t 0 = t.val % 16 ∧ win0_0.index t 1 = 0 :=
  (by decide +kernel : ∀ t : Fin grid0.N, _)
theorem index1 : ∀ t : Fin cfg0.N, win0_1.index t 0 = t.val / 16 / 2 ∧ win0_1.index t 1 = 0 ∧ win0_1.index t 2 = t.val / 16 % 2 :=
  (by decide +kernel : ∀ t : Fin grid0.N, _)
theorem index2 : ∀ t : Fin cfg0.N, win0_2.index t 0 = (t.val / 16 + 4) / 2 ∧ win0_2.index t 1 = 0 ∧ win0_2.index t 2 = (t.val / 16 + 4) % 2 :=
  (by decide +kernel : ∀ t : Fin grid0.N, _)
theorem index3 : ∀ t : Fin cfg0.N, win0_3.index t 0 = t.val % 16 ∧ win0_3.index t 1 = t.val / 16 :=
  (by decide +kernel : ∀ t : Fin grid0.N, _)
theorem index4 : ∀ t : Fin cfg0.N, win0_4.index t 0 = t.val % 16 ∧ win0_4.index t 1 = t.val / 16 :=
  (by decide +kernel : ∀ t : Fin grid0.N, _)
theorem index5 : ∀ t : Fin cfg0.N, win0_5.index t 0 = t.val % 16 ∧ win0_5.index t 1 = t.val / 16 :=
  (by decide +kernel : ∀ t : Fin grid0.N, _)

theorem block0 (t : Fin cfg0.N) (b : Fin 512) (l : Fin 2048) (i : S8192x2048.Idx) (e0 : (i 0).val = t.val % 16 * 512 + b.val)
    (e1 : (i 1).val = l.val) : (iblk m c 0 t : S512x2048.Idx → EReal) (ix2 b l) = argH m c i := by
  obtain ⟨q0, q1⟩ := index0 t
  unfold iblk argH
  rw [View.read_apply]
  show V m c main_arg0 _ = m (c.tc.loc main_arg0) _
  unfold V
  congr 1
  funext a
  apply Fin.ext
  match a with
  | ⟨0, _⟩ => show win0_0.index t 0 * 512 + 1 * b.val = (i 0).val; omega
  | ⟨1, _⟩ => show win0_0.index t 1 * 2048 + 1 * l.val = (i 1).val; omega

theorem block1 (t : Fin cfg0.N) (l : Fin 2048) (j : Fin 1408) (i : S4x2048x2816.Idx) (e0 : (i 0).val = t.val / 16 / 2)
    (e1 : (i 1).val = l.val) (e2 : (i 2).val = t.val / 16 % 2 * 1408 + j.val) : (iblk m c 1 t : S1x2048x1408.Idx → EReal) (ix3 0 l j) = argW m c i := by
  obtain ⟨q0, q1, q2⟩ := index1 t
  unfold iblk argW
  rw [View.read_apply]
  show V m c main_arg1 _ = m (c.tc.loc main_arg1) _
  unfold V
  congr 1
  funext a
  apply Fin.ext
  match a with
  | ⟨0, _⟩ => show win0_1.index t 0 * 1 + 1 * 0 = (i 0).val; omega
  | ⟨1, _⟩ => show win0_1.index t 1 * 2048 + 1 * l.val = (i 1).val; omega
  | ⟨2, _⟩ => show win0_1.index t 2 * 1408 + 1 * j.val = (i 2).val; omega

theorem block2 (t : Fin cfg0.N) (l : Fin 2048) (j : Fin 1408) (i : S4x2048x2816.Idx) (e0 : (i 0).val = (t.val / 16 + 4) / 2)
    (e1 : (i 1).val = l.val) (e2 : (i 2).val = (t.val / 16 + 4) % 2 * 1408 + j.val) :
    (iblk m c 2 t : S1x2048x1408.Idx → EReal) (ix3 0 l j) = argW m c i := by
  obtain ⟨q0, q1, q2⟩ := index2 t
  unfold iblk argW
  rw [View.read_apply]
  show V m c main_arg1 _ = m (c.tc.loc main_arg1) _
  unfold V
  congr 1
  funext a
  apply Fin.ext
  match a with
  | ⟨0, _⟩ => show win0_2.index t 0 * 1 + 1 * 0 = (i 0).val; omega
  | ⟨1, _⟩ => show win0_2.index t 1 * 2048 + 1 * l.val = (i 1).val; omega
  | ⟨2, _⟩ => show win0_2.index t 2 * 1408 + 1 * j.val = (i 2).val; omega

/-- The slot and the column of a column of the weights. -/
theorem col_split (k Y : ℕ) (h : Y < 11264) :
    (k * 11264 + Y) / 2816 % 4 = Y / 2816 ∧ (k * 11264 + Y) / 11264 = k ∧ (k * 11264 + Y) % 2816 = Y % 2816 := by omega

section At
variable (t : Fin cfg0.N) (b : Fin 512) (j : Fin 1408) (i : S8192x5632.Idx) (e0 : (i 0).val = t.val % 16 * 512 + b.val)
  (e1 : (i 1).val = t.val / 16 * 1408 + j.val)
include e0 e1

/-- The results at an index of a point's block are what the point wrote there. -/
theorem gate_at : (dats m 0 c).arrAt 3 cfg0.N i = out0_3 (iblk m c 0 t) (iblk m c 1 t) (iblk m c 2 t) (ix2 b j) := by
  obtain ⟨q0, q1⟩ := index3 t
  have h := congrFun (blocks3 m c t (flush0_3 t)) (ix2 b j)
  rw [flushed3, View.read_apply] at h
  refine Eq.trans ?_ h
  congr 1
  funext a
  apply Fin.ext
  match a with
  | ⟨0, _⟩ => show (i 0).val = win0_3.index t 0 * 512 + 1 * b.val; omega
  | ⟨1, _⟩ => show (i 1).val = win0_3.index t 1 * 1408 + 1 * j.val; omega

theorem up_at : (dats m 0 c).arrAt 4 cfg0.N i = out0_4 (iblk m c 0 t) (iblk m c 1 t) (iblk m c 2 t) (ix2 b j) := by
  obtain ⟨q0, q1⟩ := index4 t
  have h := congrFun (blocks4 m c t (flush0_4 t)) (ix2 b j)
  rw [flushed4, View.read_apply] at h
  refine Eq.trans ?_ h
  congr 1
  funext a
  apply Fin.ext
  match a with
  | ⟨0, _⟩ => show (i 0).val = win0_4.index t 0 * 512 + 1 * b.val; omega
  | ⟨1, _⟩ => show (i 1).val = win0_4.index t 1 * 1408 + 1 * j.val; omega

theorem act_at : (dats m 0 c).arrAt 5 cfg0.N i = out0_5 (iblk m c 0 t) (iblk m c 1 t) (iblk m c 2 t) (ix2 b j) := by
  obtain ⟨q0, q1⟩ := index5 t
  have h := congrFun (blocks5 m c t (flush0_5 t)) (ix2 b j)
  rw [flushed5, View.read_apply] at h
  refine Eq.trans ?_ h
  congr 1
  funext a
  apply Fin.ext
  match a with
  | ⟨0, _⟩ => show (i 0).val = win0_5.index t 0 * 512 + 1 * b.val; omega
  | ⟨1, _⟩ => show (i 1).val = win0_5.index t 1 * 1408 + 1 * j.val; omega

/-- A point's products are the reference's. -/
theorem gate_prod : prod (iblk m c 0 t) (iblk m c 1 t) b j = Cert.Reference6Ideal.Read.val_main_v5 (F := Ideal) (argH m c) (argW m c) i := by
  have hj := j.isLt
  have hi : (i 1).val < 5632 := (i 1).isLt
  rw [Cert.Reference6Ideal.Read.val_main_v5_apply]
  refine Eq.trans ?_ (Cert.Reference6Ideal.Read.val_main_v4_apply (argH m c) (argW m c) _).symm
  refine Finset.sum_congr rfl fun l _ => ?_
  obtain ⟨p0, p1, p2⟩ := col_split l.val (i 1).val (by omega)
  rw [Cert.Reference6Ideal.Read.val_main_v3_apply, Cert.Reference6Ideal.Read.val_main_v2_apply, Cert.Reference6Ideal.Read.val_main_v1_apply]
  refine congrArg₂ (fun (a b : EReal) => a * b) (block0 m c t b l _ ?_ rfl) (block1 m c t l j _ ?_ ?_ ?_)
  · exact e0
  · show (l.val * 11264 + (i 1).val) / 2816 % 4 = _; rw [p0, e1]; omega
  · exact p1
  · show (l.val * 11264 + (i 1).val) % 2816 = _; rw [p2, e1]; omega

theorem up_prod : prod (iblk m c 0 t) (iblk m c 2 t) b j = Cert.Reference6Ideal.Read.val_main_v6 (F := Ideal) (argH m c) (argW m c) i := by
  have hj := j.isLt
  have hi : (i 1).val < 5632 := (i 1).isLt
  rw [Cert.Reference6Ideal.Read.val_main_v6_apply]
  refine Eq.trans ?_ (Cert.Reference6Ideal.Read.val_main_v4_apply (argH m c) (argW m c) _).symm
  refine Finset.sum_congr rfl fun l _ => ?_
  obtain ⟨p0, p1, p2⟩ := col_split l.val (5632 + (i 1).val) (by omega)
  rw [Cert.Reference6Ideal.Read.val_main_v3_apply, Cert.Reference6Ideal.Read.val_main_v2_apply, Cert.Reference6Ideal.Read.val_main_v1_apply]
  refine congrArg₂ (fun (a b : EReal) => a * b) (block0 m c t b l _ ?_ rfl) (block2 m c t l j _ ?_ ?_ ?_)
  · exact e0
  · show (l.val * 11264 + (5632 + (i 1).val)) / 2816 % 4 = _; rw [p0, e1]; omega
  · exact p1
  · show (l.val * 11264 + (5632 + (i 1).val)) % 2816 = _; rw [p2, e1]; omega

end At

theorem ref_act (x0 : S8192x2048.Idx → EReal) (x1 : S4x2048x2816.Idx → EReal) (i : S8192x5632.Idx) :
    (Cert.Reference6Ideal.Read.val_main_v11 (F := Ideal) x0 x1 i : EReal)
      = ((Cert.Reference6Ideal.Read.val_main_v5 (F := Ideal) x0 x1 i : EReal)
          * Ideal.logistic (Cert.Reference6Ideal.Read.val_main_v5 (F := Ideal) x0 x1 i)) * Cert.Reference6Ideal.Read.val_main_v6 (F := Ideal) x0 x1 i := by
  rw [Ideal.logistic, ← Ideal.ofBits_one_f32]
  rfl

/-- Every index lies in the block of one point. -/
theorem point (i : S8192x5632.Idx) : ∃ (t : Fin cfg0.N) (b : Fin 512) (j : Fin 1408),
    (i 0).val = t.val % 16 * 512 + b.val ∧ (i 1).val = t.val / 16 * 1408 + j.val := by
  have b0 : (i 0).val < 8192 := (i 0).isLt
  have b1 : (i 1).val < 5632 := (i 1).isLt
  have hN : cfg0.N = 64 := N_0
  exact ⟨⟨(i 1).val / 1408 * 16 + (i 0).val / 512, by omega⟩, ⟨(i 0).val % 512, by omega⟩, ⟨(i 1).val % 1408, by omega⟩,
    by dsimp only; omega, by dsimp only; omega⟩

theorem gate_eq : ((dats m 0 c).arrAt 3 cfg0.N : S8192x5632.Idx → EReal)
    = Cert.Reference6Ideal.Read.val_main_v7 (F := Ideal) (argH m c) (argW m c) := funext fun i => by
  obtain ⟨t, b, j, e0, e1⟩ := point i
  exact (gate_at m c t b j i e0 e1).trans ((out_gate _ _ _ b j).trans (gate_prod m c t b j i e0 e1))

theorem up_eq : ((dats m 0 c).arrAt 4 cfg0.N : S8192x5632.Idx → EReal)
    = Cert.Reference6Ideal.Read.val_main_v8 (F := Ideal) (argH m c) (argW m c) := funext fun i => by
  obtain ⟨t, b, j, e0, e1⟩ := point i
  exact (up_at m c t b j i e0 e1).trans ((out_up _ _ _ b j).trans (up_prod m c t b j i e0 e1))

theorem act_eq : ((dats m 0 c).arrAt 5 cfg0.N : S8192x5632.Idx → EReal)
    = Cert.Reference6Ideal.Read.val_main_v11 (F := Ideal) (argH m c) (argW m c) := funext fun i => by
  obtain ⟨t, b, j, e0, e1⟩ := point i
  refine (act_at m c t b j i e0 e1).trans ((out_act _ _ _ b j).trans ?_)
  rw [gate_prod m c t b j i e0 e1, up_prod m c t b j i e0 e1]
  exact (ref_act _ _ i).symm

end Cert.Proof.UpForward

namespace Cert.Proof
open Idealize.ShloMosaic Idealize.SL Idealize.SL.Sem Idealize.ShloMosaic.TcCoe

theorem frame_kernel6 : Cert.quiescent_Kernel6 := fun m ρ _ => Cert.Kernel6.Gen.frame m ρ
theorem frame_kernel6Ideal : Cert.quiescent_Kernel6Ideal := fun m ρ _ => Cert.Kernel6Ideal.Gen.frame (F := Ideal) m ρ
theorem frame_reference6 : Cert.quiescent_Reference6Ideal := fun m ρ _ =>
  (θ_run _ _ _).mono (fun r h => ⟨fun c => (h c).2.2.2, sem_eq_zero_of_no_sems (by decide) r.2⟩) (Cert.Reference6Ideal.Value.run (F := Ideal) m ρ)

theorem algebraic6 : Cert.algebraic_Kernel6Ideal_Reference6Ideal := fun m g m' g' _ hm =>
  ⟨fun c => (Cert.Kernel6Ideal.Gen.dats m 0 c).arrAt 3 Cert.Kernel6Ideal.cfg0.N,
    fun c => (Cert.Kernel6Ideal.Gen.dats m 0 c).arrAt 4 Cert.Kernel6Ideal.cfg0.N,
    fun c => (Cert.Kernel6Ideal.Gen.dats m 0 c).arrAt 5 Cert.Kernel6Ideal.cfg0.N, Cert.Kernel6Ideal.Value.run_blocks m g,
    (θ_run _ _ _).mono (fun r h c => by
      obtain ⟨h0, h1, h2, hr⟩ := h c
      obtain ⟨e0, e1⟩ := hm c
      rw [e0, e1] at h0 h1 h2
      exact ⟨h0.trans (UpForward.gate_eq m c).symm, h1.trans (UpForward.up_eq m c).symm, h2.trans (UpForward.act_eq m c).symm, hr⟩)
      (Cert.Reference6Ideal.Value.run (F := Ideal) m' g')⟩

end Cert.Proof
end
-- ==== Proof.OutDx.lean ====
/-
  The gradient of the attention through the output projection: the kernel program's result is the reference's.
-/
module

public import proofs.«01_k».proof.Defs
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Pipeline.Quiescent

@[expose] public section

set_option maxRecDepth 16384

noncomputable section

namespace Cert.Proof.OutDx

open Cert.Kernel7Ideal Cert.Kernel7Ideal.Gen Cert.Kernel7Ideal.Value
open Idealize.ShloMosaic Idealize.SL Idealize.SL.Sem Idealize.ShloMosaic.TcCoe

theorem hz : (![0, 0] : Fin 2 → ℕ) = fun _ => 0 := funext fun a => by fin_cases a <;> rfl
theorem hz3 : (![0, 0, 0] : Fin 3 → ℕ) = fun _ => 0 := funext fun a => by fin_cases a <;> rfl

/-- What a point writes is the product of its two blocks. -/
theorem out_apply (x0 : Vec Ideal S1024x2048 .bf16) (x1 : Vec Ideal S1x512x2048 .bf16) (b : Fin 1024) (j : Fin 512) :
    (out0_2 x0 x1 (ix2 b j) : EReal) = ∑ l : Fin 2048, (x0 (ix2 b l) : EReal) * (x1 (ix3 0 j l) : EReal) := by
  unfold out0_2
  rw [View.canon_unit_zero hz]
  simp only [View.ld_unit_zero (S := S1024x2048) hz, View.ld_unit_zero (S := S1x512x2048) hz3]
  pointwise [k0_pay1]

variable (m : (ℓ : Loc nD τ sig) → Buf (Elt Ideal) ℓ) (c : Dev nD)

abbrev argY : S8192x2048.Idx → EReal := m ((c.tc : Thread nD τ).loc main_arg0)
abbrev argW : S4x512x2048.Idx → EReal := m ((c.tc : Thread nD τ).loc main_arg1)

abbrev blkY (t : Fin cfg0.N) : S1024x2048.Idx → EReal := iblk m c 0 t
abbrev blkW (t : Fin cfg0.N) : S1x512x2048.Idx → EReal := iblk m c 1 t

theorem index0 : ∀ t : Fin cfg0.N, win0_0.index t 0 = t.val / 4 ∧ win0_0.index t 1 = 0 :=
  (by decide +kernel : ∀ t : Fin grid0.N, _)
theorem index1 : ∀ t : Fin cfg0.N, win0_1.index t 0 = t.val % 4 ∧ win0_1.index t 1 = 0 ∧ win0_1.index t 2 = 0 :=
  (by decide +kernel : ∀ t : Fin grid0.N, _)
theorem index2 : ∀ t : Fin cfg0.N, win0_2.index t 0 = t.val / 4 ∧ win0_2.index t 1 = t.val % 4 :=
  (by decide +kernel : ∀ t : Fin grid0.N, _)

theorem block0 (t : Fin cfg0.N) (b : Fin 1024) (l : Fin 2048) (i : S8192x2048.Idx) (e0 : (i 0).val = t.val / 4 * 1024 + b.val)
    (e1 : (i 1).val = l.val) : blkY m c t (ix2 b l) = argY m c i := by
  obtain ⟨q0, q1⟩ := index0 t
  unfold blkY iblk argY
  rw [View.read_apply]
  show V m c main_arg0 _ = m (c.tc.loc main_arg0) _
  unfold V
  congr 1
  funext a
  apply Fin.ext
  match a with
  | ⟨0, _⟩ => show win0_0.index t 0 * 1024 + 1 * b.val = (i 0).val; omega
  | ⟨1, _⟩ => show win0_0.index t 1 * 2048 + 1 * l.val = (i 1).val; omega

theorem block1 (t : Fin cfg0.N) (j : Fin 512) (l : Fin 2048) (i : S4x512x2048.Idx) (e0 : (i 0).val = t.val % 4)
    (e1 : (i 1).val = j.val) (e2 : (i 2).val = l.val) : blkW m c t (ix3 0 j l) = argW m c i := by
  obtain ⟨q0, q1, q2⟩ := index1 t
  unfold blkW iblk argW
  rw [View.read_apply]
  show V m c main_arg1 _ = m (c.tc.loc main_arg1) _
  unfold V
  congr 1
  funext a
  apply Fin.ext
  match a with
  | ⟨0, _⟩ => show win0_1.index t 0 * 1 + 1 * 0 = (i 0).val; omega
  | ⟨1, _⟩ => show win0_1.index t 1 * 512 + 1 * j.val = (i 1).val; omega
  | ⟨2, _⟩ => show win0_1.index t 2 * 2048 + 1 * l.val = (i 2).val; omega

section At
variable (t : Fin cfg0.N) (b : Fin 1024) (j : Fin 512) (i : S8192x2048.Idx) (e0 : (i 0).val = t.val / 4 * 1024 + b.val)
  (e1 : (i 1).val = t.val % 4 * 512 + j.val)
include e0 e1

/-- The result at an index of a point's block is what the point wrote there. -/
theorem result_at : (dats m 0 c).arrAt 2 cfg0.N i = out0_2 (iblk m c 0 t) (iblk m c 1 t) (ix2 b j) := by
  obtain ⟨q0, q1⟩ := index2 t
  have h := congrFun (blocks2 m c t (flush0_2 t)) (ix2 b j)
  rw [flushed2, View.read_apply] at h
  refine Eq.trans ?_ h
  congr 1
  funext a
  apply Fin.ext
  match a with
  | ⟨0, _⟩ => show (i 0).val = win0_2.index t 0 * 1024 + 1 * b.val; omega
  | ⟨1, _⟩ => show (i 1).val = win0_2.index t 1 * 512 + 1 * j.val; omega

/-- A point's product is the reference's. -/
theorem prod_eq : (∑ l : Fin 2048, blkY m c t (ix2 b l) * blkW m c t (ix3 0 j l))
    = (Cert.Reference7Ideal.Read.val_main_v6 (F := Ideal) (argY m c) (argW m c) i : EReal) := by
  have hj := j.isLt
  refine Eq.trans ?_ (Cert.Reference7Ideal.Read.val_main_v5_apply (argY m c) (argW m c) i).symm
  refine Finset.sum_congr rfl fun l _ => ?_
  have hl := l.isLt
  rw [Cert.Reference7Ideal.Read.val_main_v4_apply, Cert.Reference7Ideal.Read.val_main_v1_apply]
  refine congrArg₂ (fun (a b : EReal) => a * b) (block0 m c t b l _ ?_ rfl) (block1 m c t j l _ ?_ ?_ ?_)
  · exact e0
  · show ((i 1).val * 2048 + l.val) / 1048576 = t.val % 4; omega
  · show ((i 1).val * 2048 + l.val) / 2048 % 512 = j.val; omega
  · show ((i 1).val * 2048 + l.val) % 2048 = l.val; omega

end At

theorem result_eq : ((dats m 0 c).arrAt 2 cfg0.N : S8192x2048.Idx → EReal)
    = Cert.Reference7Ideal.Read.val_main_v6 (F := Ideal) (argY m c) (argW m c) := funext fun i => by
  have b0 : (i 0).val < 8192 := (i 0).isLt
  have b1 : (i 1).val < 2048 := (i 1).isLt
  have hN : cfg0.N = 32 := N_0
  have ht : (i 0).val / 1024 * 4 + (i 1).val / 512 < cfg0.N := by omega
  have f0 : (i 0).val = ((i 0).val / 1024 * 4 + (i 1).val / 512) / 4 * 1024 + (i 0).val % 1024 := by omega
  have f1 : (i 1).val = ((i 0).val / 1024 * 4 + (i 1).val / 512) % 4 * 512 + (i 1).val % 512 := by omega
  exact (result_at m c ⟨_, ht⟩ ⟨(i 0).val % 1024, by omega⟩ ⟨(i 1).val % 512, by omega⟩ i f0 f1).trans ((out_apply _ _ _ _).trans
    (prod_eq m c ⟨_, ht⟩ ⟨(i 0).val % 1024, by omega⟩ ⟨(i 1).val % 512, by omega⟩ i f0 f1))

end Cert.Proof.OutDx

namespace Cert.Proof
open Idealize.ShloMosaic Idealize.SL Idealize.SL.Sem Idealize.ShloMosaic.TcCoe

theorem frame_kernel7 : Cert.quiescent_Kernel7 := fun m ρ _ => Cert.Kernel7.Gen.frame m ρ
theorem frame_kernel7Ideal : Cert.quiescent_Kernel7Ideal := fun m ρ _ => Cert.Kernel7Ideal.Gen.frame (F := Ideal) m ρ
theorem frame_reference7 : Cert.quiescent_Reference7Ideal := fun m ρ _ =>
  (θ_run _ _ _).mono (fun r h => ⟨fun c => (h c).2, sem_eq_zero_of_no_sems (by decide) r.2⟩) (Cert.Reference7Ideal.Value.run (F := Ideal) m ρ)

theorem algebraic7 : Cert.algebraic_Kernel7Ideal_Reference7Ideal := fun m g m' g' _ hm =>
  ⟨fun c => (Cert.Kernel7Ideal.Gen.dats m 0 c).arrAt 2 Cert.Kernel7Ideal.cfg0.N, Cert.Kernel7Ideal.Value.run_blocks m g,
    (θ_run _ _ _).mono (fun r h c => ⟨(h c).1.trans (by
        rw [(hm c).1, (hm c).2]
        exact (OutDx.result_eq m c).symm), (h c).2⟩) (Cert.Reference7Ideal.Value.run (F := Ideal) m' g')⟩

end Cert.Proof
end
-- ==== Proof.OutDw.lean ====
/-
  The gradient of the output projection: the kernel program's result is the reference's.
-/
module

public import proofs.«01_k».proof.Defs
public import proofs.«01_k».proof.Proof.FoldSum
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.Quiescent

@[expose] public section

set_option maxRecDepth 16384

noncomputable section

namespace Cert.Proof.OutDw

open Cert.Kernel8Ideal Cert.Kernel8Ideal.Gen Cert.Kernel8Ideal.Value
open Idealize.ShloMosaic Idealize.SL Idealize.SL.Sem Idealize.ShloMosaic.TcCoe

section Leaves
variable {F : FTy → Type} [FloatOps F]
variable (c : Dev nD) (i : grid0.Coords) (a3 : Memref sig .tc .vmem S2048x512 .bf16) (h3 : a3.IsWhole)
  (a4 : Memref sig .tc .vmem S2048x2048 .bf16) (h4 : a4.IsWhole) (a5 : Memref sig .tc .vmem S1x512x2048 .bf16) (h5 : a5.IsWhole)
  (a6 : Memref sig .tc .vmem S512x2048 .f32) (h6 : a6.IsWhole)
  (x0 : Vec F S2048x512 .bf16) (x1 : Vec F S2048x2048 .bf16) (s : Vec F S512x2048 .f32)

/-- The first point leaves the product, -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero Fold.zero2]
  simp only [View.readAt_eq_ld, h3.read_unread, h4.read_unread, View.ld_unit_zero (S := S2048x512) Fold.zero2, View.ld_unit_zero (S := S2048x2048) Fold.zero2]

/-- a later point adds it, -/
theorem middle (hc0 : ¬cond0_0 i) (hc1 : cond0_1 i) (hc2 : ¬cond0_2 i) :
    sout0_B_0 c i a3 h3 a4 h4 a5 h5 a6 h6 hc0 hc1 hc2 x0 x1 s = k0_pay2 s x0 x1 := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero Fold.zero2]
  simp only [View.readAt_eq_ld, h3.read_unread, h4.read_unread, h6.read_unread, View.ld_unit_zero (S := S2048x512) Fold.zero2,
    View.ld_unit_zero (S := S2048x2048) Fold.zero2, View.ld_unit_zero (S := S512x2048) Fold.zero2]

/-- so does the last, -/
theorem last (hc0 : ¬cond0_0 i) (hc1 : cond0_1 i) (hc2 : cond0_2 i) :
    sout0_C_0 c i a3 h3 a4 h4 a5 h5 a6 h6 hc0 hc1 hc2 x0 x1 s = k0_pay2 s x0 x1 := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero Fold.zero2]
  simp only [View.readAt_eq_ld, h3.read_unread, h4.read_unread, h6.read_unread, View.ld_unit_zero (S := S2048x512) Fold.zero2,
    View.ld_unit_zero (S := S2048x2048) Fold.zero2, View.ld_unit_zero (S := S512x2048) Fold.zero2]

/-- and it writes the accumulator to the output's buffer. -/
theorem output (hc0 : ¬cond0_0 i) (hc1 : cond0_1 i) (hc2 : cond0_2 i) :
    out0_C_2 c i a3 h3 a4 h4 a5 h5 a6 h6 hc0 hc1 hc2 x0 x1 s = k0_pay3 (k0_pay2 s x0 x1) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero Fold.zero3, View.readCov_unit_zero (S := S512x2048) _ Fold.zero2]
  simp only [View.readAt_eq_ld, h3.read_unread, h4.read_unread, h6.read_unread, View.ld_unit_zero (S := S2048x512) Fold.zero2,
    View.ld_unit_zero (S := S2048x2048) Fold.zero2, View.ld_unit_zero (S := S512x2048) Fold.zero2]

end Leaves

theorem pay1_apply (x0 : Vec Ideal S2048x512 .bf16) (x1 : Vec Ideal S2048x2048 .bf16) (y : S512x2048.Idx) :
    k0_pay1 x0 x1 y = ∑ l : Fin 2048, x0 (ix2 l (y 0)) * x1 (ix2 l (y 1)) := by
  pointwise [k0_pay1]
theorem pay2_apply (s : Vec Ideal S512x2048 .f32) (x0 : Vec Ideal S2048x512 .bf16) (x1 : Vec Ideal S2048x2048 .bf16) (y : S512x2048.Idx) :
    k0_pay2 s x0 x1 y = s y + ∑ l : Fin 2048, x0 (ix2 l (y 0)) * x1 (ix2 l (y 1)) := by
  pointwise [k0_pay2]
theorem pay3_apply (s : Vec Ideal S512x2048 .f32) (y : S1x512x2048.Idx) : k0_pay3 s y = s (ix2 (y 1) (y 2)) := by
  pointwise [k0_pay3]

variable (m : (ℓ : Loc nD τ sig) → Buf (Elt Ideal) ℓ) (c : Dev nD)

abbrev blkA (t : Fin cfg0.N) : S2048x512.Idx → EReal := iblk m c 0 t
abbrev blkB (t : Fin cfg0.N) : S2048x2048.Idx → EReal := iblk m c 1 t

/-- The addend of a point: the product of its two blocks. -/
def addend (t : Fin cfg0.N) (y : S512x2048.Idx) : EReal := ∑ l : Fin 2048, blkA m c t (ix2 l (y 0)) * blkB m c t (ix2 l (y 1))

/-- What the accumulator holds after a point. -/
def held (n : ℕ) (h : n < cfg0.N) (y : S512x2048.Idx) : EReal := (outsAt0 m c n h).2 y

theorem held_first (t : Fin cfg0.N) (h0 : t.val % 4 = 0) (y : S512x2048.Idx) : held m c t.val t.isLt y = addend m c t y := by
  unfold held
  rw [outsAt0_A m c t h0 (by omega) (by omega)]
  dsimp only
  rw [first]
  exact pay1_apply _ _ y
theorem acc_later (t : Fin cfg0.N) (h0 : t.val % 4 ≠ 0) :
    (outsAt0 m c t.val t.isLt).2 = k0_pay2 (outsAt0 m c (t.val - 1) (Nat.lt_of_le_of_lt (Nat.sub_le _ _) t.isLt)).2 (iblk m c 0 t) (iblk m c 1 t) := by
  by_cases h3 : t.val % 4 = 3
  · rw [outsAt0_C m c t h0 (by omega) h3]
    dsimp only
    rw [last]
  · rw [outsAt0_B m c t h0 (by omega) h3]
    dsimp only
    rw [middle]
theorem held_later (t : Fin cfg0.N) (h0 : t.val % 4 ≠ 0) (y : S512x2048.Idx) :
    held m c t.val t.isLt y = held m c (t.val - 1) (Nat.lt_of_le_of_lt (Nat.sub_le _ _) t.isLt) y + addend m c t y :=
  (congrFun (acc_later m c t h0) y).trans (pay2_apply _ _ _ y)
theorem out_held (t : Fin cfg0.N) (h3 : t.val % 4 = 3) : (outsAt0 m c t.val t.isLt).1 = k0_pay3 (outsAt0 m c t.val t.isLt).2 := by
  rw [acc_later m c t (by omega), outsAt0_C m c t (by omega) (by omega) h3]
  dsimp only
  rw [output]

theorem index0 : ∀ t : Fin cfg0.N, win0_0.index t 0 = t.val % 4 ∧ win0_0.index t 1 = t.val / 4 :=
  (by decide +kernel : ∀ t : Fin grid0.N, _)
theorem index1 : ∀ t : Fin cfg0.N, win0_1.index t 0 = t.val % 4 ∧ win0_1.index t 1 = 0 :=
  (by decide +kernel : ∀ t : Fin grid0.N, _)

abbrev argA : S8192x2048.Idx → EReal := m ((c.tc : Thread nD τ).loc main_arg0)
abbrev argB : S8192x2048.Idx → EReal := m ((c.tc : Thread nD τ).loc main_arg1)

theorem block0 (t : Fin cfg0.N) (l : Fin 2048) (b : Fin 512) (i : S8192x2048.Idx) (e0 : (i 0).val = t.val % 4 * 2048 + l.val)
    (e1 : (i 1).val = t.val / 4 * 512 + b.val) : blkA m c t (ix2 l b) = argA m c i := by
  obtain ⟨q0, q1⟩ := index0 t
  unfold blkA iblk argA
  rw [View.read_apply]
  show V m c main_arg0 _ = m (c.tc.loc main_arg0) _
  unfold V
  congr 1
  funext a
  apply Fin.ext
  match a with
  | ⟨0, _⟩ => show win0_0.index t 0 * 2048 + 1 * l.val = (i 0).val; omega
  | ⟨1, _⟩ => show win0_0.index t 1 * 512 + 1 * b.val = (i 1).val; omega

theorem block1 (t : Fin cfg0.N) (l : Fin 2048) (b : Fin 2048) (i : S8192x2048.Idx) (e0 : (i 0).val = t.val % 4 * 2048 + l.val)
    (e1 : (i 1).val = b.val) : blkB m c t (ix2 l b) = argB m c i := by
  obtain ⟨q0, q1⟩ := index1 t
  unfold blkB iblk argB
  rw [View.read_apply]
  show V m c main_arg1 _ = m (c.tc.loc main_arg1) _
  unfold V
  congr 1
  funext a
  apply Fin.ext
  match a with
  | ⟨0, _⟩ => show win0_1.index t 0 * 2048 + 1 * l.val = (i 0).val; omega
  | ⟨1, _⟩ => show win0_1.index t 1 * 2048 + 1 * b.val = (i 1).val; omega

/-- An element of the result is what the accumulator holds after the last point of its block. -/
theorem result_held (i : S4x512x2048.Idx) (hlt : 4 * (i 0).val + 3 < cfg0.N) :
    (G2 m c i : EReal) = held m c (4 * (i 0).val + 3) hlt (ix2 (loc2Of i 1) (loc2Of i 2)) := by
  have h1 : (i 1).val < 512 := (i 1).isLt
  have h2 : (i 2).val < 2048 := (i 2).isLt
  have hp : pt2Of i = 4 * (i 0).val + 3 := by
    show 4 * (1 * ((i 0).val / 1 - 0) + 1 * ((i 1).val / 512 - 0) + 1 * ((i 2).val / 2048 - 0)) + 3 = _
    omega
  have hl : pt2Of i < cfg0.N := by omega
  unfold G2
  rw [dif_pos hl, ← outsAt0_sweep m c (pt2Of i) hl]
  simp only [hp]
  exact (congrFun (out_held m c ⟨4 * (i 0).val + 3, hlt⟩ (by dsimp only; omega)) (loc2Of i)).trans (pay3_apply _ (loc2Of i))

/-- The element of the reference's product that is the element of the result. -/
abbrev refIdx (i : S4x512x2048.Idx) : (⟨2, ![2048, 2048]⟩ : Shape).Idx :=
  Cert.Reference8Ideal.Read.idx_main_v5 (Cert.Reference8Ideal.Read.idx_main_v6 i)

theorem ref_apply (i : S4x512x2048.Idx) : (Cert.Reference8Ideal.Read.val_main_v7 (F := Ideal) (argA m c) (argB m c) i : EReal)
    = Cert.Reference8Ideal.Read.val_main_v4 (F := Ideal) (argA m c) (argB m c) (refIdx i) := by
  rw [Cert.Reference8Ideal.Read.val_main_v7_apply, Cert.Reference8Ideal.Read.val_main_v6_apply, Cert.Reference8Ideal.Read.val_main_v5_apply]
  rfl

/-- One term of one addend is one term of the reference's sum. -/
theorem term_eq (i : S4x512x2048.Idx) (t : Fin cfg0.N) (s : Fin 4) (ht : t.val = 4 * (i 0).val + s.val) (l : Fin 2048) (k : Fin 8192)
    (hk : k.val = l.val + 2048 * s.val) :
    blkA m c t (ix2 l (loc2Of i 1)) * blkB m c t (ix2 l (loc2Of i 2))
      = (Cert.Reference8Ideal.Read.val_main_v3 (F := Ideal) (argB m c) (Cert.Reference8Ideal.Read.lidx_main_v4 (refIdx i) k) : EReal)
        * (Cert.Reference8Ideal.Read.val_main_v1 (F := Ideal) (argA m c) (Cert.Reference8Ideal.Read.ridx_main_v4 (refIdx i) k) : EReal) := by
  have h1 : (i 1).val < 512 := (i 1).isLt
  have h2 : (i 2).val < 2048 := (i 2).isLt
  have hs := s.isLt
  have hm4 : t.val % 4 = s.val := by omega
  have ht4 : t.val / 4 = (i 0).val := by omega
  rw [Cert.Reference8Ideal.Read.val_main_v3_apply, Cert.Reference8Ideal.Read.val_main_v1_apply, mul_comm]
  refine congrArg₂ (fun (a b : EReal) => a * b) (block1 m c t l (loc2Of i 2) _ ?_ ?_) (block0 m c t l (loc2Of i 1) _ ?_ ?_)
  · show k.val = _; rw [hk, hm4]; omega
  · show (((i 0).val * 512 + (i 1).val) * 2048 + (i 2).val) % 2048 = (i 2).val % 2048; omega
  · show k.val = _; rw [hk, hm4]; omega
  · show (((i 0).val * 512 + (i 1).val) * 2048 + (i 2).val) / 2048 = t.val / 4 * 512 + (i 1).val % 512; rw [ht4]; omega

/-- What the accumulator holds after the last point of a block is the reference's sum. -/
theorem held_last (i : S4x512x2048.Idx) (hlt : 4 * (i 0).val + 3 < cfg0.N) :
    held m c (4 * (i 0).val + 3) hlt (ix2 (loc2Of i 1) (loc2Of i 2))
      = (Cert.Reference8Ideal.Read.val_main_v4 (F := Ideal) (argA m c) (argB m c) (refIdx i) : EReal) := by
  refine Eq.trans (Fold.sum_of_blocks 4 2048 (held_first m c) (held_later m c) ((i 0).val) 3 rfl hlt (ix2 (loc2Of i 1) (loc2Of i 2)) _ fun s => ?_)
    (Cert.Reference8Ideal.Read.val_main_v4_apply (argA m c) (argB m c) (refIdx i)).symm
  unfold addend
  exact Finset.sum_congr rfl fun l _ => term_eq m c i ⟨4 * (i 0).val + s.val, by have := s.isLt; omega⟩ s rfl l _ rfl

theorem result_eq : (G2 m c : S4x512x2048.Idx → EReal) = Cert.Reference8Ideal.Read.val_main_v7 (F := Ideal) (argA m c) (argB m c) := funext fun i => by
  have h0 : (i 0).val < 4 := (i 0).isLt
  have hN : cfg0.N = 16 := N_0
  have hlt : 4 * (i 0).val + 3 < cfg0.N := by omega
  exact (result_held m c i hlt).trans ((held_last m c i hlt).trans (ref_apply m c i).symm)

end Cert.Proof.OutDw

namespace Cert.Proof
open Idealize.ShloMosaic Idealize.SL Idealize.SL.Sem Idealize.ShloMosaic.TcCoe

theorem frame_kernel8 : Cert.quiescent_Kernel8 := fun m ρ _ => Cert.Kernel8.Gen.frame m ρ
theorem frame_kernel8Ideal : Cert.quiescent_Kernel8Ideal := fun m ρ _ => Cert.Kernel8Ideal.Gen.frame (F := Ideal) m ρ
theorem frame_reference8 : Cert.quiescent_Reference8Ideal := fun m ρ _ =>
  (θ_run _ _ _).mono (fun r h => ⟨fun c => (h c).2, sem_eq_zero_of_no_sems (by decide) r.2⟩) (Cert.Reference8Ideal.Value.run (F := Ideal) m ρ)

theorem algebraic8 : Cert.algebraic_Kernel8Ideal_Reference8Ideal := fun m g m' g' _ hm =>
  ⟨fun c => Cert.Kernel8Ideal.Value.G2 m c, Cert.Kernel8Ideal.Value.run m g,
    (θ_run _ _ _).mono (fun r h c => ⟨(h c).1.trans (by
        rw [(hm c).1, (hm c).2]
        exact (OutDw.result_eq m c).symm), (h c).2⟩) (Cert.Reference8Ideal.Value.run (F := Ideal) m' g')⟩

end Cert.Proof
end
-- ==== Proof.DownForward.lean ====
/-
  The down projection, forward: the kernel program's result is the reference's.
-/
module

public import proofs.«01_k».proof.Defs
public import proofs.«01_k».proof.Proof.FoldSum
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.Quiescent

@[expose] public section

set_option maxRecDepth 16384

noncomputable section

namespace Cert.Proof.DownForward

open Cert.Kernel9Ideal Cert.Kernel9Ideal.Gen Cert.Kernel9Ideal.Value
open Idealize.ShloMosaic Idealize.SL Idealize.SL.Sem Idealize.ShloMosaic.TcCoe

section Leaves
variable {F : FTy → Type} [FloatOps F]
variable (c : Dev nD) (i : grid0.Coords) (a3 : Memref sig .tc .vmem S1024x1408 .bf16) (h3 : a3.IsWhole)
  (a4 : Memref sig .tc .vmem S1x1408x2048 .bf16) (h4 : a4.IsWhole) (a5 : Memref sig .tc .vmem S1024x2048 .f32) (h5 : a5.IsWhole)
  (a6 : Memref sig .tc .vmem S1024x2048 .f32) (h6 : a6.IsWhole)
  (x0 : Vec F S1024x1408 .bf16) (x1 : Vec F S1x1408x2048 .bf16) (s : Vec F S1024x2048 .f32)

/-- The first point leaves the product, -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero Fold.zero2]
  simp only [View.readAt_eq_ld, h3.read_unread, h4.read_unread, View.ld_unit_zero (S := S1024x1408) Fold.zero2, View.ld_unit_zero (S := S1x1408x2048) Fold.zero3]

/-- a later point adds it, -/
theorem middle (hc0 : ¬cond0_0 i) (hc1 : cond0_1 i) (hc2 : ¬cond0_2 i) :
    sout0_B_0 c i a3 h3 a4 h4 a5 h5 a6 h6 hc0 hc1 hc2 x0 x1 s = k0_pay2 s x0 x1 := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero Fold.zero2]
  simp only [View.readAt_eq_ld, h3.read_unread, h4.read_unread, h6.read_unread, View.ld_unit_zero (S := S1024x1408) Fold.zero2,
    View.ld_unit_zero (S := S1x1408x2048) Fold.zero3, View.ld_unit_zero (S := S1024x2048) Fold.zero2]

/-- so does the last, -/
theorem last (hc0 : ¬cond0_0 i) (hc1 : cond0_1 i) (hc2 : cond0_2 i) :
    sout0_C_0 c i a3 h3 a4 h4 a5 h5 a6 h6 hc0 hc1 hc2 x0 x1 s = k0_pay2 s x0 x1 := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero Fold.zero2]
  simp only [View.readAt_eq_ld, h3.read_unread, h4.read_unread, h6.read_unread, View.ld_unit_zero (S := S1024x1408) Fold.zero2,
    View.ld_unit_zero (S := S1x1408x2048) Fold.zero3, View.ld_unit_zero (S := S1024x2048) Fold.zero2]

/-- and it writes the accumulator to the output's buffer. -/
theorem output (hc0 : ¬cond0_0 i) (hc1 : cond0_1 i) (hc2 : cond0_2 i) :
    out0_C_2 c i a3 h3 a4 h4 a5 h5 a6 h6 hc0 hc1 hc2 x0 x1 s = k0_pay2 s x0 x1 := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero Fold.zero2, View.readCov_unit_zero (S := S1024x2048) _ Fold.zero2]
  simp only [View.readAt_eq_ld, h3.read_unread, h4.read_unread, h6.read_unread, View.ld_unit_zero (S := S1024x1408) Fold.zero2,
    View.ld_unit_zero (S := S1x1408x2048) Fold.zero3, View.ld_unit_zero (S := S1024x2048) Fold.zero2]

end Leaves

theorem pay1_apply (x0 : Vec Ideal S1024x1408 .bf16) (x1 : Vec Ideal S1x1408x2048 .bf16) (y : S1024x2048.Idx) :
    k0_pay1 x0 x1 y = ∑ l : Fin 1408, x0 (ix2 (y 0) l) * x1 (ix3 0 l (y 1)) := by
  pointwise [k0_pay1]
theorem pay2_apply (s : Vec Ideal S1024x2048 .f32) (x0 : Vec Ideal S1024x1408 .bf16) (x1 : Vec Ideal S1x1408x2048 .bf16) (y : S1024x2048.Idx) :
    k0_pay2 s x0 x1 y = s y + ∑ l : Fin 1408, x0 (ix2 (y 0) l) * x1 (ix3 0 l (y 1)) := by
  pointwise [k0_pay2]

variable (m : (ℓ : Loc nD τ sig) → Buf (Elt Ideal) ℓ) (c : Dev nD)

abbrev blkA (t : Fin cfg0.N) : S1024x1408.Idx → EReal := iblk m c 0 t
abbrev blkB (t : Fin cfg0.N) : S1x1408x2048.Idx → EReal := iblk m c 1 t

/-- The addend of a point: the product of its two blocks. -/
def addend (t : Fin cfg0.N) (y : S1024x2048.Idx) : EReal := ∑ l : Fin 1408, blkA m c t (ix2 (y 0) l) * blkB m c t (ix3 0 l (y 1))

/-- What the accumulator holds after a point. -/
def held (n : ℕ) (h : n < cfg0.N) (y : S1024x2048.Idx) : EReal := (outsAt0 m c n h).2 y

theorem held_first (t : Fin cfg0.N) (h0 : t.val % 4 = 0) (y : S1024x2048.Idx) : held m c t.val t.isLt y = addend m c t y := by
  unfold held
  rw [outsAt0_A m c t h0 (by omega) (by omega)]
  dsimp only
  rw [first]
  exact pay1_apply _ _ y
theorem acc_later (t : Fin cfg0.N) (h0 : t.val % 4 ≠ 0) :
    (outsAt0 m c t.val t.isLt).2 = k0_pay2 (outsAt0 m c (t.val - 1) (Nat.lt_of_le_of_lt (Nat.sub_le _ _) t.isLt)).2 (iblk m c 0 t) (iblk m c 1 t) := by
  by_cases h3 : t.val % 4 = 3
  · rw [outsAt0_C m c t h0 (by omega) h3]
    dsimp only
    rw [last]
  · rw [outsAt0_B m c t h0 (by omega) h3]
    dsimp only
    rw [middle]
theorem held_later (t : Fin cfg0.N) (h0 : t.val % 4 ≠ 0) (y : S1024x2048.Idx) :
    held m c t.val t.isLt y = held m c (t.val - 1) (Nat.lt_of_le_of_lt (Nat.sub_le _ _) t.isLt) y + addend m c t y :=
  (congrFun (acc_later m c t h0) y).trans (pay2_apply _ _ _ y)
theorem out_held (t : Fin cfg0.N) (h3 : t.val % 4 = 3) : (outsAt0 m c t.val t.isLt).1 = (outsAt0 m c t.val t.isLt).2 := by
  rw [acc_later m c t (by omega), outsAt0_C m c t (by omega) (by omega) h3]
  dsimp only
  rw [output]

theorem index0 : ∀ t : Fin cfg0.N, win0_0.index t 0 = t.val / 4 ∧ win0_0.index t 1 = t.val % 4 :=
  (by decide +kernel : ∀ t : Fin grid0.N, _)
theorem index1 : ∀ t : Fin cfg0.N, win0_1.index t 0 = t.val % 4 ∧ win0_1.index t 1 = 0 ∧ win0_1.index t 2 = 0 :=
  (by decide +kernel : ∀ t : Fin grid0.N, _)

abbrev argA : S8192x5632.Idx → EReal := m ((c.tc : Thread nD τ).loc main_arg0)
abbrev argB : S4x1408x2048.Idx → EReal := m ((c.tc : Thread nD τ).loc main_arg1)

theorem block0 (t : Fin cfg0.N) (b : Fin 1024) (l : Fin 1408) (i : S8192x5632.Idx) (e0 : (i 0).val = t.val / 4 * 1024 + b.val)
    (e1 : (i 1).val = t.val % 4 * 1408 + l.val) : blkA m c t (ix2 b l) = argA m c i := by
  obtain ⟨q0, q1⟩ := index0 t
  unfold blkA iblk argA
  rw [View.read_apply]
  show V m c main_arg0 _ = m (c.tc.loc main_arg0) _
  unfold V
  congr 1
  funext a
  apply Fin.ext
  match a with
  | ⟨0, _⟩ => show win0_0.index t 0 * 1024 + 1 * b.val = (i 0).val; omega
  | ⟨1, _⟩ => show win0_0.index t 1 * 1408 + 1 * l.val = (i 1).val; omega

theorem block1 (t : Fin cfg0.N) (l : Fin 1408) (b : Fin 2048) (i : S4x1408x2048.Idx) (e0 : (i 0).val = t.val % 4)
    (e1 : (i 1).val = l.val) (e2 : (i 2).val = b.val) : blkB m c t (ix3 0 l b) = argB m c i := by
  obtain ⟨q0, q1, q2⟩ := index1 t
  unfold blkB iblk argB
  rw [View.read_apply]
  show V m c main_arg1 _ = m (c.tc.loc main_arg1) _
  unfold V
  congr 1
  funext a
  apply Fin.ext
  match a with
  | ⟨0, _⟩ => show win0_1.index t 0 * 1 + 1 * 0 = (i 0).val; omega
  | ⟨1, _⟩ => show win0_1.index t 1 * 1408 + 1 * l.val = (i 1).val; omega
  | ⟨2, _⟩ => show win0_1.index t 2 * 2048 + 1 * b.val = (i 2).val; omega

/-- An element of the result is what the accumulator holds after the last point of its block. -/
theorem result_held (i : S8192x2048.Idx) (hlt : 4 * ((i 0).val / 1024) + 3 < cfg0.N) :
    (G2 m c i : EReal) = held m c (4 * ((i 0).val / 1024) + 3) hlt (loc2Of i) := by
  have h1 : (i 1).val < 2048 := (i 1).isLt
  have hp : pt2Of i = 4 * ((i 0).val / 1024) + 3 := by
    show 4 * (1 * ((i 0).val / 1024 - 0) + 1 * ((i 1).val / 2048 - 0)) + 3 = _
    omega
  have hl : pt2Of i < cfg0.N := by omega
  unfold G2
  rw [dif_pos hl, ← outsAt0_sweep m c (pt2Of i) hl]
  simp only [hp]
  exact congrFun (out_held m c ⟨4 * ((i 0).val / 1024) + 3, hlt⟩ (by dsimp only; omega)) (loc2Of i)

/-- One term of one addend is one term of the reference's sum. -/
theorem term_eq (i : S8192x2048.Idx) (t : Fin cfg0.N) (s : Fin 4) (ht : t.val = 4 * ((i 0).val / 1024) + s.val) (l : Fin 1408) (k : Fin 5632)
    (hk : k.val = l.val + 1408 * s.val) :
    blkA m c t (ix2 (loc2Of i 0) l) * blkB m c t (ix3 0 l (loc2Of i 1))
      = (Cert.Reference9Ideal.Read.val_main_v0 (F := Ideal) (argA m c) (Cert.Reference9Ideal.Read.lidx_main_v3 i k) : EReal)
        * (Cert.Reference9Ideal.Read.val_main_v2 (F := Ideal) (argB m c) (Cert.Reference9Ideal.Read.ridx_main_v3 i k) : EReal) := by
  have h1 : (i 1).val < 2048 := (i 1).isLt
  have hs := s.isLt
  have hl := l.isLt
  have hm4 : t.val % 4 = s.val := by omega
  have ht4 : t.val / 4 = (i 0).val / 1024 := by omega
  rw [Cert.Reference9Ideal.Read.val_main_v0_apply, Cert.Reference9Ideal.Read.val_main_v2_apply]
  refine congrArg₂ (fun (a b : EReal) => a * b) (block0 m c t (loc2Of i 0) l _ ?_ ?_) (block1 m c t l (loc2Of i 1) _ ?_ ?_ ?_)
  · show (i 0).val = t.val / 4 * 1024 + (i 0).val % 1024; rw [ht4]; omega
  · show k.val = _; rw [hk, hm4]; omega
  · show (k.val * 2048 + (i 1).val) / 2883584 = _; rw [hk, hm4]; omega
  · show (k.val * 2048 + (i 1).val) / 2048 % 1408 = l.val; rw [hk]; omega
  · show (k.val * 2048 + (i 1).val) % 2048 = (i 1).val % 2048; omega

/-- What the accumulator holds after the last point of a block is the reference's sum. -/
theorem held_last (i : S8192x2048.Idx) (hlt : 4 * ((i 0).val / 1024) + 3 < cfg0.N) :
    held m c (4 * ((i 0).val / 1024) + 3) hlt (loc2Of i)
      = (Cert.Reference9Ideal.Read.val_main_v3 (F := Ideal) (argA m c) (argB m c) i : EReal) := by
  refine Eq.trans (Fold.sum_of_blocks 4 1408 (held_first m c) (held_later m c) ((i 0).val / 1024) 3 rfl hlt (loc2Of i) _ fun s => ?_)
    (Cert.Reference9Ideal.Read.val_main_v3_apply (argA m c) (argB m c) i).symm
  unfold addend
  exact Finset.sum_congr rfl fun l _ => term_eq m c i ⟨4 * ((i 0).val / 1024) + s.val, by have := s.isLt; omega⟩ s rfl l _ rfl

theorem result_eq : (G2 m c : S8192x2048.Idx → EReal) = Cert.Reference9Ideal.Read.val_main_v3 (F := Ideal) (argA m c) (argB m c) := funext fun i => by
  have h0 : (i 0).val < 8192 := (i 0).isLt
  have hN : cfg0.N = 32 := N_0
  have hlt : 4 * ((i 0).val / 1024) + 3 < cfg0.N := by omega
  exact (result_held m c i hlt).trans (held_last m c i hlt)

end Cert.Proof.DownForward

namespace Cert.Proof
open Idealize.ShloMosaic Idealize.SL Idealize.SL.Sem Idealize.ShloMosaic.TcCoe

theorem frame_kernel9 : Cert.quiescent_Kernel9 := fun m ρ _ => Cert.Kernel9.Gen.frame m ρ
theorem frame_kernel9Ideal : Cert.quiescent_Kernel9Ideal := fun m ρ _ => Cert.Kernel9Ideal.Gen.frame (F := Ideal) m ρ
theorem frame_reference9 : Cert.quiescent_Reference9Ideal := fun m ρ _ =>
  (θ_run _ _ _).mono (fun r h => ⟨fun c => (h c).2, sem_eq_zero_of_no_sems (by decide) r.2⟩) (Cert.Reference9Ideal.Value.run (F := Ideal) m ρ)

theorem algebraic9 : Cert.algebraic_Kernel9Ideal_Reference9Ideal := fun m g m' g' _ hm =>
  ⟨fun c => Cert.Kernel9Ideal.Value.G2 m c, Cert.Kernel9Ideal.Value.run m g,
    (θ_run _ _ _).mono (fun r h c => ⟨(h c).1.trans (by
        rw [(hm c).1, (hm c).2]
        exact (DownForward.result_eq m c).symm), (h c).2⟩) (Cert.Reference9Ideal.Value.run (F := Ideal) m' g')⟩

end Cert.Proof
end
-- ==== Proof.SwaDw.lean ====
/-
  The gradient of the weight of the attention's input projection: the kernel program's result is the reference's.
-/
module

public import proofs.«01_k».proof.Defs
public import proofs.«01_k».proof.Proof.FoldSum
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.Quiescent

@[expose] public section

set_option maxRecDepth 16384

noncomputable section

namespace Cert.Proof.SwaDw

open Cert.Kernel10Ideal Cert.Kernel10Ideal.Gen Cert.Kernel10Ideal.Value
open Idealize.ShloMosaic Idealize.SL Idealize.SL.Sem Idealize.ShloMosaic.TcCoe

section Leaves
variable {F : FTy → Type} [FloatOps F]
variable (c : Dev nD) (i : grid0.Coords) (a3 : Memref sig .tc .vmem S1024x2048 .bf16) (h3 : a3.IsWhole)
  (a4 : Memref sig .tc .vmem S1024x768 .bf16) (h4 : a4.IsWhole) (a5 : Memref sig .tc .vmem S1x2048x768 .bf16) (h5 : a5.IsWhole)
  (a6 : Memref sig .tc .vmem S2048x768 .f32) (h6 : a6.IsWhole)
  (x0 : Vec F S1024x2048 .bf16) (x1 : Vec F S1024x768 .bf16) (s : Vec F S2048x768 .f32)

/-- The first point leaves the product, -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero Fold.zero2]
  simp only [View.readAt_eq_ld, h3.read_unread, h4.read_unread, View.ld_unit_zero (S := S1024x2048) Fold.zero2, View.ld_unit_zero (S := S1024x768) Fold.zero2]

/-- a later point adds it, -/
theorem middle (hc0 : ¬cond0_0 i) (hc1 : cond0_1 i) (hc2 : ¬cond0_2 i) :
    sout0_B_0 c i a3 h3 a4 h4 a5 h5 a6 h6 hc0 hc1 hc2 x0 x1 s = k0_pay2 s x0 x1 := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero Fold.zero2]
  simp only [View.readAt_eq_ld, h3.read_unread, h4.read_unread, h6.read_unread, View.ld_unit_zero (S := S1024x2048) Fold.zero2,
    View.ld_unit_zero (S := S1024x768) Fold.zero2, View.ld_unit_zero (S := S2048x768) Fold.zero2]

/-- so does the last, -/
theorem last (hc0 : ¬cond0_0 i) (hc1 : cond0_1 i) (hc2 : cond0_2 i) :
    sout0_C_0 c i a3 h3 a4 h4 a5 h5 a6 h6 hc0 hc1 hc2 x0 x1 s = k0_pay2 s x0 x1 := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero Fold.zero2]
  simp only [View.readAt_eq_ld, h3.read_unread, h4.read_unread, h6.read_unread, View.ld_unit_zero (S := S1024x2048) Fold.zero2,
    View.ld_unit_zero (S := S1024x768) Fold.zero2, View.ld_unit_zero (S := S2048x768) Fold.zero2]

/-- and it writes the accumulator to the output's buffer. -/
theorem output (hc0 : ¬cond0_0 i) (hc1 : cond0_1 i) (hc2 : cond0_2 i) :
    out0_C_2 c i a3 h3 a4 h4 a5 h5 a6 h6 hc0 hc1 hc2 x0 x1 s = k0_pay3 (k0_pay2 s x0 x1) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero Fold.zero3, View.readCov_unit_zero (S := S2048x768) _ Fold.zero2]
  simp only [View.readAt_eq_ld, h3.read_unread, h4.read_unread, h6.read_unread, View.ld_unit_zero (S := S1024x2048) Fold.zero2,
    View.ld_unit_zero (S := S1024x768) Fold.zero2, View.ld_unit_zero (S := S2048x768) Fold.zero2]

end Leaves

theorem pay1_apply (x0 : Vec Ideal S1024x2048 .bf16) (x1 : Vec Ideal S1024x768 .bf16) (y : S2048x768.Idx) :
    k0_pay1 x0 x1 y = ∑ l : Fin 1024, x0 (ix2 l (y 0)) * x1 (ix2 l (y 1)) := by
  pointwise [k0_pay1]
theorem pay2_apply (s : Vec Ideal S2048x768 .f32) (x0 : Vec Ideal S1024x2048 .bf16) (x1 : Vec Ideal S1024x768 .bf16) (y : S2048x768.Idx) :
    k0_pay2 s x0 x1 y = s y + ∑ l : Fin 1024, x0 (ix2 l (y 0)) * x1 (ix2 l (y 1)) := by
  pointwise [k0_pay2]
theorem pay3_apply (s : Vec Ideal S2048x768 .f32) (y : S1x2048x768.Idx) : k0_pay3 s y = s (ix2 (y 1) (y 2)) := by
  pointwise [k0_pay3]

variable (m : (ℓ : Loc nD τ sig) → Buf (Elt Ideal) ℓ) (c : Dev nD)

abbrev blkA (t : Fin cfg0.N) : S1024x2048.Idx → EReal := iblk m c 0 t
abbrev blkB (t : Fin cfg0.N) : S1024x768.Idx → EReal := iblk m c 1 t

/-- The addend of a point: the product of its two blocks. -/
def addend (t : Fin cfg0.N) (y : S2048x768.Idx) : EReal := ∑ l : Fin 1024, blkA m c t (ix2 l (y 0)) * blkB m c t (ix2 l (y 1))

/-- What the accumulator holds after a point. -/
def held (n : ℕ) (h : n < cfg0.N) (y : S2048x768.Idx) : EReal := (outsAt0 m c n h).2 y

theorem held_first (t : Fin cfg0.N) (h0 : t.val % 8 = 0) (y : S2048x768.Idx) : held m c t.val t.isLt y = addend m c t y := by
  unfold held
  rw [outsAt0_A m c t h0 (by omega) (by omega)]
  dsimp only
  rw [first]
  exact pay1_apply _ _ y
theorem acc_later (t : Fin cfg0.N) (h0 : t.val % 8 ≠ 0) :
    (outsAt0 m c t.val t.isLt).2 = k0_pay2 (outsAt0 m c (t.val - 1) (Nat.lt_of_le_of_lt (Nat.sub_le _ _) t.isLt)).2 (iblk m c 0 t) (iblk m c 1 t) := by
  by_cases h3 : t.val % 8 = 7
  · rw [outsAt0_C m c t h0 (by omega) h3]
    dsimp only
    rw [last]
  · rw [outsAt0_B m c t h0 (by omega) h3]
    dsimp only
    rw [middle]
theorem held_later (t : Fin cfg0.N) (h0 : t.val % 8 ≠ 0) (y : S2048x768.Idx) :
    held m c t.val t.isLt y = held m c (t.val - 1) (Nat.lt_of_le_of_lt (Nat.sub_le _ _) t.isLt) y + addend m c t y :=
  (congrFun (acc_later m c t h0) y).trans (pay2_apply _ _ _ y)
theorem out_held (t : Fin cfg0.N) (h3 : t.val % 8 = 7) : (outsAt0 m c t.val t.isLt).1 = k0_pay3 (outsAt0 m c t.val t.isLt).2 := by
  rw [acc_later m c t (by omega), outsAt0_C m c t (by omega) (by omega) h3]
  dsimp only
  rw [output]

theorem index0 : ∀ t : Fin cfg0.N, win0_0.index t 0 = t.val % 8 ∧ win0_0.index t 1 = 0 :=
  (by decide +kernel : ∀ t : Fin grid0.N, _)
theorem index1 : ∀ t : Fin cfg0.N, win0_1.index t 0 = t.val % 8 ∧ win0_1.index t 1 = t.val / 8 :=
  (by decide +kernel : ∀ t : Fin grid0.N, _)

abbrev argA : S8192x2048.Idx → EReal := m ((c.tc : Thread nD τ).loc main_arg0)
abbrev argB : S8192x3072.Idx → EReal := m ((c.tc : Thread nD τ).loc main_arg1)

theorem block0 (t : Fin cfg0.N) (l : Fin 1024) (b : Fin 2048) (i : S8192x2048.Idx) (e0 : (i 0).val = t.val % 8 * 1024 + l.val)
    (e1 : (i 1).val = b.val) : blkA m c t (ix2 l b) = argA m c i := by
  obtain ⟨q0, q1⟩ := index0 t
  unfold blkA iblk argA
  rw [View.read_apply]
  show V m c main_arg0 _ = m (c.tc.loc main_arg0) _
  unfold V
  congr 1
  funext a
  apply Fin.ext
  match a with
  | ⟨0, _⟩ => show win0_0.index t 0 * 1024 + 1 * l.val = (i 0).val; omega
  | ⟨1, _⟩ => show win0_0.index t 1 * 2048 + 1 * b.val = (i 1).val; omega

theorem block1 (t : Fin cfg0.N) (l : Fin 1024) (b : Fin 768) (i : S8192x3072.Idx) (e0 : (i 0).val = t.val % 8 * 1024 + l.val)
    (e1 : (i 1).val = t.val / 8 * 768 + b.val) : blkB m c t (ix2 l b) = argB m c i := by
  obtain ⟨q0, q1⟩ := index1 t
  unfold blkB iblk argB
  rw [View.read_apply]
  show V m c main_arg1 _ = m (c.tc.loc main_arg1) _
  unfold V
  congr 1
  funext a
  apply Fin.ext
  match a with
  | ⟨0, _⟩ => show win0_1.index t 0 * 1024 + 1 * l.val = (i 0).val; omega
  | ⟨1, _⟩ => show win0_1.index t 1 * 768 + 1 * b.val = (i 1).val; omega

/-- An element of the result is what the accumulator holds after the last point of its block. -/
theorem result_held (i : S4x2048x768.Idx) (hlt : 8 * (i 0).val + 7 < cfg0.N) :
    (G2 m c i : EReal) = held m c (8 * (i 0).val + 7) hlt (ix2 (loc2Of i 1) (loc2Of i 2)) := by
  have h1 : (i 1).val < 2048 := (i 1).isLt
  have h2 : (i 2).val < 768 := (i 2).isLt
  have hp : pt2Of i = 8 * (i 0).val + 7 := by
    show 8 * (1 * ((i 0).val / 1 - 0) + 1 * ((i 1).val / 2048 - 0) + 1 * ((i 2).val / 768 - 0)) + 7 = _
    omega
  have hl : pt2Of i < cfg0.N := by omega
  unfold G2
  rw [dif_pos hl, ← outsAt0_sweep m c (pt2Of i) hl]
  simp only [hp]
  exact (congrFun (out_held m c ⟨8 * (i 0).val + 7, hlt⟩ (by dsimp only; omega)) (loc2Of i)).trans (pay3_apply _ (loc2Of i))

/-- The element of the reference's product that is the element of the result. -/
abbrev refIdx (i : S4x2048x768.Idx) : (⟨2, ![3072, 2048]⟩ : Shape).Idx :=
  Cert.Reference10Ideal.Read.idx_main_v5 (Cert.Reference10Ideal.Read.idx_main_v6 (Cert.Reference10Ideal.Read.idx_main_v7 i))

theorem ref_apply (i : S4x2048x768.Idx) : (Cert.Reference10Ideal.Read.val_main_v8 (F := Ideal) (argA m c) (argB m c) i : EReal)
    = Cert.Reference10Ideal.Read.val_main_v4 (F := Ideal) (argA m c) (argB m c) (refIdx i) := by
  rw [Cert.Reference10Ideal.Read.val_main_v8_apply, Cert.Reference10Ideal.Read.val_main_v7_apply, Cert.Reference10Ideal.Read.val_main_v6_apply,
    Cert.Reference10Ideal.Read.val_main_v5_apply]
  rfl

/-- One term of one addend is one term of the reference's sum. -/
theorem term_eq (i : S4x2048x768.Idx) (t : Fin cfg0.N) (s : Fin 8) (ht : t.val = 8 * (i 0).val + s.val) (l : Fin 1024) (k : Fin 8192)
    (hk : k.val = l.val + 1024 * s.val) :
    blkA m c t (ix2 l (loc2Of i 1)) * blkB m c t (ix2 l (loc2Of i 2))
      = (Cert.Reference10Ideal.Read.val_main_v3 (F := Ideal) (argB m c) (Cert.Reference10Ideal.Read.lidx_main_v4 (refIdx i) k) : EReal)
        * (Cert.Reference10Ideal.Read.val_main_v1 (F := Ideal) (argA m c) (Cert.Reference10Ideal.Read.ridx_main_v4 (refIdx i) k) : EReal) := by
  have h1 : (i 1).val < 2048 := (i 1).isLt
  have h2 : (i 2).val < 768 := (i 2).isLt
  have hs := s.isLt
  have h0 : (i 0).val < 4 := (i 0).isLt
  have hm4 : t.val % 8 = s.val := by omega
  have ht4 : t.val / 8 = (i 0).val := by omega
  rw [Cert.Reference10Ideal.Read.val_main_v3_apply, Cert.Reference10Ideal.Read.val_main_v1_apply, mul_comm]
  refine congrArg₂ (fun (a b : EReal) => a * b) (block1 m c t l (loc2Of i 2) _ ?_ ?_) (block0 m c t l (loc2Of i 1) _ ?_ ?_)
  · show k.val = _; rw [hk, hm4]; omega
  · show (((i 1).val * 4 + (i 0).val) * 768 + (i 2).val) % 3072 = t.val / 8 * 768 + (i 2).val % 768; rw [ht4]; omega
  · show k.val = _; rw [hk, hm4]; omega
  · show (((i 1).val * 4 + (i 0).val) * 768 + (i 2).val) / 3072 = (i 1).val % 2048; omega

/-- What the accumulator holds after the last point of a block is the reference's sum. -/
theorem held_last (i : S4x2048x768.Idx) (hlt : 8 * (i 0).val + 7 < cfg0.N) :
    held m c (8 * (i 0).val + 7) hlt (ix2 (loc2Of i 1) (loc2Of i 2))
      = (Cert.Reference10Ideal.Read.val_main_v4 (F := Ideal) (argA m c) (argB m c) (refIdx i) : EReal) := by
  refine Eq.trans (Fold.sum_of_blocks 8 1024 (held_first m c) (held_later m c) ((i 0).val) 7 rfl hlt (ix2 (loc2Of i 1) (loc2Of i 2)) _ fun s => ?_)
    (Cert.Reference10Ideal.Read.val_main_v4_apply (argA m c) (argB m c) (refIdx i)).symm
  unfold addend
  exact Finset.sum_congr rfl fun l _ => term_eq m c i ⟨8 * (i 0).val + s.val, by have := s.isLt; omega⟩ s rfl l _ rfl

theorem result_eq : (G2 m c : S4x2048x768.Idx → EReal) = Cert.Reference10Ideal.Read.val_main_v8 (F := Ideal) (argA m c) (argB m c) := funext fun i => by
  have h0 : (i 0).val < 4 := (i 0).isLt
  have hN : cfg0.N = 32 := N_0
  have hlt : 8 * (i 0).val + 7 < cfg0.N := by omega
  exact (result_held m c i hlt).trans ((held_last m c i hlt).trans (ref_apply m c i).symm)

end Cert.Proof.SwaDw

namespace Cert.Proof
open Idealize.ShloMosaic Idealize.SL Idealize.SL.Sem Idealize.ShloMosaic.TcCoe

theorem frame_kernel10 : Cert.quiescent_Kernel10 := fun m ρ _ => Cert.Kernel10.Gen.frame m ρ
theorem frame_kernel10Ideal : Cert.quiescent_Kernel10Ideal := fun m ρ _ => Cert.Kernel10Ideal.Gen.frame (F := Ideal) m ρ
theorem frame_reference10 : Cert.quiescent_Reference10Ideal := fun m ρ _ =>
  (θ_run _ _ _).mono (fun r h => ⟨fun c => (h c).2, sem_eq_zero_of_no_sems (by decide) r.2⟩) (Cert.Reference10Ideal.Value.run (F := Ideal) m ρ)

theorem algebraic10 : Cert.algebraic_Kernel10Ideal_Reference10Ideal := fun m g m' g' _ hm =>
  ⟨fun c => Cert.Kernel10Ideal.Value.G2 m c, Cert.Kernel10Ideal.Value.run m g,
    (θ_run _ _ _).mono (fun r h c => ⟨(h c).1.trans (by
        rw [(hm c).1, (hm c).2]
        exact (SwaDw.result_eq m c).symm), (h c).2⟩) (Cert.Reference10Ideal.Value.run (F := Ideal) m' g')⟩

end Cert.Proof
end
-- ==== Proof.SwaDx.lean ====
/-
  The gradient of the input of the attention's input projection: the kernel program's result is the reference's.
-/
module

public import proofs.«01_k».proof.Defs
public import proofs.«01_k».proof.Proof.FoldSum
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.Quiescent

@[expose] public section

set_option maxRecDepth 16384

noncomputable section

namespace Cert.Proof.SwaDx

open Cert.Kernel11Ideal Cert.Kernel11Ideal.Gen Cert.Kernel11Ideal.Value
open Idealize.ShloMosaic Idealize.SL Idealize.SL.Sem Idealize.ShloMosaic.TcCoe

section Leaves
variable {F : FTy → Type} [FloatOps F]
variable (c : Dev nD) (i : grid0.Coords) (a3 : Memref sig .tc .vmem S1024x768 .bf16) (h3 : a3.IsWhole)
  (a4 : Memref sig .tc .vmem S1x2048x768 .bf16) (h4 : a4.IsWhole) (a5 : Memref sig .tc .vmem S1024x2048 .f32) (h5 : a5.IsWhole)
  (a6 : Memref sig .tc .vmem S1024x2048 .f32) (h6 : a6.IsWhole)
  (x0 : Vec F S1024x768 .bf16) (x1 : Vec F S1x2048x768 .bf16) (s : Vec F S1024x2048 .f32)

/-- The first point leaves the product, -/
theorem first (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero Fold.zero2]
  simp only [View.readAt_eq_ld, h3.read_unread, h4.read_unread, View.ld_unit_zero (S := S1024x768) Fold.zero2, View.ld_unit_zero (S := S1x2048x768) Fold.zero3]

/-- a later point adds it, -/
theorem middle (hc0 : ¬cond0_0 i) (hc1 : cond0_1 i) (hc2 : ¬cond0_2 i) :
    sout0_B_0 c i a3 h3 a4 h4 a5 h5 a6 h6 hc0 hc1 hc2 x0 x1 s = k0_pay2 s x0 x1 := by
  unfold sout0_B_0
  rw [View.read_writes_eq_canon _ _ _ (scover0_B_0 c i a3 h3 a4 h4 a5 h5 a6 h6 hc0 hc1 hc2 x0 x1 s)]
  unfold kernelRun0_B
  dsimp only
  rw [View.canon_unit_zero Fold.zero2]
  simp only [View.readAt_eq_ld, h3.read_unread, h4.read_unread, h6.read_unread, View.ld_unit_zero (S := S1024x768) Fold.zero2,
    View.ld_unit_zero (S := S1x2048x768) Fold.zero3, View.ld_unit_zero (S := S1024x2048) Fold.zero2]

/-- so does the last, -/
theorem last (hc0 : ¬cond0_0 i) (hc1 : cond0_1 i) (hc2 : cond0_2 i) :
    sout0_C_0 c i a3 h3 a4 h4 a5 h5 a6 h6 hc0 hc1 hc2 x0 x1 s = k0_pay2 s x0 x1 := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero Fold.zero2]
  simp only [View.readAt_eq_ld, h3.read_unread, h4.read_unread, h6.read_unread, View.ld_unit_zero (S := S1024x768) Fold.zero2,
    View.ld_unit_zero (S := S1x2048x768) Fold.zero3, View.ld_unit_zero (S := S1024x2048) Fold.zero2]

/-- and it writes the accumulator to the output's buffer. -/
theorem output (hc0 : ¬cond0_0 i) (hc1 : cond0_1 i) (hc2 : cond0_2 i) :
    out0_C_2 c i a3 h3 a4 h4 a5 h5 a6 h6 hc0 hc1 hc2 x0 x1 s = k0_pay2 s x0 x1 := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero Fold.zero2, View.readCov_unit_zero (S := S1024x2048) _ Fold.zero2]
  simp only [View.readAt_eq_ld, h3.read_unread, h4.read_unread, h6.read_unread, View.ld_unit_zero (S := S1024x768) Fold.zero2,
    View.ld_unit_zero (S := S1x2048x768) Fold.zero3, View.ld_unit_zero (S := S1024x2048) Fold.zero2]

end Leaves

theorem pay1_apply (x0 : Vec Ideal S1024x768 .bf16) (x1 : Vec Ideal S1x2048x768 .bf16) (y : S1024x2048.Idx) :
    k0_pay1 x0 x1 y = ∑ l : Fin 768, x0 (ix2 (y 0) l) * x1 (ix3 0 (y 1) l) := by
  pointwise [k0_pay1]
theorem pay2_apply (s : Vec Ideal S1024x2048 .f32) (x0 : Vec Ideal S1024x768 .bf16) (x1 : Vec Ideal S1x2048x768 .bf16) (y : S1024x2048.Idx) :
    k0_pay2 s x0 x1 y = s y + ∑ l : Fin 768, x0 (ix2 (y 0) l) * x1 (ix3 0 (y 1) l) := by
  pointwise [k0_pay2]

variable (m : (ℓ : Loc nD τ sig) → Buf (Elt Ideal) ℓ) (c : Dev nD)

abbrev blkA (t : Fin cfg0.N) : S1024x768.Idx → EReal := iblk m c 0 t
abbrev blkB (t : Fin cfg0.N) : S1x2048x768.Idx → EReal := iblk m c 1 t

/-- The addend of a point: the product of its two blocks. -/
def addend (t : Fin cfg0.N) (y : S1024x2048.Idx) : EReal := ∑ l : Fin 768, blkA m c t (ix2 (y 0) l) * blkB m c t (ix3 0 (y 1) l)

/-- What the accumulator holds after a point. -/
def held (n : ℕ) (h : n < cfg0.N) (y : S1024x2048.Idx) : EReal := (outsAt0 m c n h).2 y

theorem held_first (t : Fin cfg0.N) (h0 : t.val % 4 = 0) (y : S1024x2048.Idx) : held m c t.val t.isLt y = addend m c t y := by
  unfold held
  rw [outsAt0_A m c t h0 (by omega) (by omega)]
  dsimp only
  rw [first]
  exact pay1_apply _ _ y
theorem acc_later (t : Fin cfg0.N) (h0 : t.val % 4 ≠ 0) :
    (outsAt0 m c t.val t.isLt).2 = k0_pay2 (outsAt0 m c (t.val - 1) (Nat.lt_of_le_of_lt (Nat.sub_le _ _) t.isLt)).2 (iblk m c 0 t) (iblk m c 1 t) := by
  by_cases h3 : t.val % 4 = 3
  · rw [outsAt0_C m c t h0 (by omega) h3]
    dsimp only
    rw [last]
  · rw [outsAt0_B m c t h0 (by omega) h3]
    dsimp only
    rw [middle]
theorem held_later (t : Fin cfg0.N) (h0 : t.val % 4 ≠ 0) (y : S1024x2048.Idx) :
    held m c t.val t.isLt y = held m c (t.val - 1) (Nat.lt_of_le_of_lt (Nat.sub_le _ _) t.isLt) y + addend m c t y :=
  (congrFun (acc_later m c t h0) y).trans (pay2_apply _ _ _ y)
theorem out_held (t : Fin cfg0.N) (h3 : t.val % 4 = 3) : (outsAt0 m c t.val t.isLt).1 = (outsAt0 m c t.val t.isLt).2 := by
  rw [acc_later m c t (by omega), outsAt0_C m c t (by omega) (by omega) h3]
  dsimp only
  rw [output]

theorem index0 : ∀ t : Fin cfg0.N, win0_0.index t 0 = t.val / 4 ∧ win0_0.index t 1 = t.val % 4 :=
  (by decide +kernel : ∀ t : Fin grid0.N, _)
theorem index1 : ∀ t : Fin cfg0.N, win0_1.index t 0 = t.val % 4 ∧ win0_1.index t 1 = 0 ∧ win0_1.index t 2 = 0 :=
  (by decide +kernel : ∀ t : Fin grid0.N, _)

abbrev argA : S8192x3072.Idx → EReal := m ((c.tc : Thread nD τ).loc main_arg0)
abbrev argB : S4x2048x768.Idx → EReal := m ((c.tc : Thread nD τ).loc main_arg1)

theorem block0 (t : Fin cfg0.N) (b : Fin 1024) (l : Fin 768) (i : S8192x3072.Idx) (e0 : (i 0).val = t.val / 4 * 1024 + b.val)
    (e1 : (i 1).val = t.val % 4 * 768 + l.val) : blkA m c t (ix2 b l) = argA m c i := by
  obtain ⟨q0, q1⟩ := index0 t
  unfold blkA iblk argA
  rw [View.read_apply]
  show V m c main_arg0 _ = m (c.tc.loc main_arg0) _
  unfold V
  congr 1
  funext a
  apply Fin.ext
  match a with
  | ⟨0, _⟩ => show win0_0.index t 0 * 1024 + 1 * b.val = (i 0).val; omega
  | ⟨1, _⟩ => show win0_0.index t 1 * 768 + 1 * l.val = (i 1).val; omega

theorem block1 (t : Fin cfg0.N) (l : Fin 768) (b : Fin 2048) (i : S4x2048x768.Idx) (e0 : (i 0).val = t.val % 4)
    (e1 : (i 1).val = b.val) (e2 : (i 2).val = l.val) : blkB m c t (ix3 0 b l) = argB m c i := by
  obtain ⟨q0, q1, q2⟩ := index1 t
  unfold blkB iblk argB
  rw [View.read_apply]
  show V m c main_arg1 _ = m (c.tc.loc main_arg1) _
  unfold V
  congr 1
  funext a
  apply Fin.ext
  match a with
  | ⟨0, _⟩ => show win0_1.index t 0 * 1 + 1 * 0 = (i 0).val; omega
  | ⟨1, _⟩ => show win0_1.index t 1 * 2048 + 1 * b.val = (i 1).val; omega
  | ⟨2, _⟩ => show win0_1.index t 2 * 768 + 1 * l.val = (i 2).val; omega

/-- An element of the result is what the accumulator holds after the last point of its block. -/
theorem result_held (i : S8192x2048.Idx) (hlt : 4 * ((i 0).val / 1024) + 3 < cfg0.N) :
    (G2 m c i : EReal) = held m c (4 * ((i 0).val / 1024) + 3) hlt (loc2Of i) := by
  have h1 : (i 1).val < 2048 := (i 1).isLt
  have hp : pt2Of i = 4 * ((i 0).val / 1024) + 3 := by
    show 4 * (1 * ((i 0).val / 1024 - 0) + 1 * ((i 1).val / 2048 - 0)) + 3 = _
    omega
  have hl : pt2Of i < cfg0.N := by omega
  unfold G2
  rw [dif_pos hl, ← outsAt0_sweep m c (pt2Of i) hl]
  simp only [hp]
  exact congrFun (out_held m c ⟨4 * ((i 0).val / 1024) + 3, hlt⟩ (by dsimp only; omega)) (loc2Of i)

/-- One term of one addend is one term of the reference's sum. -/
theorem term_eq (i : S8192x2048.Idx) (t : Fin cfg0.N) (s : Fin 4) (ht : t.val = 4 * ((i 0).val / 1024) + s.val) (l : Fin 768) (k : Fin 3072)
    (hk : k.val = l.val + 768 * s.val) :
    blkA m c t (ix2 (loc2Of i 0) l) * blkB m c t (ix3 0 (loc2Of i 1) l)
      = (Cert.Reference11Ideal.Read.val_main_v5 (F := Ideal) (argA m c) (Cert.Reference11Ideal.Read.lidx_main_v6 i k) : EReal)
        * (Cert.Reference11Ideal.Read.val_main_v2 (F := Ideal) (argB m c) (Cert.Reference11Ideal.Read.ridx_main_v6 i k) : EReal) := by
  have h1 : (i 1).val < 2048 := (i 1).isLt
  have hs := s.isLt
  have hl := l.isLt
  have hm4 : t.val % 4 = s.val := by omega
  have ht4 : t.val / 4 = (i 0).val / 1024 := by omega
  rw [Cert.Reference11Ideal.Read.val_main_v5_apply, Cert.Reference11Ideal.Read.val_main_v2_apply, Cert.Reference11Ideal.Read.val_main_v1_apply, Cert.Reference11Ideal.Read.val_main_v0_apply]
  refine congrArg₂ (fun (a b : EReal) => a * b) (block0 m c t (loc2Of i 0) l _ ?_ ?_) (block1 m c t l (loc2Of i 1) _ ?_ ?_ ?_)
  · show (i 0).val = t.val / 4 * 1024 + (i 0).val % 1024; rw [ht4]; omega
  · show k.val = _; rw [hk, hm4]; omega
  · show ((i 1).val * 3072 + k.val) / 768 % 4 = _; rw [hk, hm4]; omega
  · show ((i 1).val * 3072 + k.val) / 3072 = (i 1).val % 2048; rw [hk]; omega
  · show ((i 1).val * 3072 + k.val) % 768 = l.val; rw [hk]; omega

/-- What the accumulator holds after the last point of a block is the reference's sum. -/
theorem held_last (i : S8192x2048.Idx) (hlt : 4 * ((i 0).val / 1024) + 3 < cfg0.N) :
    held m c (4 * ((i 0).val / 1024) + 3) hlt (loc2Of i)
      = (Cert.Reference11Ideal.Read.val_main_v6 (F := Ideal) (argA m c) (argB m c) i : EReal) := by
  refine Eq.trans (Fold.sum_of_blocks 4 768 (held_first m c) (held_later m c) ((i 0).val / 1024) 3 rfl hlt (loc2Of i) _ fun s => ?_)
    (Cert.Reference11Ideal.Read.val_main_v6_apply (argA m c) (argB m c) i).symm
  unfold addend
  exact Finset.sum_congr rfl fun l _ => term_eq m c i ⟨4 * ((i 0).val / 1024) + s.val, by have := s.isLt; omega⟩ s rfl l _ rfl

theorem result_eq : (G2 m c : S8192x2048.Idx → EReal) = Cert.Reference11Ideal.Read.val_main_v6 (F := Ideal) (argA m c) (argB m c) := funext fun i => by
  have h0 : (i 0).val < 8192 := (i 0).isLt
  have hN : cfg0.N = 32 := N_0
  have hlt : 4 * ((i 0).val / 1024) + 3 < cfg0.N := by omega
  exact (result_held m c i hlt).trans (held_last m c i hlt)

end Cert.Proof.SwaDx

namespace Cert.Proof
open Idealize.ShloMosaic Idealize.SL Idealize.SL.Sem Idealize.ShloMosaic.TcCoe

theorem frame_kernel11 : Cert.quiescent_Kernel11 := fun m ρ _ => Cert.Kernel11.Gen.frame m ρ
theorem frame_kernel11Ideal : Cert.quiescent_Kernel11Ideal := fun m ρ _ => Cert.Kernel11Ideal.Gen.frame (F := Ideal) m ρ
theorem frame_reference11 : Cert.quiescent_Reference11Ideal := fun m ρ _ =>
  (θ_run _ _ _).mono (fun r h => ⟨fun c => (h c).2, sem_eq_zero_of_no_sems (by decide) r.2⟩) (Cert.Reference11Ideal.Value.run (F := Ideal) m ρ)

theorem algebraic11 : Cert.algebraic_Kernel11Ideal_Reference11Ideal := fun m g m' g' _ hm =>
  ⟨fun c => Cert.Kernel11Ideal.Value.G2 m c, Cert.Kernel11Ideal.Value.run m g,
    (θ_run _ _ _).mono (fun r h c => ⟨(h c).1.trans (by
        rw [(hm c).1, (hm c).2]
        exact (SwaDx.result_eq m c).symm), (h c).2⟩) (Cert.Reference11Ideal.Value.run (F := Ideal) m' g')⟩

end Cert.Proof
end
-- ==== Proof.lean ====
/-
  The claim: the frames, that the named constant is kept, and that the programs' results are the references'.
-/
module

public import proofs.«01_k».proof.Defs
public import proofs.«01_k».proof.Proof.FrameKernel
public import proofs.«01_k».proof.Proof.FrameReference
public import proofs.«01_k».proof.Proof.Algebraic
public import proofs.«01_k».proof.Proof.DownDxEq
public import proofs.«01_k».proof.Proof.UpDxEq
public import proofs.«01_k».proof.Proof.UpDwEq
public import proofs.«01_k».proof.Proof.DownDwEq
public import proofs.«01_k».proof.Proof.UpForward
public import proofs.«01_k».proof.Proof.OutDx
public import proofs.«01_k».proof.Proof.OutDw
public import proofs.«01_k».proof.Proof.DownForward
public import proofs.«01_k».proof.Proof.SwaDw
public import proofs.«01_k».proof.Proof.SwaDx

@[expose] public section

namespace Cert.Proof

theorem claim : Cert.Claim := ⟨
  Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts,
  Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts, Cert.Kernel11.Gen.facts,
  Cert.Kernel11Ideal.Gen.facts, Cert.Reference11Ideal.Gen.facts, Cert.Pre_finite.Gen.facts, Cert.Pre_finite2.Gen.facts, frame_kernel,
  frame_kernelIdeal, frame_kernelIdeal_pre, frame_reference, frame_reference_pre, frame_kernel2, frame_kernel2Ideal,
  frame_kernel2Ideal_pre, frame_reference2, frame_reference2_pre, frame_kernel3, frame_kernel3Ideal, frame_reference3, frame_kernel4,
  frame_kernel4Ideal, frame_reference4, frame_kernel5, frame_kernel5Ideal, frame_reference5, frame_kernel6, frame_kernel6Ideal,
  frame_reference6, frame_kernel7, frame_kernel7Ideal, frame_reference7, frame_kernel8, frame_kernel8Ideal, frame_reference8,
  frame_kernel9, frame_kernel9Ideal, frame_reference9, frame_kernel10, frame_kernel10Ideal, frame_reference10, frame_kernel11,
  frame_kernel11Ideal, frame_reference11, preserves, algebraic, trivial, algebraic2, trivial, algebraic3, trivial, algebraic4, trivial,
  algebraic5, trivial, algebraic6, trivial, algebraic7, trivial, algebraic8, trivial, algebraic9, trivial, algebraic10, trivial,
  algebraic11⟩

end Cert.Proof

end
